-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = Layout.block ⟨2, ![512, 256]⟩ ⟨2, ![512, 8192]⟩ 1 32 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = Layout.block ⟨2, ![512, 256]⟩ ⟨2, ![512, 8192]⟩ 1 32 c (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.block ⟨2, ![512, 256]⟩ ⟨2, ![512, 8192]⟩ 1 32 c (m' (((0 : Dev Cert.ReferenceIdeal.nD).tc : Thread Cert.ReferenceIdeal.nD Cert.ReferenceIdeal.τ).loc Cert.ReferenceIdeal.main_arg3))
      ∧ m ((c.tc : Thread Cert.KernelIdeal.nD Cert.KernelIdeal.τ).loc Cert.KernelIdeal.main_arg4) = Layout.block ⟨2, ![256, 512]⟩ ⟨2, ![8192, 512]⟩ 0 32 c (m' (((0 : Dev Cert.ReferenceIdeal.nD).tc : Thread Cert.ReferenceIdeal.nD Cert.ReferenceIdeal.τ).loc Cert.ReferenceIdeal.main_arg4))
      ∧ m ((c.tc : Thread Cert.KernelIdeal.nD Cert.KernelIdeal.τ).loc Cert.KernelIdeal.main_arg5) = m' (((0 : Dev Cert.ReferenceIdeal.nD).tc : Thread Cert.ReferenceIdeal.nD Cert.ReferenceIdeal.τ).loc Cert.ReferenceIdeal.main_arg5)
      ∧ m ((c.tc : Thread Cert.KernelIdeal.nD Cert.KernelIdeal.τ).loc Cert.KernelIdeal.main_arg6) = m' (((0 : Dev Cert.ReferenceIdeal.nD).tc : Thread Cert.ReferenceIdeal.nD Cert.ReferenceIdeal.τ).loc Cert.ReferenceIdeal.main_arg6)
      ∧ m ((c.tc : Thread Cert.KernelIdeal.nD Cert.KernelIdeal.τ).loc Cert.KernelIdeal.main_arg7) = Layout.block ⟨2, ![512, 64]⟩ ⟨2, ![512, 2048]⟩ 1 32 c (m' (((0 : Dev Cert.ReferenceIdeal.nD).tc : Thread Cert.ReferenceIdeal.nD Cert.ReferenceIdeal.τ).loc Cert.ReferenceIdeal.main_arg7))
      ∧ m ((c.tc : Thread Cert.KernelIdeal.nD Cert.KernelIdeal.τ).loc Cert.KernelIdeal.main_arg8) = Layout.block ⟨2, ![64, 512]⟩ ⟨2, ![2048, 512]⟩ 0 32 c (m' (((0 : Dev Cert.ReferenceIdeal.nD).tc : Thread Cert.ReferenceIdeal.nD Cert.ReferenceIdeal.τ).loc Cert.ReferenceIdeal.main_arg8))) →
    ∃ (v0 : Buf (Elt Ideal) (((0 : Dev Cert.ReferenceIdeal.nD).tc : Thread Cert.ReferenceIdeal.nD Cert.ReferenceIdeal.τ).loc Cert.ReferenceIdeal.main_v96)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v96) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4)
          ∧ r.2.mem (((0 : Dev Cert.ReferenceIdeal.nD).tc : Thread Cert.ReferenceIdeal.nD Cert.ReferenceIdeal.τ).loc Cert.ReferenceIdeal.main_arg5) = m' (((0 : Dev Cert.ReferenceIdeal.nD).tc : Thread Cert.ReferenceIdeal.nD Cert.ReferenceIdeal.τ).loc Cert.ReferenceIdeal.main_arg5)
          ∧ r.2.mem (((0 : Dev Cert.ReferenceIdeal.nD).tc : Thread Cert.ReferenceIdeal.nD Cert.ReferenceIdeal.τ).loc Cert.ReferenceIdeal.main_arg6) = m' (((0 : Dev Cert.ReferenceIdeal.nD).tc : Thread Cert.ReferenceIdeal.nD Cert.ReferenceIdeal.τ).loc Cert.ReferenceIdeal.main_arg6)
          ∧ r.2.mem (((0 : Dev Cert.ReferenceIdeal.nD).tc : Thread Cert.ReferenceIdeal.nD Cert.ReferenceIdeal.τ).loc Cert.ReferenceIdeal.main_arg7) = m' (((0 : Dev Cert.ReferenceIdeal.nD).tc : Thread Cert.ReferenceIdeal.nD Cert.ReferenceIdeal.τ).loc Cert.ReferenceIdeal.main_arg7)
          ∧ r.2.mem (((0 : Dev Cert.ReferenceIdeal.nD).tc : Thread Cert.ReferenceIdeal.nD Cert.ReferenceIdeal.τ).loc Cert.ReferenceIdeal.main_arg8) = m' (((0 : Dev Cert.ReferenceIdeal.nD).tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S2x256x512 : Shape := ⟨3, ![2, 256, 512]⟩
abbrev S512x256 : Shape := ⟨2, ![512, 256]⟩
abbrev S256x512 : Shape := ⟨2, ![256, 512]⟩
abbrev S2x128 : Shape := ⟨2, ![2, 128]⟩
abbrev S128x3072 : Shape := ⟨2, ![128, 3072]⟩
abbrev S512x64 : Shape := ⟨2, ![512, 64]⟩
abbrev S64x512 : Shape := ⟨2, ![64, 512]⟩
abbrev S512x512 : Shape := ⟨2, ![512, 512]⟩
abbrev S16x512 : Shape := ⟨2, ![16, 512]⟩
abbrev S32x16x512 : Shape := ⟨3, ![32, 16, 512]⟩
abbrev S32 : Shape := ⟨1, ![32]⟩
abbrev S_ : Shape := ⟨0, ![]⟩
abbrev S2x3072 : Shape := ⟨2, ![2, 3072]⟩
abbrev S2x512 : Shape := ⟨2, ![2, 512]⟩
abbrev S1x256x512 : Shape := ⟨3, ![1, 256, 512]⟩
abbrev S1x512 : Shape := ⟨2, ![1, 512]⟩
abbrev S256 : Shape := ⟨1, ![256]⟩
abbrev S256x1 : Shape := ⟨2, ![256, 1]⟩
abbrev S256x256 : Shape := ⟨2, ![256, 256]⟩
abbrev S256x64 : Shape := ⟨2, ![256, 64]⟩
abbrev S1 : Shape := ⟨1, ![1]⟩
abbrev S1x16x512 : Shape := ⟨3, ![1, 16, 512]⟩

abbrev nBuf : Space → Nat
  | .hbm => 10
  | .vmem => 15
  | .smem => 0
  | _ => 0

abbrev bufTy : (tb : Table) → Fin (tcTables nBuf tb) → BufTy
  | .hbm, ⟨0, _⟩ => ⟨S2x256x512, .f32⟩
  | .hbm, ⟨1, _⟩ => ⟨S512x256, .f32⟩
  | .hbm, ⟨2, _⟩ => ⟨S512x256, .f32⟩
  | .hbm, ⟨3, _⟩ => ⟨S512x256, .f32⟩
  | .hbm, ⟨4, _⟩ => ⟨S256x512, .f32⟩
  | .hbm, ⟨5, _⟩ => ⟨S2x128, .f32⟩
  | .hbm, ⟨6, _⟩ => ⟨S128x3072, .f32⟩
  | .hbm, ⟨7, _⟩ => ⟨S512x64, .f32⟩
  | .hbm, ⟨8, _⟩ => ⟨S64x512, .f32⟩
  | .hbm, ⟨9, _⟩ => ⟨S2x256x512, .f32⟩
  | .local _ .vmem, ⟨0, _⟩ => ⟨S2x256x512, .f32⟩
  | .local _ .vmem, ⟨1, _⟩ => ⟨S512x256, .f32⟩
  | .local _ .vmem, ⟨2, _⟩ => ⟨S512x256, .f32⟩
  | .local _ .vmem, ⟨3, _⟩ => ⟨S512x256, .f32⟩
  | .local _ .vmem, ⟨4, _⟩ => ⟨S256x512, .f32⟩
  | .local _ .vmem, ⟨5, _⟩ => ⟨S2x128, .f32⟩
  | .local _ .vmem, ⟨6, _⟩ => ⟨S128x3072, .f32⟩
  | .local _ .vmem, ⟨7, _⟩ => ⟨S512x64, .f32⟩
  | .local _ .vmem, ⟨8, _⟩ => ⟨S64x512, .f32⟩
  | .local _ .vmem, ⟨9, _⟩ => ⟨S2x256x512, .f32⟩
  | .local _ .vmem, ⟨10, _⟩ => ⟨S512x512, .bf16⟩
  | .local _ .vmem, ⟨11, _⟩ => ⟨S512x512, .bf16⟩
  | .local _ .vmem, ⟨12, _⟩ => ⟨S512x512, .bf16⟩
  | .local _ .vmem, ⟨13, _⟩ => ⟨S16x512, .bf16⟩
  | .local _ .vmem, ⟨14, _⟩ => ⟨S32x16x512, .bf16⟩
  | _, _ => ⟨S2x256x512, .f32⟩

abbrev dmaSemScopedAt0_0 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev dmaSemScopedAt0_1 (i : Nat) : Bool := match i % 128 with
  | 0 => true
  | 1 => true
  | 2 => true
  | 3 => true
  | 4 => true
  | 5 => true
  | 6 => true
  | 7 => true
  | 8 => true
  | 9 => true
  | _ => false

abbrev dmaSemScopedAt (i : Nat) : Bool := match i / 128 with
  | 0 => dmaSemScopedAt0_0 i
  | 1 => dmaSemScopedAt0_1 i
  | _ => false

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 1 → Bool
  | ⟨0, _⟩ => false
  | _ => false

abbrev dmaSemScoped : Fin 138 → Bool
  | ⟨i, _⟩ => dmaSemScopedAt i

abbrev sig : RefSig :=
  (ofTc nBuf bufTy 1 138 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v1 : Ref sig .tc := ⟨.hbm, 9, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_scratch3 : Ref sig .tc := ⟨.vmem, 13, rfl⟩
abbrev cc0_scratch4 : Ref sig .tc := ⟨.vmem, 14, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev barrier0 : Sem sig := 0

abbrev nD : Nat := 32
abbrev τ : Topo := Topo.v7x

variable {F : FTy → Type} [FloatOps F]

abbrev grid0 : Pipeline.Grid := .none

def k0_dev1 (d0 : Dev nD) : Nat :=
  let c0_i32_8 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v4 : BitVec 32 := Scalar.addi v2 c1_i32_0
  let c32_i32_1 : BitVec 32 := 32#32
  let c0_i32 : BitVec 32 := 0#32
  let v5 : BitVec 1 := Scalar.cmpi .eq c32_i32_1 c0_i32
  let c1_i32_2 : BitVec 32 := 1#32
  let v6 : BitVec 32 := Scalar.select v5 c1_i32_2 c32_i32_1
  let v7 : BitVec 32 := Scalar.remsi v4 v6
  let c0_i32_4 : BitVec 32 := 0#32
  let v9 : BitVec 1 := Scalar.cmpi .slt v7 c0_i32_4
  let c0_i32_5 : BitVec 32 := 0#32
  let v10 : BitVec 1 := Scalar.cmpi .slt v6 c0_i32_5
  let v11 : BitVec 1 := Scalar.xori v9 v10
  let c0_i32_3 : BitVec 32 := 0#32
  let v8 : BitVec 1 := Scalar.cmpi .ne v7 c0_i32_3
  let v12 : BitVec 1 := Scalar.andi v11 v8
  let v13 : BitVec 32 := Scalar.addi v7 v6
  let v14 : BitVec 32 := Scalar.select v12 v13 v7
  let c1_i32_7 : BitVec 32 := 1#32
  let v15 : BitVec 32 := Scalar.muli v14 c1_i32_7
  let v16 : BitVec 32 := Scalar.addi c0_i32_8 v15
  v16.toNat
def k0_dev2 (d0 : Dev nD) : Nat :=
  let c0_i32_17 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32 : BitVec 32 := 2#32
  let v17 : BitVec 32 := Scalar.addi v2 c2_i32
  let c32_i32_9 : BitVec 32 := 32#32
  let c0_i32_10 : BitVec 32 := 0#32
  let v18 : BitVec 1 := Scalar.cmpi .eq c32_i32_9 c0_i32_10
  let c1_i32_11 : BitVec 32 := 1#32
  let v19 : BitVec 32 := Scalar.select v18 c1_i32_11 c32_i32_9
  let v20 : BitVec 32 := Scalar.remsi v17 v19
  let c0_i32_13 : BitVec 32 := 0#32
  let v22 : BitVec 1 := Scalar.cmpi .slt v20 c0_i32_13
  let c0_i32_14 : BitVec 32 := 0#32
  let v23 : BitVec 1 := Scalar.cmpi .slt v19 c0_i32_14
  let v24 : BitVec 1 := Scalar.xori v22 v23
  let c0_i32_12 : BitVec 32 := 0#32
  let v21 : BitVec 1 := Scalar.cmpi .ne v20 c0_i32_12
  let v25 : BitVec 1 := Scalar.andi v24 v21
  let v26 : BitVec 32 := Scalar.addi v20 v19
  let v27 : BitVec 32 := Scalar.select v25 v26 v20
  let c1_i32_16 : BitVec 32 := 1#32
  let v28 : BitVec 32 := Scalar.muli v27 c1_i32_16
  let v29 : BitVec 32 := Scalar.addi c0_i32_17 v28
  v29.toNat
def k0_dev3 (d0 : Dev nD) : Nat :=
  let c0_i32_26 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32 : BitVec 32 := 3#32
  let v30 : BitVec 32 := Scalar.addi v2 c3_i32
  let c32_i32_18 : BitVec 32 := 32#32
  let c0_i32_19 : BitVec 32 := 0#32
  let v31 : BitVec 1 := Scalar.cmpi .eq c32_i32_18 c0_i32_19
  let c1_i32_20 : BitVec 32 := 1#32
  let v32 : BitVec 32 := Scalar.select v31 c1_i32_20 c32_i32_18
  let v33 : BitVec 32 := Scalar.remsi v30 v32
  let c0_i32_22 : BitVec 32 := 0#32
  let v35 : BitVec 1 := Scalar.cmpi .slt v33 c0_i32_22
  let c0_i32_23 : BitVec 32 := 0#32
  let v36 : BitVec 1 := Scalar.cmpi .slt v32 c0_i32_23
  let v37 : BitVec 1 := Scalar.xori v35 v36
  let c0_i32_21 : BitVec 32 := 0#32
  let v34 : BitVec 1 := Scalar.cmpi .ne v33 c0_i32_21
  let v38 : BitVec 1 := Scalar.andi v37 v34
  let v39 : BitVec 32 := Scalar.addi v33 v32
  let v40 : BitVec 32 := Scalar.select v38 v39 v33
  let c1_i32_25 : BitVec 32 := 1#32
  let v41 : BitVec 32 := Scalar.muli v40 c1_i32_25
  let v42 : BitVec 32 := Scalar.addi c0_i32_26 v41
  v42.toNat
def k0_dev4 (d0 : Dev nD) : Nat :=
  let c0_i32_35 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32 : BitVec 32 := 4#32
  let v43 : BitVec 32 := Scalar.addi v2 c4_i32
  let c32_i32_27 : BitVec 32 := 32#32
  let c0_i32_28 : BitVec 32 := 0#32
  let v44 : BitVec 1 := Scalar.cmpi .eq c32_i32_27 c0_i32_28
  let c1_i32_29 : BitVec 32 := 1#32
  let v45 : BitVec 32 := Scalar.select v44 c1_i32_29 c32_i32_27
  let v46 : BitVec 32 := Scalar.remsi v43 v45
  let c0_i32_31 : BitVec 32 := 0#32
  let v48 : BitVec 1 := Scalar.cmpi .slt v46 c0_i32_31
  let c0_i32_32 : BitVec 32 := 0#32
  let v49 : BitVec 1 := Scalar.cmpi .slt v45 c0_i32_32
  let v50 : BitVec 1 := Scalar.xori v48 v49
  let c0_i32_30 : BitVec 32 := 0#32
  let v47 : BitVec 1 := Scalar.cmpi .ne v46 c0_i32_30
  let v51 : BitVec 1 := Scalar.andi v50 v47
  let v52 : BitVec 32 := Scalar.addi v46 v45
  let v53 : BitVec 32 := Scalar.select v51 v52 v46
  let c1_i32_34 : BitVec 32 := 1#32
  let v54 : BitVec 32 := Scalar.muli v53 c1_i32_34
  let v55 : BitVec 32 := Scalar.addi c0_i32_35 v54
  v55.toNat
def k0_dev5 (d0 : Dev nD) : Nat :=
  let c0_i32_44 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c5_i32 : BitVec 32 := 5#32
  let v56 : BitVec 32 := Scalar.addi v2 c5_i32
  let c32_i32_36 : BitVec 32 := 32#32
  let c0_i32_37 : BitVec 32 := 0#32
  let v57 : BitVec 1 := Scalar.cmpi .eq c32_i32_36 c0_i32_37
  let c1_i32_38 : BitVec 32 := 1#32
  let v58 : BitVec 32 := Scalar.select v57 c1_i32_38 c32_i32_36
  let v59 : BitVec 32 := Scalar.remsi v56 v58
  let c0_i32_40 : BitVec 32 := 0#32
  let v61 : BitVec 1 := Scalar.cmpi .slt v59 c0_i32_40
  let c0_i32_41 : BitVec 32 := 0#32
  let v62 : BitVec 1 := Scalar.cmpi .slt v58 c0_i32_41
  let v63 : BitVec 1 := Scalar.xori v61 v62
  let c0_i32_39 : BitVec 32 := 0#32
  let v60 : BitVec 1 := Scalar.cmpi .ne v59 c0_i32_39
  let v64 : BitVec 1 := Scalar.andi v63 v60
  let v65 : BitVec 32 := Scalar.addi v59 v58
  let v66 : BitVec 32 := Scalar.select v64 v65 v59
  let c1_i32_43 : BitVec 32 := 1#32
  let v67 : BitVec 32 := Scalar.muli v66 c1_i32_43
  let v68 : BitVec 32 := Scalar.addi c0_i32_44 v67
  v68.toNat
def k0_dev6 (d0 : Dev nD) : Nat :=
  let c0_i32_53 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c6_i32 : BitVec 32 := 6#32
  let v69 : BitVec 32 := Scalar.addi v2 c6_i32
  let c32_i32_45 : BitVec 32 := 32#32
  let c0_i32_46 : BitVec 32 := 0#32
  let v70 : BitVec 1 := Scalar.cmpi .eq c32_i32_45 c0_i32_46
  let c1_i32_47 : BitVec 32 := 1#32
  let v71 : BitVec 32 := Scalar.select v70 c1_i32_47 c32_i32_45
  let v72 : BitVec 32 := Scalar.remsi v69 v71
  let c0_i32_49 : BitVec 32 := 0#32
  let v74 : BitVec 1 := Scalar.cmpi .slt v72 c0_i32_49
  let c0_i32_50 : BitVec 32 := 0#32
  let v75 : BitVec 1 := Scalar.cmpi .slt v71 c0_i32_50
  let v76 : BitVec 1 := Scalar.xori v74 v75
  let c0_i32_48 : BitVec 32 := 0#32
  let v73 : BitVec 1 := Scalar.cmpi .ne v72 c0_i32_48
  let v77 : BitVec 1 := Scalar.andi v76 v73
  let v78 : BitVec 32 := Scalar.addi v72 v71
  let v79 : BitVec 32 := Scalar.select v77 v78 v72
  let c1_i32_52 : BitVec 32 := 1#32
  let v80 : BitVec 32 := Scalar.muli v79 c1_i32_52
  let v81 : BitVec 32 := Scalar.addi c0_i32_53 v80
  v81.toNat
def k0_dev7 (d0 : Dev nD) : Nat :=
  let c0_i32_62 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32 : BitVec 32 := 7#32
  let v82 : BitVec 32 := Scalar.addi v2 c7_i32
  let c32_i32_54 : BitVec 32 := 32#32
  let c0_i32_55 : BitVec 32 := 0#32
  let v83 : BitVec 1 := Scalar.cmpi .eq c32_i32_54 c0_i32_55
  let c1_i32_56 : BitVec 32 := 1#32
  let v84 : BitVec 32 := Scalar.select v83 c1_i32_56 c32_i32_54
  let v85 : BitVec 32 := Scalar.remsi v82 v84
  let c0_i32_58 : BitVec 32 := 0#32
  let v87 : BitVec 1 := Scalar.cmpi .slt v85 c0_i32_58
  let c0_i32_59 : BitVec 32 := 0#32
  let v88 : BitVec 1 := Scalar.cmpi .slt v84 c0_i32_59
  let v89 : BitVec 1 := Scalar.xori v87 v88
  let c0_i32_57 : BitVec 32 := 0#32
  let v86 : BitVec 1 := Scalar.cmpi .ne v85 c0_i32_57
  let v90 : BitVec 1 := Scalar.andi v89 v86
  let v91 : BitVec 32 := Scalar.addi v85 v84
  let v92 : BitVec 32 := Scalar.select v90 v91 v85
  let c1_i32_61 : BitVec 32 := 1#32
  let v93 : BitVec 32 := Scalar.muli v92 c1_i32_61
  let v94 : BitVec 32 := Scalar.addi c0_i32_62 v93
  v94.toNat
def k0_dev8 (d0 : Dev nD) : Nat :=
  let c0_i32_71 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v95 : BitVec 32 := Scalar.addi v2 c8_i32
  let c32_i32_63 : BitVec 32 := 32#32
  let c0_i32_64 : BitVec 32 := 0#32
  let v96 : BitVec 1 := Scalar.cmpi .eq c32_i32_63 c0_i32_64
  let c1_i32_65 : BitVec 32 := 1#32
  let v97 : BitVec 32 := Scalar.select v96 c1_i32_65 c32_i32_63
  let v98 : BitVec 32 := Scalar.remsi v95 v97
  let c0_i32_67 : BitVec 32 := 0#32
  let v100 : BitVec 1 := Scalar.cmpi .slt v98 c0_i32_67
  let c0_i32_68 : BitVec 32 := 0#32
  let v101 : BitVec 1 := Scalar.cmpi .slt v97 c0_i32_68
  let v102 : BitVec 1 := Scalar.xori v100 v101
  let c0_i32_66 : BitVec 32 := 0#32
  let v99 : BitVec 1 := Scalar.cmpi .ne v98 c0_i32_66
  let v103 : BitVec 1 := Scalar.andi v102 v99
  let v104 : BitVec 32 := Scalar.addi v98 v97
  let v105 : BitVec 32 := Scalar.select v103 v104 v98
  let c1_i32_70 : BitVec 32 := 1#32
  let v106 : BitVec 32 := Scalar.muli v105 c1_i32_70
  let v107 : BitVec 32 := Scalar.addi c0_i32_71 v106
  v107.toNat
def k0_dev9 (d0 : Dev nD) : Nat :=
  let c0_i32_80 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c9_i32 : BitVec 32 := 9#32
  let v108 : BitVec 32 := Scalar.addi v2 c9_i32
  let c32_i32_72 : BitVec 32 := 32#32
  let c0_i32_73 : BitVec 32 := 0#32
  let v109 : BitVec 1 := Scalar.cmpi .eq c32_i32_72 c0_i32_73
  let c1_i32_74 : BitVec 32 := 1#32
  let v110 : BitVec 32 := Scalar.select v109 c1_i32_74 c32_i32_72
  let v111 : BitVec 32 := Scalar.remsi v108 v110
  let c0_i32_76 : BitVec 32 := 0#32
  let v113 : BitVec 1 := Scalar.cmpi .slt v111 c0_i32_76
  let c0_i32_77 : BitVec 32 := 0#32
  let v114 : BitVec 1 := Scalar.cmpi .slt v110 c0_i32_77
  let v115 : BitVec 1 := Scalar.xori v113 v114
  let c0_i32_75 : BitVec 32 := 0#32
  let v112 : BitVec 1 := Scalar.cmpi .ne v111 c0_i32_75
  let v116 : BitVec 1 := Scalar.andi v115 v112
  let v117 : BitVec 32 := Scalar.addi v111 v110
  let v118 : BitVec 32 := Scalar.select v116 v117 v111
  let c1_i32_79 : BitVec 32 := 1#32
  let v119 : BitVec 32 := Scalar.muli v118 c1_i32_79
  let v120 : BitVec 32 := Scalar.addi c0_i32_80 v119
  v120.toNat
def k0_dev10 (d0 : Dev nD) : Nat :=
  let c0_i32_89 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c10_i32 : BitVec 32 := 10#32
  let v121 : BitVec 32 := Scalar.addi v2 c10_i32
  let c32_i32_81 : BitVec 32 := 32#32
  let c0_i32_82 : BitVec 32 := 0#32
  let v122 : BitVec 1 := Scalar.cmpi .eq c32_i32_81 c0_i32_82
  let c1_i32_83 : BitVec 32 := 1#32
  let v123 : BitVec 32 := Scalar.select v122 c1_i32_83 c32_i32_81
  let v124 : BitVec 32 := Scalar.remsi v121 v123
  let c0_i32_85 : BitVec 32 := 0#32
  let v126 : BitVec 1 := Scalar.cmpi .slt v124 c0_i32_85
  let c0_i32_86 : BitVec 32 := 0#32
  let v127 : BitVec 1 := Scalar.cmpi .slt v123 c0_i32_86
  let v128 : BitVec 1 := Scalar.xori v126 v127
  let c0_i32_84 : BitVec 32 := 0#32
  let v125 : BitVec 1 := Scalar.cmpi .ne v124 c0_i32_84
  let v129 : BitVec 1 := Scalar.andi v128 v125
  let v130 : BitVec 32 := Scalar.addi v124 v123
  let v131 : BitVec 32 := Scalar.select v129 v130 v124
  let c1_i32_88 : BitVec 32 := 1#32
  let v132 : BitVec 32 := Scalar.muli v131 c1_i32_88
  let v133 : BitVec 32 := Scalar.addi c0_i32_89 v132
  v133.toNat
def k0_dev11 (d0 : Dev nD) : Nat :=
  let c0_i32_98 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c11_i32 : BitVec 32 := 11#32
  let v134 : BitVec 32 := Scalar.addi v2 c11_i32
  let c32_i32_90 : BitVec 32 := 32#32
  let c0_i32_91 : BitVec 32 := 0#32
  let v135 : BitVec 1 := Scalar.cmpi .eq c32_i32_90 c0_i32_91
  let c1_i32_92 : BitVec 32 := 1#32
  let v136 : BitVec 32 := Scalar.select v135 c1_i32_92 c32_i32_90
  let v137 : BitVec 32 := Scalar.remsi v134 v136
  let c0_i32_94 : BitVec 32 := 0#32
  let v139 : BitVec 1 := Scalar.cmpi .slt v137 c0_i32_94
  let c0_i32_95 : BitVec 32 := 0#32
  let v140 : BitVec 1 := Scalar.cmpi .slt v136 c0_i32_95
  let v141 : BitVec 1 := Scalar.xori v139 v140
  let c0_i32_93 : BitVec 32 := 0#32
  let v138 : BitVec 1 := Scalar.cmpi .ne v137 c0_i32_93
  let v142 : BitVec 1 := Scalar.andi v141 v138
  let v143 : BitVec 32 := Scalar.addi v137 v136
  let v144 : BitVec 32 := Scalar.select v142 v143 v137
  let c1_i32_97 : BitVec 32 := 1#32
  let v145 : BitVec 32 := Scalar.muli v144 c1_i32_97
  let v146 : BitVec 32 := Scalar.addi c0_i32_98 v145
  v146.toNat
def k0_dev12 (d0 : Dev nD) : Nat :=
  let c0_i32_107 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c12_i32 : BitVec 32 := 12#32
  let v147 : BitVec 32 := Scalar.addi v2 c12_i32
  let c32_i32_99 : BitVec 32 := 32#32
  let c0_i32_100 : BitVec 32 := 0#32
  let v148 : BitVec 1 := Scalar.cmpi .eq c32_i32_99 c0_i32_100
  let c1_i32_101 : BitVec 32 := 1#32
  let v149 : BitVec 32 := Scalar.select v148 c1_i32_101 c32_i32_99
  let v150 : BitVec 32 := Scalar.remsi v147 v149
  let c0_i32_103 : BitVec 32 := 0#32
  let v152 : BitVec 1 := Scalar.cmpi .slt v150 c0_i32_103
  let c0_i32_104 : BitVec 32 := 0#32
  let v153 : BitVec 1 := Scalar.cmpi .slt v149 c0_i32_104
  let v154 : BitVec 1 := Scalar.xori v152 v153
  let c0_i32_102 : BitVec 32 := 0#32
  let v151 : BitVec 1 := Scalar.cmpi .ne v150 c0_i32_102
  let v155 : BitVec 1 := Scalar.andi v154 v151
  let v156 : BitVec 32 := Scalar.addi v150 v149
  let v157 : BitVec 32 := Scalar.select v155 v156 v150
  let c1_i32_106 : BitVec 32 := 1#32
  let v158 : BitVec 32 := Scalar.muli v157 c1_i32_106
  let v159 : BitVec 32 := Scalar.addi c0_i32_107 v158
  v159.toNat
def k0_dev13 (d0 : Dev nD) : Nat :=
  let c0_i32_116 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c13_i32 : BitVec 32 := 13#32
  let v160 : BitVec 32 := Scalar.addi v2 c13_i32
  let c32_i32_108 : BitVec 32 := 32#32
  let c0_i32_109 : BitVec 32 := 0#32
  let v161 : BitVec 1 := Scalar.cmpi .eq c32_i32_108 c0_i32_109
  let c1_i32_110 : BitVec 32 := 1#32
  let v162 : BitVec 32 := Scalar.select v161 c1_i32_110 c32_i32_108
  let v163 : BitVec 32 := Scalar.remsi v160 v162
  let c0_i32_112 : BitVec 32 := 0#32
  let v165 : BitVec 1 := Scalar.cmpi .slt v163 c0_i32_112
  let c0_i32_113 : BitVec 32 := 0#32
  let v166 : BitVec 1 := Scalar.cmpi .slt v162 c0_i32_113
  let v167 : BitVec 1 := Scalar.xori v165 v166
  let c0_i32_111 : BitVec 32 := 0#32
  let v164 : BitVec 1 := Scalar.cmpi .ne v163 c0_i32_111
  let v168 : BitVec 1 := Scalar.andi v167 v164
  let v169 : BitVec 32 := Scalar.addi v163 v162
  let v170 : BitVec 32 := Scalar.select v168 v169 v163
  let c1_i32_115 : BitVec 32 := 1#32
  let v171 : BitVec 32 := Scalar.muli v170 c1_i32_115
  let v172 : BitVec 32 := Scalar.addi c0_i32_116 v171
  v172.toNat
def k0_dev14 (d0 : Dev nD) : Nat :=
  let c0_i32_125 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c14_i32 : BitVec 32 := 14#32
  let v173 : BitVec 32 := Scalar.addi v2 c14_i32
  let c32_i32_117 : BitVec 32 := 32#32
  let c0_i32_118 : BitVec 32 := 0#32
  let v174 : BitVec 1 := Scalar.cmpi .eq c32_i32_117 c0_i32_118
  let c1_i32_119 : BitVec 32 := 1#32
  let v175 : BitVec 32 := Scalar.select v174 c1_i32_119 c32_i32_117
  let v176 : BitVec 32 := Scalar.remsi v173 v175
  let c0_i32_121 : BitVec 32 := 0#32
  let v178 : BitVec 1 := Scalar.cmpi .slt v176 c0_i32_121
  let c0_i32_122 : BitVec 32 := 0#32
  let v179 : BitVec 1 := Scalar.cmpi .slt v175 c0_i32_122
  let v180 : BitVec 1 := Scalar.xori v178 v179
  let c0_i32_120 : BitVec 32 := 0#32
  let v177 : BitVec 1 := Scalar.cmpi .ne v176 c0_i32_120
  let v181 : BitVec 1 := Scalar.andi v180 v177
  let v182 : BitVec 32 := Scalar.addi v176 v175
  let v183 : BitVec 32 := Scalar.select v181 v182 v176
  let c1_i32_124 : BitVec 32 := 1#32
  let v184 : BitVec 32 := Scalar.muli v183 c1_i32_124
  let v185 : BitVec 32 := Scalar.addi c0_i32_125 v184
  v185.toNat
def k0_dev15 (d0 : Dev nD) : Nat :=
  let c0_i32_134 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c15_i32 : BitVec 32 := 15#32
  let v186 : BitVec 32 := Scalar.addi v2 c15_i32
  let c32_i32_126 : BitVec 32 := 32#32
  let c0_i32_127 : BitVec 32 := 0#32
  let v187 : BitVec 1 := Scalar.cmpi .eq c32_i32_126 c0_i32_127
  let c1_i32_128 : BitVec 32 := 1#32
  let v188 : BitVec 32 := Scalar.select v187 c1_i32_128 c32_i32_126
  let v189 : BitVec 32 := Scalar.remsi v186 v188
  let c0_i32_130 : BitVec 32 := 0#32
  let v191 : BitVec 1 := Scalar.cmpi .slt v189 c0_i32_130
  let c0_i32_131 : BitVec 32 := 0#32
  let v192 : BitVec 1 := Scalar.cmpi .slt v188 c0_i32_131
  let v193 : BitVec 1 := Scalar.xori v191 v192
  let c0_i32_129 : BitVec 32 := 0#32
  let v190 : BitVec 1 := Scalar.cmpi .ne v189 c0_i32_129
  let v194 : BitVec 1 := Scalar.andi v193 v190
  let v195 : BitVec 32 := Scalar.addi v189 v188
  let v196 : BitVec 32 := Scalar.select v194 v195 v189
  let c1_i32_133 : BitVec 32 := 1#32
  let v197 : BitVec 32 := Scalar.muli v196 c1_i32_133
  let v198 : BitVec 32 := Scalar.addi c0_i32_134 v197
  v198.toNat
def k0_dev16 (d0 : Dev nD) : Nat :=
  let c0_i32_143 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32 : BitVec 32 := 16#32
  let v199 : BitVec 32 := Scalar.addi v2 c16_i32
  let c32_i32_135 : BitVec 32 := 32#32
  let c0_i32_136 : BitVec 32 := 0#32
  let v200 : BitVec 1 := Scalar.cmpi .eq c32_i32_135 c0_i32_136
  let c1_i32_137 : BitVec 32 := 1#32
  let v201 : BitVec 32 := Scalar.select v200 c1_i32_137 c32_i32_135
  let v202 : BitVec 32 := Scalar.remsi v199 v201
  let c0_i32_139 : BitVec 32 := 0#32
  let v204 : BitVec 1 := Scalar.cmpi .slt v202 c0_i32_139
  let c0_i32_140 : BitVec 32 := 0#32
  let v205 : BitVec 1 := Scalar.cmpi .slt v201 c0_i32_140
  let v206 : BitVec 1 := Scalar.xori v204 v205
  let c0_i32_138 : BitVec 32 := 0#32
  let v203 : BitVec 1 := Scalar.cmpi .ne v202 c0_i32_138
  let v207 : BitVec 1 := Scalar.andi v206 v203
  let v208 : BitVec 32 := Scalar.addi v202 v201
  let v209 : BitVec 32 := Scalar.select v207 v208 v202
  let c1_i32_142 : BitVec 32 := 1#32
  let v210 : BitVec 32 := Scalar.muli v209 c1_i32_142
  let v211 : BitVec 32 := Scalar.addi c0_i32_143 v210
  v211.toNat
def k0_dev17 (d0 : Dev nD) : Nat :=
  let c0_i32_152 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c17_i32 : BitVec 32 := 17#32
  let v212 : BitVec 32 := Scalar.addi v2 c17_i32
  let c32_i32_144 : BitVec 32 := 32#32
  let c0_i32_145 : BitVec 32 := 0#32
  let v213 : BitVec 1 := Scalar.cmpi .eq c32_i32_144 c0_i32_145
  let c1_i32_146 : BitVec 32 := 1#32
  let v214 : BitVec 32 := Scalar.select v213 c1_i32_146 c32_i32_144
  let v215 : BitVec 32 := Scalar.remsi v212 v214
  let c0_i32_148 : BitVec 32 := 0#32
  let v217 : BitVec 1 := Scalar.cmpi .slt v215 c0_i32_148
  let c0_i32_149 : BitVec 32 := 0#32
  let v218 : BitVec 1 := Scalar.cmpi .slt v214 c0_i32_149
  let v219 : BitVec 1 := Scalar.xori v217 v218
  let c0_i32_147 : BitVec 32 := 0#32
  let v216 : BitVec 1 := Scalar.cmpi .ne v215 c0_i32_147
  let v220 : BitVec 1 := Scalar.andi v219 v216
  let v221 : BitVec 32 := Scalar.addi v215 v214
  let v222 : BitVec 32 := Scalar.select v220 v221 v215
  let c1_i32_151 : BitVec 32 := 1#32
  let v223 : BitVec 32 := Scalar.muli v222 c1_i32_151
  let v224 : BitVec 32 := Scalar.addi c0_i32_152 v223
  v224.toNat
def k0_dev18 (d0 : Dev nD) : Nat :=
  let c0_i32_161 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c18_i32 : BitVec 32 := 18#32
  let v225 : BitVec 32 := Scalar.addi v2 c18_i32
  let c32_i32_153 : BitVec 32 := 32#32
  let c0_i32_154 : BitVec 32 := 0#32
  let v226 : BitVec 1 := Scalar.cmpi .eq c32_i32_153 c0_i32_154
  let c1_i32_155 : BitVec 32 := 1#32
  let v227 : BitVec 32 := Scalar.select v226 c1_i32_155 c32_i32_153
  let v228 : BitVec 32 := Scalar.remsi v225 v227
  let c0_i32_157 : BitVec 32 := 0#32
  let v230 : BitVec 1 := Scalar.cmpi .slt v228 c0_i32_157
  let c0_i32_158 : BitVec 32 := 0#32
  let v231 : BitVec 1 := Scalar.cmpi .slt v227 c0_i32_158
  let v232 : BitVec 1 := Scalar.xori v230 v231
  let c0_i32_156 : BitVec 32 := 0#32
  let v229 : BitVec 1 := Scalar.cmpi .ne v228 c0_i32_156
  let v233 : BitVec 1 := Scalar.andi v232 v229
  let v234 : BitVec 32 := Scalar.addi v228 v227
  let v235 : BitVec 32 := Scalar.select v233 v234 v228
  let c1_i32_160 : BitVec 32 := 1#32
  let v236 : BitVec 32 := Scalar.muli v235 c1_i32_160
  let v237 : BitVec 32 := Scalar.addi c0_i32_161 v236
  v237.toNat
def k0_dev19 (d0 : Dev nD) : Nat :=
  let c0_i32_170 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c19_i32 : BitVec 32 := 19#32
  let v238 : BitVec 32 := Scalar.addi v2 c19_i32
  let c32_i32_162 : BitVec 32 := 32#32
  let c0_i32_163 : BitVec 32 := 0#32
  let v239 : BitVec 1 := Scalar.cmpi .eq c32_i32_162 c0_i32_163
  let c1_i32_164 : BitVec 32 := 1#32
  let v240 : BitVec 32 := Scalar.select v239 c1_i32_164 c32_i32_162
  let v241 : BitVec 32 := Scalar.remsi v238 v240
  let c0_i32_166 : BitVec 32 := 0#32
  let v243 : BitVec 1 := Scalar.cmpi .slt v241 c0_i32_166
  let c0_i32_167 : BitVec 32 := 0#32
  let v244 : BitVec 1 := Scalar.cmpi .slt v240 c0_i32_167
  let v245 : BitVec 1 := Scalar.xori v243 v244
  let c0_i32_165 : BitVec 32 := 0#32
  let v242 : BitVec 1 := Scalar.cmpi .ne v241 c0_i32_165
  let v246 : BitVec 1 := Scalar.andi v245 v242
  let v247 : BitVec 32 := Scalar.addi v241 v240
  let v248 : BitVec 32 := Scalar.select v246 v247 v241
  let c1_i32_169 : BitVec 32 := 1#32
  let v249 : BitVec 32 := Scalar.muli v248 c1_i32_169
  let v250 : BitVec 32 := Scalar.addi c0_i32_170 v249
  v250.toNat
def k0_dev20 (d0 : Dev nD) : Nat :=
  let c0_i32_179 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c20_i32 : BitVec 32 := 20#32
  let v251 : BitVec 32 := Scalar.addi v2 c20_i32
  let c32_i32_171 : BitVec 32 := 32#32
  let c0_i32_172 : BitVec 32 := 0#32
  let v252 : BitVec 1 := Scalar.cmpi .eq c32_i32_171 c0_i32_172
  let c1_i32_173 : BitVec 32 := 1#32
  let v253 : BitVec 32 := Scalar.select v252 c1_i32_173 c32_i32_171
  let v254 : BitVec 32 := Scalar.remsi v251 v253
  let c0_i32_175 : BitVec 32 := 0#32
  let v256 : BitVec 1 := Scalar.cmpi .slt v254 c0_i32_175
  let c0_i32_176 : BitVec 32 := 0#32
  let v257 : BitVec 1 := Scalar.cmpi .slt v253 c0_i32_176
  let v258 : BitVec 1 := Scalar.xori v256 v257
  let c0_i32_174 : BitVec 32 := 0#32
  let v255 : BitVec 1 := Scalar.cmpi .ne v254 c0_i32_174
  let v259 : BitVec 1 := Scalar.andi v258 v255
  let v260 : BitVec 32 := Scalar.addi v254 v253
  let v261 : BitVec 32 := Scalar.select v259 v260 v254
  let c1_i32_178 : BitVec 32 := 1#32
  let v262 : BitVec 32 := Scalar.muli v261 c1_i32_178
  let v263 : BitVec 32 := Scalar.addi c0_i32_179 v262
  v263.toNat
def k0_dev21 (d0 : Dev nD) : Nat :=
  let c0_i32_188 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c21_i32 : BitVec 32 := 21#32
  let v264 : BitVec 32 := Scalar.addi v2 c21_i32
  let c32_i32_180 : BitVec 32 := 32#32
  let c0_i32_181 : BitVec 32 := 0#32
  let v265 : BitVec 1 := Scalar.cmpi .eq c32_i32_180 c0_i32_181
  let c1_i32_182 : BitVec 32 := 1#32
  let v266 : BitVec 32 := Scalar.select v265 c1_i32_182 c32_i32_180
  let v267 : BitVec 32 := Scalar.remsi v264 v266
  let c0_i32_184 : BitVec 32 := 0#32
  let v269 : BitVec 1 := Scalar.cmpi .slt v267 c0_i32_184
  let c0_i32_185 : BitVec 32 := 0#32
  let v270 : BitVec 1 := Scalar.cmpi .slt v266 c0_i32_185
  let v271 : BitVec 1 := Scalar.xori v269 v270
  let c0_i32_183 : BitVec 32 := 0#32
  let v268 : BitVec 1 := Scalar.cmpi .ne v267 c0_i32_183
  let v272 : BitVec 1 := Scalar.andi v271 v268
  let v273 : BitVec 32 := Scalar.addi v267 v266
  let v274 : BitVec 32 := Scalar.select v272 v273 v267
  let c1_i32_187 : BitVec 32 := 1#32
  let v275 : BitVec 32 := Scalar.muli v274 c1_i32_187
  let v276 : BitVec 32 := Scalar.addi c0_i32_188 v275
  v276.toNat
def k0_dev22 (d0 : Dev nD) : Nat :=
  let c0_i32_197 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c22_i32 : BitVec 32 := 22#32
  let v277 : BitVec 32 := Scalar.addi v2 c22_i32
  let c32_i32_189 : BitVec 32 := 32#32
  let c0_i32_190 : BitVec 32 := 0#32
  let v278 : BitVec 1 := Scalar.cmpi .eq c32_i32_189 c0_i32_190
  let c1_i32_191 : BitVec 32 := 1#32
  let v279 : BitVec 32 := Scalar.select v278 c1_i32_191 c32_i32_189
  let v280 : BitVec 32 := Scalar.remsi v277 v279
  let c0_i32_193 : BitVec 32 := 0#32
  let v282 : BitVec 1 := Scalar.cmpi .slt v280 c0_i32_193
  let c0_i32_194 : BitVec 32 := 0#32
  let v283 : BitVec 1 := Scalar.cmpi .slt v279 c0_i32_194
  let v284 : BitVec 1 := Scalar.xori v282 v283
  let c0_i32_192 : BitVec 32 := 0#32
  let v281 : BitVec 1 := Scalar.cmpi .ne v280 c0_i32_192
  let v285 : BitVec 1 := Scalar.andi v284 v281
  let v286 : BitVec 32 := Scalar.addi v280 v279
  let v287 : BitVec 32 := Scalar.select v285 v286 v280
  let c1_i32_196 : BitVec 32 := 1#32
  let v288 : BitVec 32 := Scalar.muli v287 c1_i32_196
  let v289 : BitVec 32 := Scalar.addi c0_i32_197 v288
  v289.toNat
def k0_dev23 (d0 : Dev nD) : Nat :=
  let c0_i32_206 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c23_i32 : BitVec 32 := 23#32
  let v290 : BitVec 32 := Scalar.addi v2 c23_i32
  let c32_i32_198 : BitVec 32 := 32#32
  let c0_i32_199 : BitVec 32 := 0#32
  let v291 : BitVec 1 := Scalar.cmpi .eq c32_i32_198 c0_i32_199
  let c1_i32_200 : BitVec 32 := 1#32
  let v292 : BitVec 32 := Scalar.select v291 c1_i32_200 c32_i32_198
  let v293 : BitVec 32 := Scalar.remsi v290 v292
  let c0_i32_202 : BitVec 32 := 0#32
  let v295 : BitVec 1 := Scalar.cmpi .slt v293 c0_i32_202
  let c0_i32_203 : BitVec 32 := 0#32
  let v296 : BitVec 1 := Scalar.cmpi .slt v292 c0_i32_203
  let v297 : BitVec 1 := Scalar.xori v295 v296
  let c0_i32_201 : BitVec 32 := 0#32
  let v294 : BitVec 1 := Scalar.cmpi .ne v293 c0_i32_201
  let v298 : BitVec 1 := Scalar.andi v297 v294
  let v299 : BitVec 32 := Scalar.addi v293 v292
  let v300 : BitVec 32 := Scalar.select v298 v299 v293
  let c1_i32_205 : BitVec 32 := 1#32
  let v301 : BitVec 32 := Scalar.muli v300 c1_i32_205
  let v302 : BitVec 32 := Scalar.addi c0_i32_206 v301
  v302.toNat
def k0_dev24 (d0 : Dev nD) : Nat :=
  let c0_i32_215 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c24_i32 : BitVec 32 := 24#32
  let v303 : BitVec 32 := Scalar.addi v2 c24_i32
  let c32_i32_207 : BitVec 32 := 32#32
  let c0_i32_208 : BitVec 32 := 0#32
  let v304 : BitVec 1 := Scalar.cmpi .eq c32_i32_207 c0_i32_208
  let c1_i32_209 : BitVec 32 := 1#32
  let v305 : BitVec 32 := Scalar.select v304 c1_i32_209 c32_i32_207
  let v306 : BitVec 32 := Scalar.remsi v303 v305
  let c0_i32_211 : BitVec 32 := 0#32
  let v308 : BitVec 1 := Scalar.cmpi .slt v306 c0_i32_211
  let c0_i32_212 : BitVec 32 := 0#32
  let v309 : BitVec 1 := Scalar.cmpi .slt v305 c0_i32_212
  let v310 : BitVec 1 := Scalar.xori v308 v309
  let c0_i32_210 : BitVec 32 := 0#32
  let v307 : BitVec 1 := Scalar.cmpi .ne v306 c0_i32_210
  let v311 : BitVec 1 := Scalar.andi v310 v307
  let v312 : BitVec 32 := Scalar.addi v306 v305
  let v313 : BitVec 32 := Scalar.select v311 v312 v306
  let c1_i32_214 : BitVec 32 := 1#32
  let v314 : BitVec 32 := Scalar.muli v313 c1_i32_214
  let v315 : BitVec 32 := Scalar.addi c0_i32_215 v314
  v315.toNat
def k0_dev25 (d0 : Dev nD) : Nat :=
  let c0_i32_224 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c25_i32 : BitVec 32 := 25#32
  let v316 : BitVec 32 := Scalar.addi v2 c25_i32
  let c32_i32_216 : BitVec 32 := 32#32
  let c0_i32_217 : BitVec 32 := 0#32
  let v317 : BitVec 1 := Scalar.cmpi .eq c32_i32_216 c0_i32_217
  let c1_i32_218 : BitVec 32 := 1#32
  let v318 : BitVec 32 := Scalar.select v317 c1_i32_218 c32_i32_216
  let v319 : BitVec 32 := Scalar.remsi v316 v318
  let c0_i32_220 : BitVec 32 := 0#32
  let v321 : BitVec 1 := Scalar.cmpi .slt v319 c0_i32_220
  let c0_i32_221 : BitVec 32 := 0#32
  let v322 : BitVec 1 := Scalar.cmpi .slt v318 c0_i32_221
  let v323 : BitVec 1 := Scalar.xori v321 v322
  let c0_i32_219 : BitVec 32 := 0#32
  let v320 : BitVec 1 := Scalar.cmpi .ne v319 c0_i32_219
  let v324 : BitVec 1 := Scalar.andi v323 v320
  let v325 : BitVec 32 := Scalar.addi v319 v318
  let v326 : BitVec 32 := Scalar.select v324 v325 v319
  let c1_i32_223 : BitVec 32 := 1#32
  let v327 : BitVec 32 := Scalar.muli v326 c1_i32_223
  let v328 : BitVec 32 := Scalar.addi c0_i32_224 v327
  v328.toNat
def k0_dev26 (d0 : Dev nD) : Nat :=
  let c0_i32_233 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c26_i32 : BitVec 32 := 26#32
  let v329 : BitVec 32 := Scalar.addi v2 c26_i32
  let c32_i32_225 : BitVec 32 := 32#32
  let c0_i32_226 : BitVec 32 := 0#32
  let v330 : BitVec 1 := Scalar.cmpi .eq c32_i32_225 c0_i32_226
  let c1_i32_227 : BitVec 32 := 1#32
  let v331 : BitVec 32 := Scalar.select v330 c1_i32_227 c32_i32_225
  let v332 : BitVec 32 := Scalar.remsi v329 v331
  let c0_i32_229 : BitVec 32 := 0#32
  let v334 : BitVec 1 := Scalar.cmpi .slt v332 c0_i32_229
  let c0_i32_230 : BitVec 32 := 0#32
  let v335 : BitVec 1 := Scalar.cmpi .slt v331 c0_i32_230
  let v336 : BitVec 1 := Scalar.xori v334 v335
  let c0_i32_228 : BitVec 32 := 0#32
  let v333 : BitVec 1 := Scalar.cmpi .ne v332 c0_i32_228
  let v337 : BitVec 1 := Scalar.andi v336 v333
  let v338 : BitVec 32 := Scalar.addi v332 v331
  let v339 : BitVec 32 := Scalar.select v337 v338 v332
  let c1_i32_232 : BitVec 32 := 1#32
  let v340 : BitVec 32 := Scalar.muli v339 c1_i32_232
  let v341 : BitVec 32 := Scalar.addi c0_i32_233 v340
  v341.toNat
def k0_dev27 (d0 : Dev nD) : Nat :=
  let c0_i32_242 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c27_i32 : BitVec 32 := 27#32
  let v342 : BitVec 32 := Scalar.addi v2 c27_i32
  let c32_i32_234 : BitVec 32 := 32#32
  let c0_i32_235 : BitVec 32 := 0#32
  let v343 : BitVec 1 := Scalar.cmpi .eq c32_i32_234 c0_i32_235
  let c1_i32_236 : BitVec 32 := 1#32
  let v344 : BitVec 32 := Scalar.select v343 c1_i32_236 c32_i32_234
  let v345 : BitVec 32 := Scalar.remsi v342 v344
  let c0_i32_238 : BitVec 32 := 0#32
  let v347 : BitVec 1 := Scalar.cmpi .slt v345 c0_i32_238
  let c0_i32_239 : BitVec 32 := 0#32
  let v348 : BitVec 1 := Scalar.cmpi .slt v344 c0_i32_239
  let v349 : BitVec 1 := Scalar.xori v347 v348
  let c0_i32_237 : BitVec 32 := 0#32
  let v346 : BitVec 1 := Scalar.cmpi .ne v345 c0_i32_237
  let v350 : BitVec 1 := Scalar.andi v349 v346
  let v351 : BitVec 32 := Scalar.addi v345 v344
  let v352 : BitVec 32 := Scalar.select v350 v351 v345
  let c1_i32_241 : BitVec 32 := 1#32
  let v353 : BitVec 32 := Scalar.muli v352 c1_i32_241
  let v354 : BitVec 32 := Scalar.addi c0_i32_242 v353
  v354.toNat
def k0_dev28 (d0 : Dev nD) : Nat :=
  let c0_i32_251 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c28_i32 : BitVec 32 := 28#32
  let v355 : BitVec 32 := Scalar.addi v2 c28_i32
  let c32_i32_243 : BitVec 32 := 32#32
  let c0_i32_244 : BitVec 32 := 0#32
  let v356 : BitVec 1 := Scalar.cmpi .eq c32_i32_243 c0_i32_244
  let c1_i32_245 : BitVec 32 := 1#32
  let v357 : BitVec 32 := Scalar.select v356 c1_i32_245 c32_i32_243
  let v358 : BitVec 32 := Scalar.remsi v355 v357
  let c0_i32_247 : BitVec 32 := 0#32
  let v360 : BitVec 1 := Scalar.cmpi .slt v358 c0_i32_247
  let c0_i32_248 : BitVec 32 := 0#32
  let v361 : BitVec 1 := Scalar.cmpi .slt v357 c0_i32_248
  let v362 : BitVec 1 := Scalar.xori v360 v361
  let c0_i32_246 : BitVec 32 := 0#32
  let v359 : BitVec 1 := Scalar.cmpi .ne v358 c0_i32_246
  let v363 : BitVec 1 := Scalar.andi v362 v359
  let v364 : BitVec 32 := Scalar.addi v358 v357
  let v365 : BitVec 32 := Scalar.select v363 v364 v358
  let c1_i32_250 : BitVec 32 := 1#32
  let v366 : BitVec 32 := Scalar.muli v365 c1_i32_250
  let v367 : BitVec 32 := Scalar.addi c0_i32_251 v366
  v367.toNat
def k0_dev29 (d0 : Dev nD) : Nat :=
  let c0_i32_260 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c29_i32 : BitVec 32 := 29#32
  let v368 : BitVec 32 := Scalar.addi v2 c29_i32
  let c32_i32_252 : BitVec 32 := 32#32
  let c0_i32_253 : BitVec 32 := 0#32
  let v369 : BitVec 1 := Scalar.cmpi .eq c32_i32_252 c0_i32_253
  let c1_i32_254 : BitVec 32 := 1#32
  let v370 : BitVec 32 := Scalar.select v369 c1_i32_254 c32_i32_252
  let v371 : BitVec 32 := Scalar.remsi v368 v370
  let c0_i32_256 : BitVec 32 := 0#32
  let v373 : BitVec 1 := Scalar.cmpi .slt v371 c0_i32_256
  let c0_i32_257 : BitVec 32 := 0#32
  let v374 : BitVec 1 := Scalar.cmpi .slt v370 c0_i32_257
  let v375 : BitVec 1 := Scalar.xori v373 v374
  let c0_i32_255 : BitVec 32 := 0#32
  let v372 : BitVec 1 := Scalar.cmpi .ne v371 c0_i32_255
  let v376 : BitVec 1 := Scalar.andi v375 v372
  let v377 : BitVec 32 := Scalar.addi v371 v370
  let v378 : BitVec 32 := Scalar.select v376 v377 v371
  let c1_i32_259 : BitVec 32 := 1#32
  let v379 : BitVec 32 := Scalar.muli v378 c1_i32_259
  let v380 : BitVec 32 := Scalar.addi c0_i32_260 v379
  v380.toNat
def k0_dev30 (d0 : Dev nD) : Nat :=
  let c0_i32_269 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c30_i32 : BitVec 32 := 30#32
  let v381 : BitVec 32 := Scalar.addi v2 c30_i32
  let c32_i32_261 : BitVec 32 := 32#32
  let c0_i32_262 : BitVec 32 := 0#32
  let v382 : BitVec 1 := Scalar.cmpi .eq c32_i32_261 c0_i32_262
  let c1_i32_263 : BitVec 32 := 1#32
  let v383 : BitVec 32 := Scalar.select v382 c1_i32_263 c32_i32_261
  let v384 : BitVec 32 := Scalar.remsi v381 v383
  let c0_i32_265 : BitVec 32 := 0#32
  let v386 : BitVec 1 := Scalar.cmpi .slt v384 c0_i32_265
  let c0_i32_266 : BitVec 32 := 0#32
  let v387 : BitVec 1 := Scalar.cmpi .slt v383 c0_i32_266
  let v388 : BitVec 1 := Scalar.xori v386 v387
  let c0_i32_264 : BitVec 32 := 0#32
  let v385 : BitVec 1 := Scalar.cmpi .ne v384 c0_i32_264
  let v389 : BitVec 1 := Scalar.andi v388 v385
  let v390 : BitVec 32 := Scalar.addi v384 v383
  let v391 : BitVec 32 := Scalar.select v389 v390 v384
  let c1_i32_268 : BitVec 32 := 1#32
  let v392 : BitVec 32 := Scalar.muli v391 c1_i32_268
  let v393 : BitVec 32 := Scalar.addi c0_i32_269 v392
  v393.toNat
def k0_dev31 (d0 : Dev nD) : Nat :=
  let c0_i32_278 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32 : BitVec 32 := 31#32
  let v394 : BitVec 32 := Scalar.addi v2 c31_i32
  let c32_i32_270 : BitVec 32 := 32#32
  let c0_i32_271 : BitVec 32 := 0#32
  let v395 : BitVec 1 := Scalar.cmpi .eq c32_i32_270 c0_i32_271
  let c1_i32_272 : BitVec 32 := 1#32
  let v396 : BitVec 32 := Scalar.select v395 c1_i32_272 c32_i32_270
  let v397 : BitVec 32 := Scalar.remsi v394 v396
  let c0_i32_274 : BitVec 32 := 0#32
  let v399 : BitVec 1 := Scalar.cmpi .slt v397 c0_i32_274
  let c0_i32_275 : BitVec 32 := 0#32
  let v400 : BitVec 1 := Scalar.cmpi .slt v396 c0_i32_275
  let v401 : BitVec 1 := Scalar.xori v399 v400
  let c0_i32_273 : BitVec 32 := 0#32
  let v398 : BitVec 1 := Scalar.cmpi .ne v397 c0_i32_273
  let v402 : BitVec 1 := Scalar.andi v401 v398
  let v403 : BitVec 32 := Scalar.addi v397 v396
  let v404 : BitVec 32 := Scalar.select v402 v403 v397
  let c1_i32_277 : BitVec 32 := 1#32
  let v405 : BitVec 32 := Scalar.muli v404 c1_i32_277
  let v406 : BitVec 32 := Scalar.addi c0_i32_278 v405
  v406.toNat
def k0_off1 (d0 : Dev nD) (c1_i32_381 : BitVec 32) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v668 : BitVec 32 := Scalar.addi v2 c1_i32_381
  let c32_i32_382 : BitVec 32 := 32#32
  let c0_i32_383 : BitVec 32 := 0#32
  let v669 : BitVec 1 := Scalar.cmpi .eq c32_i32_382 c0_i32_383
  let c1_i32_384 : BitVec 32 := 1#32
  let v670 : BitVec 32 := Scalar.select v669 c1_i32_384 c32_i32_382
  let v671 : BitVec 32 := Scalar.remsi v668 v670
  let c0_i32_386 : BitVec 32 := 0#32
  let v673 : BitVec 1 := Scalar.cmpi .slt v671 c0_i32_386
  let c0_i32_387 : BitVec 32 := 0#32
  let v674 : BitVec 1 := Scalar.cmpi .slt v670 c0_i32_387
  let v675 : BitVec 1 := Scalar.xori v673 v674
  let c0_i32_385 : BitVec 32 := 0#32
  let v672 : BitVec 1 := Scalar.cmpi .ne v671 c0_i32_385
  let v676 : BitVec 1 := Scalar.andi v675 v672
  let v677 : BitVec 32 := Scalar.addi v671 v670
  let v678 : BitVec 32 := Scalar.select v676 v677 v671
  let c16_i32_388 : BitVec 32 := 16#32
  let v679 : BitVec 32 := Scalar.muli v678 c16_i32_388
  let c0_i32_396 : BitVec 32 := 0#32
  ![v679.toNat, 0]
def k0_dev32 (d0 : Dev nD) : Nat :=
  let c0_i32_393 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_381 : BitVec 32 := 1#32
  let v668 : BitVec 32 := Scalar.addi v2 c1_i32_381
  let c32_i32_382 : BitVec 32 := 32#32
  let c0_i32_383 : BitVec 32 := 0#32
  let v669 : BitVec 1 := Scalar.cmpi .eq c32_i32_382 c0_i32_383
  let c1_i32_384 : BitVec 32 := 1#32
  let v670 : BitVec 32 := Scalar.select v669 c1_i32_384 c32_i32_382
  let v671 : BitVec 32 := Scalar.remsi v668 v670
  let c0_i32_386 : BitVec 32 := 0#32
  let v673 : BitVec 1 := Scalar.cmpi .slt v671 c0_i32_386
  let c0_i32_387 : BitVec 32 := 0#32
  let v674 : BitVec 1 := Scalar.cmpi .slt v670 c0_i32_387
  let v675 : BitVec 1 := Scalar.xori v673 v674
  let c0_i32_385 : BitVec 32 := 0#32
  let v672 : BitVec 1 := Scalar.cmpi .ne v671 c0_i32_385
  let v676 : BitVec 1 := Scalar.andi v675 v672
  let v677 : BitVec 32 := Scalar.addi v671 v670
  let v678 : BitVec 32 := Scalar.select v676 v677 v671
  let c1_i32_392 : BitVec 32 := 1#32
  let v680 : BitVec 32 := Scalar.muli v678 c1_i32_392
  let v681 : BitVec 32 := Scalar.addi c0_i32_393 v680
  v681.toNat
def k0_dev33 (d0 : Dev nD) : Nat :=
  let c0_i32_409 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32_397 : BitVec 32 := 2#32
  let v689 : BitVec 32 := Scalar.addi v2 c2_i32_397
  let c32_i32_398 : BitVec 32 := 32#32
  let c0_i32_399 : BitVec 32 := 0#32
  let v690 : BitVec 1 := Scalar.cmpi .eq c32_i32_398 c0_i32_399
  let c1_i32_400 : BitVec 32 := 1#32
  let v691 : BitVec 32 := Scalar.select v690 c1_i32_400 c32_i32_398
  let v692 : BitVec 32 := Scalar.remsi v689 v691
  let c0_i32_402 : BitVec 32 := 0#32
  let v694 : BitVec 1 := Scalar.cmpi .slt v692 c0_i32_402
  let c0_i32_403 : BitVec 32 := 0#32
  let v695 : BitVec 1 := Scalar.cmpi .slt v691 c0_i32_403
  let v696 : BitVec 1 := Scalar.xori v694 v695
  let c0_i32_401 : BitVec 32 := 0#32
  let v693 : BitVec 1 := Scalar.cmpi .ne v692 c0_i32_401
  let v697 : BitVec 1 := Scalar.andi v696 v693
  let v698 : BitVec 32 := Scalar.addi v692 v691
  let v699 : BitVec 32 := Scalar.select v697 v698 v692
  let c1_i32_408 : BitVec 32 := 1#32
  let v701 : BitVec 32 := Scalar.muli v699 c1_i32_408
  let v702 : BitVec 32 := Scalar.addi c0_i32_409 v701
  v702.toNat
def k0_dev34 (d0 : Dev nD) : Nat :=
  let c0_i32_425 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_413 : BitVec 32 := 3#32
  let v710 : BitVec 32 := Scalar.addi v2 c3_i32_413
  let c32_i32_414 : BitVec 32 := 32#32
  let c0_i32_415 : BitVec 32 := 0#32
  let v711 : BitVec 1 := Scalar.cmpi .eq c32_i32_414 c0_i32_415
  let c1_i32_416 : BitVec 32 := 1#32
  let v712 : BitVec 32 := Scalar.select v711 c1_i32_416 c32_i32_414
  let v713 : BitVec 32 := Scalar.remsi v710 v712
  let c0_i32_418 : BitVec 32 := 0#32
  let v715 : BitVec 1 := Scalar.cmpi .slt v713 c0_i32_418
  let c0_i32_419 : BitVec 32 := 0#32
  let v716 : BitVec 1 := Scalar.cmpi .slt v712 c0_i32_419
  let v717 : BitVec 1 := Scalar.xori v715 v716
  let c0_i32_417 : BitVec 32 := 0#32
  let v714 : BitVec 1 := Scalar.cmpi .ne v713 c0_i32_417
  let v718 : BitVec 1 := Scalar.andi v717 v714
  let v719 : BitVec 32 := Scalar.addi v713 v712
  let v720 : BitVec 32 := Scalar.select v718 v719 v713
  let c1_i32_424 : BitVec 32 := 1#32
  let v722 : BitVec 32 := Scalar.muli v720 c1_i32_424
  let v723 : BitVec 32 := Scalar.addi c0_i32_425 v722
  v723.toNat
def k0_dev35 (d0 : Dev nD) : Nat :=
  let c0_i32_441 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32_429 : BitVec 32 := 4#32
  let v731 : BitVec 32 := Scalar.addi v2 c4_i32_429
  let c32_i32_430 : BitVec 32 := 32#32
  let c0_i32_431 : BitVec 32 := 0#32
  let v732 : BitVec 1 := Scalar.cmpi .eq c32_i32_430 c0_i32_431
  let c1_i32_432 : BitVec 32 := 1#32
  let v733 : BitVec 32 := Scalar.select v732 c1_i32_432 c32_i32_430
  let v734 : BitVec 32 := Scalar.remsi v731 v733
  let c0_i32_434 : BitVec 32 := 0#32
  let v736 : BitVec 1 := Scalar.cmpi .slt v734 c0_i32_434
  let c0_i32_435 : BitVec 32 := 0#32
  let v737 : BitVec 1 := Scalar.cmpi .slt v733 c0_i32_435
  let v738 : BitVec 1 := Scalar.xori v736 v737
  let c0_i32_433 : BitVec 32 := 0#32
  let v735 : BitVec 1 := Scalar.cmpi .ne v734 c0_i32_433
  let v739 : BitVec 1 := Scalar.andi v738 v735
  let v740 : BitVec 32 := Scalar.addi v734 v733
  let v741 : BitVec 32 := Scalar.select v739 v740 v734
  let c1_i32_440 : BitVec 32 := 1#32
  let v743 : BitVec 32 := Scalar.muli v741 c1_i32_440
  let v744 : BitVec 32 := Scalar.addi c0_i32_441 v743
  v744.toNat
def k0_dev36 (d0 : Dev nD) : Nat :=
  let c0_i32_457 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c5_i32_445 : BitVec 32 := 5#32
  let v752 : BitVec 32 := Scalar.addi v2 c5_i32_445
  let c32_i32_446 : BitVec 32 := 32#32
  let c0_i32_447 : BitVec 32 := 0#32
  let v753 : BitVec 1 := Scalar.cmpi .eq c32_i32_446 c0_i32_447
  let c1_i32_448 : BitVec 32 := 1#32
  let v754 : BitVec 32 := Scalar.select v753 c1_i32_448 c32_i32_446
  let v755 : BitVec 32 := Scalar.remsi v752 v754
  let c0_i32_450 : BitVec 32 := 0#32
  let v757 : BitVec 1 := Scalar.cmpi .slt v755 c0_i32_450
  let c0_i32_451 : BitVec 32 := 0#32
  let v758 : BitVec 1 := Scalar.cmpi .slt v754 c0_i32_451
  let v759 : BitVec 1 := Scalar.xori v757 v758
  let c0_i32_449 : BitVec 32 := 0#32
  let v756 : BitVec 1 := Scalar.cmpi .ne v755 c0_i32_449
  let v760 : BitVec 1 := Scalar.andi v759 v756
  let v761 : BitVec 32 := Scalar.addi v755 v754
  let v762 : BitVec 32 := Scalar.select v760 v761 v755
  let c1_i32_456 : BitVec 32 := 1#32
  let v764 : BitVec 32 := Scalar.muli v762 c1_i32_456
  let v765 : BitVec 32 := Scalar.addi c0_i32_457 v764
  v765.toNat
def k0_dev37 (d0 : Dev nD) : Nat :=
  let c0_i32_473 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c6_i32_461 : BitVec 32 := 6#32
  let v773 : BitVec 32 := Scalar.addi v2 c6_i32_461
  let c32_i32_462 : BitVec 32 := 32#32
  let c0_i32_463 : BitVec 32 := 0#32
  let v774 : BitVec 1 := Scalar.cmpi .eq c32_i32_462 c0_i32_463
  let c1_i32_464 : BitVec 32 := 1#32
  let v775 : BitVec 32 := Scalar.select v774 c1_i32_464 c32_i32_462
  let v776 : BitVec 32 := Scalar.remsi v773 v775
  let c0_i32_466 : BitVec 32 := 0#32
  let v778 : BitVec 1 := Scalar.cmpi .slt v776 c0_i32_466
  let c0_i32_467 : BitVec 32 := 0#32
  let v779 : BitVec 1 := Scalar.cmpi .slt v775 c0_i32_467
  let v780 : BitVec 1 := Scalar.xori v778 v779
  let c0_i32_465 : BitVec 32 := 0#32
  let v777 : BitVec 1 := Scalar.cmpi .ne v776 c0_i32_465
  let v781 : BitVec 1 := Scalar.andi v780 v777
  let v782 : BitVec 32 := Scalar.addi v776 v775
  let v783 : BitVec 32 := Scalar.select v781 v782 v776
  let c1_i32_472 : BitVec 32 := 1#32
  let v785 : BitVec 32 := Scalar.muli v783 c1_i32_472
  let v786 : BitVec 32 := Scalar.addi c0_i32_473 v785
  v786.toNat
def k0_dev38 (d0 : Dev nD) : Nat :=
  let c0_i32_489 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32_477 : BitVec 32 := 7#32
  let v794 : BitVec 32 := Scalar.addi v2 c7_i32_477
  let c32_i32_478 : BitVec 32 := 32#32
  let c0_i32_479 : BitVec 32 := 0#32
  let v795 : BitVec 1 := Scalar.cmpi .eq c32_i32_478 c0_i32_479
  let c1_i32_480 : BitVec 32 := 1#32
  let v796 : BitVec 32 := Scalar.select v795 c1_i32_480 c32_i32_478
  let v797 : BitVec 32 := Scalar.remsi v794 v796
  let c0_i32_482 : BitVec 32 := 0#32
  let v799 : BitVec 1 := Scalar.cmpi .slt v797 c0_i32_482
  let c0_i32_483 : BitVec 32 := 0#32
  let v800 : BitVec 1 := Scalar.cmpi .slt v796 c0_i32_483
  let v801 : BitVec 1 := Scalar.xori v799 v800
  let c0_i32_481 : BitVec 32 := 0#32
  let v798 : BitVec 1 := Scalar.cmpi .ne v797 c0_i32_481
  let v802 : BitVec 1 := Scalar.andi v801 v798
  let v803 : BitVec 32 := Scalar.addi v797 v796
  let v804 : BitVec 32 := Scalar.select v802 v803 v797
  let c1_i32_488 : BitVec 32 := 1#32
  let v806 : BitVec 32 := Scalar.muli v804 c1_i32_488
  let v807 : BitVec 32 := Scalar.addi c0_i32_489 v806
  v807.toNat
def k0_dev39 (d0 : Dev nD) : Nat :=
  let c0_i32_505 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_493 : BitVec 32 := 8#32
  let v815 : BitVec 32 := Scalar.addi v2 c8_i32_493
  let c32_i32_494 : BitVec 32 := 32#32
  let c0_i32_495 : BitVec 32 := 0#32
  let v816 : BitVec 1 := Scalar.cmpi .eq c32_i32_494 c0_i32_495
  let c1_i32_496 : BitVec 32 := 1#32
  let v817 : BitVec 32 := Scalar.select v816 c1_i32_496 c32_i32_494
  let v818 : BitVec 32 := Scalar.remsi v815 v817
  let c0_i32_498 : BitVec 32 := 0#32
  let v820 : BitVec 1 := Scalar.cmpi .slt v818 c0_i32_498
  let c0_i32_499 : BitVec 32 := 0#32
  let v821 : BitVec 1 := Scalar.cmpi .slt v817 c0_i32_499
  let v822 : BitVec 1 := Scalar.xori v820 v821
  let c0_i32_497 : BitVec 32 := 0#32
  let v819 : BitVec 1 := Scalar.cmpi .ne v818 c0_i32_497
  let v823 : BitVec 1 := Scalar.andi v822 v819
  let v824 : BitVec 32 := Scalar.addi v818 v817
  let v825 : BitVec 32 := Scalar.select v823 v824 v818
  let c1_i32_504 : BitVec 32 := 1#32
  let v827 : BitVec 32 := Scalar.muli v825 c1_i32_504
  let v828 : BitVec 32 := Scalar.addi c0_i32_505 v827
  v828.toNat
def k0_dev40 (d0 : Dev nD) : Nat :=
  let c0_i32_521 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c9_i32_509 : BitVec 32 := 9#32
  let v836 : BitVec 32 := Scalar.addi v2 c9_i32_509
  let c32_i32_510 : BitVec 32 := 32#32
  let c0_i32_511 : BitVec 32 := 0#32
  let v837 : BitVec 1 := Scalar.cmpi .eq c32_i32_510 c0_i32_511
  let c1_i32_512 : BitVec 32 := 1#32
  let v838 : BitVec 32 := Scalar.select v837 c1_i32_512 c32_i32_510
  let v839 : BitVec 32 := Scalar.remsi v836 v838
  let c0_i32_514 : BitVec 32 := 0#32
  let v841 : BitVec 1 := Scalar.cmpi .slt v839 c0_i32_514
  let c0_i32_515 : BitVec 32 := 0#32
  let v842 : BitVec 1 := Scalar.cmpi .slt v838 c0_i32_515
  let v843 : BitVec 1 := Scalar.xori v841 v842
  let c0_i32_513 : BitVec 32 := 0#32
  let v840 : BitVec 1 := Scalar.cmpi .ne v839 c0_i32_513
  let v844 : BitVec 1 := Scalar.andi v843 v840
  let v845 : BitVec 32 := Scalar.addi v839 v838
  let v846 : BitVec 32 := Scalar.select v844 v845 v839
  let c1_i32_520 : BitVec 32 := 1#32
  let v848 : BitVec 32 := Scalar.muli v846 c1_i32_520
  let v849 : BitVec 32 := Scalar.addi c0_i32_521 v848
  v849.toNat
def k0_dev41 (d0 : Dev nD) : Nat :=
  let c0_i32_537 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c10_i32_525 : BitVec 32 := 10#32
  let v857 : BitVec 32 := Scalar.addi v2 c10_i32_525
  let c32_i32_526 : BitVec 32 := 32#32
  let c0_i32_527 : BitVec 32 := 0#32
  let v858 : BitVec 1 := Scalar.cmpi .eq c32_i32_526 c0_i32_527
  let c1_i32_528 : BitVec 32 := 1#32
  let v859 : BitVec 32 := Scalar.select v858 c1_i32_528 c32_i32_526
  let v860 : BitVec 32 := Scalar.remsi v857 v859
  let c0_i32_530 : BitVec 32 := 0#32
  let v862 : BitVec 1 := Scalar.cmpi .slt v860 c0_i32_530
  let c0_i32_531 : BitVec 32 := 0#32
  let v863 : BitVec 1 := Scalar.cmpi .slt v859 c0_i32_531
  let v864 : BitVec 1 := Scalar.xori v862 v863
  let c0_i32_529 : BitVec 32 := 0#32
  let v861 : BitVec 1 := Scalar.cmpi .ne v860 c0_i32_529
  let v865 : BitVec 1 := Scalar.andi v864 v861
  let v866 : BitVec 32 := Scalar.addi v860 v859
  let v867 : BitVec 32 := Scalar.select v865 v866 v860
  let c1_i32_536 : BitVec 32 := 1#32
  let v869 : BitVec 32 := Scalar.muli v867 c1_i32_536
  let v870 : BitVec 32 := Scalar.addi c0_i32_537 v869
  v870.toNat
def k0_dev42 (d0 : Dev nD) : Nat :=
  let c0_i32_553 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c11_i32_541 : BitVec 32 := 11#32
  let v878 : BitVec 32 := Scalar.addi v2 c11_i32_541
  let c32_i32_542 : BitVec 32 := 32#32
  let c0_i32_543 : BitVec 32 := 0#32
  let v879 : BitVec 1 := Scalar.cmpi .eq c32_i32_542 c0_i32_543
  let c1_i32_544 : BitVec 32 := 1#32
  let v880 : BitVec 32 := Scalar.select v879 c1_i32_544 c32_i32_542
  let v881 : BitVec 32 := Scalar.remsi v878 v880
  let c0_i32_546 : BitVec 32 := 0#32
  let v883 : BitVec 1 := Scalar.cmpi .slt v881 c0_i32_546
  let c0_i32_547 : BitVec 32 := 0#32
  let v884 : BitVec 1 := Scalar.cmpi .slt v880 c0_i32_547
  let v885 : BitVec 1 := Scalar.xori v883 v884
  let c0_i32_545 : BitVec 32 := 0#32
  let v882 : BitVec 1 := Scalar.cmpi .ne v881 c0_i32_545
  let v886 : BitVec 1 := Scalar.andi v885 v882
  let v887 : BitVec 32 := Scalar.addi v881 v880
  let v888 : BitVec 32 := Scalar.select v886 v887 v881
  let c1_i32_552 : BitVec 32 := 1#32
  let v890 : BitVec 32 := Scalar.muli v888 c1_i32_552
  let v891 : BitVec 32 := Scalar.addi c0_i32_553 v890
  v891.toNat
def k0_dev43 (d0 : Dev nD) : Nat :=
  let c0_i32_569 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c12_i32_557 : BitVec 32 := 12#32
  let v899 : BitVec 32 := Scalar.addi v2 c12_i32_557
  let c32_i32_558 : BitVec 32 := 32#32
  let c0_i32_559 : BitVec 32 := 0#32
  let v900 : BitVec 1 := Scalar.cmpi .eq c32_i32_558 c0_i32_559
  let c1_i32_560 : BitVec 32 := 1#32
  let v901 : BitVec 32 := Scalar.select v900 c1_i32_560 c32_i32_558
  let v902 : BitVec 32 := Scalar.remsi v899 v901
  let c0_i32_562 : BitVec 32 := 0#32
  let v904 : BitVec 1 := Scalar.cmpi .slt v902 c0_i32_562
  let c0_i32_563 : BitVec 32 := 0#32
  let v905 : BitVec 1 := Scalar.cmpi .slt v901 c0_i32_563
  let v906 : BitVec 1 := Scalar.xori v904 v905
  let c0_i32_561 : BitVec 32 := 0#32
  let v903 : BitVec 1 := Scalar.cmpi .ne v902 c0_i32_561
  let v907 : BitVec 1 := Scalar.andi v906 v903
  let v908 : BitVec 32 := Scalar.addi v902 v901
  let v909 : BitVec 32 := Scalar.select v907 v908 v902
  let c1_i32_568 : BitVec 32 := 1#32
  let v911 : BitVec 32 := Scalar.muli v909 c1_i32_568
  let v912 : BitVec 32 := Scalar.addi c0_i32_569 v911
  v912.toNat
def k0_dev44 (d0 : Dev nD) : Nat :=
  let c0_i32_585 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c13_i32_573 : BitVec 32 := 13#32
  let v920 : BitVec 32 := Scalar.addi v2 c13_i32_573
  let c32_i32_574 : BitVec 32 := 32#32
  let c0_i32_575 : BitVec 32 := 0#32
  let v921 : BitVec 1 := Scalar.cmpi .eq c32_i32_574 c0_i32_575
  let c1_i32_576 : BitVec 32 := 1#32
  let v922 : BitVec 32 := Scalar.select v921 c1_i32_576 c32_i32_574
  let v923 : BitVec 32 := Scalar.remsi v920 v922
  let c0_i32_578 : BitVec 32 := 0#32
  let v925 : BitVec 1 := Scalar.cmpi .slt v923 c0_i32_578
  let c0_i32_579 : BitVec 32 := 0#32
  let v926 : BitVec 1 := Scalar.cmpi .slt v922 c0_i32_579
  let v927 : BitVec 1 := Scalar.xori v925 v926
  let c0_i32_577 : BitVec 32 := 0#32
  let v924 : BitVec 1 := Scalar.cmpi .ne v923 c0_i32_577
  let v928 : BitVec 1 := Scalar.andi v927 v924
  let v929 : BitVec 32 := Scalar.addi v923 v922
  let v930 : BitVec 32 := Scalar.select v928 v929 v923
  let c1_i32_584 : BitVec 32 := 1#32
  let v932 : BitVec 32 := Scalar.muli v930 c1_i32_584
  let v933 : BitVec 32 := Scalar.addi c0_i32_585 v932
  v933.toNat
def k0_dev45 (d0 : Dev nD) : Nat :=
  let c0_i32_601 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c14_i32_589 : BitVec 32 := 14#32
  let v941 : BitVec 32 := Scalar.addi v2 c14_i32_589
  let c32_i32_590 : BitVec 32 := 32#32
  let c0_i32_591 : BitVec 32 := 0#32
  let v942 : BitVec 1 := Scalar.cmpi .eq c32_i32_590 c0_i32_591
  let c1_i32_592 : BitVec 32 := 1#32
  let v943 : BitVec 32 := Scalar.select v942 c1_i32_592 c32_i32_590
  let v944 : BitVec 32 := Scalar.remsi v941 v943
  let c0_i32_594 : BitVec 32 := 0#32
  let v946 : BitVec 1 := Scalar.cmpi .slt v944 c0_i32_594
  let c0_i32_595 : BitVec 32 := 0#32
  let v947 : BitVec 1 := Scalar.cmpi .slt v943 c0_i32_595
  let v948 : BitVec 1 := Scalar.xori v946 v947
  let c0_i32_593 : BitVec 32 := 0#32
  let v945 : BitVec 1 := Scalar.cmpi .ne v944 c0_i32_593
  let v949 : BitVec 1 := Scalar.andi v948 v945
  let v950 : BitVec 32 := Scalar.addi v944 v943
  let v951 : BitVec 32 := Scalar.select v949 v950 v944
  let c1_i32_600 : BitVec 32 := 1#32
  let v953 : BitVec 32 := Scalar.muli v951 c1_i32_600
  let v954 : BitVec 32 := Scalar.addi c0_i32_601 v953
  v954.toNat
def k0_dev46 (d0 : Dev nD) : Nat :=
  let c0_i32_617 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c15_i32_605 : BitVec 32 := 15#32
  let v962 : BitVec 32 := Scalar.addi v2 c15_i32_605
  let c32_i32_606 : BitVec 32 := 32#32
  let c0_i32_607 : BitVec 32 := 0#32
  let v963 : BitVec 1 := Scalar.cmpi .eq c32_i32_606 c0_i32_607
  let c1_i32_608 : BitVec 32 := 1#32
  let v964 : BitVec 32 := Scalar.select v963 c1_i32_608 c32_i32_606
  let v965 : BitVec 32 := Scalar.remsi v962 v964
  let c0_i32_610 : BitVec 32 := 0#32
  let v967 : BitVec 1 := Scalar.cmpi .slt v965 c0_i32_610
  let c0_i32_611 : BitVec 32 := 0#32
  let v968 : BitVec 1 := Scalar.cmpi .slt v964 c0_i32_611
  let v969 : BitVec 1 := Scalar.xori v967 v968
  let c0_i32_609 : BitVec 32 := 0#32
  let v966 : BitVec 1 := Scalar.cmpi .ne v965 c0_i32_609
  let v970 : BitVec 1 := Scalar.andi v969 v966
  let v971 : BitVec 32 := Scalar.addi v965 v964
  let v972 : BitVec 32 := Scalar.select v970 v971 v965
  let c1_i32_616 : BitVec 32 := 1#32
  let v974 : BitVec 32 := Scalar.muli v972 c1_i32_616
  let v975 : BitVec 32 := Scalar.addi c0_i32_617 v974
  v975.toNat
def k0_dev47 (d0 : Dev nD) : Nat :=
  let c0_i32_633 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_621 : BitVec 32 := 16#32
  let v983 : BitVec 32 := Scalar.addi v2 c16_i32_621
  let c32_i32_622 : BitVec 32 := 32#32
  let c0_i32_623 : BitVec 32 := 0#32
  let v984 : BitVec 1 := Scalar.cmpi .eq c32_i32_622 c0_i32_623
  let c1_i32_624 : BitVec 32 := 1#32
  let v985 : BitVec 32 := Scalar.select v984 c1_i32_624 c32_i32_622
  let v986 : BitVec 32 := Scalar.remsi v983 v985
  let c0_i32_626 : BitVec 32 := 0#32
  let v988 : BitVec 1 := Scalar.cmpi .slt v986 c0_i32_626
  let c0_i32_627 : BitVec 32 := 0#32
  let v989 : BitVec 1 := Scalar.cmpi .slt v985 c0_i32_627
  let v990 : BitVec 1 := Scalar.xori v988 v989
  let c0_i32_625 : BitVec 32 := 0#32
  let v987 : BitVec 1 := Scalar.cmpi .ne v986 c0_i32_625
  let v991 : BitVec 1 := Scalar.andi v990 v987
  let v992 : BitVec 32 := Scalar.addi v986 v985
  let v993 : BitVec 32 := Scalar.select v991 v992 v986
  let c1_i32_632 : BitVec 32 := 1#32
  let v995 : BitVec 32 := Scalar.muli v993 c1_i32_632
  let v996 : BitVec 32 := Scalar.addi c0_i32_633 v995
  v996.toNat
def k0_dev48 (d0 : Dev nD) : Nat :=
  let c0_i32_649 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c17_i32_637 : BitVec 32 := 17#32
  let v1004 : BitVec 32 := Scalar.addi v2 c17_i32_637
  let c32_i32_638 : BitVec 32 := 32#32
  let c0_i32_639 : BitVec 32 := 0#32
  let v1005 : BitVec 1 := Scalar.cmpi .eq c32_i32_638 c0_i32_639
  let c1_i32_640 : BitVec 32 := 1#32
  let v1006 : BitVec 32 := Scalar.select v1005 c1_i32_640 c32_i32_638
  let v1007 : BitVec 32 := Scalar.remsi v1004 v1006
  let c0_i32_642 : BitVec 32 := 0#32
  let v1009 : BitVec 1 := Scalar.cmpi .slt v1007 c0_i32_642
  let c0_i32_643 : BitVec 32 := 0#32
  let v1010 : BitVec 1 := Scalar.cmpi .slt v1006 c0_i32_643
  let v1011 : BitVec 1 := Scalar.xori v1009 v1010
  let c0_i32_641 : BitVec 32 := 0#32
  let v1008 : BitVec 1 := Scalar.cmpi .ne v1007 c0_i32_641
  let v1012 : BitVec 1 := Scalar.andi v1011 v1008
  let v1013 : BitVec 32 := Scalar.addi v1007 v1006
  let v1014 : BitVec 32 := Scalar.select v1012 v1013 v1007
  let c1_i32_648 : BitVec 32 := 1#32
  let v1016 : BitVec 32 := Scalar.muli v1014 c1_i32_648
  let v1017 : BitVec 32 := Scalar.addi c0_i32_649 v1016
  v1017.toNat
def k0_dev49 (d0 : Dev nD) : Nat :=
  let c0_i32_665 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c18_i32_653 : BitVec 32 := 18#32
  let v1025 : BitVec 32 := Scalar.addi v2 c18_i32_653
  let c32_i32_654 : BitVec 32 := 32#32
  let c0_i32_655 : BitVec 32 := 0#32
  let v1026 : BitVec 1 := Scalar.cmpi .eq c32_i32_654 c0_i32_655
  let c1_i32_656 : BitVec 32 := 1#32
  let v1027 : BitVec 32 := Scalar.select v1026 c1_i32_656 c32_i32_654
  let v1028 : BitVec 32 := Scalar.remsi v1025 v1027
  let c0_i32_658 : BitVec 32 := 0#32
  let v1030 : BitVec 1 := Scalar.cmpi .slt v1028 c0_i32_658
  let c0_i32_659 : BitVec 32 := 0#32
  let v1031 : BitVec 1 := Scalar.cmpi .slt v1027 c0_i32_659
  let v1032 : BitVec 1 := Scalar.xori v1030 v1031
  let c0_i32_657 : BitVec 32 := 0#32
  let v1029 : BitVec 1 := Scalar.cmpi .ne v1028 c0_i32_657
  let v1033 : BitVec 1 := Scalar.andi v1032 v1029
  let v1034 : BitVec 32 := Scalar.addi v1028 v1027
  let v1035 : BitVec 32 := Scalar.select v1033 v1034 v1028
  let c1_i32_664 : BitVec 32 := 1#32
  let v1037 : BitVec 32 := Scalar.muli v1035 c1_i32_664
  let v1038 : BitVec 32 := Scalar.addi c0_i32_665 v1037
  v1038.toNat
def k0_dev50 (d0 : Dev nD) : Nat :=
  let c0_i32_681 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c19_i32_669 : BitVec 32 := 19#32
  let v1046 : BitVec 32 := Scalar.addi v2 c19_i32_669
  let c32_i32_670 : BitVec 32 := 32#32
  let c0_i32_671 : BitVec 32 := 0#32
  let v1047 : BitVec 1 := Scalar.cmpi .eq c32_i32_670 c0_i32_671
  let c1_i32_672 : BitVec 32 := 1#32
  let v1048 : BitVec 32 := Scalar.select v1047 c1_i32_672 c32_i32_670
  let v1049 : BitVec 32 := Scalar.remsi v1046 v1048
  let c0_i32_674 : BitVec 32 := 0#32
  let v1051 : BitVec 1 := Scalar.cmpi .slt v1049 c0_i32_674
  let c0_i32_675 : BitVec 32 := 0#32
  let v1052 : BitVec 1 := Scalar.cmpi .slt v1048 c0_i32_675
  let v1053 : BitVec 1 := Scalar.xori v1051 v1052
  let c0_i32_673 : BitVec 32 := 0#32
  let v1050 : BitVec 1 := Scalar.cmpi .ne v1049 c0_i32_673
  let v1054 : BitVec 1 := Scalar.andi v1053 v1050
  let v1055 : BitVec 32 := Scalar.addi v1049 v1048
  let v1056 : BitVec 32 := Scalar.select v1054 v1055 v1049
  let c1_i32_680 : BitVec 32 := 1#32
  let v1058 : BitVec 32 := Scalar.muli v1056 c1_i32_680
  let v1059 : BitVec 32 := Scalar.addi c0_i32_681 v1058
  v1059.toNat
def k0_dev51 (d0 : Dev nD) : Nat :=
  let c0_i32_697 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c20_i32_685 : BitVec 32 := 20#32
  let v1067 : BitVec 32 := Scalar.addi v2 c20_i32_685
  let c32_i32_686 : BitVec 32 := 32#32
  let c0_i32_687 : BitVec 32 := 0#32
  let v1068 : BitVec 1 := Scalar.cmpi .eq c32_i32_686 c0_i32_687
  let c1_i32_688 : BitVec 32 := 1#32
  let v1069 : BitVec 32 := Scalar.select v1068 c1_i32_688 c32_i32_686
  let v1070 : BitVec 32 := Scalar.remsi v1067 v1069
  let c0_i32_690 : BitVec 32 := 0#32
  let v1072 : BitVec 1 := Scalar.cmpi .slt v1070 c0_i32_690
  let c0_i32_691 : BitVec 32 := 0#32
  let v1073 : BitVec 1 := Scalar.cmpi .slt v1069 c0_i32_691
  let v1074 : BitVec 1 := Scalar.xori v1072 v1073
  let c0_i32_689 : BitVec 32 := 0#32
  let v1071 : BitVec 1 := Scalar.cmpi .ne v1070 c0_i32_689
  let v1075 : BitVec 1 := Scalar.andi v1074 v1071
  let v1076 : BitVec 32 := Scalar.addi v1070 v1069
  let v1077 : BitVec 32 := Scalar.select v1075 v1076 v1070
  let c1_i32_696 : BitVec 32 := 1#32
  let v1079 : BitVec 32 := Scalar.muli v1077 c1_i32_696
  let v1080 : BitVec 32 := Scalar.addi c0_i32_697 v1079
  v1080.toNat
def k0_dev52 (d0 : Dev nD) : Nat :=
  let c0_i32_713 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c21_i32_701 : BitVec 32 := 21#32
  let v1088 : BitVec 32 := Scalar.addi v2 c21_i32_701
  let c32_i32_702 : BitVec 32 := 32#32
  let c0_i32_703 : BitVec 32 := 0#32
  let v1089 : BitVec 1 := Scalar.cmpi .eq c32_i32_702 c0_i32_703
  let c1_i32_704 : BitVec 32 := 1#32
  let v1090 : BitVec 32 := Scalar.select v1089 c1_i32_704 c32_i32_702
  let v1091 : BitVec 32 := Scalar.remsi v1088 v1090
  let c0_i32_706 : BitVec 32 := 0#32
  let v1093 : BitVec 1 := Scalar.cmpi .slt v1091 c0_i32_706
  let c0_i32_707 : BitVec 32 := 0#32
  let v1094 : BitVec 1 := Scalar.cmpi .slt v1090 c0_i32_707
  let v1095 : BitVec 1 := Scalar.xori v1093 v1094
  let c0_i32_705 : BitVec 32 := 0#32
  let v1092 : BitVec 1 := Scalar.cmpi .ne v1091 c0_i32_705
  let v1096 : BitVec 1 := Scalar.andi v1095 v1092
  let v1097 : BitVec 32 := Scalar.addi v1091 v1090
  let v1098 : BitVec 32 := Scalar.select v1096 v1097 v1091
  let c1_i32_712 : BitVec 32 := 1#32
  let v1100 : BitVec 32 := Scalar.muli v1098 c1_i32_712
  let v1101 : BitVec 32 := Scalar.addi c0_i32_713 v1100
  v1101.toNat
def k0_dev53 (d0 : Dev nD) : Nat :=
  let c0_i32_729 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c22_i32_717 : BitVec 32 := 22#32
  let v1109 : BitVec 32 := Scalar.addi v2 c22_i32_717
  let c32_i32_718 : BitVec 32 := 32#32
  let c0_i32_719 : BitVec 32 := 0#32
  let v1110 : BitVec 1 := Scalar.cmpi .eq c32_i32_718 c0_i32_719
  let c1_i32_720 : BitVec 32 := 1#32
  let v1111 : BitVec 32 := Scalar.select v1110 c1_i32_720 c32_i32_718
  let v1112 : BitVec 32 := Scalar.remsi v1109 v1111
  let c0_i32_722 : BitVec 32 := 0#32
  let v1114 : BitVec 1 := Scalar.cmpi .slt v1112 c0_i32_722
  let c0_i32_723 : BitVec 32 := 0#32
  let v1115 : BitVec 1 := Scalar.cmpi .slt v1111 c0_i32_723
  let v1116 : BitVec 1 := Scalar.xori v1114 v1115
  let c0_i32_721 : BitVec 32 := 0#32
  let v1113 : BitVec 1 := Scalar.cmpi .ne v1112 c0_i32_721
  let v1117 : BitVec 1 := Scalar.andi v1116 v1113
  let v1118 : BitVec 32 := Scalar.addi v1112 v1111
  let v1119 : BitVec 32 := Scalar.select v1117 v1118 v1112
  let c1_i32_728 : BitVec 32 := 1#32
  let v1121 : BitVec 32 := Scalar.muli v1119 c1_i32_728
  let v1122 : BitVec 32 := Scalar.addi c0_i32_729 v1121
  v1122.toNat
def k0_dev54 (d0 : Dev nD) : Nat :=
  let c0_i32_745 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c23_i32_733 : BitVec 32 := 23#32
  let v1130 : BitVec 32 := Scalar.addi v2 c23_i32_733
  let c32_i32_734 : BitVec 32 := 32#32
  let c0_i32_735 : BitVec 32 := 0#32
  let v1131 : BitVec 1 := Scalar.cmpi .eq c32_i32_734 c0_i32_735
  let c1_i32_736 : BitVec 32 := 1#32
  let v1132 : BitVec 32 := Scalar.select v1131 c1_i32_736 c32_i32_734
  let v1133 : BitVec 32 := Scalar.remsi v1130 v1132
  let c0_i32_738 : BitVec 32 := 0#32
  let v1135 : BitVec 1 := Scalar.cmpi .slt v1133 c0_i32_738
  let c0_i32_739 : BitVec 32 := 0#32
  let v1136 : BitVec 1 := Scalar.cmpi .slt v1132 c0_i32_739
  let v1137 : BitVec 1 := Scalar.xori v1135 v1136
  let c0_i32_737 : BitVec 32 := 0#32
  let v1134 : BitVec 1 := Scalar.cmpi .ne v1133 c0_i32_737
  let v1138 : BitVec 1 := Scalar.andi v1137 v1134
  let v1139 : BitVec 32 := Scalar.addi v1133 v1132
  let v1140 : BitVec 32 := Scalar.select v1138 v1139 v1133
  let c1_i32_744 : BitVec 32 := 1#32
  let v1142 : BitVec 32 := Scalar.muli v1140 c1_i32_744
  let v1143 : BitVec 32 := Scalar.addi c0_i32_745 v1142
  v1143.toNat
def k0_dev55 (d0 : Dev nD) : Nat :=
  let c0_i32_761 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c24_i32_749 : BitVec 32 := 24#32
  let v1151 : BitVec 32 := Scalar.addi v2 c24_i32_749
  let c32_i32_750 : BitVec 32 := 32#32
  let c0_i32_751 : BitVec 32 := 0#32
  let v1152 : BitVec 1 := Scalar.cmpi .eq c32_i32_750 c0_i32_751
  let c1_i32_752 : BitVec 32 := 1#32
  let v1153 : BitVec 32 := Scalar.select v1152 c1_i32_752 c32_i32_750
  let v1154 : BitVec 32 := Scalar.remsi v1151 v1153
  let c0_i32_754 : BitVec 32 := 0#32
  let v1156 : BitVec 1 := Scalar.cmpi .slt v1154 c0_i32_754
  let c0_i32_755 : BitVec 32 := 0#32
  let v1157 : BitVec 1 := Scalar.cmpi .slt v1153 c0_i32_755
  let v1158 : BitVec 1 := Scalar.xori v1156 v1157
  let c0_i32_753 : BitVec 32 := 0#32
  let v1155 : BitVec 1 := Scalar.cmpi .ne v1154 c0_i32_753
  let v1159 : BitVec 1 := Scalar.andi v1158 v1155
  let v1160 : BitVec 32 := Scalar.addi v1154 v1153
  let v1161 : BitVec 32 := Scalar.select v1159 v1160 v1154
  let c1_i32_760 : BitVec 32 := 1#32
  let v1163 : BitVec 32 := Scalar.muli v1161 c1_i32_760
  let v1164 : BitVec 32 := Scalar.addi c0_i32_761 v1163
  v1164.toNat
def k0_dev56 (d0 : Dev nD) : Nat :=
  let c0_i32_777 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c25_i32_765 : BitVec 32 := 25#32
  let v1172 : BitVec 32 := Scalar.addi v2 c25_i32_765
  let c32_i32_766 : BitVec 32 := 32#32
  let c0_i32_767 : BitVec 32 := 0#32
  let v1173 : BitVec 1 := Scalar.cmpi .eq c32_i32_766 c0_i32_767
  let c1_i32_768 : BitVec 32 := 1#32
  let v1174 : BitVec 32 := Scalar.select v1173 c1_i32_768 c32_i32_766
  let v1175 : BitVec 32 := Scalar.remsi v1172 v1174
  let c0_i32_770 : BitVec 32 := 0#32
  let v1177 : BitVec 1 := Scalar.cmpi .slt v1175 c0_i32_770
  let c0_i32_771 : BitVec 32 := 0#32
  let v1178 : BitVec 1 := Scalar.cmpi .slt v1174 c0_i32_771
  let v1179 : BitVec 1 := Scalar.xori v1177 v1178
  let c0_i32_769 : BitVec 32 := 0#32
  let v1176 : BitVec 1 := Scalar.cmpi .ne v1175 c0_i32_769
  let v1180 : BitVec 1 := Scalar.andi v1179 v1176
  let v1181 : BitVec 32 := Scalar.addi v1175 v1174
  let v1182 : BitVec 32 := Scalar.select v1180 v1181 v1175
  let c1_i32_776 : BitVec 32 := 1#32
  let v1184 : BitVec 32 := Scalar.muli v1182 c1_i32_776
  let v1185 : BitVec 32 := Scalar.addi c0_i32_777 v1184
  v1185.toNat
def k0_dev57 (d0 : Dev nD) : Nat :=
  let c0_i32_793 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c26_i32_781 : BitVec 32 := 26#32
  let v1193 : BitVec 32 := Scalar.addi v2 c26_i32_781
  let c32_i32_782 : BitVec 32 := 32#32
  let c0_i32_783 : BitVec 32 := 0#32
  let v1194 : BitVec 1 := Scalar.cmpi .eq c32_i32_782 c0_i32_783
  let c1_i32_784 : BitVec 32 := 1#32
  let v1195 : BitVec 32 := Scalar.select v1194 c1_i32_784 c32_i32_782
  let v1196 : BitVec 32 := Scalar.remsi v1193 v1195
  let c0_i32_786 : BitVec 32 := 0#32
  let v1198 : BitVec 1 := Scalar.cmpi .slt v1196 c0_i32_786
  let c0_i32_787 : BitVec 32 := 0#32
  let v1199 : BitVec 1 := Scalar.cmpi .slt v1195 c0_i32_787
  let v1200 : BitVec 1 := Scalar.xori v1198 v1199
  let c0_i32_785 : BitVec 32 := 0#32
  let v1197 : BitVec 1 := Scalar.cmpi .ne v1196 c0_i32_785
  let v1201 : BitVec 1 := Scalar.andi v1200 v1197
  let v1202 : BitVec 32 := Scalar.addi v1196 v1195
  let v1203 : BitVec 32 := Scalar.select v1201 v1202 v1196
  let c1_i32_792 : BitVec 32 := 1#32
  let v1205 : BitVec 32 := Scalar.muli v1203 c1_i32_792
  let v1206 : BitVec 32 := Scalar.addi c0_i32_793 v1205
  v1206.toNat
def k0_dev58 (d0 : Dev nD) : Nat :=
  let c0_i32_809 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c27_i32_797 : BitVec 32 := 27#32
  let v1214 : BitVec 32 := Scalar.addi v2 c27_i32_797
  let c32_i32_798 : BitVec 32 := 32#32
  let c0_i32_799 : BitVec 32 := 0#32
  let v1215 : BitVec 1 := Scalar.cmpi .eq c32_i32_798 c0_i32_799
  let c1_i32_800 : BitVec 32 := 1#32
  let v1216 : BitVec 32 := Scalar.select v1215 c1_i32_800 c32_i32_798
  let v1217 : BitVec 32 := Scalar.remsi v1214 v1216
  let c0_i32_802 : BitVec 32 := 0#32
  let v1219 : BitVec 1 := Scalar.cmpi .slt v1217 c0_i32_802
  let c0_i32_803 : BitVec 32 := 0#32
  let v1220 : BitVec 1 := Scalar.cmpi .slt v1216 c0_i32_803
  let v1221 : BitVec 1 := Scalar.xori v1219 v1220
  let c0_i32_801 : BitVec 32 := 0#32
  let v1218 : BitVec 1 := Scalar.cmpi .ne v1217 c0_i32_801
  let v1222 : BitVec 1 := Scalar.andi v1221 v1218
  let v1223 : BitVec 32 := Scalar.addi v1217 v1216
  let v1224 : BitVec 32 := Scalar.select v1222 v1223 v1217
  let c1_i32_808 : BitVec 32 := 1#32
  let v1226 : BitVec 32 := Scalar.muli v1224 c1_i32_808
  let v1227 : BitVec 32 := Scalar.addi c0_i32_809 v1226
  v1227.toNat
def k0_dev59 (d0 : Dev nD) : Nat :=
  let c0_i32_825 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c28_i32_813 : BitVec 32 := 28#32
  let v1235 : BitVec 32 := Scalar.addi v2 c28_i32_813
  let c32_i32_814 : BitVec 32 := 32#32
  let c0_i32_815 : BitVec 32 := 0#32
  let v1236 : BitVec 1 := Scalar.cmpi .eq c32_i32_814 c0_i32_815
  let c1_i32_816 : BitVec 32 := 1#32
  let v1237 : BitVec 32 := Scalar.select v1236 c1_i32_816 c32_i32_814
  let v1238 : BitVec 32 := Scalar.remsi v1235 v1237
  let c0_i32_818 : BitVec 32 := 0#32
  let v1240 : BitVec 1 := Scalar.cmpi .slt v1238 c0_i32_818
  let c0_i32_819 : BitVec 32 := 0#32
  let v1241 : BitVec 1 := Scalar.cmpi .slt v1237 c0_i32_819
  let v1242 : BitVec 1 := Scalar.xori v1240 v1241
  let c0_i32_817 : BitVec 32 := 0#32
  let v1239 : BitVec 1 := Scalar.cmpi .ne v1238 c0_i32_817
  let v1243 : BitVec 1 := Scalar.andi v1242 v1239
  let v1244 : BitVec 32 := Scalar.addi v1238 v1237
  let v1245 : BitVec 32 := Scalar.select v1243 v1244 v1238
  let c1_i32_824 : BitVec 32 := 1#32
  let v1247 : BitVec 32 := Scalar.muli v1245 c1_i32_824
  let v1248 : BitVec 32 := Scalar.addi c0_i32_825 v1247
  v1248.toNat
def k0_dev60 (d0 : Dev nD) : Nat :=
  let c0_i32_841 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c29_i32_829 : BitVec 32 := 29#32
  let v1256 : BitVec 32 := Scalar.addi v2 c29_i32_829
  let c32_i32_830 : BitVec 32 := 32#32
  let c0_i32_831 : BitVec 32 := 0#32
  let v1257 : BitVec 1 := Scalar.cmpi .eq c32_i32_830 c0_i32_831
  let c1_i32_832 : BitVec 32 := 1#32
  let v1258 : BitVec 32 := Scalar.select v1257 c1_i32_832 c32_i32_830
  let v1259 : BitVec 32 := Scalar.remsi v1256 v1258
  let c0_i32_834 : BitVec 32 := 0#32
  let v1261 : BitVec 1 := Scalar.cmpi .slt v1259 c0_i32_834
  let c0_i32_835 : BitVec 32 := 0#32
  let v1262 : BitVec 1 := Scalar.cmpi .slt v1258 c0_i32_835
  let v1263 : BitVec 1 := Scalar.xori v1261 v1262
  let c0_i32_833 : BitVec 32 := 0#32
  let v1260 : BitVec 1 := Scalar.cmpi .ne v1259 c0_i32_833
  let v1264 : BitVec 1 := Scalar.andi v1263 v1260
  let v1265 : BitVec 32 := Scalar.addi v1259 v1258
  let v1266 : BitVec 32 := Scalar.select v1264 v1265 v1259
  let c1_i32_840 : BitVec 32 := 1#32
  let v1268 : BitVec 32 := Scalar.muli v1266 c1_i32_840
  let v1269 : BitVec 32 := Scalar.addi c0_i32_841 v1268
  v1269.toNat
def k0_dev61 (d0 : Dev nD) : Nat :=
  let c0_i32_857 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c30_i32_845 : BitVec 32 := 30#32
  let v1277 : BitVec 32 := Scalar.addi v2 c30_i32_845
  let c32_i32_846 : BitVec 32 := 32#32
  let c0_i32_847 : BitVec 32 := 0#32
  let v1278 : BitVec 1 := Scalar.cmpi .eq c32_i32_846 c0_i32_847
  let c1_i32_848 : BitVec 32 := 1#32
  let v1279 : BitVec 32 := Scalar.select v1278 c1_i32_848 c32_i32_846
  let v1280 : BitVec 32 := Scalar.remsi v1277 v1279
  let c0_i32_850 : BitVec 32 := 0#32
  let v1282 : BitVec 1 := Scalar.cmpi .slt v1280 c0_i32_850
  let c0_i32_851 : BitVec 32 := 0#32
  let v1283 : BitVec 1 := Scalar.cmpi .slt v1279 c0_i32_851
  let v1284 : BitVec 1 := Scalar.xori v1282 v1283
  let c0_i32_849 : BitVec 32 := 0#32
  let v1281 : BitVec 1 := Scalar.cmpi .ne v1280 c0_i32_849
  let v1285 : BitVec 1 := Scalar.andi v1284 v1281
  let v1286 : BitVec 32 := Scalar.addi v1280 v1279
  let v1287 : BitVec 32 := Scalar.select v1285 v1286 v1280
  let c1_i32_856 : BitVec 32 := 1#32
  let v1289 : BitVec 32 := Scalar.muli v1287 c1_i32_856
  let v1290 : BitVec 32 := Scalar.addi c0_i32_857 v1289
  v1290.toNat
def k0_dev62 (d0 : Dev nD) : Nat :=
  let c0_i32_873 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32_861 : BitVec 32 := 31#32
  let v1298 : BitVec 32 := Scalar.addi v2 c31_i32_861
  let c32_i32_862 : BitVec 32 := 32#32
  let c0_i32_863 : BitVec 32 := 0#32
  let v1299 : BitVec 1 := Scalar.cmpi .eq c32_i32_862 c0_i32_863
  let c1_i32_864 : BitVec 32 := 1#32
  let v1300 : BitVec 32 := Scalar.select v1299 c1_i32_864 c32_i32_862
  let v1301 : BitVec 32 := Scalar.remsi v1298 v1300
  let c0_i32_866 : BitVec 32 := 0#32
  let v1303 : BitVec 1 := Scalar.cmpi .slt v1301 c0_i32_866
  let c0_i32_867 : BitVec 32 := 0#32
  let v1304 : BitVec 1 := Scalar.cmpi .slt v1300 c0_i32_867
  let v1305 : BitVec 1 := Scalar.xori v1303 v1304
  let c0_i32_865 : BitVec 32 := 0#32
  let v1302 : BitVec 1 := Scalar.cmpi .ne v1301 c0_i32_865
  let v1306 : BitVec 1 := Scalar.andi v1305 v1302
  let v1307 : BitVec 32 := Scalar.addi v1301 v1300
  let v1308 : BitVec 32 := Scalar.select v1306 v1307 v1301
  let c1_i32_872 : BitVec 32 := 1#32
  let v1310 : BitVec 32 := Scalar.muli v1308 c1_i32_872
  let v1311 : BitVec 32 := Scalar.addi c0_i32_873 v1310
  v1311.toNat
def k0_off2 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_877 : BitVec 32 := 16#32
  let v1319 : BitVec 32 := Scalar.muli v2 c16_i32_877
  let v1320 : Index := Scalar.indexCast v1319
  let c0_878 : Index := 0#32
  ![v1320.toNat, 0]
def k0_off3 (d0 : Dev nD) : Fin 3 → Nat :=
  let c0_1191 : Index := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_374 : BitVec 32 := 16#32
  let c0_i32_375 : BitVec 32 := 0#32
  let v657 : BitVec 1 := Scalar.cmpi .eq c16_i32_374 c0_i32_375
  let c1_i32_376 : BitVec 32 := 1#32
  let v658 : BitVec 32 := Scalar.select v657 c1_i32_376 c16_i32_374
  let v659 : BitVec 32 := Scalar.remsi v2 v658
  let c0_i32_378 : BitVec 32 := 0#32
  let v661 : BitVec 1 := Scalar.cmpi .slt v659 c0_i32_378
  let c0_i32_379 : BitVec 32 := 0#32
  let v662 : BitVec 1 := Scalar.cmpi .slt v658 c0_i32_379
  let v663 : BitVec 1 := Scalar.xori v661 v662
  let c0_i32_377 : BitVec 32 := 0#32
  let v660 : BitVec 1 := Scalar.cmpi .ne v659 c0_i32_377
  let v664 : BitVec 1 := Scalar.andi v663 v660
  let v665 : BitVec 32 := Scalar.addi v659 v658
  let v666 : BitVec 32 := Scalar.select v664 v665 v659
  let c16_i32_380 : BitVec 32 := 16#32
  let v667 : BitVec 32 := Scalar.muli v666 c16_i32_380
  let v1665 : Index := Scalar.indexCast v667
  let c0_1192 : Index := 0#32
  ![0, v1665.toNat, 0]
def k0_off4 (d0 : Dev nD) : Fin 3 → Nat :=
  let c1_1193 : Index := 1#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_374 : BitVec 32 := 16#32
  let c0_i32_375 : BitVec 32 := 0#32
  let v657 : BitVec 1 := Scalar.cmpi .eq c16_i32_374 c0_i32_375
  let c1_i32_376 : BitVec 32 := 1#32
  let v658 : BitVec 32 := Scalar.select v657 c1_i32_376 c16_i32_374
  let v659 : BitVec 32 := Scalar.remsi v2 v658
  let c0_i32_378 : BitVec 32 := 0#32
  let v661 : BitVec 1 := Scalar.cmpi .slt v659 c0_i32_378
  let c0_i32_379 : BitVec 32 := 0#32
  let v662 : BitVec 1 := Scalar.cmpi .slt v658 c0_i32_379
  let v663 : BitVec 1 := Scalar.xori v661 v662
  let c0_i32_377 : BitVec 32 := 0#32
  let v660 : BitVec 1 := Scalar.cmpi .ne v659 c0_i32_377
  let v664 : BitVec 1 := Scalar.andi v663 v660
  let v665 : BitVec 32 := Scalar.addi v659 v658
  let v666 : BitVec 32 := Scalar.select v664 v665 v659
  let c16_i32_380 : BitVec 32 := 16#32
  let v667 : BitVec 32 := Scalar.muli v666 c16_i32_380
  let v1668 : Index := Scalar.indexCast v667
  let c0_1194 : Index := 0#32
  ![1, v1668.toNat, 0]
def k0_off5 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_1424 : BitVec 32 := 16#32
  let v1854 : BitVec 32 := Scalar.muli v2 c16_i32_1424
  let c0_i32_1429 : BitVec 32 := 0#32
  ![v1854.toNat, 0]
def k0_dev63 (d0 : Dev nD) : Nat :=
  let c0_i32_1428 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_1417 : BitVec 32 := 1#32
  let v1843 : BitVec 32 := Scalar.addi v2 c1_i32_1417
  let c32_i32_1418 : BitVec 32 := 32#32
  let c0_i32_1419 : BitVec 32 := 0#32
  let v1844 : BitVec 1 := Scalar.cmpi .eq c32_i32_1418 c0_i32_1419
  let c1_i32_1420 : BitVec 32 := 1#32
  let v1845 : BitVec 32 := Scalar.select v1844 c1_i32_1420 c32_i32_1418
  let v1846 : BitVec 32 := Scalar.remsi v1843 v1845
  let c0_i32_1422 : BitVec 32 := 0#32
  let v1848 : BitVec 1 := Scalar.cmpi .slt v1846 c0_i32_1422
  let c0_i32_1423 : BitVec 32 := 0#32
  let v1849 : BitVec 1 := Scalar.cmpi .slt v1845 c0_i32_1423
  let v1850 : BitVec 1 := Scalar.xori v1848 v1849
  let c0_i32_1421 : BitVec 32 := 0#32
  let v1847 : BitVec 1 := Scalar.cmpi .ne v1846 c0_i32_1421
  let v1851 : BitVec 1 := Scalar.andi v1850 v1847
  let v1852 : BitVec 32 := Scalar.addi v1846 v1845
  let v1853 : BitVec 32 := Scalar.select v1851 v1852 v1846
  let c1_i32_1427 : BitVec 32 := 1#32
  let v1855 : BitVec 32 := Scalar.muli v1853 c1_i32_1427
  let v1856 : BitVec 32 := Scalar.addi c0_i32_1428 v1855
  v1856.toNat
def k0_dev64 (d0 : Dev nD) : Nat :=
  let c0_i32_1441 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32_1430 : BitVec 32 := 2#32
  let v1862 : BitVec 32 := Scalar.addi v2 c2_i32_1430
  let c32_i32_1431 : BitVec 32 := 32#32
  let c0_i32_1432 : BitVec 32 := 0#32
  let v1863 : BitVec 1 := Scalar.cmpi .eq c32_i32_1431 c0_i32_1432
  let c1_i32_1433 : BitVec 32 := 1#32
  let v1864 : BitVec 32 := Scalar.select v1863 c1_i32_1433 c32_i32_1431
  let v1865 : BitVec 32 := Scalar.remsi v1862 v1864
  let c0_i32_1435 : BitVec 32 := 0#32
  let v1867 : BitVec 1 := Scalar.cmpi .slt v1865 c0_i32_1435
  let c0_i32_1436 : BitVec 32 := 0#32
  let v1868 : BitVec 1 := Scalar.cmpi .slt v1864 c0_i32_1436
  let v1869 : BitVec 1 := Scalar.xori v1867 v1868
  let c0_i32_1434 : BitVec 32 := 0#32
  let v1866 : BitVec 1 := Scalar.cmpi .ne v1865 c0_i32_1434
  let v1870 : BitVec 1 := Scalar.andi v1869 v1866
  let v1871 : BitVec 32 := Scalar.addi v1865 v1864
  let v1872 : BitVec 32 := Scalar.select v1870 v1871 v1865
  let c1_i32_1440 : BitVec 32 := 1#32
  let v1874 : BitVec 32 := Scalar.muli v1872 c1_i32_1440
  let v1875 : BitVec 32 := Scalar.addi c0_i32_1441 v1874
  v1875.toNat
def k0_dev65 (d0 : Dev nD) : Nat :=
  let c0_i32_1454 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_1443 : BitVec 32 := 3#32
  let v1881 : BitVec 32 := Scalar.addi v2 c3_i32_1443
  let c32_i32_1444 : BitVec 32 := 32#32
  let c0_i32_1445 : BitVec 32 := 0#32
  let v1882 : BitVec 1 := Scalar.cmpi .eq c32_i32_1444 c0_i32_1445
  let c1_i32_1446 : BitVec 32 := 1#32
  let v1883 : BitVec 32 := Scalar.select v1882 c1_i32_1446 c32_i32_1444
  let v1884 : BitVec 32 := Scalar.remsi v1881 v1883
  let c0_i32_1448 : BitVec 32 := 0#32
  let v1886 : BitVec 1 := Scalar.cmpi .slt v1884 c0_i32_1448
  let c0_i32_1449 : BitVec 32 := 0#32
  let v1887 : BitVec 1 := Scalar.cmpi .slt v1883 c0_i32_1449
  let v1888 : BitVec 1 := Scalar.xori v1886 v1887
  let c0_i32_1447 : BitVec 32 := 0#32
  let v1885 : BitVec 1 := Scalar.cmpi .ne v1884 c0_i32_1447
  let v1889 : BitVec 1 := Scalar.andi v1888 v1885
  let v1890 : BitVec 32 := Scalar.addi v1884 v1883
  let v1891 : BitVec 32 := Scalar.select v1889 v1890 v1884
  let c1_i32_1453 : BitVec 32 := 1#32
  let v1893 : BitVec 32 := Scalar.muli v1891 c1_i32_1453
  let v1894 : BitVec 32 := Scalar.addi c0_i32_1454 v1893
  v1894.toNat
def k0_dev66 (d0 : Dev nD) : Nat :=
  let c0_i32_1467 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32_1456 : BitVec 32 := 4#32
  let v1900 : BitVec 32 := Scalar.addi v2 c4_i32_1456
  let c32_i32_1457 : BitVec 32 := 32#32
  let c0_i32_1458 : BitVec 32 := 0#32
  let v1901 : BitVec 1 := Scalar.cmpi .eq c32_i32_1457 c0_i32_1458
  let c1_i32_1459 : BitVec 32 := 1#32
  let v1902 : BitVec 32 := Scalar.select v1901 c1_i32_1459 c32_i32_1457
  let v1903 : BitVec 32 := Scalar.remsi v1900 v1902
  let c0_i32_1461 : BitVec 32 := 0#32
  let v1905 : BitVec 1 := Scalar.cmpi .slt v1903 c0_i32_1461
  let c0_i32_1462 : BitVec 32 := 0#32
  let v1906 : BitVec 1 := Scalar.cmpi .slt v1902 c0_i32_1462
  let v1907 : BitVec 1 := Scalar.xori v1905 v1906
  let c0_i32_1460 : BitVec 32 := 0#32
  let v1904 : BitVec 1 := Scalar.cmpi .ne v1903 c0_i32_1460
  let v1908 : BitVec 1 := Scalar.andi v1907 v1904
  let v1909 : BitVec 32 := Scalar.addi v1903 v1902
  let v1910 : BitVec 32 := Scalar.select v1908 v1909 v1903
  let c1_i32_1466 : BitVec 32 := 1#32
  let v1912 : BitVec 32 := Scalar.muli v1910 c1_i32_1466
  let v1913 : BitVec 32 := Scalar.addi c0_i32_1467 v1912
  v1913.toNat
def k0_dev67 (d0 : Dev nD) : Nat :=
  let c0_i32_1480 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c5_i32_1469 : BitVec 32 := 5#32
  let v1919 : BitVec 32 := Scalar.addi v2 c5_i32_1469
  let c32_i32_1470 : BitVec 32 := 32#32
  let c0_i32_1471 : BitVec 32 := 0#32
  let v1920 : BitVec 1 := Scalar.cmpi .eq c32_i32_1470 c0_i32_1471
  let c1_i32_1472 : BitVec 32 := 1#32
  let v1921 : BitVec 32 := Scalar.select v1920 c1_i32_1472 c32_i32_1470
  let v1922 : BitVec 32 := Scalar.remsi v1919 v1921
  let c0_i32_1474 : BitVec 32 := 0#32
  let v1924 : BitVec 1 := Scalar.cmpi .slt v1922 c0_i32_1474
  let c0_i32_1475 : BitVec 32 := 0#32
  let v1925 : BitVec 1 := Scalar.cmpi .slt v1921 c0_i32_1475
  let v1926 : BitVec 1 := Scalar.xori v1924 v1925
  let c0_i32_1473 : BitVec 32 := 0#32
  let v1923 : BitVec 1 := Scalar.cmpi .ne v1922 c0_i32_1473
  let v1927 : BitVec 1 := Scalar.andi v1926 v1923
  let v1928 : BitVec 32 := Scalar.addi v1922 v1921
  let v1929 : BitVec 32 := Scalar.select v1927 v1928 v1922
  let c1_i32_1479 : BitVec 32 := 1#32
  let v1931 : BitVec 32 := Scalar.muli v1929 c1_i32_1479
  let v1932 : BitVec 32 := Scalar.addi c0_i32_1480 v1931
  v1932.toNat
def k0_dev68 (d0 : Dev nD) : Nat :=
  let c0_i32_1493 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c6_i32_1482 : BitVec 32 := 6#32
  let v1938 : BitVec 32 := Scalar.addi v2 c6_i32_1482
  let c32_i32_1483 : BitVec 32 := 32#32
  let c0_i32_1484 : BitVec 32 := 0#32
  let v1939 : BitVec 1 := Scalar.cmpi .eq c32_i32_1483 c0_i32_1484
  let c1_i32_1485 : BitVec 32 := 1#32
  let v1940 : BitVec 32 := Scalar.select v1939 c1_i32_1485 c32_i32_1483
  let v1941 : BitVec 32 := Scalar.remsi v1938 v1940
  let c0_i32_1487 : BitVec 32 := 0#32
  let v1943 : BitVec 1 := Scalar.cmpi .slt v1941 c0_i32_1487
  let c0_i32_1488 : BitVec 32 := 0#32
  let v1944 : BitVec 1 := Scalar.cmpi .slt v1940 c0_i32_1488
  let v1945 : BitVec 1 := Scalar.xori v1943 v1944
  let c0_i32_1486 : BitVec 32 := 0#32
  let v1942 : BitVec 1 := Scalar.cmpi .ne v1941 c0_i32_1486
  let v1946 : BitVec 1 := Scalar.andi v1945 v1942
  let v1947 : BitVec 32 := Scalar.addi v1941 v1940
  let v1948 : BitVec 32 := Scalar.select v1946 v1947 v1941
  let c1_i32_1492 : BitVec 32 := 1#32
  let v1950 : BitVec 32 := Scalar.muli v1948 c1_i32_1492
  let v1951 : BitVec 32 := Scalar.addi c0_i32_1493 v1950
  v1951.toNat
def k0_dev69 (d0 : Dev nD) : Nat :=
  let c0_i32_1506 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32_1495 : BitVec 32 := 7#32
  let v1957 : BitVec 32 := Scalar.addi v2 c7_i32_1495
  let c32_i32_1496 : BitVec 32 := 32#32
  let c0_i32_1497 : BitVec 32 := 0#32
  let v1958 : BitVec 1 := Scalar.cmpi .eq c32_i32_1496 c0_i32_1497
  let c1_i32_1498 : BitVec 32 := 1#32
  let v1959 : BitVec 32 := Scalar.select v1958 c1_i32_1498 c32_i32_1496
  let v1960 : BitVec 32 := Scalar.remsi v1957 v1959
  let c0_i32_1500 : BitVec 32 := 0#32
  let v1962 : BitVec 1 := Scalar.cmpi .slt v1960 c0_i32_1500
  let c0_i32_1501 : BitVec 32 := 0#32
  let v1963 : BitVec 1 := Scalar.cmpi .slt v1959 c0_i32_1501
  let v1964 : BitVec 1 := Scalar.xori v1962 v1963
  let c0_i32_1499 : BitVec 32 := 0#32
  let v1961 : BitVec 1 := Scalar.cmpi .ne v1960 c0_i32_1499
  let v1965 : BitVec 1 := Scalar.andi v1964 v1961
  let v1966 : BitVec 32 := Scalar.addi v1960 v1959
  let v1967 : BitVec 32 := Scalar.select v1965 v1966 v1960
  let c1_i32_1505 : BitVec 32 := 1#32
  let v1969 : BitVec 32 := Scalar.muli v1967 c1_i32_1505
  let v1970 : BitVec 32 := Scalar.addi c0_i32_1506 v1969
  v1970.toNat
def k0_dev70 (d0 : Dev nD) : Nat :=
  let c0_i32_1519 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_1508 : BitVec 32 := 8#32
  let v1976 : BitVec 32 := Scalar.addi v2 c8_i32_1508
  let c32_i32_1509 : BitVec 32 := 32#32
  let c0_i32_1510 : BitVec 32 := 0#32
  let v1977 : BitVec 1 := Scalar.cmpi .eq c32_i32_1509 c0_i32_1510
  let c1_i32_1511 : BitVec 32 := 1#32
  let v1978 : BitVec 32 := Scalar.select v1977 c1_i32_1511 c32_i32_1509
  let v1979 : BitVec 32 := Scalar.remsi v1976 v1978
  let c0_i32_1513 : BitVec 32 := 0#32
  let v1981 : BitVec 1 := Scalar.cmpi .slt v1979 c0_i32_1513
  let c0_i32_1514 : BitVec 32 := 0#32
  let v1982 : BitVec 1 := Scalar.cmpi .slt v1978 c0_i32_1514
  let v1983 : BitVec 1 := Scalar.xori v1981 v1982
  let c0_i32_1512 : BitVec 32 := 0#32
  let v1980 : BitVec 1 := Scalar.cmpi .ne v1979 c0_i32_1512
  let v1984 : BitVec 1 := Scalar.andi v1983 v1980
  let v1985 : BitVec 32 := Scalar.addi v1979 v1978
  let v1986 : BitVec 32 := Scalar.select v1984 v1985 v1979
  let c1_i32_1518 : BitVec 32 := 1#32
  let v1988 : BitVec 32 := Scalar.muli v1986 c1_i32_1518
  let v1989 : BitVec 32 := Scalar.addi c0_i32_1519 v1988
  v1989.toNat
def k0_dev71 (d0 : Dev nD) : Nat :=
  let c0_i32_1532 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c9_i32_1521 : BitVec 32 := 9#32
  let v1995 : BitVec 32 := Scalar.addi v2 c9_i32_1521
  let c32_i32_1522 : BitVec 32 := 32#32
  let c0_i32_1523 : BitVec 32 := 0#32
  let v1996 : BitVec 1 := Scalar.cmpi .eq c32_i32_1522 c0_i32_1523
  let c1_i32_1524 : BitVec 32 := 1#32
  let v1997 : BitVec 32 := Scalar.select v1996 c1_i32_1524 c32_i32_1522
  let v1998 : BitVec 32 := Scalar.remsi v1995 v1997
  let c0_i32_1526 : BitVec 32 := 0#32
  let v2000 : BitVec 1 := Scalar.cmpi .slt v1998 c0_i32_1526
  let c0_i32_1527 : BitVec 32 := 0#32
  let v2001 : BitVec 1 := Scalar.cmpi .slt v1997 c0_i32_1527
  let v2002 : BitVec 1 := Scalar.xori v2000 v2001
  let c0_i32_1525 : BitVec 32 := 0#32
  let v1999 : BitVec 1 := Scalar.cmpi .ne v1998 c0_i32_1525
  let v2003 : BitVec 1 := Scalar.andi v2002 v1999
  let v2004 : BitVec 32 := Scalar.addi v1998 v1997
  let v2005 : BitVec 32 := Scalar.select v2003 v2004 v1998
  let c1_i32_1531 : BitVec 32 := 1#32
  let v2007 : BitVec 32 := Scalar.muli v2005 c1_i32_1531
  let v2008 : BitVec 32 := Scalar.addi c0_i32_1532 v2007
  v2008.toNat
def k0_dev72 (d0 : Dev nD) : Nat :=
  let c0_i32_1545 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c10_i32_1534 : BitVec 32 := 10#32
  let v2014 : BitVec 32 := Scalar.addi v2 c10_i32_1534
  let c32_i32_1535 : BitVec 32 := 32#32
  let c0_i32_1536 : BitVec 32 := 0#32
  let v2015 : BitVec 1 := Scalar.cmpi .eq c32_i32_1535 c0_i32_1536
  let c1_i32_1537 : BitVec 32 := 1#32
  let v2016 : BitVec 32 := Scalar.select v2015 c1_i32_1537 c32_i32_1535
  let v2017 : BitVec 32 := Scalar.remsi v2014 v2016
  let c0_i32_1539 : BitVec 32 := 0#32
  let v2019 : BitVec 1 := Scalar.cmpi .slt v2017 c0_i32_1539
  let c0_i32_1540 : BitVec 32 := 0#32
  let v2020 : BitVec 1 := Scalar.cmpi .slt v2016 c0_i32_1540
  let v2021 : BitVec 1 := Scalar.xori v2019 v2020
  let c0_i32_1538 : BitVec 32 := 0#32
  let v2018 : BitVec 1 := Scalar.cmpi .ne v2017 c0_i32_1538
  let v2022 : BitVec 1 := Scalar.andi v2021 v2018
  let v2023 : BitVec 32 := Scalar.addi v2017 v2016
  let v2024 : BitVec 32 := Scalar.select v2022 v2023 v2017
  let c1_i32_1544 : BitVec 32 := 1#32
  let v2026 : BitVec 32 := Scalar.muli v2024 c1_i32_1544
  let v2027 : BitVec 32 := Scalar.addi c0_i32_1545 v2026
  v2027.toNat
def k0_dev73 (d0 : Dev nD) : Nat :=
  let c0_i32_1558 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c11_i32_1547 : BitVec 32 := 11#32
  let v2033 : BitVec 32 := Scalar.addi v2 c11_i32_1547
  let c32_i32_1548 : BitVec 32 := 32#32
  let c0_i32_1549 : BitVec 32 := 0#32
  let v2034 : BitVec 1 := Scalar.cmpi .eq c32_i32_1548 c0_i32_1549
  let c1_i32_1550 : BitVec 32 := 1#32
  let v2035 : BitVec 32 := Scalar.select v2034 c1_i32_1550 c32_i32_1548
  let v2036 : BitVec 32 := Scalar.remsi v2033 v2035
  let c0_i32_1552 : BitVec 32 := 0#32
  let v2038 : BitVec 1 := Scalar.cmpi .slt v2036 c0_i32_1552
  let c0_i32_1553 : BitVec 32 := 0#32
  let v2039 : BitVec 1 := Scalar.cmpi .slt v2035 c0_i32_1553
  let v2040 : BitVec 1 := Scalar.xori v2038 v2039
  let c0_i32_1551 : BitVec 32 := 0#32
  let v2037 : BitVec 1 := Scalar.cmpi .ne v2036 c0_i32_1551
  let v2041 : BitVec 1 := Scalar.andi v2040 v2037
  let v2042 : BitVec 32 := Scalar.addi v2036 v2035
  let v2043 : BitVec 32 := Scalar.select v2041 v2042 v2036
  let c1_i32_1557 : BitVec 32 := 1#32
  let v2045 : BitVec 32 := Scalar.muli v2043 c1_i32_1557
  let v2046 : BitVec 32 := Scalar.addi c0_i32_1558 v2045
  v2046.toNat
def k0_dev74 (d0 : Dev nD) : Nat :=
  let c0_i32_1571 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c12_i32_1560 : BitVec 32 := 12#32
  let v2052 : BitVec 32 := Scalar.addi v2 c12_i32_1560
  let c32_i32_1561 : BitVec 32 := 32#32
  let c0_i32_1562 : BitVec 32 := 0#32
  let v2053 : BitVec 1 := Scalar.cmpi .eq c32_i32_1561 c0_i32_1562
  let c1_i32_1563 : BitVec 32 := 1#32
  let v2054 : BitVec 32 := Scalar.select v2053 c1_i32_1563 c32_i32_1561
  let v2055 : BitVec 32 := Scalar.remsi v2052 v2054
  let c0_i32_1565 : BitVec 32 := 0#32
  let v2057 : BitVec 1 := Scalar.cmpi .slt v2055 c0_i32_1565
  let c0_i32_1566 : BitVec 32 := 0#32
  let v2058 : BitVec 1 := Scalar.cmpi .slt v2054 c0_i32_1566
  let v2059 : BitVec 1 := Scalar.xori v2057 v2058
  let c0_i32_1564 : BitVec 32 := 0#32
  let v2056 : BitVec 1 := Scalar.cmpi .ne v2055 c0_i32_1564
  let v2060 : BitVec 1 := Scalar.andi v2059 v2056
  let v2061 : BitVec 32 := Scalar.addi v2055 v2054
  let v2062 : BitVec 32 := Scalar.select v2060 v2061 v2055
  let c1_i32_1570 : BitVec 32 := 1#32
  let v2064 : BitVec 32 := Scalar.muli v2062 c1_i32_1570
  let v2065 : BitVec 32 := Scalar.addi c0_i32_1571 v2064
  v2065.toNat
def k0_dev75 (d0 : Dev nD) : Nat :=
  let c0_i32_1584 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c13_i32_1573 : BitVec 32 := 13#32
  let v2071 : BitVec 32 := Scalar.addi v2 c13_i32_1573
  let c32_i32_1574 : BitVec 32 := 32#32
  let c0_i32_1575 : BitVec 32 := 0#32
  let v2072 : BitVec 1 := Scalar.cmpi .eq c32_i32_1574 c0_i32_1575
  let c1_i32_1576 : BitVec 32 := 1#32
  let v2073 : BitVec 32 := Scalar.select v2072 c1_i32_1576 c32_i32_1574
  let v2074 : BitVec 32 := Scalar.remsi v2071 v2073
  let c0_i32_1578 : BitVec 32 := 0#32
  let v2076 : BitVec 1 := Scalar.cmpi .slt v2074 c0_i32_1578
  let c0_i32_1579 : BitVec 32 := 0#32
  let v2077 : BitVec 1 := Scalar.cmpi .slt v2073 c0_i32_1579
  let v2078 : BitVec 1 := Scalar.xori v2076 v2077
  let c0_i32_1577 : BitVec 32 := 0#32
  let v2075 : BitVec 1 := Scalar.cmpi .ne v2074 c0_i32_1577
  let v2079 : BitVec 1 := Scalar.andi v2078 v2075
  let v2080 : BitVec 32 := Scalar.addi v2074 v2073
  let v2081 : BitVec 32 := Scalar.select v2079 v2080 v2074
  let c1_i32_1583 : BitVec 32 := 1#32
  let v2083 : BitVec 32 := Scalar.muli v2081 c1_i32_1583
  let v2084 : BitVec 32 := Scalar.addi c0_i32_1584 v2083
  v2084.toNat
def k0_dev76 (d0 : Dev nD) : Nat :=
  let c0_i32_1597 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c14_i32_1586 : BitVec 32 := 14#32
  let v2090 : BitVec 32 := Scalar.addi v2 c14_i32_1586
  let c32_i32_1587 : BitVec 32 := 32#32
  let c0_i32_1588 : BitVec 32 := 0#32
  let v2091 : BitVec 1 := Scalar.cmpi .eq c32_i32_1587 c0_i32_1588
  let c1_i32_1589 : BitVec 32 := 1#32
  let v2092 : BitVec 32 := Scalar.select v2091 c1_i32_1589 c32_i32_1587
  let v2093 : BitVec 32 := Scalar.remsi v2090 v2092
  let c0_i32_1591 : BitVec 32 := 0#32
  let v2095 : BitVec 1 := Scalar.cmpi .slt v2093 c0_i32_1591
  let c0_i32_1592 : BitVec 32 := 0#32
  let v2096 : BitVec 1 := Scalar.cmpi .slt v2092 c0_i32_1592
  let v2097 : BitVec 1 := Scalar.xori v2095 v2096
  let c0_i32_1590 : BitVec 32 := 0#32
  let v2094 : BitVec 1 := Scalar.cmpi .ne v2093 c0_i32_1590
  let v2098 : BitVec 1 := Scalar.andi v2097 v2094
  let v2099 : BitVec 32 := Scalar.addi v2093 v2092
  let v2100 : BitVec 32 := Scalar.select v2098 v2099 v2093
  let c1_i32_1596 : BitVec 32 := 1#32
  let v2102 : BitVec 32 := Scalar.muli v2100 c1_i32_1596
  let v2103 : BitVec 32 := Scalar.addi c0_i32_1597 v2102
  v2103.toNat
def k0_dev77 (d0 : Dev nD) : Nat :=
  let c0_i32_1610 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c15_i32_1599 : BitVec 32 := 15#32
  let v2109 : BitVec 32 := Scalar.addi v2 c15_i32_1599
  let c32_i32_1600 : BitVec 32 := 32#32
  let c0_i32_1601 : BitVec 32 := 0#32
  let v2110 : BitVec 1 := Scalar.cmpi .eq c32_i32_1600 c0_i32_1601
  let c1_i32_1602 : BitVec 32 := 1#32
  let v2111 : BitVec 32 := Scalar.select v2110 c1_i32_1602 c32_i32_1600
  let v2112 : BitVec 32 := Scalar.remsi v2109 v2111
  let c0_i32_1604 : BitVec 32 := 0#32
  let v2114 : BitVec 1 := Scalar.cmpi .slt v2112 c0_i32_1604
  let c0_i32_1605 : BitVec 32 := 0#32
  let v2115 : BitVec 1 := Scalar.cmpi .slt v2111 c0_i32_1605
  let v2116 : BitVec 1 := Scalar.xori v2114 v2115
  let c0_i32_1603 : BitVec 32 := 0#32
  let v2113 : BitVec 1 := Scalar.cmpi .ne v2112 c0_i32_1603
  let v2117 : BitVec 1 := Scalar.andi v2116 v2113
  let v2118 : BitVec 32 := Scalar.addi v2112 v2111
  let v2119 : BitVec 32 := Scalar.select v2117 v2118 v2112
  let c1_i32_1609 : BitVec 32 := 1#32
  let v2121 : BitVec 32 := Scalar.muli v2119 c1_i32_1609
  let v2122 : BitVec 32 := Scalar.addi c0_i32_1610 v2121
  v2122.toNat
def k0_dev78 (d0 : Dev nD) : Nat :=
  let c0_i32_1623 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_1612 : BitVec 32 := 16#32
  let v2128 : BitVec 32 := Scalar.addi v2 c16_i32_1612
  let c32_i32_1613 : BitVec 32 := 32#32
  let c0_i32_1614 : BitVec 32 := 0#32
  let v2129 : BitVec 1 := Scalar.cmpi .eq c32_i32_1613 c0_i32_1614
  let c1_i32_1615 : BitVec 32 := 1#32
  let v2130 : BitVec 32 := Scalar.select v2129 c1_i32_1615 c32_i32_1613
  let v2131 : BitVec 32 := Scalar.remsi v2128 v2130
  let c0_i32_1617 : BitVec 32 := 0#32
  let v2133 : BitVec 1 := Scalar.cmpi .slt v2131 c0_i32_1617
  let c0_i32_1618 : BitVec 32 := 0#32
  let v2134 : BitVec 1 := Scalar.cmpi .slt v2130 c0_i32_1618
  let v2135 : BitVec 1 := Scalar.xori v2133 v2134
  let c0_i32_1616 : BitVec 32 := 0#32
  let v2132 : BitVec 1 := Scalar.cmpi .ne v2131 c0_i32_1616
  let v2136 : BitVec 1 := Scalar.andi v2135 v2132
  let v2137 : BitVec 32 := Scalar.addi v2131 v2130
  let v2138 : BitVec 32 := Scalar.select v2136 v2137 v2131
  let c1_i32_1622 : BitVec 32 := 1#32
  let v2140 : BitVec 32 := Scalar.muli v2138 c1_i32_1622
  let v2141 : BitVec 32 := Scalar.addi c0_i32_1623 v2140
  v2141.toNat
def k0_dev79 (d0 : Dev nD) : Nat :=
  let c0_i32_1636 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c17_i32_1625 : BitVec 32 := 17#32
  let v2147 : BitVec 32 := Scalar.addi v2 c17_i32_1625
  let c32_i32_1626 : BitVec 32 := 32#32
  let c0_i32_1627 : BitVec 32 := 0#32
  let v2148 : BitVec 1 := Scalar.cmpi .eq c32_i32_1626 c0_i32_1627
  let c1_i32_1628 : BitVec 32 := 1#32
  let v2149 : BitVec 32 := Scalar.select v2148 c1_i32_1628 c32_i32_1626
  let v2150 : BitVec 32 := Scalar.remsi v2147 v2149
  let c0_i32_1630 : BitVec 32 := 0#32
  let v2152 : BitVec 1 := Scalar.cmpi .slt v2150 c0_i32_1630
  let c0_i32_1631 : BitVec 32 := 0#32
  let v2153 : BitVec 1 := Scalar.cmpi .slt v2149 c0_i32_1631
  let v2154 : BitVec 1 := Scalar.xori v2152 v2153
  let c0_i32_1629 : BitVec 32 := 0#32
  let v2151 : BitVec 1 := Scalar.cmpi .ne v2150 c0_i32_1629
  let v2155 : BitVec 1 := Scalar.andi v2154 v2151
  let v2156 : BitVec 32 := Scalar.addi v2150 v2149
  let v2157 : BitVec 32 := Scalar.select v2155 v2156 v2150
  let c1_i32_1635 : BitVec 32 := 1#32
  let v2159 : BitVec 32 := Scalar.muli v2157 c1_i32_1635
  let v2160 : BitVec 32 := Scalar.addi c0_i32_1636 v2159
  v2160.toNat
def k0_dev80 (d0 : Dev nD) : Nat :=
  let c0_i32_1649 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c18_i32_1638 : BitVec 32 := 18#32
  let v2166 : BitVec 32 := Scalar.addi v2 c18_i32_1638
  let c32_i32_1639 : BitVec 32 := 32#32
  let c0_i32_1640 : BitVec 32 := 0#32
  let v2167 : BitVec 1 := Scalar.cmpi .eq c32_i32_1639 c0_i32_1640
  let c1_i32_1641 : BitVec 32 := 1#32
  let v2168 : BitVec 32 := Scalar.select v2167 c1_i32_1641 c32_i32_1639
  let v2169 : BitVec 32 := Scalar.remsi v2166 v2168
  let c0_i32_1643 : BitVec 32 := 0#32
  let v2171 : BitVec 1 := Scalar.cmpi .slt v2169 c0_i32_1643
  let c0_i32_1644 : BitVec 32 := 0#32
  let v2172 : BitVec 1 := Scalar.cmpi .slt v2168 c0_i32_1644
  let v2173 : BitVec 1 := Scalar.xori v2171 v2172
  let c0_i32_1642 : BitVec 32 := 0#32
  let v2170 : BitVec 1 := Scalar.cmpi .ne v2169 c0_i32_1642
  let v2174 : BitVec 1 := Scalar.andi v2173 v2170
  let v2175 : BitVec 32 := Scalar.addi v2169 v2168
  let v2176 : BitVec 32 := Scalar.select v2174 v2175 v2169
  let c1_i32_1648 : BitVec 32 := 1#32
  let v2178 : BitVec 32 := Scalar.muli v2176 c1_i32_1648
  let v2179 : BitVec 32 := Scalar.addi c0_i32_1649 v2178
  v2179.toNat
def k0_dev81 (d0 : Dev nD) : Nat :=
  let c0_i32_1662 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c19_i32_1651 : BitVec 32 := 19#32
  let v2185 : BitVec 32 := Scalar.addi v2 c19_i32_1651
  let c32_i32_1652 : BitVec 32 := 32#32
  let c0_i32_1653 : BitVec 32 := 0#32
  let v2186 : BitVec 1 := Scalar.cmpi .eq c32_i32_1652 c0_i32_1653
  let c1_i32_1654 : BitVec 32 := 1#32
  let v2187 : BitVec 32 := Scalar.select v2186 c1_i32_1654 c32_i32_1652
  let v2188 : BitVec 32 := Scalar.remsi v2185 v2187
  let c0_i32_1656 : BitVec 32 := 0#32
  let v2190 : BitVec 1 := Scalar.cmpi .slt v2188 c0_i32_1656
  let c0_i32_1657 : BitVec 32 := 0#32
  let v2191 : BitVec 1 := Scalar.cmpi .slt v2187 c0_i32_1657
  let v2192 : BitVec 1 := Scalar.xori v2190 v2191
  let c0_i32_1655 : BitVec 32 := 0#32
  let v2189 : BitVec 1 := Scalar.cmpi .ne v2188 c0_i32_1655
  let v2193 : BitVec 1 := Scalar.andi v2192 v2189
  let v2194 : BitVec 32 := Scalar.addi v2188 v2187
  let v2195 : BitVec 32 := Scalar.select v2193 v2194 v2188
  let c1_i32_1661 : BitVec 32 := 1#32
  let v2197 : BitVec 32 := Scalar.muli v2195 c1_i32_1661
  let v2198 : BitVec 32 := Scalar.addi c0_i32_1662 v2197
  v2198.toNat
def k0_dev82 (d0 : Dev nD) : Nat :=
  let c0_i32_1675 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c20_i32_1664 : BitVec 32 := 20#32
  let v2204 : BitVec 32 := Scalar.addi v2 c20_i32_1664
  let c32_i32_1665 : BitVec 32 := 32#32
  let c0_i32_1666 : BitVec 32 := 0#32
  let v2205 : BitVec 1 := Scalar.cmpi .eq c32_i32_1665 c0_i32_1666
  let c1_i32_1667 : BitVec 32 := 1#32
  let v2206 : BitVec 32 := Scalar.select v2205 c1_i32_1667 c32_i32_1665
  let v2207 : BitVec 32 := Scalar.remsi v2204 v2206
  let c0_i32_1669 : BitVec 32 := 0#32
  let v2209 : BitVec 1 := Scalar.cmpi .slt v2207 c0_i32_1669
  let c0_i32_1670 : BitVec 32 := 0#32
  let v2210 : BitVec 1 := Scalar.cmpi .slt v2206 c0_i32_1670
  let v2211 : BitVec 1 := Scalar.xori v2209 v2210
  let c0_i32_1668 : BitVec 32 := 0#32
  let v2208 : BitVec 1 := Scalar.cmpi .ne v2207 c0_i32_1668
  let v2212 : BitVec 1 := Scalar.andi v2211 v2208
  let v2213 : BitVec 32 := Scalar.addi v2207 v2206
  let v2214 : BitVec 32 := Scalar.select v2212 v2213 v2207
  let c1_i32_1674 : BitVec 32 := 1#32
  let v2216 : BitVec 32 := Scalar.muli v2214 c1_i32_1674
  let v2217 : BitVec 32 := Scalar.addi c0_i32_1675 v2216
  v2217.toNat
def k0_dev83 (d0 : Dev nD) : Nat :=
  let c0_i32_1688 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c21_i32_1677 : BitVec 32 := 21#32
  let v2223 : BitVec 32 := Scalar.addi v2 c21_i32_1677
  let c32_i32_1678 : BitVec 32 := 32#32
  let c0_i32_1679 : BitVec 32 := 0#32
  let v2224 : BitVec 1 := Scalar.cmpi .eq c32_i32_1678 c0_i32_1679
  let c1_i32_1680 : BitVec 32 := 1#32
  let v2225 : BitVec 32 := Scalar.select v2224 c1_i32_1680 c32_i32_1678
  let v2226 : BitVec 32 := Scalar.remsi v2223 v2225
  let c0_i32_1682 : BitVec 32 := 0#32
  let v2228 : BitVec 1 := Scalar.cmpi .slt v2226 c0_i32_1682
  let c0_i32_1683 : BitVec 32 := 0#32
  let v2229 : BitVec 1 := Scalar.cmpi .slt v2225 c0_i32_1683
  let v2230 : BitVec 1 := Scalar.xori v2228 v2229
  let c0_i32_1681 : BitVec 32 := 0#32
  let v2227 : BitVec 1 := Scalar.cmpi .ne v2226 c0_i32_1681
  let v2231 : BitVec 1 := Scalar.andi v2230 v2227
  let v2232 : BitVec 32 := Scalar.addi v2226 v2225
  let v2233 : BitVec 32 := Scalar.select v2231 v2232 v2226
  let c1_i32_1687 : BitVec 32 := 1#32
  let v2235 : BitVec 32 := Scalar.muli v2233 c1_i32_1687
  let v2236 : BitVec 32 := Scalar.addi c0_i32_1688 v2235
  v2236.toNat
def k0_dev84 (d0 : Dev nD) : Nat :=
  let c0_i32_1701 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c22_i32_1690 : BitVec 32 := 22#32
  let v2242 : BitVec 32 := Scalar.addi v2 c22_i32_1690
  let c32_i32_1691 : BitVec 32 := 32#32
  let c0_i32_1692 : BitVec 32 := 0#32
  let v2243 : BitVec 1 := Scalar.cmpi .eq c32_i32_1691 c0_i32_1692
  let c1_i32_1693 : BitVec 32 := 1#32
  let v2244 : BitVec 32 := Scalar.select v2243 c1_i32_1693 c32_i32_1691
  let v2245 : BitVec 32 := Scalar.remsi v2242 v2244
  let c0_i32_1695 : BitVec 32 := 0#32
  let v2247 : BitVec 1 := Scalar.cmpi .slt v2245 c0_i32_1695
  let c0_i32_1696 : BitVec 32 := 0#32
  let v2248 : BitVec 1 := Scalar.cmpi .slt v2244 c0_i32_1696
  let v2249 : BitVec 1 := Scalar.xori v2247 v2248
  let c0_i32_1694 : BitVec 32 := 0#32
  let v2246 : BitVec 1 := Scalar.cmpi .ne v2245 c0_i32_1694
  let v2250 : BitVec 1 := Scalar.andi v2249 v2246
  let v2251 : BitVec 32 := Scalar.addi v2245 v2244
  let v2252 : BitVec 32 := Scalar.select v2250 v2251 v2245
  let c1_i32_1700 : BitVec 32 := 1#32
  let v2254 : BitVec 32 := Scalar.muli v2252 c1_i32_1700
  let v2255 : BitVec 32 := Scalar.addi c0_i32_1701 v2254
  v2255.toNat
def k0_dev85 (d0 : Dev nD) : Nat :=
  let c0_i32_1714 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c23_i32_1703 : BitVec 32 := 23#32
  let v2261 : BitVec 32 := Scalar.addi v2 c23_i32_1703
  let c32_i32_1704 : BitVec 32 := 32#32
  let c0_i32_1705 : BitVec 32 := 0#32
  let v2262 : BitVec 1 := Scalar.cmpi .eq c32_i32_1704 c0_i32_1705
  let c1_i32_1706 : BitVec 32 := 1#32
  let v2263 : BitVec 32 := Scalar.select v2262 c1_i32_1706 c32_i32_1704
  let v2264 : BitVec 32 := Scalar.remsi v2261 v2263
  let c0_i32_1708 : BitVec 32 := 0#32
  let v2266 : BitVec 1 := Scalar.cmpi .slt v2264 c0_i32_1708
  let c0_i32_1709 : BitVec 32 := 0#32
  let v2267 : BitVec 1 := Scalar.cmpi .slt v2263 c0_i32_1709
  let v2268 : BitVec 1 := Scalar.xori v2266 v2267
  let c0_i32_1707 : BitVec 32 := 0#32
  let v2265 : BitVec 1 := Scalar.cmpi .ne v2264 c0_i32_1707
  let v2269 : BitVec 1 := Scalar.andi v2268 v2265
  let v2270 : BitVec 32 := Scalar.addi v2264 v2263
  let v2271 : BitVec 32 := Scalar.select v2269 v2270 v2264
  let c1_i32_1713 : BitVec 32 := 1#32
  let v2273 : BitVec 32 := Scalar.muli v2271 c1_i32_1713
  let v2274 : BitVec 32 := Scalar.addi c0_i32_1714 v2273
  v2274.toNat
def k0_dev86 (d0 : Dev nD) : Nat :=
  let c0_i32_1727 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c24_i32_1716 : BitVec 32 := 24#32
  let v2280 : BitVec 32 := Scalar.addi v2 c24_i32_1716
  let c32_i32_1717 : BitVec 32 := 32#32
  let c0_i32_1718 : BitVec 32 := 0#32
  let v2281 : BitVec 1 := Scalar.cmpi .eq c32_i32_1717 c0_i32_1718
  let c1_i32_1719 : BitVec 32 := 1#32
  let v2282 : BitVec 32 := Scalar.select v2281 c1_i32_1719 c32_i32_1717
  let v2283 : BitVec 32 := Scalar.remsi v2280 v2282
  let c0_i32_1721 : BitVec 32 := 0#32
  let v2285 : BitVec 1 := Scalar.cmpi .slt v2283 c0_i32_1721
  let c0_i32_1722 : BitVec 32 := 0#32
  let v2286 : BitVec 1 := Scalar.cmpi .slt v2282 c0_i32_1722
  let v2287 : BitVec 1 := Scalar.xori v2285 v2286
  let c0_i32_1720 : BitVec 32 := 0#32
  let v2284 : BitVec 1 := Scalar.cmpi .ne v2283 c0_i32_1720
  let v2288 : BitVec 1 := Scalar.andi v2287 v2284
  let v2289 : BitVec 32 := Scalar.addi v2283 v2282
  let v2290 : BitVec 32 := Scalar.select v2288 v2289 v2283
  let c1_i32_1726 : BitVec 32 := 1#32
  let v2292 : BitVec 32 := Scalar.muli v2290 c1_i32_1726
  let v2293 : BitVec 32 := Scalar.addi c0_i32_1727 v2292
  v2293.toNat
def k0_dev87 (d0 : Dev nD) : Nat :=
  let c0_i32_1740 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c25_i32_1729 : BitVec 32 := 25#32
  let v2299 : BitVec 32 := Scalar.addi v2 c25_i32_1729
  let c32_i32_1730 : BitVec 32 := 32#32
  let c0_i32_1731 : BitVec 32 := 0#32
  let v2300 : BitVec 1 := Scalar.cmpi .eq c32_i32_1730 c0_i32_1731
  let c1_i32_1732 : BitVec 32 := 1#32
  let v2301 : BitVec 32 := Scalar.select v2300 c1_i32_1732 c32_i32_1730
  let v2302 : BitVec 32 := Scalar.remsi v2299 v2301
  let c0_i32_1734 : BitVec 32 := 0#32
  let v2304 : BitVec 1 := Scalar.cmpi .slt v2302 c0_i32_1734
  let c0_i32_1735 : BitVec 32 := 0#32
  let v2305 : BitVec 1 := Scalar.cmpi .slt v2301 c0_i32_1735
  let v2306 : BitVec 1 := Scalar.xori v2304 v2305
  let c0_i32_1733 : BitVec 32 := 0#32
  let v2303 : BitVec 1 := Scalar.cmpi .ne v2302 c0_i32_1733
  let v2307 : BitVec 1 := Scalar.andi v2306 v2303
  let v2308 : BitVec 32 := Scalar.addi v2302 v2301
  let v2309 : BitVec 32 := Scalar.select v2307 v2308 v2302
  let c1_i32_1739 : BitVec 32 := 1#32
  let v2311 : BitVec 32 := Scalar.muli v2309 c1_i32_1739
  let v2312 : BitVec 32 := Scalar.addi c0_i32_1740 v2311
  v2312.toNat
def k0_dev88 (d0 : Dev nD) : Nat :=
  let c0_i32_1753 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c26_i32_1742 : BitVec 32 := 26#32
  let v2318 : BitVec 32 := Scalar.addi v2 c26_i32_1742
  let c32_i32_1743 : BitVec 32 := 32#32
  let c0_i32_1744 : BitVec 32 := 0#32
  let v2319 : BitVec 1 := Scalar.cmpi .eq c32_i32_1743 c0_i32_1744
  let c1_i32_1745 : BitVec 32 := 1#32
  let v2320 : BitVec 32 := Scalar.select v2319 c1_i32_1745 c32_i32_1743
  let v2321 : BitVec 32 := Scalar.remsi v2318 v2320
  let c0_i32_1747 : BitVec 32 := 0#32
  let v2323 : BitVec 1 := Scalar.cmpi .slt v2321 c0_i32_1747
  let c0_i32_1748 : BitVec 32 := 0#32
  let v2324 : BitVec 1 := Scalar.cmpi .slt v2320 c0_i32_1748
  let v2325 : BitVec 1 := Scalar.xori v2323 v2324
  let c0_i32_1746 : BitVec 32 := 0#32
  let v2322 : BitVec 1 := Scalar.cmpi .ne v2321 c0_i32_1746
  let v2326 : BitVec 1 := Scalar.andi v2325 v2322
  let v2327 : BitVec 32 := Scalar.addi v2321 v2320
  let v2328 : BitVec 32 := Scalar.select v2326 v2327 v2321
  let c1_i32_1752 : BitVec 32 := 1#32
  let v2330 : BitVec 32 := Scalar.muli v2328 c1_i32_1752
  let v2331 : BitVec 32 := Scalar.addi c0_i32_1753 v2330
  v2331.toNat
def k0_dev89 (d0 : Dev nD) : Nat :=
  let c0_i32_1766 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c27_i32_1755 : BitVec 32 := 27#32
  let v2337 : BitVec 32 := Scalar.addi v2 c27_i32_1755
  let c32_i32_1756 : BitVec 32 := 32#32
  let c0_i32_1757 : BitVec 32 := 0#32
  let v2338 : BitVec 1 := Scalar.cmpi .eq c32_i32_1756 c0_i32_1757
  let c1_i32_1758 : BitVec 32 := 1#32
  let v2339 : BitVec 32 := Scalar.select v2338 c1_i32_1758 c32_i32_1756
  let v2340 : BitVec 32 := Scalar.remsi v2337 v2339
  let c0_i32_1760 : BitVec 32 := 0#32
  let v2342 : BitVec 1 := Scalar.cmpi .slt v2340 c0_i32_1760
  let c0_i32_1761 : BitVec 32 := 0#32
  let v2343 : BitVec 1 := Scalar.cmpi .slt v2339 c0_i32_1761
  let v2344 : BitVec 1 := Scalar.xori v2342 v2343
  let c0_i32_1759 : BitVec 32 := 0#32
  let v2341 : BitVec 1 := Scalar.cmpi .ne v2340 c0_i32_1759
  let v2345 : BitVec 1 := Scalar.andi v2344 v2341
  let v2346 : BitVec 32 := Scalar.addi v2340 v2339
  let v2347 : BitVec 32 := Scalar.select v2345 v2346 v2340
  let c1_i32_1765 : BitVec 32 := 1#32
  let v2349 : BitVec 32 := Scalar.muli v2347 c1_i32_1765
  let v2350 : BitVec 32 := Scalar.addi c0_i32_1766 v2349
  v2350.toNat
def k0_dev90 (d0 : Dev nD) : Nat :=
  let c0_i32_1779 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c28_i32_1768 : BitVec 32 := 28#32
  let v2356 : BitVec 32 := Scalar.addi v2 c28_i32_1768
  let c32_i32_1769 : BitVec 32 := 32#32
  let c0_i32_1770 : BitVec 32 := 0#32
  let v2357 : BitVec 1 := Scalar.cmpi .eq c32_i32_1769 c0_i32_1770
  let c1_i32_1771 : BitVec 32 := 1#32
  let v2358 : BitVec 32 := Scalar.select v2357 c1_i32_1771 c32_i32_1769
  let v2359 : BitVec 32 := Scalar.remsi v2356 v2358
  let c0_i32_1773 : BitVec 32 := 0#32
  let v2361 : BitVec 1 := Scalar.cmpi .slt v2359 c0_i32_1773
  let c0_i32_1774 : BitVec 32 := 0#32
  let v2362 : BitVec 1 := Scalar.cmpi .slt v2358 c0_i32_1774
  let v2363 : BitVec 1 := Scalar.xori v2361 v2362
  let c0_i32_1772 : BitVec 32 := 0#32
  let v2360 : BitVec 1 := Scalar.cmpi .ne v2359 c0_i32_1772
  let v2364 : BitVec 1 := Scalar.andi v2363 v2360
  let v2365 : BitVec 32 := Scalar.addi v2359 v2358
  let v2366 : BitVec 32 := Scalar.select v2364 v2365 v2359
  let c1_i32_1778 : BitVec 32 := 1#32
  let v2368 : BitVec 32 := Scalar.muli v2366 c1_i32_1778
  let v2369 : BitVec 32 := Scalar.addi c0_i32_1779 v2368
  v2369.toNat
def k0_dev91 (d0 : Dev nD) : Nat :=
  let c0_i32_1792 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c29_i32_1781 : BitVec 32 := 29#32
  let v2375 : BitVec 32 := Scalar.addi v2 c29_i32_1781
  let c32_i32_1782 : BitVec 32 := 32#32
  let c0_i32_1783 : BitVec 32 := 0#32
  let v2376 : BitVec 1 := Scalar.cmpi .eq c32_i32_1782 c0_i32_1783
  let c1_i32_1784 : BitVec 32 := 1#32
  let v2377 : BitVec 32 := Scalar.select v2376 c1_i32_1784 c32_i32_1782
  let v2378 : BitVec 32 := Scalar.remsi v2375 v2377
  let c0_i32_1786 : BitVec 32 := 0#32
  let v2380 : BitVec 1 := Scalar.cmpi .slt v2378 c0_i32_1786
  let c0_i32_1787 : BitVec 32 := 0#32
  let v2381 : BitVec 1 := Scalar.cmpi .slt v2377 c0_i32_1787
  let v2382 : BitVec 1 := Scalar.xori v2380 v2381
  let c0_i32_1785 : BitVec 32 := 0#32
  let v2379 : BitVec 1 := Scalar.cmpi .ne v2378 c0_i32_1785
  let v2383 : BitVec 1 := Scalar.andi v2382 v2379
  let v2384 : BitVec 32 := Scalar.addi v2378 v2377
  let v2385 : BitVec 32 := Scalar.select v2383 v2384 v2378
  let c1_i32_1791 : BitVec 32 := 1#32
  let v2387 : BitVec 32 := Scalar.muli v2385 c1_i32_1791
  let v2388 : BitVec 32 := Scalar.addi c0_i32_1792 v2387
  v2388.toNat
def k0_dev92 (d0 : Dev nD) : Nat :=
  let c0_i32_1805 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c30_i32_1794 : BitVec 32 := 30#32
  let v2394 : BitVec 32 := Scalar.addi v2 c30_i32_1794
  let c32_i32_1795 : BitVec 32 := 32#32
  let c0_i32_1796 : BitVec 32 := 0#32
  let v2395 : BitVec 1 := Scalar.cmpi .eq c32_i32_1795 c0_i32_1796
  let c1_i32_1797 : BitVec 32 := 1#32
  let v2396 : BitVec 32 := Scalar.select v2395 c1_i32_1797 c32_i32_1795
  let v2397 : BitVec 32 := Scalar.remsi v2394 v2396
  let c0_i32_1799 : BitVec 32 := 0#32
  let v2399 : BitVec 1 := Scalar.cmpi .slt v2397 c0_i32_1799
  let c0_i32_1800 : BitVec 32 := 0#32
  let v2400 : BitVec 1 := Scalar.cmpi .slt v2396 c0_i32_1800
  let v2401 : BitVec 1 := Scalar.xori v2399 v2400
  let c0_i32_1798 : BitVec 32 := 0#32
  let v2398 : BitVec 1 := Scalar.cmpi .ne v2397 c0_i32_1798
  let v2402 : BitVec 1 := Scalar.andi v2401 v2398
  let v2403 : BitVec 32 := Scalar.addi v2397 v2396
  let v2404 : BitVec 32 := Scalar.select v2402 v2403 v2397
  let c1_i32_1804 : BitVec 32 := 1#32
  let v2406 : BitVec 32 := Scalar.muli v2404 c1_i32_1804
  let v2407 : BitVec 32 := Scalar.addi c0_i32_1805 v2406
  v2407.toNat
def k0_dev93 (d0 : Dev nD) : Nat :=
  let c0_i32_1818 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32_1807 : BitVec 32 := 31#32
  let v2413 : BitVec 32 := Scalar.addi v2 c31_i32_1807
  let c32_i32_1808 : BitVec 32 := 32#32
  let c0_i32_1809 : BitVec 32 := 0#32
  let v2414 : BitVec 1 := Scalar.cmpi .eq c32_i32_1808 c0_i32_1809
  let c1_i32_1810 : BitVec 32 := 1#32
  let v2415 : BitVec 32 := Scalar.select v2414 c1_i32_1810 c32_i32_1808
  let v2416 : BitVec 32 := Scalar.remsi v2413 v2415
  let c0_i32_1812 : BitVec 32 := 0#32
  let v2418 : BitVec 1 := Scalar.cmpi .slt v2416 c0_i32_1812
  let c0_i32_1813 : BitVec 32 := 0#32
  let v2419 : BitVec 1 := Scalar.cmpi .slt v2415 c0_i32_1813
  let v2420 : BitVec 1 := Scalar.xori v2418 v2419
  let c0_i32_1811 : BitVec 32 := 0#32
  let v2417 : BitVec 1 := Scalar.cmpi .ne v2416 c0_i32_1811
  let v2421 : BitVec 1 := Scalar.andi v2420 v2417
  let v2422 : BitVec 32 := Scalar.addi v2416 v2415
  let v2423 : BitVec 32 := Scalar.select v2421 v2422 v2416
  let c1_i32_1817 : BitVec 32 := 1#32
  let v2425 : BitVec 32 := Scalar.muli v2423 c1_i32_1817
  let v2426 : BitVec 32 := Scalar.addi c0_i32_1818 v2425
  v2426.toNat
def k0_dev94 (d0 : Dev nD) : Nat :=
  let c0_i32_2147 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_2135 : BitVec 32 := 1#32
  let v2772 : BitVec 32 := Scalar.addi v2 c1_i32_2135
  let c32_i32_2136 : BitVec 32 := 32#32
  let c0_i32_2137 : BitVec 32 := 0#32
  let v2773 : BitVec 1 := Scalar.cmpi .eq c32_i32_2136 c0_i32_2137
  let c1_i32_2138 : BitVec 32 := 1#32
  let v2774 : BitVec 32 := Scalar.select v2773 c1_i32_2138 c32_i32_2136
  let v2775 : BitVec 32 := Scalar.remsi v2772 v2774
  let c0_i32_2140 : BitVec 32 := 0#32
  let v2777 : BitVec 1 := Scalar.cmpi .slt v2775 c0_i32_2140
  let c0_i32_2141 : BitVec 32 := 0#32
  let v2778 : BitVec 1 := Scalar.cmpi .slt v2774 c0_i32_2141
  let v2779 : BitVec 1 := Scalar.xori v2777 v2778
  let c0_i32_2139 : BitVec 32 := 0#32
  let v2776 : BitVec 1 := Scalar.cmpi .ne v2775 c0_i32_2139
  let v2780 : BitVec 1 := Scalar.andi v2779 v2776
  let v2781 : BitVec 32 := Scalar.addi v2775 v2774
  let v2782 : BitVec 32 := Scalar.select v2780 v2781 v2775
  let c1_i32_2146 : BitVec 32 := 1#32
  let v2784 : BitVec 32 := Scalar.muli v2782 c1_i32_2146
  let v2785 : BitVec 32 := Scalar.addi c0_i32_2147 v2784
  v2785.toNat
def k0_dev95 (d0 : Dev nD) : Nat :=
  let c0_i32_2163 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32_2151 : BitVec 32 := 2#32
  let v2793 : BitVec 32 := Scalar.addi v2 c2_i32_2151
  let c32_i32_2152 : BitVec 32 := 32#32
  let c0_i32_2153 : BitVec 32 := 0#32
  let v2794 : BitVec 1 := Scalar.cmpi .eq c32_i32_2152 c0_i32_2153
  let c1_i32_2154 : BitVec 32 := 1#32
  let v2795 : BitVec 32 := Scalar.select v2794 c1_i32_2154 c32_i32_2152
  let v2796 : BitVec 32 := Scalar.remsi v2793 v2795
  let c0_i32_2156 : BitVec 32 := 0#32
  let v2798 : BitVec 1 := Scalar.cmpi .slt v2796 c0_i32_2156
  let c0_i32_2157 : BitVec 32 := 0#32
  let v2799 : BitVec 1 := Scalar.cmpi .slt v2795 c0_i32_2157
  let v2800 : BitVec 1 := Scalar.xori v2798 v2799
  let c0_i32_2155 : BitVec 32 := 0#32
  let v2797 : BitVec 1 := Scalar.cmpi .ne v2796 c0_i32_2155
  let v2801 : BitVec 1 := Scalar.andi v2800 v2797
  let v2802 : BitVec 32 := Scalar.addi v2796 v2795
  let v2803 : BitVec 32 := Scalar.select v2801 v2802 v2796
  let c1_i32_2162 : BitVec 32 := 1#32
  let v2805 : BitVec 32 := Scalar.muli v2803 c1_i32_2162
  let v2806 : BitVec 32 := Scalar.addi c0_i32_2163 v2805
  v2806.toNat
def k0_dev96 (d0 : Dev nD) : Nat :=
  let c0_i32_2179 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_2167 : BitVec 32 := 3#32
  let v2814 : BitVec 32 := Scalar.addi v2 c3_i32_2167
  let c32_i32_2168 : BitVec 32 := 32#32
  let c0_i32_2169 : BitVec 32 := 0#32
  let v2815 : BitVec 1 := Scalar.cmpi .eq c32_i32_2168 c0_i32_2169
  let c1_i32_2170 : BitVec 32 := 1#32
  let v2816 : BitVec 32 := Scalar.select v2815 c1_i32_2170 c32_i32_2168
  let v2817 : BitVec 32 := Scalar.remsi v2814 v2816
  let c0_i32_2172 : BitVec 32 := 0#32
  let v2819 : BitVec 1 := Scalar.cmpi .slt v2817 c0_i32_2172
  let c0_i32_2173 : BitVec 32 := 0#32
  let v2820 : BitVec 1 := Scalar.cmpi .slt v2816 c0_i32_2173
  let v2821 : BitVec 1 := Scalar.xori v2819 v2820
  let c0_i32_2171 : BitVec 32 := 0#32
  let v2818 : BitVec 1 := Scalar.cmpi .ne v2817 c0_i32_2171
  let v2822 : BitVec 1 := Scalar.andi v2821 v2818
  let v2823 : BitVec 32 := Scalar.addi v2817 v2816
  let v2824 : BitVec 32 := Scalar.select v2822 v2823 v2817
  let c1_i32_2178 : BitVec 32 := 1#32
  let v2826 : BitVec 32 := Scalar.muli v2824 c1_i32_2178
  let v2827 : BitVec 32 := Scalar.addi c0_i32_2179 v2826
  v2827.toNat
def k0_dev97 (d0 : Dev nD) : Nat :=
  let c0_i32_2195 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32_2183 : BitVec 32 := 4#32
  let v2835 : BitVec 32 := Scalar.addi v2 c4_i32_2183
  let c32_i32_2184 : BitVec 32 := 32#32
  let c0_i32_2185 : BitVec 32 := 0#32
  let v2836 : BitVec 1 := Scalar.cmpi .eq c32_i32_2184 c0_i32_2185
  let c1_i32_2186 : BitVec 32 := 1#32
  let v2837 : BitVec 32 := Scalar.select v2836 c1_i32_2186 c32_i32_2184
  let v2838 : BitVec 32 := Scalar.remsi v2835 v2837
  let c0_i32_2188 : BitVec 32 := 0#32
  let v2840 : BitVec 1 := Scalar.cmpi .slt v2838 c0_i32_2188
  let c0_i32_2189 : BitVec 32 := 0#32
  let v2841 : BitVec 1 := Scalar.cmpi .slt v2837 c0_i32_2189
  let v2842 : BitVec 1 := Scalar.xori v2840 v2841
  let c0_i32_2187 : BitVec 32 := 0#32
  let v2839 : BitVec 1 := Scalar.cmpi .ne v2838 c0_i32_2187
  let v2843 : BitVec 1 := Scalar.andi v2842 v2839
  let v2844 : BitVec 32 := Scalar.addi v2838 v2837
  let v2845 : BitVec 32 := Scalar.select v2843 v2844 v2838
  let c1_i32_2194 : BitVec 32 := 1#32
  let v2847 : BitVec 32 := Scalar.muli v2845 c1_i32_2194
  let v2848 : BitVec 32 := Scalar.addi c0_i32_2195 v2847
  v2848.toNat
def k0_dev98 (d0 : Dev nD) : Nat :=
  let c0_i32_2211 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c5_i32_2199 : BitVec 32 := 5#32
  let v2856 : BitVec 32 := Scalar.addi v2 c5_i32_2199
  let c32_i32_2200 : BitVec 32 := 32#32
  let c0_i32_2201 : BitVec 32 := 0#32
  let v2857 : BitVec 1 := Scalar.cmpi .eq c32_i32_2200 c0_i32_2201
  let c1_i32_2202 : BitVec 32 := 1#32
  let v2858 : BitVec 32 := Scalar.select v2857 c1_i32_2202 c32_i32_2200
  let v2859 : BitVec 32 := Scalar.remsi v2856 v2858
  let c0_i32_2204 : BitVec 32 := 0#32
  let v2861 : BitVec 1 := Scalar.cmpi .slt v2859 c0_i32_2204
  let c0_i32_2205 : BitVec 32 := 0#32
  let v2862 : BitVec 1 := Scalar.cmpi .slt v2858 c0_i32_2205
  let v2863 : BitVec 1 := Scalar.xori v2861 v2862
  let c0_i32_2203 : BitVec 32 := 0#32
  let v2860 : BitVec 1 := Scalar.cmpi .ne v2859 c0_i32_2203
  let v2864 : BitVec 1 := Scalar.andi v2863 v2860
  let v2865 : BitVec 32 := Scalar.addi v2859 v2858
  let v2866 : BitVec 32 := Scalar.select v2864 v2865 v2859
  let c1_i32_2210 : BitVec 32 := 1#32
  let v2868 : BitVec 32 := Scalar.muli v2866 c1_i32_2210
  let v2869 : BitVec 32 := Scalar.addi c0_i32_2211 v2868
  v2869.toNat
def k0_dev99 (d0 : Dev nD) : Nat :=
  let c0_i32_2227 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c6_i32_2215 : BitVec 32 := 6#32
  let v2877 : BitVec 32 := Scalar.addi v2 c6_i32_2215
  let c32_i32_2216 : BitVec 32 := 32#32
  let c0_i32_2217 : BitVec 32 := 0#32
  let v2878 : BitVec 1 := Scalar.cmpi .eq c32_i32_2216 c0_i32_2217
  let c1_i32_2218 : BitVec 32 := 1#32
  let v2879 : BitVec 32 := Scalar.select v2878 c1_i32_2218 c32_i32_2216
  let v2880 : BitVec 32 := Scalar.remsi v2877 v2879
  let c0_i32_2220 : BitVec 32 := 0#32
  let v2882 : BitVec 1 := Scalar.cmpi .slt v2880 c0_i32_2220
  let c0_i32_2221 : BitVec 32 := 0#32
  let v2883 : BitVec 1 := Scalar.cmpi .slt v2879 c0_i32_2221
  let v2884 : BitVec 1 := Scalar.xori v2882 v2883
  let c0_i32_2219 : BitVec 32 := 0#32
  let v2881 : BitVec 1 := Scalar.cmpi .ne v2880 c0_i32_2219
  let v2885 : BitVec 1 := Scalar.andi v2884 v2881
  let v2886 : BitVec 32 := Scalar.addi v2880 v2879
  let v2887 : BitVec 32 := Scalar.select v2885 v2886 v2880
  let c1_i32_2226 : BitVec 32 := 1#32
  let v2889 : BitVec 32 := Scalar.muli v2887 c1_i32_2226
  let v2890 : BitVec 32 := Scalar.addi c0_i32_2227 v2889
  v2890.toNat
def k0_dev100 (d0 : Dev nD) : Nat :=
  let c0_i32_2243 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32_2231 : BitVec 32 := 7#32
  let v2898 : BitVec 32 := Scalar.addi v2 c7_i32_2231
  let c32_i32_2232 : BitVec 32 := 32#32
  let c0_i32_2233 : BitVec 32 := 0#32
  let v2899 : BitVec 1 := Scalar.cmpi .eq c32_i32_2232 c0_i32_2233
  let c1_i32_2234 : BitVec 32 := 1#32
  let v2900 : BitVec 32 := Scalar.select v2899 c1_i32_2234 c32_i32_2232
  let v2901 : BitVec 32 := Scalar.remsi v2898 v2900
  let c0_i32_2236 : BitVec 32 := 0#32
  let v2903 : BitVec 1 := Scalar.cmpi .slt v2901 c0_i32_2236
  let c0_i32_2237 : BitVec 32 := 0#32
  let v2904 : BitVec 1 := Scalar.cmpi .slt v2900 c0_i32_2237
  let v2905 : BitVec 1 := Scalar.xori v2903 v2904
  let c0_i32_2235 : BitVec 32 := 0#32
  let v2902 : BitVec 1 := Scalar.cmpi .ne v2901 c0_i32_2235
  let v2906 : BitVec 1 := Scalar.andi v2905 v2902
  let v2907 : BitVec 32 := Scalar.addi v2901 v2900
  let v2908 : BitVec 32 := Scalar.select v2906 v2907 v2901
  let c1_i32_2242 : BitVec 32 := 1#32
  let v2910 : BitVec 32 := Scalar.muli v2908 c1_i32_2242
  let v2911 : BitVec 32 := Scalar.addi c0_i32_2243 v2910
  v2911.toNat
def k0_dev101 (d0 : Dev nD) : Nat :=
  let c0_i32_2259 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_2247 : BitVec 32 := 8#32
  let v2919 : BitVec 32 := Scalar.addi v2 c8_i32_2247
  let c32_i32_2248 : BitVec 32 := 32#32
  let c0_i32_2249 : BitVec 32 := 0#32
  let v2920 : BitVec 1 := Scalar.cmpi .eq c32_i32_2248 c0_i32_2249
  let c1_i32_2250 : BitVec 32 := 1#32
  let v2921 : BitVec 32 := Scalar.select v2920 c1_i32_2250 c32_i32_2248
  let v2922 : BitVec 32 := Scalar.remsi v2919 v2921
  let c0_i32_2252 : BitVec 32 := 0#32
  let v2924 : BitVec 1 := Scalar.cmpi .slt v2922 c0_i32_2252
  let c0_i32_2253 : BitVec 32 := 0#32
  let v2925 : BitVec 1 := Scalar.cmpi .slt v2921 c0_i32_2253
  let v2926 : BitVec 1 := Scalar.xori v2924 v2925
  let c0_i32_2251 : BitVec 32 := 0#32
  let v2923 : BitVec 1 := Scalar.cmpi .ne v2922 c0_i32_2251
  let v2927 : BitVec 1 := Scalar.andi v2926 v2923
  let v2928 : BitVec 32 := Scalar.addi v2922 v2921
  let v2929 : BitVec 32 := Scalar.select v2927 v2928 v2922
  let c1_i32_2258 : BitVec 32 := 1#32
  let v2931 : BitVec 32 := Scalar.muli v2929 c1_i32_2258
  let v2932 : BitVec 32 := Scalar.addi c0_i32_2259 v2931
  v2932.toNat
def k0_dev102 (d0 : Dev nD) : Nat :=
  let c0_i32_2275 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c9_i32_2263 : BitVec 32 := 9#32
  let v2940 : BitVec 32 := Scalar.addi v2 c9_i32_2263
  let c32_i32_2264 : BitVec 32 := 32#32
  let c0_i32_2265 : BitVec 32 := 0#32
  let v2941 : BitVec 1 := Scalar.cmpi .eq c32_i32_2264 c0_i32_2265
  let c1_i32_2266 : BitVec 32 := 1#32
  let v2942 : BitVec 32 := Scalar.select v2941 c1_i32_2266 c32_i32_2264
  let v2943 : BitVec 32 := Scalar.remsi v2940 v2942
  let c0_i32_2268 : BitVec 32 := 0#32
  let v2945 : BitVec 1 := Scalar.cmpi .slt v2943 c0_i32_2268
  let c0_i32_2269 : BitVec 32 := 0#32
  let v2946 : BitVec 1 := Scalar.cmpi .slt v2942 c0_i32_2269
  let v2947 : BitVec 1 := Scalar.xori v2945 v2946
  let c0_i32_2267 : BitVec 32 := 0#32
  let v2944 : BitVec 1 := Scalar.cmpi .ne v2943 c0_i32_2267
  let v2948 : BitVec 1 := Scalar.andi v2947 v2944
  let v2949 : BitVec 32 := Scalar.addi v2943 v2942
  let v2950 : BitVec 32 := Scalar.select v2948 v2949 v2943
  let c1_i32_2274 : BitVec 32 := 1#32
  let v2952 : BitVec 32 := Scalar.muli v2950 c1_i32_2274
  let v2953 : BitVec 32 := Scalar.addi c0_i32_2275 v2952
  v2953.toNat
def k0_dev103 (d0 : Dev nD) : Nat :=
  let c0_i32_2291 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c10_i32_2279 : BitVec 32 := 10#32
  let v2961 : BitVec 32 := Scalar.addi v2 c10_i32_2279
  let c32_i32_2280 : BitVec 32 := 32#32
  let c0_i32_2281 : BitVec 32 := 0#32
  let v2962 : BitVec 1 := Scalar.cmpi .eq c32_i32_2280 c0_i32_2281
  let c1_i32_2282 : BitVec 32 := 1#32
  let v2963 : BitVec 32 := Scalar.select v2962 c1_i32_2282 c32_i32_2280
  let v2964 : BitVec 32 := Scalar.remsi v2961 v2963
  let c0_i32_2284 : BitVec 32 := 0#32
  let v2966 : BitVec 1 := Scalar.cmpi .slt v2964 c0_i32_2284
  let c0_i32_2285 : BitVec 32 := 0#32
  let v2967 : BitVec 1 := Scalar.cmpi .slt v2963 c0_i32_2285
  let v2968 : BitVec 1 := Scalar.xori v2966 v2967
  let c0_i32_2283 : BitVec 32 := 0#32
  let v2965 : BitVec 1 := Scalar.cmpi .ne v2964 c0_i32_2283
  let v2969 : BitVec 1 := Scalar.andi v2968 v2965
  let v2970 : BitVec 32 := Scalar.addi v2964 v2963
  let v2971 : BitVec 32 := Scalar.select v2969 v2970 v2964
  let c1_i32_2290 : BitVec 32 := 1#32
  let v2973 : BitVec 32 := Scalar.muli v2971 c1_i32_2290
  let v2974 : BitVec 32 := Scalar.addi c0_i32_2291 v2973
  v2974.toNat
def k0_dev104 (d0 : Dev nD) : Nat :=
  let c0_i32_2307 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c11_i32_2295 : BitVec 32 := 11#32
  let v2982 : BitVec 32 := Scalar.addi v2 c11_i32_2295
  let c32_i32_2296 : BitVec 32 := 32#32
  let c0_i32_2297 : BitVec 32 := 0#32
  let v2983 : BitVec 1 := Scalar.cmpi .eq c32_i32_2296 c0_i32_2297
  let c1_i32_2298 : BitVec 32 := 1#32
  let v2984 : BitVec 32 := Scalar.select v2983 c1_i32_2298 c32_i32_2296
  let v2985 : BitVec 32 := Scalar.remsi v2982 v2984
  let c0_i32_2300 : BitVec 32 := 0#32
  let v2987 : BitVec 1 := Scalar.cmpi .slt v2985 c0_i32_2300
  let c0_i32_2301 : BitVec 32 := 0#32
  let v2988 : BitVec 1 := Scalar.cmpi .slt v2984 c0_i32_2301
  let v2989 : BitVec 1 := Scalar.xori v2987 v2988
  let c0_i32_2299 : BitVec 32 := 0#32
  let v2986 : BitVec 1 := Scalar.cmpi .ne v2985 c0_i32_2299
  let v2990 : BitVec 1 := Scalar.andi v2989 v2986
  let v2991 : BitVec 32 := Scalar.addi v2985 v2984
  let v2992 : BitVec 32 := Scalar.select v2990 v2991 v2985
  let c1_i32_2306 : BitVec 32 := 1#32
  let v2994 : BitVec 32 := Scalar.muli v2992 c1_i32_2306
  let v2995 : BitVec 32 := Scalar.addi c0_i32_2307 v2994
  v2995.toNat
def k0_dev105 (d0 : Dev nD) : Nat :=
  let c0_i32_2323 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c12_i32_2311 : BitVec 32 := 12#32
  let v3003 : BitVec 32 := Scalar.addi v2 c12_i32_2311
  let c32_i32_2312 : BitVec 32 := 32#32
  let c0_i32_2313 : BitVec 32 := 0#32
  let v3004 : BitVec 1 := Scalar.cmpi .eq c32_i32_2312 c0_i32_2313
  let c1_i32_2314 : BitVec 32 := 1#32
  let v3005 : BitVec 32 := Scalar.select v3004 c1_i32_2314 c32_i32_2312
  let v3006 : BitVec 32 := Scalar.remsi v3003 v3005
  let c0_i32_2316 : BitVec 32 := 0#32
  let v3008 : BitVec 1 := Scalar.cmpi .slt v3006 c0_i32_2316
  let c0_i32_2317 : BitVec 32 := 0#32
  let v3009 : BitVec 1 := Scalar.cmpi .slt v3005 c0_i32_2317
  let v3010 : BitVec 1 := Scalar.xori v3008 v3009
  let c0_i32_2315 : BitVec 32 := 0#32
  let v3007 : BitVec 1 := Scalar.cmpi .ne v3006 c0_i32_2315
  let v3011 : BitVec 1 := Scalar.andi v3010 v3007
  let v3012 : BitVec 32 := Scalar.addi v3006 v3005
  let v3013 : BitVec 32 := Scalar.select v3011 v3012 v3006
  let c1_i32_2322 : BitVec 32 := 1#32
  let v3015 : BitVec 32 := Scalar.muli v3013 c1_i32_2322
  let v3016 : BitVec 32 := Scalar.addi c0_i32_2323 v3015
  v3016.toNat
def k0_dev106 (d0 : Dev nD) : Nat :=
  let c0_i32_2339 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c13_i32_2327 : BitVec 32 := 13#32
  let v3024 : BitVec 32 := Scalar.addi v2 c13_i32_2327
  let c32_i32_2328 : BitVec 32 := 32#32
  let c0_i32_2329 : BitVec 32 := 0#32
  let v3025 : BitVec 1 := Scalar.cmpi .eq c32_i32_2328 c0_i32_2329
  let c1_i32_2330 : BitVec 32 := 1#32
  let v3026 : BitVec 32 := Scalar.select v3025 c1_i32_2330 c32_i32_2328
  let v3027 : BitVec 32 := Scalar.remsi v3024 v3026
  let c0_i32_2332 : BitVec 32 := 0#32
  let v3029 : BitVec 1 := Scalar.cmpi .slt v3027 c0_i32_2332
  let c0_i32_2333 : BitVec 32 := 0#32
  let v3030 : BitVec 1 := Scalar.cmpi .slt v3026 c0_i32_2333
  let v3031 : BitVec 1 := Scalar.xori v3029 v3030
  let c0_i32_2331 : BitVec 32 := 0#32
  let v3028 : BitVec 1 := Scalar.cmpi .ne v3027 c0_i32_2331
  let v3032 : BitVec 1 := Scalar.andi v3031 v3028
  let v3033 : BitVec 32 := Scalar.addi v3027 v3026
  let v3034 : BitVec 32 := Scalar.select v3032 v3033 v3027
  let c1_i32_2338 : BitVec 32 := 1#32
  let v3036 : BitVec 32 := Scalar.muli v3034 c1_i32_2338
  let v3037 : BitVec 32 := Scalar.addi c0_i32_2339 v3036
  v3037.toNat
def k0_dev107 (d0 : Dev nD) : Nat :=
  let c0_i32_2355 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c14_i32_2343 : BitVec 32 := 14#32
  let v3045 : BitVec 32 := Scalar.addi v2 c14_i32_2343
  let c32_i32_2344 : BitVec 32 := 32#32
  let c0_i32_2345 : BitVec 32 := 0#32
  let v3046 : BitVec 1 := Scalar.cmpi .eq c32_i32_2344 c0_i32_2345
  let c1_i32_2346 : BitVec 32 := 1#32
  let v3047 : BitVec 32 := Scalar.select v3046 c1_i32_2346 c32_i32_2344
  let v3048 : BitVec 32 := Scalar.remsi v3045 v3047
  let c0_i32_2348 : BitVec 32 := 0#32
  let v3050 : BitVec 1 := Scalar.cmpi .slt v3048 c0_i32_2348
  let c0_i32_2349 : BitVec 32 := 0#32
  let v3051 : BitVec 1 := Scalar.cmpi .slt v3047 c0_i32_2349
  let v3052 : BitVec 1 := Scalar.xori v3050 v3051
  let c0_i32_2347 : BitVec 32 := 0#32
  let v3049 : BitVec 1 := Scalar.cmpi .ne v3048 c0_i32_2347
  let v3053 : BitVec 1 := Scalar.andi v3052 v3049
  let v3054 : BitVec 32 := Scalar.addi v3048 v3047
  let v3055 : BitVec 32 := Scalar.select v3053 v3054 v3048
  let c1_i32_2354 : BitVec 32 := 1#32
  let v3057 : BitVec 32 := Scalar.muli v3055 c1_i32_2354
  let v3058 : BitVec 32 := Scalar.addi c0_i32_2355 v3057
  v3058.toNat
def k0_dev108 (d0 : Dev nD) : Nat :=
  let c0_i32_2371 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c15_i32_2359 : BitVec 32 := 15#32
  let v3066 : BitVec 32 := Scalar.addi v2 c15_i32_2359
  let c32_i32_2360 : BitVec 32 := 32#32
  let c0_i32_2361 : BitVec 32 := 0#32
  let v3067 : BitVec 1 := Scalar.cmpi .eq c32_i32_2360 c0_i32_2361
  let c1_i32_2362 : BitVec 32 := 1#32
  let v3068 : BitVec 32 := Scalar.select v3067 c1_i32_2362 c32_i32_2360
  let v3069 : BitVec 32 := Scalar.remsi v3066 v3068
  let c0_i32_2364 : BitVec 32 := 0#32
  let v3071 : BitVec 1 := Scalar.cmpi .slt v3069 c0_i32_2364
  let c0_i32_2365 : BitVec 32 := 0#32
  let v3072 : BitVec 1 := Scalar.cmpi .slt v3068 c0_i32_2365
  let v3073 : BitVec 1 := Scalar.xori v3071 v3072
  let c0_i32_2363 : BitVec 32 := 0#32
  let v3070 : BitVec 1 := Scalar.cmpi .ne v3069 c0_i32_2363
  let v3074 : BitVec 1 := Scalar.andi v3073 v3070
  let v3075 : BitVec 32 := Scalar.addi v3069 v3068
  let v3076 : BitVec 32 := Scalar.select v3074 v3075 v3069
  let c1_i32_2370 : BitVec 32 := 1#32
  let v3078 : BitVec 32 := Scalar.muli v3076 c1_i32_2370
  let v3079 : BitVec 32 := Scalar.addi c0_i32_2371 v3078
  v3079.toNat
def k0_dev109 (d0 : Dev nD) : Nat :=
  let c0_i32_2387 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_2375 : BitVec 32 := 16#32
  let v3087 : BitVec 32 := Scalar.addi v2 c16_i32_2375
  let c32_i32_2376 : BitVec 32 := 32#32
  let c0_i32_2377 : BitVec 32 := 0#32
  let v3088 : BitVec 1 := Scalar.cmpi .eq c32_i32_2376 c0_i32_2377
  let c1_i32_2378 : BitVec 32 := 1#32
  let v3089 : BitVec 32 := Scalar.select v3088 c1_i32_2378 c32_i32_2376
  let v3090 : BitVec 32 := Scalar.remsi v3087 v3089
  let c0_i32_2380 : BitVec 32 := 0#32
  let v3092 : BitVec 1 := Scalar.cmpi .slt v3090 c0_i32_2380
  let c0_i32_2381 : BitVec 32 := 0#32
  let v3093 : BitVec 1 := Scalar.cmpi .slt v3089 c0_i32_2381
  let v3094 : BitVec 1 := Scalar.xori v3092 v3093
  let c0_i32_2379 : BitVec 32 := 0#32
  let v3091 : BitVec 1 := Scalar.cmpi .ne v3090 c0_i32_2379
  let v3095 : BitVec 1 := Scalar.andi v3094 v3091
  let v3096 : BitVec 32 := Scalar.addi v3090 v3089
  let v3097 : BitVec 32 := Scalar.select v3095 v3096 v3090
  let c1_i32_2386 : BitVec 32 := 1#32
  let v3099 : BitVec 32 := Scalar.muli v3097 c1_i32_2386
  let v3100 : BitVec 32 := Scalar.addi c0_i32_2387 v3099
  v3100.toNat
def k0_dev110 (d0 : Dev nD) : Nat :=
  let c0_i32_2403 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c17_i32_2391 : BitVec 32 := 17#32
  let v3108 : BitVec 32 := Scalar.addi v2 c17_i32_2391
  let c32_i32_2392 : BitVec 32 := 32#32
  let c0_i32_2393 : BitVec 32 := 0#32
  let v3109 : BitVec 1 := Scalar.cmpi .eq c32_i32_2392 c0_i32_2393
  let c1_i32_2394 : BitVec 32 := 1#32
  let v3110 : BitVec 32 := Scalar.select v3109 c1_i32_2394 c32_i32_2392
  let v3111 : BitVec 32 := Scalar.remsi v3108 v3110
  let c0_i32_2396 : BitVec 32 := 0#32
  let v3113 : BitVec 1 := Scalar.cmpi .slt v3111 c0_i32_2396
  let c0_i32_2397 : BitVec 32 := 0#32
  let v3114 : BitVec 1 := Scalar.cmpi .slt v3110 c0_i32_2397
  let v3115 : BitVec 1 := Scalar.xori v3113 v3114
  let c0_i32_2395 : BitVec 32 := 0#32
  let v3112 : BitVec 1 := Scalar.cmpi .ne v3111 c0_i32_2395
  let v3116 : BitVec 1 := Scalar.andi v3115 v3112
  let v3117 : BitVec 32 := Scalar.addi v3111 v3110
  let v3118 : BitVec 32 := Scalar.select v3116 v3117 v3111
  let c1_i32_2402 : BitVec 32 := 1#32
  let v3120 : BitVec 32 := Scalar.muli v3118 c1_i32_2402
  let v3121 : BitVec 32 := Scalar.addi c0_i32_2403 v3120
  v3121.toNat
def k0_dev111 (d0 : Dev nD) : Nat :=
  let c0_i32_2419 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c18_i32_2407 : BitVec 32 := 18#32
  let v3129 : BitVec 32 := Scalar.addi v2 c18_i32_2407
  let c32_i32_2408 : BitVec 32 := 32#32
  let c0_i32_2409 : BitVec 32 := 0#32
  let v3130 : BitVec 1 := Scalar.cmpi .eq c32_i32_2408 c0_i32_2409
  let c1_i32_2410 : BitVec 32 := 1#32
  let v3131 : BitVec 32 := Scalar.select v3130 c1_i32_2410 c32_i32_2408
  let v3132 : BitVec 32 := Scalar.remsi v3129 v3131
  let c0_i32_2412 : BitVec 32 := 0#32
  let v3134 : BitVec 1 := Scalar.cmpi .slt v3132 c0_i32_2412
  let c0_i32_2413 : BitVec 32 := 0#32
  let v3135 : BitVec 1 := Scalar.cmpi .slt v3131 c0_i32_2413
  let v3136 : BitVec 1 := Scalar.xori v3134 v3135
  let c0_i32_2411 : BitVec 32 := 0#32
  let v3133 : BitVec 1 := Scalar.cmpi .ne v3132 c0_i32_2411
  let v3137 : BitVec 1 := Scalar.andi v3136 v3133
  let v3138 : BitVec 32 := Scalar.addi v3132 v3131
  let v3139 : BitVec 32 := Scalar.select v3137 v3138 v3132
  let c1_i32_2418 : BitVec 32 := 1#32
  let v3141 : BitVec 32 := Scalar.muli v3139 c1_i32_2418
  let v3142 : BitVec 32 := Scalar.addi c0_i32_2419 v3141
  v3142.toNat
def k0_dev112 (d0 : Dev nD) : Nat :=
  let c0_i32_2435 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c19_i32_2423 : BitVec 32 := 19#32
  let v3150 : BitVec 32 := Scalar.addi v2 c19_i32_2423
  let c32_i32_2424 : BitVec 32 := 32#32
  let c0_i32_2425 : BitVec 32 := 0#32
  let v3151 : BitVec 1 := Scalar.cmpi .eq c32_i32_2424 c0_i32_2425
  let c1_i32_2426 : BitVec 32 := 1#32
  let v3152 : BitVec 32 := Scalar.select v3151 c1_i32_2426 c32_i32_2424
  let v3153 : BitVec 32 := Scalar.remsi v3150 v3152
  let c0_i32_2428 : BitVec 32 := 0#32
  let v3155 : BitVec 1 := Scalar.cmpi .slt v3153 c0_i32_2428
  let c0_i32_2429 : BitVec 32 := 0#32
  let v3156 : BitVec 1 := Scalar.cmpi .slt v3152 c0_i32_2429
  let v3157 : BitVec 1 := Scalar.xori v3155 v3156
  let c0_i32_2427 : BitVec 32 := 0#32
  let v3154 : BitVec 1 := Scalar.cmpi .ne v3153 c0_i32_2427
  let v3158 : BitVec 1 := Scalar.andi v3157 v3154
  let v3159 : BitVec 32 := Scalar.addi v3153 v3152
  let v3160 : BitVec 32 := Scalar.select v3158 v3159 v3153
  let c1_i32_2434 : BitVec 32 := 1#32
  let v3162 : BitVec 32 := Scalar.muli v3160 c1_i32_2434
  let v3163 : BitVec 32 := Scalar.addi c0_i32_2435 v3162
  v3163.toNat
def k0_dev113 (d0 : Dev nD) : Nat :=
  let c0_i32_2451 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c20_i32_2439 : BitVec 32 := 20#32
  let v3171 : BitVec 32 := Scalar.addi v2 c20_i32_2439
  let c32_i32_2440 : BitVec 32 := 32#32
  let c0_i32_2441 : BitVec 32 := 0#32
  let v3172 : BitVec 1 := Scalar.cmpi .eq c32_i32_2440 c0_i32_2441
  let c1_i32_2442 : BitVec 32 := 1#32
  let v3173 : BitVec 32 := Scalar.select v3172 c1_i32_2442 c32_i32_2440
  let v3174 : BitVec 32 := Scalar.remsi v3171 v3173
  let c0_i32_2444 : BitVec 32 := 0#32
  let v3176 : BitVec 1 := Scalar.cmpi .slt v3174 c0_i32_2444
  let c0_i32_2445 : BitVec 32 := 0#32
  let v3177 : BitVec 1 := Scalar.cmpi .slt v3173 c0_i32_2445
  let v3178 : BitVec 1 := Scalar.xori v3176 v3177
  let c0_i32_2443 : BitVec 32 := 0#32
  let v3175 : BitVec 1 := Scalar.cmpi .ne v3174 c0_i32_2443
  let v3179 : BitVec 1 := Scalar.andi v3178 v3175
  let v3180 : BitVec 32 := Scalar.addi v3174 v3173
  let v3181 : BitVec 32 := Scalar.select v3179 v3180 v3174
  let c1_i32_2450 : BitVec 32 := 1#32
  let v3183 : BitVec 32 := Scalar.muli v3181 c1_i32_2450
  let v3184 : BitVec 32 := Scalar.addi c0_i32_2451 v3183
  v3184.toNat
def k0_dev114 (d0 : Dev nD) : Nat :=
  let c0_i32_2467 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c21_i32_2455 : BitVec 32 := 21#32
  let v3192 : BitVec 32 := Scalar.addi v2 c21_i32_2455
  let c32_i32_2456 : BitVec 32 := 32#32
  let c0_i32_2457 : BitVec 32 := 0#32
  let v3193 : BitVec 1 := Scalar.cmpi .eq c32_i32_2456 c0_i32_2457
  let c1_i32_2458 : BitVec 32 := 1#32
  let v3194 : BitVec 32 := Scalar.select v3193 c1_i32_2458 c32_i32_2456
  let v3195 : BitVec 32 := Scalar.remsi v3192 v3194
  let c0_i32_2460 : BitVec 32 := 0#32
  let v3197 : BitVec 1 := Scalar.cmpi .slt v3195 c0_i32_2460
  let c0_i32_2461 : BitVec 32 := 0#32
  let v3198 : BitVec 1 := Scalar.cmpi .slt v3194 c0_i32_2461
  let v3199 : BitVec 1 := Scalar.xori v3197 v3198
  let c0_i32_2459 : BitVec 32 := 0#32
  let v3196 : BitVec 1 := Scalar.cmpi .ne v3195 c0_i32_2459
  let v3200 : BitVec 1 := Scalar.andi v3199 v3196
  let v3201 : BitVec 32 := Scalar.addi v3195 v3194
  let v3202 : BitVec 32 := Scalar.select v3200 v3201 v3195
  let c1_i32_2466 : BitVec 32 := 1#32
  let v3204 : BitVec 32 := Scalar.muli v3202 c1_i32_2466
  let v3205 : BitVec 32 := Scalar.addi c0_i32_2467 v3204
  v3205.toNat
def k0_dev115 (d0 : Dev nD) : Nat :=
  let c0_i32_2483 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c22_i32_2471 : BitVec 32 := 22#32
  let v3213 : BitVec 32 := Scalar.addi v2 c22_i32_2471
  let c32_i32_2472 : BitVec 32 := 32#32
  let c0_i32_2473 : BitVec 32 := 0#32
  let v3214 : BitVec 1 := Scalar.cmpi .eq c32_i32_2472 c0_i32_2473
  let c1_i32_2474 : BitVec 32 := 1#32
  let v3215 : BitVec 32 := Scalar.select v3214 c1_i32_2474 c32_i32_2472
  let v3216 : BitVec 32 := Scalar.remsi v3213 v3215
  let c0_i32_2476 : BitVec 32 := 0#32
  let v3218 : BitVec 1 := Scalar.cmpi .slt v3216 c0_i32_2476
  let c0_i32_2477 : BitVec 32 := 0#32
  let v3219 : BitVec 1 := Scalar.cmpi .slt v3215 c0_i32_2477
  let v3220 : BitVec 1 := Scalar.xori v3218 v3219
  let c0_i32_2475 : BitVec 32 := 0#32
  let v3217 : BitVec 1 := Scalar.cmpi .ne v3216 c0_i32_2475
  let v3221 : BitVec 1 := Scalar.andi v3220 v3217
  let v3222 : BitVec 32 := Scalar.addi v3216 v3215
  let v3223 : BitVec 32 := Scalar.select v3221 v3222 v3216
  let c1_i32_2482 : BitVec 32 := 1#32
  let v3225 : BitVec 32 := Scalar.muli v3223 c1_i32_2482
  let v3226 : BitVec 32 := Scalar.addi c0_i32_2483 v3225
  v3226.toNat
def k0_dev116 (d0 : Dev nD) : Nat :=
  let c0_i32_2499 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c23_i32_2487 : BitVec 32 := 23#32
  let v3234 : BitVec 32 := Scalar.addi v2 c23_i32_2487
  let c32_i32_2488 : BitVec 32 := 32#32
  let c0_i32_2489 : BitVec 32 := 0#32
  let v3235 : BitVec 1 := Scalar.cmpi .eq c32_i32_2488 c0_i32_2489
  let c1_i32_2490 : BitVec 32 := 1#32
  let v3236 : BitVec 32 := Scalar.select v3235 c1_i32_2490 c32_i32_2488
  let v3237 : BitVec 32 := Scalar.remsi v3234 v3236
  let c0_i32_2492 : BitVec 32 := 0#32
  let v3239 : BitVec 1 := Scalar.cmpi .slt v3237 c0_i32_2492
  let c0_i32_2493 : BitVec 32 := 0#32
  let v3240 : BitVec 1 := Scalar.cmpi .slt v3236 c0_i32_2493
  let v3241 : BitVec 1 := Scalar.xori v3239 v3240
  let c0_i32_2491 : BitVec 32 := 0#32
  let v3238 : BitVec 1 := Scalar.cmpi .ne v3237 c0_i32_2491
  let v3242 : BitVec 1 := Scalar.andi v3241 v3238
  let v3243 : BitVec 32 := Scalar.addi v3237 v3236
  let v3244 : BitVec 32 := Scalar.select v3242 v3243 v3237
  let c1_i32_2498 : BitVec 32 := 1#32
  let v3246 : BitVec 32 := Scalar.muli v3244 c1_i32_2498
  let v3247 : BitVec 32 := Scalar.addi c0_i32_2499 v3246
  v3247.toNat
def k0_dev117 (d0 : Dev nD) : Nat :=
  let c0_i32_2515 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c24_i32_2503 : BitVec 32 := 24#32
  let v3255 : BitVec 32 := Scalar.addi v2 c24_i32_2503
  let c32_i32_2504 : BitVec 32 := 32#32
  let c0_i32_2505 : BitVec 32 := 0#32
  let v3256 : BitVec 1 := Scalar.cmpi .eq c32_i32_2504 c0_i32_2505
  let c1_i32_2506 : BitVec 32 := 1#32
  let v3257 : BitVec 32 := Scalar.select v3256 c1_i32_2506 c32_i32_2504
  let v3258 : BitVec 32 := Scalar.remsi v3255 v3257
  let c0_i32_2508 : BitVec 32 := 0#32
  let v3260 : BitVec 1 := Scalar.cmpi .slt v3258 c0_i32_2508
  let c0_i32_2509 : BitVec 32 := 0#32
  let v3261 : BitVec 1 := Scalar.cmpi .slt v3257 c0_i32_2509
  let v3262 : BitVec 1 := Scalar.xori v3260 v3261
  let c0_i32_2507 : BitVec 32 := 0#32
  let v3259 : BitVec 1 := Scalar.cmpi .ne v3258 c0_i32_2507
  let v3263 : BitVec 1 := Scalar.andi v3262 v3259
  let v3264 : BitVec 32 := Scalar.addi v3258 v3257
  let v3265 : BitVec 32 := Scalar.select v3263 v3264 v3258
  let c1_i32_2514 : BitVec 32 := 1#32
  let v3267 : BitVec 32 := Scalar.muli v3265 c1_i32_2514
  let v3268 : BitVec 32 := Scalar.addi c0_i32_2515 v3267
  v3268.toNat
def k0_dev118 (d0 : Dev nD) : Nat :=
  let c0_i32_2531 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c25_i32_2519 : BitVec 32 := 25#32
  let v3276 : BitVec 32 := Scalar.addi v2 c25_i32_2519
  let c32_i32_2520 : BitVec 32 := 32#32
  let c0_i32_2521 : BitVec 32 := 0#32
  let v3277 : BitVec 1 := Scalar.cmpi .eq c32_i32_2520 c0_i32_2521
  let c1_i32_2522 : BitVec 32 := 1#32
  let v3278 : BitVec 32 := Scalar.select v3277 c1_i32_2522 c32_i32_2520
  let v3279 : BitVec 32 := Scalar.remsi v3276 v3278
  let c0_i32_2524 : BitVec 32 := 0#32
  let v3281 : BitVec 1 := Scalar.cmpi .slt v3279 c0_i32_2524
  let c0_i32_2525 : BitVec 32 := 0#32
  let v3282 : BitVec 1 := Scalar.cmpi .slt v3278 c0_i32_2525
  let v3283 : BitVec 1 := Scalar.xori v3281 v3282
  let c0_i32_2523 : BitVec 32 := 0#32
  let v3280 : BitVec 1 := Scalar.cmpi .ne v3279 c0_i32_2523
  let v3284 : BitVec 1 := Scalar.andi v3283 v3280
  let v3285 : BitVec 32 := Scalar.addi v3279 v3278
  let v3286 : BitVec 32 := Scalar.select v3284 v3285 v3279
  let c1_i32_2530 : BitVec 32 := 1#32
  let v3288 : BitVec 32 := Scalar.muli v3286 c1_i32_2530
  let v3289 : BitVec 32 := Scalar.addi c0_i32_2531 v3288
  v3289.toNat
def k0_dev119 (d0 : Dev nD) : Nat :=
  let c0_i32_2547 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c26_i32_2535 : BitVec 32 := 26#32
  let v3297 : BitVec 32 := Scalar.addi v2 c26_i32_2535
  let c32_i32_2536 : BitVec 32 := 32#32
  let c0_i32_2537 : BitVec 32 := 0#32
  let v3298 : BitVec 1 := Scalar.cmpi .eq c32_i32_2536 c0_i32_2537
  let c1_i32_2538 : BitVec 32 := 1#32
  let v3299 : BitVec 32 := Scalar.select v3298 c1_i32_2538 c32_i32_2536
  let v3300 : BitVec 32 := Scalar.remsi v3297 v3299
  let c0_i32_2540 : BitVec 32 := 0#32
  let v3302 : BitVec 1 := Scalar.cmpi .slt v3300 c0_i32_2540
  let c0_i32_2541 : BitVec 32 := 0#32
  let v3303 : BitVec 1 := Scalar.cmpi .slt v3299 c0_i32_2541
  let v3304 : BitVec 1 := Scalar.xori v3302 v3303
  let c0_i32_2539 : BitVec 32 := 0#32
  let v3301 : BitVec 1 := Scalar.cmpi .ne v3300 c0_i32_2539
  let v3305 : BitVec 1 := Scalar.andi v3304 v3301
  let v3306 : BitVec 32 := Scalar.addi v3300 v3299
  let v3307 : BitVec 32 := Scalar.select v3305 v3306 v3300
  let c1_i32_2546 : BitVec 32 := 1#32
  let v3309 : BitVec 32 := Scalar.muli v3307 c1_i32_2546
  let v3310 : BitVec 32 := Scalar.addi c0_i32_2547 v3309
  v3310.toNat
def k0_dev120 (d0 : Dev nD) : Nat :=
  let c0_i32_2563 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c27_i32_2551 : BitVec 32 := 27#32
  let v3318 : BitVec 32 := Scalar.addi v2 c27_i32_2551
  let c32_i32_2552 : BitVec 32 := 32#32
  let c0_i32_2553 : BitVec 32 := 0#32
  let v3319 : BitVec 1 := Scalar.cmpi .eq c32_i32_2552 c0_i32_2553
  let c1_i32_2554 : BitVec 32 := 1#32
  let v3320 : BitVec 32 := Scalar.select v3319 c1_i32_2554 c32_i32_2552
  let v3321 : BitVec 32 := Scalar.remsi v3318 v3320
  let c0_i32_2556 : BitVec 32 := 0#32
  let v3323 : BitVec 1 := Scalar.cmpi .slt v3321 c0_i32_2556
  let c0_i32_2557 : BitVec 32 := 0#32
  let v3324 : BitVec 1 := Scalar.cmpi .slt v3320 c0_i32_2557
  let v3325 : BitVec 1 := Scalar.xori v3323 v3324
  let c0_i32_2555 : BitVec 32 := 0#32
  let v3322 : BitVec 1 := Scalar.cmpi .ne v3321 c0_i32_2555
  let v3326 : BitVec 1 := Scalar.andi v3325 v3322
  let v3327 : BitVec 32 := Scalar.addi v3321 v3320
  let v3328 : BitVec 32 := Scalar.select v3326 v3327 v3321
  let c1_i32_2562 : BitVec 32 := 1#32
  let v3330 : BitVec 32 := Scalar.muli v3328 c1_i32_2562
  let v3331 : BitVec 32 := Scalar.addi c0_i32_2563 v3330
  v3331.toNat
def k0_dev121 (d0 : Dev nD) : Nat :=
  let c0_i32_2579 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c28_i32_2567 : BitVec 32 := 28#32
  let v3339 : BitVec 32 := Scalar.addi v2 c28_i32_2567
  let c32_i32_2568 : BitVec 32 := 32#32
  let c0_i32_2569 : BitVec 32 := 0#32
  let v3340 : BitVec 1 := Scalar.cmpi .eq c32_i32_2568 c0_i32_2569
  let c1_i32_2570 : BitVec 32 := 1#32
  let v3341 : BitVec 32 := Scalar.select v3340 c1_i32_2570 c32_i32_2568
  let v3342 : BitVec 32 := Scalar.remsi v3339 v3341
  let c0_i32_2572 : BitVec 32 := 0#32
  let v3344 : BitVec 1 := Scalar.cmpi .slt v3342 c0_i32_2572
  let c0_i32_2573 : BitVec 32 := 0#32
  let v3345 : BitVec 1 := Scalar.cmpi .slt v3341 c0_i32_2573
  let v3346 : BitVec 1 := Scalar.xori v3344 v3345
  let c0_i32_2571 : BitVec 32 := 0#32
  let v3343 : BitVec 1 := Scalar.cmpi .ne v3342 c0_i32_2571
  let v3347 : BitVec 1 := Scalar.andi v3346 v3343
  let v3348 : BitVec 32 := Scalar.addi v3342 v3341
  let v3349 : BitVec 32 := Scalar.select v3347 v3348 v3342
  let c1_i32_2578 : BitVec 32 := 1#32
  let v3351 : BitVec 32 := Scalar.muli v3349 c1_i32_2578
  let v3352 : BitVec 32 := Scalar.addi c0_i32_2579 v3351
  v3352.toNat
def k0_dev122 (d0 : Dev nD) : Nat :=
  let c0_i32_2595 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c29_i32_2583 : BitVec 32 := 29#32
  let v3360 : BitVec 32 := Scalar.addi v2 c29_i32_2583
  let c32_i32_2584 : BitVec 32 := 32#32
  let c0_i32_2585 : BitVec 32 := 0#32
  let v3361 : BitVec 1 := Scalar.cmpi .eq c32_i32_2584 c0_i32_2585
  let c1_i32_2586 : BitVec 32 := 1#32
  let v3362 : BitVec 32 := Scalar.select v3361 c1_i32_2586 c32_i32_2584
  let v3363 : BitVec 32 := Scalar.remsi v3360 v3362
  let c0_i32_2588 : BitVec 32 := 0#32
  let v3365 : BitVec 1 := Scalar.cmpi .slt v3363 c0_i32_2588
  let c0_i32_2589 : BitVec 32 := 0#32
  let v3366 : BitVec 1 := Scalar.cmpi .slt v3362 c0_i32_2589
  let v3367 : BitVec 1 := Scalar.xori v3365 v3366
  let c0_i32_2587 : BitVec 32 := 0#32
  let v3364 : BitVec 1 := Scalar.cmpi .ne v3363 c0_i32_2587
  let v3368 : BitVec 1 := Scalar.andi v3367 v3364
  let v3369 : BitVec 32 := Scalar.addi v3363 v3362
  let v3370 : BitVec 32 := Scalar.select v3368 v3369 v3363
  let c1_i32_2594 : BitVec 32 := 1#32
  let v3372 : BitVec 32 := Scalar.muli v3370 c1_i32_2594
  let v3373 : BitVec 32 := Scalar.addi c0_i32_2595 v3372
  v3373.toNat
def k0_dev123 (d0 : Dev nD) : Nat :=
  let c0_i32_2611 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c30_i32_2599 : BitVec 32 := 30#32
  let v3381 : BitVec 32 := Scalar.addi v2 c30_i32_2599
  let c32_i32_2600 : BitVec 32 := 32#32
  let c0_i32_2601 : BitVec 32 := 0#32
  let v3382 : BitVec 1 := Scalar.cmpi .eq c32_i32_2600 c0_i32_2601
  let c1_i32_2602 : BitVec 32 := 1#32
  let v3383 : BitVec 32 := Scalar.select v3382 c1_i32_2602 c32_i32_2600
  let v3384 : BitVec 32 := Scalar.remsi v3381 v3383
  let c0_i32_2604 : BitVec 32 := 0#32
  let v3386 : BitVec 1 := Scalar.cmpi .slt v3384 c0_i32_2604
  let c0_i32_2605 : BitVec 32 := 0#32
  let v3387 : BitVec 1 := Scalar.cmpi .slt v3383 c0_i32_2605
  let v3388 : BitVec 1 := Scalar.xori v3386 v3387
  let c0_i32_2603 : BitVec 32 := 0#32
  let v3385 : BitVec 1 := Scalar.cmpi .ne v3384 c0_i32_2603
  let v3389 : BitVec 1 := Scalar.andi v3388 v3385
  let v3390 : BitVec 32 := Scalar.addi v3384 v3383
  let v3391 : BitVec 32 := Scalar.select v3389 v3390 v3384
  let c1_i32_2610 : BitVec 32 := 1#32
  let v3393 : BitVec 32 := Scalar.muli v3391 c1_i32_2610
  let v3394 : BitVec 32 := Scalar.addi c0_i32_2611 v3393
  v3394.toNat
def k0_dev124 (d0 : Dev nD) : Nat :=
  let c0_i32_2627 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32_2615 : BitVec 32 := 31#32
  let v3402 : BitVec 32 := Scalar.addi v2 c31_i32_2615
  let c32_i32_2616 : BitVec 32 := 32#32
  let c0_i32_2617 : BitVec 32 := 0#32
  let v3403 : BitVec 1 := Scalar.cmpi .eq c32_i32_2616 c0_i32_2617
  let c1_i32_2618 : BitVec 32 := 1#32
  let v3404 : BitVec 32 := Scalar.select v3403 c1_i32_2618 c32_i32_2616
  let v3405 : BitVec 32 := Scalar.remsi v3402 v3404
  let c0_i32_2620 : BitVec 32 := 0#32
  let v3407 : BitVec 1 := Scalar.cmpi .slt v3405 c0_i32_2620
  let c0_i32_2621 : BitVec 32 := 0#32
  let v3408 : BitVec 1 := Scalar.cmpi .slt v3404 c0_i32_2621
  let v3409 : BitVec 1 := Scalar.xori v3407 v3408
  let c0_i32_2619 : BitVec 32 := 0#32
  let v3406 : BitVec 1 := Scalar.cmpi .ne v3405 c0_i32_2619
  let v3410 : BitVec 1 := Scalar.andi v3409 v3406
  let v3411 : BitVec 32 := Scalar.addi v3405 v3404
  let v3412 : BitVec 32 := Scalar.select v3410 v3411 v3405
  let c1_i32_2626 : BitVec 32 := 1#32
  let v3414 : BitVec 32 := Scalar.muli v3412 c1_i32_2626
  let v3415 : BitVec 32 := Scalar.addi c0_i32_2627 v3414
  v3415.toNat
def k0_dev125 (d0 : Dev nD) : Nat :=
  let c0_i32_3209 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3198 : BitVec 32 := 1#32
  let v3943 : BitVec 32 := Scalar.addi v2 c1_i32_3198
  let c32_i32_3199 : BitVec 32 := 32#32
  let c0_i32_3200 : BitVec 32 := 0#32
  let v3944 : BitVec 1 := Scalar.cmpi .eq c32_i32_3199 c0_i32_3200
  let c1_i32_3201 : BitVec 32 := 1#32
  let v3945 : BitVec 32 := Scalar.select v3944 c1_i32_3201 c32_i32_3199
  let v3946 : BitVec 32 := Scalar.remsi v3943 v3945
  let c0_i32_3203 : BitVec 32 := 0#32
  let v3948 : BitVec 1 := Scalar.cmpi .slt v3946 c0_i32_3203
  let c0_i32_3204 : BitVec 32 := 0#32
  let v3949 : BitVec 1 := Scalar.cmpi .slt v3945 c0_i32_3204
  let v3950 : BitVec 1 := Scalar.xori v3948 v3949
  let c0_i32_3202 : BitVec 32 := 0#32
  let v3947 : BitVec 1 := Scalar.cmpi .ne v3946 c0_i32_3202
  let v3951 : BitVec 1 := Scalar.andi v3950 v3947
  let v3952 : BitVec 32 := Scalar.addi v3946 v3945
  let v3953 : BitVec 32 := Scalar.select v3951 v3952 v3946
  let c1_i32_3208 : BitVec 32 := 1#32
  let v3955 : BitVec 32 := Scalar.muli v3953 c1_i32_3208
  let v3956 : BitVec 32 := Scalar.addi c0_i32_3209 v3955
  v3956.toNat
def k0_dev126 (d0 : Dev nD) : Nat :=
  let c0_i32_3222 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32_3211 : BitVec 32 := 2#32
  let v3962 : BitVec 32 := Scalar.addi v2 c2_i32_3211
  let c32_i32_3212 : BitVec 32 := 32#32
  let c0_i32_3213 : BitVec 32 := 0#32
  let v3963 : BitVec 1 := Scalar.cmpi .eq c32_i32_3212 c0_i32_3213
  let c1_i32_3214 : BitVec 32 := 1#32
  let v3964 : BitVec 32 := Scalar.select v3963 c1_i32_3214 c32_i32_3212
  let v3965 : BitVec 32 := Scalar.remsi v3962 v3964
  let c0_i32_3216 : BitVec 32 := 0#32
  let v3967 : BitVec 1 := Scalar.cmpi .slt v3965 c0_i32_3216
  let c0_i32_3217 : BitVec 32 := 0#32
  let v3968 : BitVec 1 := Scalar.cmpi .slt v3964 c0_i32_3217
  let v3969 : BitVec 1 := Scalar.xori v3967 v3968
  let c0_i32_3215 : BitVec 32 := 0#32
  let v3966 : BitVec 1 := Scalar.cmpi .ne v3965 c0_i32_3215
  let v3970 : BitVec 1 := Scalar.andi v3969 v3966
  let v3971 : BitVec 32 := Scalar.addi v3965 v3964
  let v3972 : BitVec 32 := Scalar.select v3970 v3971 v3965
  let c1_i32_3221 : BitVec 32 := 1#32
  let v3974 : BitVec 32 := Scalar.muli v3972 c1_i32_3221
  let v3975 : BitVec 32 := Scalar.addi c0_i32_3222 v3974
  v3975.toNat
def k0_dev127 (d0 : Dev nD) : Nat :=
  let c0_i32_3235 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_3224 : BitVec 32 := 3#32
  let v3981 : BitVec 32 := Scalar.addi v2 c3_i32_3224
  let c32_i32_3225 : BitVec 32 := 32#32
  let c0_i32_3226 : BitVec 32 := 0#32
  let v3982 : BitVec 1 := Scalar.cmpi .eq c32_i32_3225 c0_i32_3226
  let c1_i32_3227 : BitVec 32 := 1#32
  let v3983 : BitVec 32 := Scalar.select v3982 c1_i32_3227 c32_i32_3225
  let v3984 : BitVec 32 := Scalar.remsi v3981 v3983
  let c0_i32_3229 : BitVec 32 := 0#32
  let v3986 : BitVec 1 := Scalar.cmpi .slt v3984 c0_i32_3229
  let c0_i32_3230 : BitVec 32 := 0#32
  let v3987 : BitVec 1 := Scalar.cmpi .slt v3983 c0_i32_3230
  let v3988 : BitVec 1 := Scalar.xori v3986 v3987
  let c0_i32_3228 : BitVec 32 := 0#32
  let v3985 : BitVec 1 := Scalar.cmpi .ne v3984 c0_i32_3228
  let v3989 : BitVec 1 := Scalar.andi v3988 v3985
  let v3990 : BitVec 32 := Scalar.addi v3984 v3983
  let v3991 : BitVec 32 := Scalar.select v3989 v3990 v3984
  let c1_i32_3234 : BitVec 32 := 1#32
  let v3993 : BitVec 32 := Scalar.muli v3991 c1_i32_3234
  let v3994 : BitVec 32 := Scalar.addi c0_i32_3235 v3993
  v3994.toNat
def k0_dev128 (d0 : Dev nD) : Nat :=
  let c0_i32_3248 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32_3237 : BitVec 32 := 4#32
  let v4000 : BitVec 32 := Scalar.addi v2 c4_i32_3237
  let c32_i32_3238 : BitVec 32 := 32#32
  let c0_i32_3239 : BitVec 32 := 0#32
  let v4001 : BitVec 1 := Scalar.cmpi .eq c32_i32_3238 c0_i32_3239
  let c1_i32_3240 : BitVec 32 := 1#32
  let v4002 : BitVec 32 := Scalar.select v4001 c1_i32_3240 c32_i32_3238
  let v4003 : BitVec 32 := Scalar.remsi v4000 v4002
  let c0_i32_3242 : BitVec 32 := 0#32
  let v4005 : BitVec 1 := Scalar.cmpi .slt v4003 c0_i32_3242
  let c0_i32_3243 : BitVec 32 := 0#32
  let v4006 : BitVec 1 := Scalar.cmpi .slt v4002 c0_i32_3243
  let v4007 : BitVec 1 := Scalar.xori v4005 v4006
  let c0_i32_3241 : BitVec 32 := 0#32
  let v4004 : BitVec 1 := Scalar.cmpi .ne v4003 c0_i32_3241
  let v4008 : BitVec 1 := Scalar.andi v4007 v4004
  let v4009 : BitVec 32 := Scalar.addi v4003 v4002
  let v4010 : BitVec 32 := Scalar.select v4008 v4009 v4003
  let c1_i32_3247 : BitVec 32 := 1#32
  let v4012 : BitVec 32 := Scalar.muli v4010 c1_i32_3247
  let v4013 : BitVec 32 := Scalar.addi c0_i32_3248 v4012
  v4013.toNat
def k0_dev129 (d0 : Dev nD) : Nat :=
  let c0_i32_3261 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c5_i32_3250 : BitVec 32 := 5#32
  let v4019 : BitVec 32 := Scalar.addi v2 c5_i32_3250
  let c32_i32_3251 : BitVec 32 := 32#32
  let c0_i32_3252 : BitVec 32 := 0#32
  let v4020 : BitVec 1 := Scalar.cmpi .eq c32_i32_3251 c0_i32_3252
  let c1_i32_3253 : BitVec 32 := 1#32
  let v4021 : BitVec 32 := Scalar.select v4020 c1_i32_3253 c32_i32_3251
  let v4022 : BitVec 32 := Scalar.remsi v4019 v4021
  let c0_i32_3255 : BitVec 32 := 0#32
  let v4024 : BitVec 1 := Scalar.cmpi .slt v4022 c0_i32_3255
  let c0_i32_3256 : BitVec 32 := 0#32
  let v4025 : BitVec 1 := Scalar.cmpi .slt v4021 c0_i32_3256
  let v4026 : BitVec 1 := Scalar.xori v4024 v4025
  let c0_i32_3254 : BitVec 32 := 0#32
  let v4023 : BitVec 1 := Scalar.cmpi .ne v4022 c0_i32_3254
  let v4027 : BitVec 1 := Scalar.andi v4026 v4023
  let v4028 : BitVec 32 := Scalar.addi v4022 v4021
  let v4029 : BitVec 32 := Scalar.select v4027 v4028 v4022
  let c1_i32_3260 : BitVec 32 := 1#32
  let v4031 : BitVec 32 := Scalar.muli v4029 c1_i32_3260
  let v4032 : BitVec 32 := Scalar.addi c0_i32_3261 v4031
  v4032.toNat
def k0_dev130 (d0 : Dev nD) : Nat :=
  let c0_i32_3274 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c6_i32_3263 : BitVec 32 := 6#32
  let v4038 : BitVec 32 := Scalar.addi v2 c6_i32_3263
  let c32_i32_3264 : BitVec 32 := 32#32
  let c0_i32_3265 : BitVec 32 := 0#32
  let v4039 : BitVec 1 := Scalar.cmpi .eq c32_i32_3264 c0_i32_3265
  let c1_i32_3266 : BitVec 32 := 1#32
  let v4040 : BitVec 32 := Scalar.select v4039 c1_i32_3266 c32_i32_3264
  let v4041 : BitVec 32 := Scalar.remsi v4038 v4040
  let c0_i32_3268 : BitVec 32 := 0#32
  let v4043 : BitVec 1 := Scalar.cmpi .slt v4041 c0_i32_3268
  let c0_i32_3269 : BitVec 32 := 0#32
  let v4044 : BitVec 1 := Scalar.cmpi .slt v4040 c0_i32_3269
  let v4045 : BitVec 1 := Scalar.xori v4043 v4044
  let c0_i32_3267 : BitVec 32 := 0#32
  let v4042 : BitVec 1 := Scalar.cmpi .ne v4041 c0_i32_3267
  let v4046 : BitVec 1 := Scalar.andi v4045 v4042
  let v4047 : BitVec 32 := Scalar.addi v4041 v4040
  let v4048 : BitVec 32 := Scalar.select v4046 v4047 v4041
  let c1_i32_3273 : BitVec 32 := 1#32
  let v4050 : BitVec 32 := Scalar.muli v4048 c1_i32_3273
  let v4051 : BitVec 32 := Scalar.addi c0_i32_3274 v4050
  v4051.toNat
def k0_dev131 (d0 : Dev nD) : Nat :=
  let c0_i32_3287 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32_3276 : BitVec 32 := 7#32
  let v4057 : BitVec 32 := Scalar.addi v2 c7_i32_3276
  let c32_i32_3277 : BitVec 32 := 32#32
  let c0_i32_3278 : BitVec 32 := 0#32
  let v4058 : BitVec 1 := Scalar.cmpi .eq c32_i32_3277 c0_i32_3278
  let c1_i32_3279 : BitVec 32 := 1#32
  let v4059 : BitVec 32 := Scalar.select v4058 c1_i32_3279 c32_i32_3277
  let v4060 : BitVec 32 := Scalar.remsi v4057 v4059
  let c0_i32_3281 : BitVec 32 := 0#32
  let v4062 : BitVec 1 := Scalar.cmpi .slt v4060 c0_i32_3281
  let c0_i32_3282 : BitVec 32 := 0#32
  let v4063 : BitVec 1 := Scalar.cmpi .slt v4059 c0_i32_3282
  let v4064 : BitVec 1 := Scalar.xori v4062 v4063
  let c0_i32_3280 : BitVec 32 := 0#32
  let v4061 : BitVec 1 := Scalar.cmpi .ne v4060 c0_i32_3280
  let v4065 : BitVec 1 := Scalar.andi v4064 v4061
  let v4066 : BitVec 32 := Scalar.addi v4060 v4059
  let v4067 : BitVec 32 := Scalar.select v4065 v4066 v4060
  let c1_i32_3286 : BitVec 32 := 1#32
  let v4069 : BitVec 32 := Scalar.muli v4067 c1_i32_3286
  let v4070 : BitVec 32 := Scalar.addi c0_i32_3287 v4069
  v4070.toNat
def k0_dev132 (d0 : Dev nD) : Nat :=
  let c0_i32_3300 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_3289 : BitVec 32 := 8#32
  let v4076 : BitVec 32 := Scalar.addi v2 c8_i32_3289
  let c32_i32_3290 : BitVec 32 := 32#32
  let c0_i32_3291 : BitVec 32 := 0#32
  let v4077 : BitVec 1 := Scalar.cmpi .eq c32_i32_3290 c0_i32_3291
  let c1_i32_3292 : BitVec 32 := 1#32
  let v4078 : BitVec 32 := Scalar.select v4077 c1_i32_3292 c32_i32_3290
  let v4079 : BitVec 32 := Scalar.remsi v4076 v4078
  let c0_i32_3294 : BitVec 32 := 0#32
  let v4081 : BitVec 1 := Scalar.cmpi .slt v4079 c0_i32_3294
  let c0_i32_3295 : BitVec 32 := 0#32
  let v4082 : BitVec 1 := Scalar.cmpi .slt v4078 c0_i32_3295
  let v4083 : BitVec 1 := Scalar.xori v4081 v4082
  let c0_i32_3293 : BitVec 32 := 0#32
  let v4080 : BitVec 1 := Scalar.cmpi .ne v4079 c0_i32_3293
  let v4084 : BitVec 1 := Scalar.andi v4083 v4080
  let v4085 : BitVec 32 := Scalar.addi v4079 v4078
  let v4086 : BitVec 32 := Scalar.select v4084 v4085 v4079
  let c1_i32_3299 : BitVec 32 := 1#32
  let v4088 : BitVec 32 := Scalar.muli v4086 c1_i32_3299
  let v4089 : BitVec 32 := Scalar.addi c0_i32_3300 v4088
  v4089.toNat
def k0_dev133 (d0 : Dev nD) : Nat :=
  let c0_i32_3313 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c9_i32_3302 : BitVec 32 := 9#32
  let v4095 : BitVec 32 := Scalar.addi v2 c9_i32_3302
  let c32_i32_3303 : BitVec 32 := 32#32
  let c0_i32_3304 : BitVec 32 := 0#32
  let v4096 : BitVec 1 := Scalar.cmpi .eq c32_i32_3303 c0_i32_3304
  let c1_i32_3305 : BitVec 32 := 1#32
  let v4097 : BitVec 32 := Scalar.select v4096 c1_i32_3305 c32_i32_3303
  let v4098 : BitVec 32 := Scalar.remsi v4095 v4097
  let c0_i32_3307 : BitVec 32 := 0#32
  let v4100 : BitVec 1 := Scalar.cmpi .slt v4098 c0_i32_3307
  let c0_i32_3308 : BitVec 32 := 0#32
  let v4101 : BitVec 1 := Scalar.cmpi .slt v4097 c0_i32_3308
  let v4102 : BitVec 1 := Scalar.xori v4100 v4101
  let c0_i32_3306 : BitVec 32 := 0#32
  let v4099 : BitVec 1 := Scalar.cmpi .ne v4098 c0_i32_3306
  let v4103 : BitVec 1 := Scalar.andi v4102 v4099
  let v4104 : BitVec 32 := Scalar.addi v4098 v4097
  let v4105 : BitVec 32 := Scalar.select v4103 v4104 v4098
  let c1_i32_3312 : BitVec 32 := 1#32
  let v4107 : BitVec 32 := Scalar.muli v4105 c1_i32_3312
  let v4108 : BitVec 32 := Scalar.addi c0_i32_3313 v4107
  v4108.toNat
def k0_dev134 (d0 : Dev nD) : Nat :=
  let c0_i32_3326 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c10_i32_3315 : BitVec 32 := 10#32
  let v4114 : BitVec 32 := Scalar.addi v2 c10_i32_3315
  let c32_i32_3316 : BitVec 32 := 32#32
  let c0_i32_3317 : BitVec 32 := 0#32
  let v4115 : BitVec 1 := Scalar.cmpi .eq c32_i32_3316 c0_i32_3317
  let c1_i32_3318 : BitVec 32 := 1#32
  let v4116 : BitVec 32 := Scalar.select v4115 c1_i32_3318 c32_i32_3316
  let v4117 : BitVec 32 := Scalar.remsi v4114 v4116
  let c0_i32_3320 : BitVec 32 := 0#32
  let v4119 : BitVec 1 := Scalar.cmpi .slt v4117 c0_i32_3320
  let c0_i32_3321 : BitVec 32 := 0#32
  let v4120 : BitVec 1 := Scalar.cmpi .slt v4116 c0_i32_3321
  let v4121 : BitVec 1 := Scalar.xori v4119 v4120
  let c0_i32_3319 : BitVec 32 := 0#32
  let v4118 : BitVec 1 := Scalar.cmpi .ne v4117 c0_i32_3319
  let v4122 : BitVec 1 := Scalar.andi v4121 v4118
  let v4123 : BitVec 32 := Scalar.addi v4117 v4116
  let v4124 : BitVec 32 := Scalar.select v4122 v4123 v4117
  let c1_i32_3325 : BitVec 32 := 1#32
  let v4126 : BitVec 32 := Scalar.muli v4124 c1_i32_3325
  let v4127 : BitVec 32 := Scalar.addi c0_i32_3326 v4126
  v4127.toNat
def k0_dev135 (d0 : Dev nD) : Nat :=
  let c0_i32_3339 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c11_i32_3328 : BitVec 32 := 11#32
  let v4133 : BitVec 32 := Scalar.addi v2 c11_i32_3328
  let c32_i32_3329 : BitVec 32 := 32#32
  let c0_i32_3330 : BitVec 32 := 0#32
  let v4134 : BitVec 1 := Scalar.cmpi .eq c32_i32_3329 c0_i32_3330
  let c1_i32_3331 : BitVec 32 := 1#32
  let v4135 : BitVec 32 := Scalar.select v4134 c1_i32_3331 c32_i32_3329
  let v4136 : BitVec 32 := Scalar.remsi v4133 v4135
  let c0_i32_3333 : BitVec 32 := 0#32
  let v4138 : BitVec 1 := Scalar.cmpi .slt v4136 c0_i32_3333
  let c0_i32_3334 : BitVec 32 := 0#32
  let v4139 : BitVec 1 := Scalar.cmpi .slt v4135 c0_i32_3334
  let v4140 : BitVec 1 := Scalar.xori v4138 v4139
  let c0_i32_3332 : BitVec 32 := 0#32
  let v4137 : BitVec 1 := Scalar.cmpi .ne v4136 c0_i32_3332
  let v4141 : BitVec 1 := Scalar.andi v4140 v4137
  let v4142 : BitVec 32 := Scalar.addi v4136 v4135
  let v4143 : BitVec 32 := Scalar.select v4141 v4142 v4136
  let c1_i32_3338 : BitVec 32 := 1#32
  let v4145 : BitVec 32 := Scalar.muli v4143 c1_i32_3338
  let v4146 : BitVec 32 := Scalar.addi c0_i32_3339 v4145
  v4146.toNat
def k0_dev136 (d0 : Dev nD) : Nat :=
  let c0_i32_3352 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c12_i32_3341 : BitVec 32 := 12#32
  let v4152 : BitVec 32 := Scalar.addi v2 c12_i32_3341
  let c32_i32_3342 : BitVec 32 := 32#32
  let c0_i32_3343 : BitVec 32 := 0#32
  let v4153 : BitVec 1 := Scalar.cmpi .eq c32_i32_3342 c0_i32_3343
  let c1_i32_3344 : BitVec 32 := 1#32
  let v4154 : BitVec 32 := Scalar.select v4153 c1_i32_3344 c32_i32_3342
  let v4155 : BitVec 32 := Scalar.remsi v4152 v4154
  let c0_i32_3346 : BitVec 32 := 0#32
  let v4157 : BitVec 1 := Scalar.cmpi .slt v4155 c0_i32_3346
  let c0_i32_3347 : BitVec 32 := 0#32
  let v4158 : BitVec 1 := Scalar.cmpi .slt v4154 c0_i32_3347
  let v4159 : BitVec 1 := Scalar.xori v4157 v4158
  let c0_i32_3345 : BitVec 32 := 0#32
  let v4156 : BitVec 1 := Scalar.cmpi .ne v4155 c0_i32_3345
  let v4160 : BitVec 1 := Scalar.andi v4159 v4156
  let v4161 : BitVec 32 := Scalar.addi v4155 v4154
  let v4162 : BitVec 32 := Scalar.select v4160 v4161 v4155
  let c1_i32_3351 : BitVec 32 := 1#32
  let v4164 : BitVec 32 := Scalar.muli v4162 c1_i32_3351
  let v4165 : BitVec 32 := Scalar.addi c0_i32_3352 v4164
  v4165.toNat
def k0_dev137 (d0 : Dev nD) : Nat :=
  let c0_i32_3365 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c13_i32_3354 : BitVec 32 := 13#32
  let v4171 : BitVec 32 := Scalar.addi v2 c13_i32_3354
  let c32_i32_3355 : BitVec 32 := 32#32
  let c0_i32_3356 : BitVec 32 := 0#32
  let v4172 : BitVec 1 := Scalar.cmpi .eq c32_i32_3355 c0_i32_3356
  let c1_i32_3357 : BitVec 32 := 1#32
  let v4173 : BitVec 32 := Scalar.select v4172 c1_i32_3357 c32_i32_3355
  let v4174 : BitVec 32 := Scalar.remsi v4171 v4173
  let c0_i32_3359 : BitVec 32 := 0#32
  let v4176 : BitVec 1 := Scalar.cmpi .slt v4174 c0_i32_3359
  let c0_i32_3360 : BitVec 32 := 0#32
  let v4177 : BitVec 1 := Scalar.cmpi .slt v4173 c0_i32_3360
  let v4178 : BitVec 1 := Scalar.xori v4176 v4177
  let c0_i32_3358 : BitVec 32 := 0#32
  let v4175 : BitVec 1 := Scalar.cmpi .ne v4174 c0_i32_3358
  let v4179 : BitVec 1 := Scalar.andi v4178 v4175
  let v4180 : BitVec 32 := Scalar.addi v4174 v4173
  let v4181 : BitVec 32 := Scalar.select v4179 v4180 v4174
  let c1_i32_3364 : BitVec 32 := 1#32
  let v4183 : BitVec 32 := Scalar.muli v4181 c1_i32_3364
  let v4184 : BitVec 32 := Scalar.addi c0_i32_3365 v4183
  v4184.toNat
def k0_dev138 (d0 : Dev nD) : Nat :=
  let c0_i32_3378 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c14_i32_3367 : BitVec 32 := 14#32
  let v4190 : BitVec 32 := Scalar.addi v2 c14_i32_3367
  let c32_i32_3368 : BitVec 32 := 32#32
  let c0_i32_3369 : BitVec 32 := 0#32
  let v4191 : BitVec 1 := Scalar.cmpi .eq c32_i32_3368 c0_i32_3369
  let c1_i32_3370 : BitVec 32 := 1#32
  let v4192 : BitVec 32 := Scalar.select v4191 c1_i32_3370 c32_i32_3368
  let v4193 : BitVec 32 := Scalar.remsi v4190 v4192
  let c0_i32_3372 : BitVec 32 := 0#32
  let v4195 : BitVec 1 := Scalar.cmpi .slt v4193 c0_i32_3372
  let c0_i32_3373 : BitVec 32 := 0#32
  let v4196 : BitVec 1 := Scalar.cmpi .slt v4192 c0_i32_3373
  let v4197 : BitVec 1 := Scalar.xori v4195 v4196
  let c0_i32_3371 : BitVec 32 := 0#32
  let v4194 : BitVec 1 := Scalar.cmpi .ne v4193 c0_i32_3371
  let v4198 : BitVec 1 := Scalar.andi v4197 v4194
  let v4199 : BitVec 32 := Scalar.addi v4193 v4192
  let v4200 : BitVec 32 := Scalar.select v4198 v4199 v4193
  let c1_i32_3377 : BitVec 32 := 1#32
  let v4202 : BitVec 32 := Scalar.muli v4200 c1_i32_3377
  let v4203 : BitVec 32 := Scalar.addi c0_i32_3378 v4202
  v4203.toNat
def k0_dev139 (d0 : Dev nD) : Nat :=
  let c0_i32_3391 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c15_i32_3380 : BitVec 32 := 15#32
  let v4209 : BitVec 32 := Scalar.addi v2 c15_i32_3380
  let c32_i32_3381 : BitVec 32 := 32#32
  let c0_i32_3382 : BitVec 32 := 0#32
  let v4210 : BitVec 1 := Scalar.cmpi .eq c32_i32_3381 c0_i32_3382
  let c1_i32_3383 : BitVec 32 := 1#32
  let v4211 : BitVec 32 := Scalar.select v4210 c1_i32_3383 c32_i32_3381
  let v4212 : BitVec 32 := Scalar.remsi v4209 v4211
  let c0_i32_3385 : BitVec 32 := 0#32
  let v4214 : BitVec 1 := Scalar.cmpi .slt v4212 c0_i32_3385
  let c0_i32_3386 : BitVec 32 := 0#32
  let v4215 : BitVec 1 := Scalar.cmpi .slt v4211 c0_i32_3386
  let v4216 : BitVec 1 := Scalar.xori v4214 v4215
  let c0_i32_3384 : BitVec 32 := 0#32
  let v4213 : BitVec 1 := Scalar.cmpi .ne v4212 c0_i32_3384
  let v4217 : BitVec 1 := Scalar.andi v4216 v4213
  let v4218 : BitVec 32 := Scalar.addi v4212 v4211
  let v4219 : BitVec 32 := Scalar.select v4217 v4218 v4212
  let c1_i32_3390 : BitVec 32 := 1#32
  let v4221 : BitVec 32 := Scalar.muli v4219 c1_i32_3390
  let v4222 : BitVec 32 := Scalar.addi c0_i32_3391 v4221
  v4222.toNat
def k0_dev140 (d0 : Dev nD) : Nat :=
  let c0_i32_3404 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_3393 : BitVec 32 := 16#32
  let v4228 : BitVec 32 := Scalar.addi v2 c16_i32_3393
  let c32_i32_3394 : BitVec 32 := 32#32
  let c0_i32_3395 : BitVec 32 := 0#32
  let v4229 : BitVec 1 := Scalar.cmpi .eq c32_i32_3394 c0_i32_3395
  let c1_i32_3396 : BitVec 32 := 1#32
  let v4230 : BitVec 32 := Scalar.select v4229 c1_i32_3396 c32_i32_3394
  let v4231 : BitVec 32 := Scalar.remsi v4228 v4230
  let c0_i32_3398 : BitVec 32 := 0#32
  let v4233 : BitVec 1 := Scalar.cmpi .slt v4231 c0_i32_3398
  let c0_i32_3399 : BitVec 32 := 0#32
  let v4234 : BitVec 1 := Scalar.cmpi .slt v4230 c0_i32_3399
  let v4235 : BitVec 1 := Scalar.xori v4233 v4234
  let c0_i32_3397 : BitVec 32 := 0#32
  let v4232 : BitVec 1 := Scalar.cmpi .ne v4231 c0_i32_3397
  let v4236 : BitVec 1 := Scalar.andi v4235 v4232
  let v4237 : BitVec 32 := Scalar.addi v4231 v4230
  let v4238 : BitVec 32 := Scalar.select v4236 v4237 v4231
  let c1_i32_3403 : BitVec 32 := 1#32
  let v4240 : BitVec 32 := Scalar.muli v4238 c1_i32_3403
  let v4241 : BitVec 32 := Scalar.addi c0_i32_3404 v4240
  v4241.toNat
def k0_dev141 (d0 : Dev nD) : Nat :=
  let c0_i32_3417 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c17_i32_3406 : BitVec 32 := 17#32
  let v4247 : BitVec 32 := Scalar.addi v2 c17_i32_3406
  let c32_i32_3407 : BitVec 32 := 32#32
  let c0_i32_3408 : BitVec 32 := 0#32
  let v4248 : BitVec 1 := Scalar.cmpi .eq c32_i32_3407 c0_i32_3408
  let c1_i32_3409 : BitVec 32 := 1#32
  let v4249 : BitVec 32 := Scalar.select v4248 c1_i32_3409 c32_i32_3407
  let v4250 : BitVec 32 := Scalar.remsi v4247 v4249
  let c0_i32_3411 : BitVec 32 := 0#32
  let v4252 : BitVec 1 := Scalar.cmpi .slt v4250 c0_i32_3411
  let c0_i32_3412 : BitVec 32 := 0#32
  let v4253 : BitVec 1 := Scalar.cmpi .slt v4249 c0_i32_3412
  let v4254 : BitVec 1 := Scalar.xori v4252 v4253
  let c0_i32_3410 : BitVec 32 := 0#32
  let v4251 : BitVec 1 := Scalar.cmpi .ne v4250 c0_i32_3410
  let v4255 : BitVec 1 := Scalar.andi v4254 v4251
  let v4256 : BitVec 32 := Scalar.addi v4250 v4249
  let v4257 : BitVec 32 := Scalar.select v4255 v4256 v4250
  let c1_i32_3416 : BitVec 32 := 1#32
  let v4259 : BitVec 32 := Scalar.muli v4257 c1_i32_3416
  let v4260 : BitVec 32 := Scalar.addi c0_i32_3417 v4259
  v4260.toNat
def k0_dev142 (d0 : Dev nD) : Nat :=
  let c0_i32_3430 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c18_i32_3419 : BitVec 32 := 18#32
  let v4266 : BitVec 32 := Scalar.addi v2 c18_i32_3419
  let c32_i32_3420 : BitVec 32 := 32#32
  let c0_i32_3421 : BitVec 32 := 0#32
  let v4267 : BitVec 1 := Scalar.cmpi .eq c32_i32_3420 c0_i32_3421
  let c1_i32_3422 : BitVec 32 := 1#32
  let v4268 : BitVec 32 := Scalar.select v4267 c1_i32_3422 c32_i32_3420
  let v4269 : BitVec 32 := Scalar.remsi v4266 v4268
  let c0_i32_3424 : BitVec 32 := 0#32
  let v4271 : BitVec 1 := Scalar.cmpi .slt v4269 c0_i32_3424
  let c0_i32_3425 : BitVec 32 := 0#32
  let v4272 : BitVec 1 := Scalar.cmpi .slt v4268 c0_i32_3425
  let v4273 : BitVec 1 := Scalar.xori v4271 v4272
  let c0_i32_3423 : BitVec 32 := 0#32
  let v4270 : BitVec 1 := Scalar.cmpi .ne v4269 c0_i32_3423
  let v4274 : BitVec 1 := Scalar.andi v4273 v4270
  let v4275 : BitVec 32 := Scalar.addi v4269 v4268
  let v4276 : BitVec 32 := Scalar.select v4274 v4275 v4269
  let c1_i32_3429 : BitVec 32 := 1#32
  let v4278 : BitVec 32 := Scalar.muli v4276 c1_i32_3429
  let v4279 : BitVec 32 := Scalar.addi c0_i32_3430 v4278
  v4279.toNat
def k0_dev143 (d0 : Dev nD) : Nat :=
  let c0_i32_3443 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c19_i32_3432 : BitVec 32 := 19#32
  let v4285 : BitVec 32 := Scalar.addi v2 c19_i32_3432
  let c32_i32_3433 : BitVec 32 := 32#32
  let c0_i32_3434 : BitVec 32 := 0#32
  let v4286 : BitVec 1 := Scalar.cmpi .eq c32_i32_3433 c0_i32_3434
  let c1_i32_3435 : BitVec 32 := 1#32
  let v4287 : BitVec 32 := Scalar.select v4286 c1_i32_3435 c32_i32_3433
  let v4288 : BitVec 32 := Scalar.remsi v4285 v4287
  let c0_i32_3437 : BitVec 32 := 0#32
  let v4290 : BitVec 1 := Scalar.cmpi .slt v4288 c0_i32_3437
  let c0_i32_3438 : BitVec 32 := 0#32
  let v4291 : BitVec 1 := Scalar.cmpi .slt v4287 c0_i32_3438
  let v4292 : BitVec 1 := Scalar.xori v4290 v4291
  let c0_i32_3436 : BitVec 32 := 0#32
  let v4289 : BitVec 1 := Scalar.cmpi .ne v4288 c0_i32_3436
  let v4293 : BitVec 1 := Scalar.andi v4292 v4289
  let v4294 : BitVec 32 := Scalar.addi v4288 v4287
  let v4295 : BitVec 32 := Scalar.select v4293 v4294 v4288
  let c1_i32_3442 : BitVec 32 := 1#32
  let v4297 : BitVec 32 := Scalar.muli v4295 c1_i32_3442
  let v4298 : BitVec 32 := Scalar.addi c0_i32_3443 v4297
  v4298.toNat
def k0_dev144 (d0 : Dev nD) : Nat :=
  let c0_i32_3456 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c20_i32_3445 : BitVec 32 := 20#32
  let v4304 : BitVec 32 := Scalar.addi v2 c20_i32_3445
  let c32_i32_3446 : BitVec 32 := 32#32
  let c0_i32_3447 : BitVec 32 := 0#32
  let v4305 : BitVec 1 := Scalar.cmpi .eq c32_i32_3446 c0_i32_3447
  let c1_i32_3448 : BitVec 32 := 1#32
  let v4306 : BitVec 32 := Scalar.select v4305 c1_i32_3448 c32_i32_3446
  let v4307 : BitVec 32 := Scalar.remsi v4304 v4306
  let c0_i32_3450 : BitVec 32 := 0#32
  let v4309 : BitVec 1 := Scalar.cmpi .slt v4307 c0_i32_3450
  let c0_i32_3451 : BitVec 32 := 0#32
  let v4310 : BitVec 1 := Scalar.cmpi .slt v4306 c0_i32_3451
  let v4311 : BitVec 1 := Scalar.xori v4309 v4310
  let c0_i32_3449 : BitVec 32 := 0#32
  let v4308 : BitVec 1 := Scalar.cmpi .ne v4307 c0_i32_3449
  let v4312 : BitVec 1 := Scalar.andi v4311 v4308
  let v4313 : BitVec 32 := Scalar.addi v4307 v4306
  let v4314 : BitVec 32 := Scalar.select v4312 v4313 v4307
  let c1_i32_3455 : BitVec 32 := 1#32
  let v4316 : BitVec 32 := Scalar.muli v4314 c1_i32_3455
  let v4317 : BitVec 32 := Scalar.addi c0_i32_3456 v4316
  v4317.toNat
def k0_dev145 (d0 : Dev nD) : Nat :=
  let c0_i32_3469 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c21_i32_3458 : BitVec 32 := 21#32
  let v4323 : BitVec 32 := Scalar.addi v2 c21_i32_3458
  let c32_i32_3459 : BitVec 32 := 32#32
  let c0_i32_3460 : BitVec 32 := 0#32
  let v4324 : BitVec 1 := Scalar.cmpi .eq c32_i32_3459 c0_i32_3460
  let c1_i32_3461 : BitVec 32 := 1#32
  let v4325 : BitVec 32 := Scalar.select v4324 c1_i32_3461 c32_i32_3459
  let v4326 : BitVec 32 := Scalar.remsi v4323 v4325
  let c0_i32_3463 : BitVec 32 := 0#32
  let v4328 : BitVec 1 := Scalar.cmpi .slt v4326 c0_i32_3463
  let c0_i32_3464 : BitVec 32 := 0#32
  let v4329 : BitVec 1 := Scalar.cmpi .slt v4325 c0_i32_3464
  let v4330 : BitVec 1 := Scalar.xori v4328 v4329
  let c0_i32_3462 : BitVec 32 := 0#32
  let v4327 : BitVec 1 := Scalar.cmpi .ne v4326 c0_i32_3462
  let v4331 : BitVec 1 := Scalar.andi v4330 v4327
  let v4332 : BitVec 32 := Scalar.addi v4326 v4325
  let v4333 : BitVec 32 := Scalar.select v4331 v4332 v4326
  let c1_i32_3468 : BitVec 32 := 1#32
  let v4335 : BitVec 32 := Scalar.muli v4333 c1_i32_3468
  let v4336 : BitVec 32 := Scalar.addi c0_i32_3469 v4335
  v4336.toNat
def k0_dev146 (d0 : Dev nD) : Nat :=
  let c0_i32_3482 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c22_i32_3471 : BitVec 32 := 22#32
  let v4342 : BitVec 32 := Scalar.addi v2 c22_i32_3471
  let c32_i32_3472 : BitVec 32 := 32#32
  let c0_i32_3473 : BitVec 32 := 0#32
  let v4343 : BitVec 1 := Scalar.cmpi .eq c32_i32_3472 c0_i32_3473
  let c1_i32_3474 : BitVec 32 := 1#32
  let v4344 : BitVec 32 := Scalar.select v4343 c1_i32_3474 c32_i32_3472
  let v4345 : BitVec 32 := Scalar.remsi v4342 v4344
  let c0_i32_3476 : BitVec 32 := 0#32
  let v4347 : BitVec 1 := Scalar.cmpi .slt v4345 c0_i32_3476
  let c0_i32_3477 : BitVec 32 := 0#32
  let v4348 : BitVec 1 := Scalar.cmpi .slt v4344 c0_i32_3477
  let v4349 : BitVec 1 := Scalar.xori v4347 v4348
  let c0_i32_3475 : BitVec 32 := 0#32
  let v4346 : BitVec 1 := Scalar.cmpi .ne v4345 c0_i32_3475
  let v4350 : BitVec 1 := Scalar.andi v4349 v4346
  let v4351 : BitVec 32 := Scalar.addi v4345 v4344
  let v4352 : BitVec 32 := Scalar.select v4350 v4351 v4345
  let c1_i32_3481 : BitVec 32 := 1#32
  let v4354 : BitVec 32 := Scalar.muli v4352 c1_i32_3481
  let v4355 : BitVec 32 := Scalar.addi c0_i32_3482 v4354
  v4355.toNat
def k0_dev147 (d0 : Dev nD) : Nat :=
  let c0_i32_3495 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c23_i32_3484 : BitVec 32 := 23#32
  let v4361 : BitVec 32 := Scalar.addi v2 c23_i32_3484
  let c32_i32_3485 : BitVec 32 := 32#32
  let c0_i32_3486 : BitVec 32 := 0#32
  let v4362 : BitVec 1 := Scalar.cmpi .eq c32_i32_3485 c0_i32_3486
  let c1_i32_3487 : BitVec 32 := 1#32
  let v4363 : BitVec 32 := Scalar.select v4362 c1_i32_3487 c32_i32_3485
  let v4364 : BitVec 32 := Scalar.remsi v4361 v4363
  let c0_i32_3489 : BitVec 32 := 0#32
  let v4366 : BitVec 1 := Scalar.cmpi .slt v4364 c0_i32_3489
  let c0_i32_3490 : BitVec 32 := 0#32
  let v4367 : BitVec 1 := Scalar.cmpi .slt v4363 c0_i32_3490
  let v4368 : BitVec 1 := Scalar.xori v4366 v4367
  let c0_i32_3488 : BitVec 32 := 0#32
  let v4365 : BitVec 1 := Scalar.cmpi .ne v4364 c0_i32_3488
  let v4369 : BitVec 1 := Scalar.andi v4368 v4365
  let v4370 : BitVec 32 := Scalar.addi v4364 v4363
  let v4371 : BitVec 32 := Scalar.select v4369 v4370 v4364
  let c1_i32_3494 : BitVec 32 := 1#32
  let v4373 : BitVec 32 := Scalar.muli v4371 c1_i32_3494
  let v4374 : BitVec 32 := Scalar.addi c0_i32_3495 v4373
  v4374.toNat
def k0_dev148 (d0 : Dev nD) : Nat :=
  let c0_i32_3508 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c24_i32_3497 : BitVec 32 := 24#32
  let v4380 : BitVec 32 := Scalar.addi v2 c24_i32_3497
  let c32_i32_3498 : BitVec 32 := 32#32
  let c0_i32_3499 : BitVec 32 := 0#32
  let v4381 : BitVec 1 := Scalar.cmpi .eq c32_i32_3498 c0_i32_3499
  let c1_i32_3500 : BitVec 32 := 1#32
  let v4382 : BitVec 32 := Scalar.select v4381 c1_i32_3500 c32_i32_3498
  let v4383 : BitVec 32 := Scalar.remsi v4380 v4382
  let c0_i32_3502 : BitVec 32 := 0#32
  let v4385 : BitVec 1 := Scalar.cmpi .slt v4383 c0_i32_3502
  let c0_i32_3503 : BitVec 32 := 0#32
  let v4386 : BitVec 1 := Scalar.cmpi .slt v4382 c0_i32_3503
  let v4387 : BitVec 1 := Scalar.xori v4385 v4386
  let c0_i32_3501 : BitVec 32 := 0#32
  let v4384 : BitVec 1 := Scalar.cmpi .ne v4383 c0_i32_3501
  let v4388 : BitVec 1 := Scalar.andi v4387 v4384
  let v4389 : BitVec 32 := Scalar.addi v4383 v4382
  let v4390 : BitVec 32 := Scalar.select v4388 v4389 v4383
  let c1_i32_3507 : BitVec 32 := 1#32
  let v4392 : BitVec 32 := Scalar.muli v4390 c1_i32_3507
  let v4393 : BitVec 32 := Scalar.addi c0_i32_3508 v4392
  v4393.toNat
def k0_dev149 (d0 : Dev nD) : Nat :=
  let c0_i32_3521 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c25_i32_3510 : BitVec 32 := 25#32
  let v4399 : BitVec 32 := Scalar.addi v2 c25_i32_3510
  let c32_i32_3511 : BitVec 32 := 32#32
  let c0_i32_3512 : BitVec 32 := 0#32
  let v4400 : BitVec 1 := Scalar.cmpi .eq c32_i32_3511 c0_i32_3512
  let c1_i32_3513 : BitVec 32 := 1#32
  let v4401 : BitVec 32 := Scalar.select v4400 c1_i32_3513 c32_i32_3511
  let v4402 : BitVec 32 := Scalar.remsi v4399 v4401
  let c0_i32_3515 : BitVec 32 := 0#32
  let v4404 : BitVec 1 := Scalar.cmpi .slt v4402 c0_i32_3515
  let c0_i32_3516 : BitVec 32 := 0#32
  let v4405 : BitVec 1 := Scalar.cmpi .slt v4401 c0_i32_3516
  let v4406 : BitVec 1 := Scalar.xori v4404 v4405
  let c0_i32_3514 : BitVec 32 := 0#32
  let v4403 : BitVec 1 := Scalar.cmpi .ne v4402 c0_i32_3514
  let v4407 : BitVec 1 := Scalar.andi v4406 v4403
  let v4408 : BitVec 32 := Scalar.addi v4402 v4401
  let v4409 : BitVec 32 := Scalar.select v4407 v4408 v4402
  let c1_i32_3520 : BitVec 32 := 1#32
  let v4411 : BitVec 32 := Scalar.muli v4409 c1_i32_3520
  let v4412 : BitVec 32 := Scalar.addi c0_i32_3521 v4411
  v4412.toNat
def k0_dev150 (d0 : Dev nD) : Nat :=
  let c0_i32_3534 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c26_i32_3523 : BitVec 32 := 26#32
  let v4418 : BitVec 32 := Scalar.addi v2 c26_i32_3523
  let c32_i32_3524 : BitVec 32 := 32#32
  let c0_i32_3525 : BitVec 32 := 0#32
  let v4419 : BitVec 1 := Scalar.cmpi .eq c32_i32_3524 c0_i32_3525
  let c1_i32_3526 : BitVec 32 := 1#32
  let v4420 : BitVec 32 := Scalar.select v4419 c1_i32_3526 c32_i32_3524
  let v4421 : BitVec 32 := Scalar.remsi v4418 v4420
  let c0_i32_3528 : BitVec 32 := 0#32
  let v4423 : BitVec 1 := Scalar.cmpi .slt v4421 c0_i32_3528
  let c0_i32_3529 : BitVec 32 := 0#32
  let v4424 : BitVec 1 := Scalar.cmpi .slt v4420 c0_i32_3529
  let v4425 : BitVec 1 := Scalar.xori v4423 v4424
  let c0_i32_3527 : BitVec 32 := 0#32
  let v4422 : BitVec 1 := Scalar.cmpi .ne v4421 c0_i32_3527
  let v4426 : BitVec 1 := Scalar.andi v4425 v4422
  let v4427 : BitVec 32 := Scalar.addi v4421 v4420
  let v4428 : BitVec 32 := Scalar.select v4426 v4427 v4421
  let c1_i32_3533 : BitVec 32 := 1#32
  let v4430 : BitVec 32 := Scalar.muli v4428 c1_i32_3533
  let v4431 : BitVec 32 := Scalar.addi c0_i32_3534 v4430
  v4431.toNat
def k0_dev151 (d0 : Dev nD) : Nat :=
  let c0_i32_3547 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c27_i32_3536 : BitVec 32 := 27#32
  let v4437 : BitVec 32 := Scalar.addi v2 c27_i32_3536
  let c32_i32_3537 : BitVec 32 := 32#32
  let c0_i32_3538 : BitVec 32 := 0#32
  let v4438 : BitVec 1 := Scalar.cmpi .eq c32_i32_3537 c0_i32_3538
  let c1_i32_3539 : BitVec 32 := 1#32
  let v4439 : BitVec 32 := Scalar.select v4438 c1_i32_3539 c32_i32_3537
  let v4440 : BitVec 32 := Scalar.remsi v4437 v4439
  let c0_i32_3541 : BitVec 32 := 0#32
  let v4442 : BitVec 1 := Scalar.cmpi .slt v4440 c0_i32_3541
  let c0_i32_3542 : BitVec 32 := 0#32
  let v4443 : BitVec 1 := Scalar.cmpi .slt v4439 c0_i32_3542
  let v4444 : BitVec 1 := Scalar.xori v4442 v4443
  let c0_i32_3540 : BitVec 32 := 0#32
  let v4441 : BitVec 1 := Scalar.cmpi .ne v4440 c0_i32_3540
  let v4445 : BitVec 1 := Scalar.andi v4444 v4441
  let v4446 : BitVec 32 := Scalar.addi v4440 v4439
  let v4447 : BitVec 32 := Scalar.select v4445 v4446 v4440
  let c1_i32_3546 : BitVec 32 := 1#32
  let v4449 : BitVec 32 := Scalar.muli v4447 c1_i32_3546
  let v4450 : BitVec 32 := Scalar.addi c0_i32_3547 v4449
  v4450.toNat
def k0_dev152 (d0 : Dev nD) : Nat :=
  let c0_i32_3560 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c28_i32_3549 : BitVec 32 := 28#32
  let v4456 : BitVec 32 := Scalar.addi v2 c28_i32_3549
  let c32_i32_3550 : BitVec 32 := 32#32
  let c0_i32_3551 : BitVec 32 := 0#32
  let v4457 : BitVec 1 := Scalar.cmpi .eq c32_i32_3550 c0_i32_3551
  let c1_i32_3552 : BitVec 32 := 1#32
  let v4458 : BitVec 32 := Scalar.select v4457 c1_i32_3552 c32_i32_3550
  let v4459 : BitVec 32 := Scalar.remsi v4456 v4458
  let c0_i32_3554 : BitVec 32 := 0#32
  let v4461 : BitVec 1 := Scalar.cmpi .slt v4459 c0_i32_3554
  let c0_i32_3555 : BitVec 32 := 0#32
  let v4462 : BitVec 1 := Scalar.cmpi .slt v4458 c0_i32_3555
  let v4463 : BitVec 1 := Scalar.xori v4461 v4462
  let c0_i32_3553 : BitVec 32 := 0#32
  let v4460 : BitVec 1 := Scalar.cmpi .ne v4459 c0_i32_3553
  let v4464 : BitVec 1 := Scalar.andi v4463 v4460
  let v4465 : BitVec 32 := Scalar.addi v4459 v4458
  let v4466 : BitVec 32 := Scalar.select v4464 v4465 v4459
  let c1_i32_3559 : BitVec 32 := 1#32
  let v4468 : BitVec 32 := Scalar.muli v4466 c1_i32_3559
  let v4469 : BitVec 32 := Scalar.addi c0_i32_3560 v4468
  v4469.toNat
def k0_dev153 (d0 : Dev nD) : Nat :=
  let c0_i32_3573 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c29_i32_3562 : BitVec 32 := 29#32
  let v4475 : BitVec 32 := Scalar.addi v2 c29_i32_3562
  let c32_i32_3563 : BitVec 32 := 32#32
  let c0_i32_3564 : BitVec 32 := 0#32
  let v4476 : BitVec 1 := Scalar.cmpi .eq c32_i32_3563 c0_i32_3564
  let c1_i32_3565 : BitVec 32 := 1#32
  let v4477 : BitVec 32 := Scalar.select v4476 c1_i32_3565 c32_i32_3563
  let v4478 : BitVec 32 := Scalar.remsi v4475 v4477
  let c0_i32_3567 : BitVec 32 := 0#32
  let v4480 : BitVec 1 := Scalar.cmpi .slt v4478 c0_i32_3567
  let c0_i32_3568 : BitVec 32 := 0#32
  let v4481 : BitVec 1 := Scalar.cmpi .slt v4477 c0_i32_3568
  let v4482 : BitVec 1 := Scalar.xori v4480 v4481
  let c0_i32_3566 : BitVec 32 := 0#32
  let v4479 : BitVec 1 := Scalar.cmpi .ne v4478 c0_i32_3566
  let v4483 : BitVec 1 := Scalar.andi v4482 v4479
  let v4484 : BitVec 32 := Scalar.addi v4478 v4477
  let v4485 : BitVec 32 := Scalar.select v4483 v4484 v4478
  let c1_i32_3572 : BitVec 32 := 1#32
  let v4487 : BitVec 32 := Scalar.muli v4485 c1_i32_3572
  let v4488 : BitVec 32 := Scalar.addi c0_i32_3573 v4487
  v4488.toNat
def k0_dev154 (d0 : Dev nD) : Nat :=
  let c0_i32_3586 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c30_i32_3575 : BitVec 32 := 30#32
  let v4494 : BitVec 32 := Scalar.addi v2 c30_i32_3575
  let c32_i32_3576 : BitVec 32 := 32#32
  let c0_i32_3577 : BitVec 32 := 0#32
  let v4495 : BitVec 1 := Scalar.cmpi .eq c32_i32_3576 c0_i32_3577
  let c1_i32_3578 : BitVec 32 := 1#32
  let v4496 : BitVec 32 := Scalar.select v4495 c1_i32_3578 c32_i32_3576
  let v4497 : BitVec 32 := Scalar.remsi v4494 v4496
  let c0_i32_3580 : BitVec 32 := 0#32
  let v4499 : BitVec 1 := Scalar.cmpi .slt v4497 c0_i32_3580
  let c0_i32_3581 : BitVec 32 := 0#32
  let v4500 : BitVec 1 := Scalar.cmpi .slt v4496 c0_i32_3581
  let v4501 : BitVec 1 := Scalar.xori v4499 v4500
  let c0_i32_3579 : BitVec 32 := 0#32
  let v4498 : BitVec 1 := Scalar.cmpi .ne v4497 c0_i32_3579
  let v4502 : BitVec 1 := Scalar.andi v4501 v4498
  let v4503 : BitVec 32 := Scalar.addi v4497 v4496
  let v4504 : BitVec 32 := Scalar.select v4502 v4503 v4497
  let c1_i32_3585 : BitVec 32 := 1#32
  let v4506 : BitVec 32 := Scalar.muli v4504 c1_i32_3585
  let v4507 : BitVec 32 := Scalar.addi c0_i32_3586 v4506
  v4507.toNat
def k0_dev155 (d0 : Dev nD) : Nat :=
  let c0_i32_3599 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32_3588 : BitVec 32 := 31#32
  let v4513 : BitVec 32 := Scalar.addi v2 c31_i32_3588
  let c32_i32_3589 : BitVec 32 := 32#32
  let c0_i32_3590 : BitVec 32 := 0#32
  let v4514 : BitVec 1 := Scalar.cmpi .eq c32_i32_3589 c0_i32_3590
  let c1_i32_3591 : BitVec 32 := 1#32
  let v4515 : BitVec 32 := Scalar.select v4514 c1_i32_3591 c32_i32_3589
  let v4516 : BitVec 32 := Scalar.remsi v4513 v4515
  let c0_i32_3593 : BitVec 32 := 0#32
  let v4518 : BitVec 1 := Scalar.cmpi .slt v4516 c0_i32_3593
  let c0_i32_3594 : BitVec 32 := 0#32
  let v4519 : BitVec 1 := Scalar.cmpi .slt v4515 c0_i32_3594
  let v4520 : BitVec 1 := Scalar.xori v4518 v4519
  let c0_i32_3592 : BitVec 32 := 0#32
  let v4517 : BitVec 1 := Scalar.cmpi .ne v4516 c0_i32_3592
  let v4521 : BitVec 1 := Scalar.andi v4520 v4517
  let v4522 : BitVec 32 := Scalar.addi v4516 v4515
  let v4523 : BitVec 32 := Scalar.select v4521 v4522 v4516
  let c1_i32_3598 : BitVec 32 := 1#32
  let v4525 : BitVec 32 := Scalar.muli v4523 c1_i32_3598
  let v4526 : BitVec 32 := Scalar.addi c0_i32_3599 v4525
  v4526.toNat
abbrev stage0_0 : Fin 1 → Memref sig .tc .vmem S2x256x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S512x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S512x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S512x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S256x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S2x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S128x3072 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S512x64 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S64x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S2x256x512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
-- ==== ReferenceIdeal.lean ====
abbrev S2x256x512 : Shape := ⟨3, ![2, 256, 512]⟩
abbrev S512x8192 : Shape := ⟨2, ![512, 8192]⟩
abbrev S8192x512 : Shape := ⟨2, ![8192, 512]⟩
abbrev S2x128 : Shape := ⟨2, ![2, 128]⟩
abbrev S128x3072 : Shape := ⟨2, ![128, 3072]⟩
abbrev S512x2048 : Shape := ⟨2, ![512, 2048]⟩
abbrev S2048x512 : Shape := ⟨2, ![2048, 512]⟩
abbrev S2x3072 : Shape := ⟨2, ![2, 3072]⟩
abbrev S2x512 : Shape := ⟨2, ![2, 512]⟩
abbrev S_ : Shape := ⟨0, ![]⟩
abbrev S2x256 : Shape := ⟨2, ![2, 256]⟩
abbrev S2x256x1 : Shape := ⟨3, ![2, 256, 1]⟩
abbrev S2x1x512 : Shape := ⟨3, ![2, 1, 512]⟩
abbrev S2x256x8192 : Shape := ⟨3, ![2, 256, 8192]⟩
abbrev S2x256x128x64 : Shape := ⟨4, ![2, 256, 128, 64]⟩
abbrev S2x128x256x1 : Shape := ⟨4, ![2, 128, 256, 1]⟩
abbrev S2x128x256x256 : Shape := ⟨4, ![2, 128, 256, 256]⟩
abbrev S2x128x256 : Shape := ⟨3, ![2, 128, 256]⟩
abbrev S2x256x128x1 : Shape := ⟨4, ![2, 256, 128, 1]⟩
abbrev S2x128x64x256 : Shape := ⟨4, ![2, 128, 64, 256]⟩
abbrev S2x256x2048 : Shape := ⟨3, ![2, 256, 2048]⟩

abbrev nBuf : Space → Nat
  | .hbm => 167
  | .vmem => 0
  | .smem => 0
  | _ => 0

abbrev hbmTy0_0 (i : Nat) : BufTy := match i % 128 with
  | 0 => ⟨S2x256x512, .f32⟩
  | 1 => ⟨S512x8192, .f32⟩
  | 2 => ⟨S512x8192, .f32⟩
  | 3 => ⟨S512x8192, .f32⟩
  | 4 => ⟨S8192x512, .f32⟩
  | 5 => ⟨S2x128, .f32⟩
  | 6 => ⟨S128x3072, .f32⟩
  | 7 => ⟨S512x2048, .f32⟩
  | 8 => ⟨S2048x512, .f32⟩
  | 9 => ⟨S2x3072, .f32⟩
  | 10 => ⟨S2x512, .f32⟩
  | 11 => ⟨S2x512, .f32⟩
  | 12 => ⟨S2x512, .f32⟩
  | 13 => ⟨S2x512, .f32⟩
  | 14 => ⟨S2x512, .f32⟩
  | 15 => ⟨S2x512, .f32⟩
  | 16 => ⟨S_, .f32⟩
  | 17 => ⟨S2x256, .f32⟩
  | 18 => ⟨S2x256x1, .f32⟩
  | 19 => ⟨S_, .f32⟩
  | 20 => ⟨S2x256x1, .f32⟩
  | 21 => ⟨S2x256x1, .f32⟩
  | 22 => ⟨S_, .i32⟩
  | 23 => ⟨S_, .f32⟩
  | 24 => ⟨S2x256, .f32⟩
  | 25 => ⟨S2x256x1, .f32⟩
  | 26 => ⟨S_, .f32⟩
  | 27 => ⟨S2x256x1, .f32⟩
  | 28 => ⟨S2x256x1, .f32⟩
  | 29 => ⟨S2x256x512, .f32⟩
  | 30 => ⟨S2x256x512, .f32⟩
  | 31 => ⟨S2x256x512, .f32⟩
  | 32 => ⟨S_, .f32⟩
  | 33 => ⟨S_, .f32⟩
  | 34 => ⟨S_, .f32⟩
  | 35 => ⟨S_, .f32⟩
  | 36 => ⟨S2x256, .f32⟩
  | 37 => ⟨S2x256x1, .f32⟩
  | 38 => ⟨S2x256x1, .f32⟩
  | 39 => ⟨S2x256x1, .f32⟩
  | 40 => ⟨S_, .f32⟩
  | 41 => ⟨S_, .i1⟩
  | 42 => ⟨S_, .f32⟩
  | 43 => ⟨S_, .f32⟩
  | 44 => ⟨S2x256x1, .f32⟩
  | 45 => ⟨S2x256x1, .f32⟩
  | 46 => ⟨S2x256x512, .f32⟩
  | 47 => ⟨S2x256x512, .f32⟩
  | 48 => ⟨S_, .f32⟩
  | 49 => ⟨S2x256x1, .f32⟩
  | 50 => ⟨S2x256x1, .f32⟩
  | 51 => ⟨S2x256x1, .f32⟩
  | 52 => ⟨S2x256x512, .f32⟩
  | 53 => ⟨S2x256x512, .f32⟩
  | 54 => ⟨S2x1x512, .f32⟩
  | 55 => ⟨S_, .f32⟩
  | 56 => ⟨S2x1x512, .f32⟩
  | 57 => ⟨S2x1x512, .f32⟩
  | 58 => ⟨S2x256x512, .f32⟩
  | 59 => ⟨S2x256x512, .f32⟩
  | 60 => ⟨S2x1x512, .f32⟩
  | 61 => ⟨S2x256x512, .f32⟩
  | 62 => ⟨S2x256x512, .f32⟩
  | 63 => ⟨S2x256x8192, .f32⟩
  | 64 => ⟨S2x256x128x64, .f32⟩
  | 65 => ⟨S2x256x8192, .f32⟩
  | 66 => ⟨S2x256x128x64, .f32⟩
  | 67 => ⟨S2x256x8192, .f32⟩
  | 68 => ⟨S2x256x128x64, .f32⟩
  | 69 => ⟨S_, .f32⟩
  | 70 => ⟨S2x256x128x64, .f32⟩
  | 71 => ⟨S_, .f32⟩
  | 72 => ⟨S2x128x256x1, .f32⟩
  | 73 => ⟨S_, .f32⟩
  | 74 => ⟨S2x128x256x1, .f32⟩
  | 75 => ⟨S2x128x256x256, .f32⟩
  | 76 => ⟨S_, .f32⟩
  | 77 => ⟨S2x128x256x256, .f32⟩
  | 78 => ⟨S2x128x256x256, .f32⟩
  | 79 => ⟨S_, .f32⟩
  | 80 => ⟨S2x128x256, .f32⟩
  | 81 => ⟨S2x128x256x1, .f32⟩
  | 82 => ⟨S2x128x256x1, .f32⟩
  | 83 => ⟨S2x128x256x1, .f32⟩
  | 84 => ⟨S2x128x256x1, .f32⟩
  | 85 => ⟨S2x128x256x256, .f32⟩
  | 86 => ⟨S2x128x256x256, .f32⟩
  | 87 => ⟨S2x128x256x256, .f32⟩
  | 88 => ⟨S2x128x256x1, .f32⟩
  | 89 => ⟨S_, .f32⟩
  | 90 => ⟨S2x128x256, .f32⟩
  | 91 => ⟨S2x128x256x1, .f32⟩
  | 92 => ⟨S2x128x256x1, .f32⟩
  | 93 => ⟨S2x256x128x1, .f32⟩
  | 94 => ⟨S2x256x128x64, .f32⟩
  | 95 => ⟨S2x256x128x64, .f32⟩
  | 96 => ⟨S2x128x64x256, .f32⟩
  | 97 => ⟨S2x256x128x64, .f32⟩
  | 98 => ⟨S2x256x128x64, .f32⟩
  | 99 => ⟨S2x256x128x1, .f32⟩
  | 100 => ⟨S2x256x128x64, .f32⟩
  | 101 => ⟨S2x256x128x64, .f32⟩
  | 102 => ⟨S2x256x8192, .f32⟩
  | 103 => ⟨S2x256x512, .f32⟩
  | 104 => ⟨S2x1x512, .f32⟩
  | 105 => ⟨S2x256x512, .f32⟩
  | 106 => ⟨S2x256x512, .f32⟩
  | 107 => ⟨S2x256x512, .f32⟩
  | 108 => ⟨S_, .f32⟩
  | 109 => ⟨S2x256, .f32⟩
  | 110 => ⟨S2x256x1, .f32⟩
  | 111 => ⟨S_, .f32⟩
  | 112 => ⟨S2x256x1, .f32⟩
  | 113 => ⟨S2x256x1, .f32⟩
  | 114 => ⟨S_, .i32⟩
  | 115 => ⟨S_, .f32⟩
  | 116 => ⟨S2x256, .f32⟩
  | 117 => ⟨S2x256x1, .f32⟩
  | 118 => ⟨S_, .f32⟩
  | 119 => ⟨S2x256x1, .f32⟩
  | 120 => ⟨S2x256x1, .f32⟩
  | 121 => ⟨S2x256x512, .f32⟩
  | 122 => ⟨S2x256x512, .f32⟩
  | 123 => ⟨S2x256x512, .f32⟩
  | 124 => ⟨S_, .f32⟩
  | 125 => ⟨S_, .f32⟩
  | 126 => ⟨S_, .f32⟩
  | 127 => ⟨S_, .f32⟩
  | _ => ⟨S2x256x512, .f32⟩

abbrev hbmTy0_1 (i : Nat) : BufTy := match i % 128 with
  | 0 => ⟨S2x256, .f32⟩
  | 1 => ⟨S2x256x1, .f32⟩
  | 2 => ⟨S2x256x1, .f32⟩
  | 3 => ⟨S2x256x1, .f32⟩
  | 4 => ⟨S_, .f32⟩
  | 5 => ⟨S_, .i1⟩
  | 6 => ⟨S_, .f32⟩
  | 7 => ⟨S_, .f32⟩
  | 8 => ⟨S2x256x1, .f32⟩
  | 9 => ⟨S2x256x1, .f32⟩
  | 10 => ⟨S2x256x512, .f32⟩
  | 11 => ⟨S2x256x512, .f32⟩
  | 12 => ⟨S_, .f32⟩
  | 13 => ⟨S2x256x1, .f32⟩
  | 14 => ⟨S2x256x1, .f32⟩
  | 15 => ⟨S2x256x1, .f32⟩
  | 16 => ⟨S2x256x512, .f32⟩
  | 17 => ⟨S2x256x512, .f32⟩
  | 18 => ⟨S2x1x512, .f32⟩
  | 19 => ⟨S_, .f32⟩
  | 20 => ⟨S2x1x512, .f32⟩
  | 21 => ⟨S2x1x512, .f32⟩
  | 22 => ⟨S2x256x512, .f32⟩
  | 23 => ⟨S2x256x512, .f32⟩
  | 24 => ⟨S2x1x512, .f32⟩
  | 25 => ⟨S2x256x512, .f32⟩
  | 26 => ⟨S2x256x512, .f32⟩
  | 27 => ⟨S2x256x2048, .f32⟩
  | 28 => ⟨S2x256x2048, .f32⟩
  | 29 => ⟨S2x256x2048, .f32⟩
  | 30 => ⟨S_, .f32⟩
  | 31 => ⟨S2x256x2048, .f32⟩
  | 32 => ⟨S2x256x2048, .f32⟩
  | 33 => ⟨S2x256x2048, .f32⟩
  | 34 => ⟨S2x1x512, .f32⟩
  | 35 => ⟨S2x256x512, .f32⟩
  | 36 => ⟨S2x256x512, .f32⟩
  | 37 => ⟨S2x256x512, .f32⟩
  | 38 => ⟨S2x256x512, .f32⟩
  | _ => ⟨S2x256x512, .f32⟩

abbrev hbmTy (i : Nat) : BufTy := match i / 128 with
  | 0 => hbmTy0_0 i
  | 1 => hbmTy0_1 i
  | _ => ⟨S2x256x512, .f32⟩

abbrev bufTy : (tb : Table) → Fin (tcTables nBuf tb) → BufTy
  | .hbm, ⟨i, _⟩ => hbmTy i
  | _, _ => ⟨S2x256x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst : Ref sig .tc := ⟨.hbm, 16, rfl⟩
abbrev main_v7 : Ref sig .tc := ⟨.hbm, 17, rfl⟩
abbrev main_v8 : Ref sig .tc := ⟨.hbm, 18, rfl⟩
abbrev main_cst_0 : Ref sig .tc := ⟨.hbm, 19, rfl⟩
abbrev main_v9 : Ref sig .tc := ⟨.hbm, 20, rfl⟩
abbrev main_v10 : Ref sig .tc := ⟨.hbm, 21, rfl⟩
abbrev main_c : Ref sig .tc := ⟨.hbm, 22, rfl⟩
abbrev main_call0_cst : Ref sig .tc := ⟨.hbm, 23, rfl⟩
abbrev main_call0_v0 : Ref sig .tc := ⟨.hbm, 24, rfl⟩
abbrev main_call0_v1 : Ref sig .tc := ⟨.hbm, 25, rfl⟩
abbrev main_call0_cst_0 : Ref sig .tc := ⟨.hbm, 26, rfl⟩
abbrev main_call0_v2 : Ref sig .tc := ⟨.hbm, 27, rfl⟩
abbrev main_call0_v3 : Ref sig .tc := ⟨.hbm, 28, rfl⟩
abbrev main_call0_v4 : Ref sig .tc := ⟨.hbm, 29, rfl⟩
abbrev main_call0_v5 : Ref sig .tc := ⟨.hbm, 30, rfl⟩
abbrev main_call0_v6 : Ref sig .tc := ⟨.hbm, 31, rfl⟩
abbrev main_call0_v7 : Ref sig .tc := ⟨.hbm, 32, rfl⟩
abbrev main_call0_cst_1 : Ref sig .tc := ⟨.hbm, 33, rfl⟩
abbrev main_call0_v8 : Ref sig .tc := ⟨.hbm, 34, rfl⟩
abbrev main_call0_cst_2 : Ref sig .tc := ⟨.hbm, 35, rfl⟩
abbrev main_call0_v9 : Ref sig .tc := ⟨.hbm, 36, rfl⟩
abbrev main_call0_v10 : Ref sig .tc := ⟨.hbm, 37, rfl⟩
abbrev main_call0_v11 : Ref sig .tc := ⟨.hbm, 38, rfl⟩
abbrev main_call0_v12 : Ref sig .tc := ⟨.hbm, 39, rfl⟩
abbrev main_call0_cst_3 : Ref sig .tc := ⟨.hbm, 40, rfl⟩
abbrev main_call0_v13 : Ref sig .tc := ⟨.hbm, 41, rfl⟩
abbrev main_call0_cst_4 : Ref sig .tc := ⟨.hbm, 42, rfl⟩
abbrev main_call0_call0_v0 : Ref sig .tc := ⟨.hbm, 43, rfl⟩
abbrev main_call0_call0_v1 : Ref sig .tc := ⟨.hbm, 44, rfl⟩
abbrev main_v11 : Ref sig .tc := ⟨.hbm, 45, rfl⟩
abbrev main_v12 : Ref sig .tc := ⟨.hbm, 46, rfl⟩
abbrev main_v13 : Ref sig .tc := ⟨.hbm, 47, rfl⟩
abbrev main_cst_1 : Ref sig .tc := ⟨.hbm, 48, rfl⟩
abbrev main_v14 : Ref sig .tc := ⟨.hbm, 49, rfl⟩
abbrev main_v15 : Ref sig .tc := ⟨.hbm, 50, rfl⟩
abbrev main_v16 : Ref sig .tc := ⟨.hbm, 51, rfl⟩
abbrev main_v17 : Ref sig .tc := ⟨.hbm, 52, rfl⟩
abbrev main_v18 : Ref sig .tc := ⟨.hbm, 53, rfl⟩
abbrev main_v19 : Ref sig .tc := ⟨.hbm, 54, rfl⟩
abbrev main_cst_2 : Ref sig .tc := ⟨.hbm, 55, rfl⟩
abbrev main_v20 : Ref sig .tc := ⟨.hbm, 56, rfl⟩
abbrev main_v21 : Ref sig .tc := ⟨.hbm, 57, rfl⟩
abbrev main_v22 : Ref sig .tc := ⟨.hbm, 58, rfl⟩
abbrev main_v23 : Ref sig .tc := ⟨.hbm, 59, rfl⟩
abbrev main_v24 : Ref sig .tc := ⟨.hbm, 60, rfl⟩
abbrev main_v25 : Ref sig .tc := ⟨.hbm, 61, rfl⟩
abbrev main_v26 : Ref sig .tc := ⟨.hbm, 62, rfl⟩
abbrev main_v27 : Ref sig .tc := ⟨.hbm, 63, rfl⟩
abbrev main_v28 : Ref sig .tc := ⟨.hbm, 64, rfl⟩
abbrev main_v29 : Ref sig .tc := ⟨.hbm, 65, rfl⟩
abbrev main_v30 : Ref sig .tc := ⟨.hbm, 66, rfl⟩
abbrev main_v31 : Ref sig .tc := ⟨.hbm, 67, rfl⟩
abbrev main_v32 : Ref sig .tc := ⟨.hbm, 68, rfl⟩
abbrev main_cst_3 : Ref sig .tc := ⟨.hbm, 69, rfl⟩
abbrev main_v33 : Ref sig .tc := ⟨.hbm, 70, rfl⟩
abbrev main_cst_4 : Ref sig .tc := ⟨.hbm, 71, rfl⟩
abbrev main_v34 : Ref sig .tc := ⟨.hbm, 72, rfl⟩
abbrev main_cst_5 : Ref sig .tc := ⟨.hbm, 73, rfl⟩
abbrev main_v35 : Ref sig .tc := ⟨.hbm, 74, rfl⟩
abbrev main_v36 : Ref sig .tc := ⟨.hbm, 75, rfl⟩
abbrev main_cst_6 : Ref sig .tc := ⟨.hbm, 76, rfl⟩
abbrev main_v37 : Ref sig .tc := ⟨.hbm, 77, rfl⟩
abbrev main_v38 : Ref sig .tc := ⟨.hbm, 78, rfl⟩
abbrev main_cst_7 : Ref sig .tc := ⟨.hbm, 79, rfl⟩
abbrev main_v39 : Ref sig .tc := ⟨.hbm, 80, rfl⟩
abbrev main_v40 : Ref sig .tc := ⟨.hbm, 81, rfl⟩
abbrev main_v41 : Ref sig .tc := ⟨.hbm, 82, rfl⟩
abbrev main_v42 : Ref sig .tc := ⟨.hbm, 83, rfl⟩
abbrev main_v43 : Ref sig .tc := ⟨.hbm, 84, rfl⟩
abbrev main_v44 : Ref sig .tc := ⟨.hbm, 85, rfl⟩
abbrev main_v45 : Ref sig .tc := ⟨.hbm, 86, rfl⟩
abbrev main_v46 : Ref sig .tc := ⟨.hbm, 87, rfl⟩
abbrev main_v47 : Ref sig .tc := ⟨.hbm, 88, rfl⟩
abbrev main_cst_8 : Ref sig .tc := ⟨.hbm, 89, rfl⟩
abbrev main_v48 : Ref sig .tc := ⟨.hbm, 90, rfl⟩
abbrev main_v49 : Ref sig .tc := ⟨.hbm, 91, rfl⟩
abbrev main_v50 : Ref sig .tc := ⟨.hbm, 92, rfl⟩
abbrev main_v51 : Ref sig .tc := ⟨.hbm, 93, rfl⟩
abbrev main_v52 : Ref sig .tc := ⟨.hbm, 94, rfl⟩
abbrev main_v53 : Ref sig .tc := ⟨.hbm, 95, rfl⟩
abbrev main_v54 : Ref sig .tc := ⟨.hbm, 96, rfl⟩
abbrev main_v55 : Ref sig .tc := ⟨.hbm, 97, rfl⟩
abbrev main_v56 : Ref sig .tc := ⟨.hbm, 98, rfl⟩
abbrev main_v57 : Ref sig .tc := ⟨.hbm, 99, rfl⟩
abbrev main_v58 : Ref sig .tc := ⟨.hbm, 100, rfl⟩
abbrev main_v59 : Ref sig .tc := ⟨.hbm, 101, rfl⟩
abbrev main_v60 : Ref sig .tc := ⟨.hbm, 102, rfl⟩
abbrev main_v61 : Ref sig .tc := ⟨.hbm, 103, rfl⟩
abbrev main_v62 : Ref sig .tc := ⟨.hbm, 104, rfl⟩
abbrev main_v63 : Ref sig .tc := ⟨.hbm, 105, rfl⟩
abbrev main_v64 : Ref sig .tc := ⟨.hbm, 106, rfl⟩
abbrev main_v65 : Ref sig .tc := ⟨.hbm, 107, rfl⟩
abbrev main_cst_9 : Ref sig .tc := ⟨.hbm, 108, rfl⟩
abbrev main_v66 : Ref sig .tc := ⟨.hbm, 109, rfl⟩
abbrev main_v67 : Ref sig .tc := ⟨.hbm, 110, rfl⟩
abbrev main_cst_10 : Ref sig .tc := ⟨.hbm, 111, rfl⟩
abbrev main_v68 : Ref sig .tc := ⟨.hbm, 112, rfl⟩
abbrev main_v69 : Ref sig .tc := ⟨.hbm, 113, rfl⟩
abbrev main_c_11 : Ref sig .tc := ⟨.hbm, 114, rfl⟩
abbrev main_call1_cst : Ref sig .tc := ⟨.hbm, 115, rfl⟩
abbrev main_call1_v0 : Ref sig .tc := ⟨.hbm, 116, rfl⟩
abbrev main_call1_v1 : Ref sig .tc := ⟨.hbm, 117, rfl⟩
abbrev main_call1_cst_0 : Ref sig .tc := ⟨.hbm, 118, rfl⟩
abbrev main_call1_v2 : Ref sig .tc := ⟨.hbm, 119, rfl⟩
abbrev main_call1_v3 : Ref sig .tc := ⟨.hbm, 120, rfl⟩
abbrev main_call1_v4 : Ref sig .tc := ⟨.hbm, 121, rfl⟩
abbrev main_call1_v5 : Ref sig .tc := ⟨.hbm, 122, rfl⟩
abbrev main_call1_v6 : Ref sig .tc := ⟨.hbm, 123, rfl⟩
abbrev main_call1_v7 : Ref sig .tc := ⟨.hbm, 124, rfl⟩
abbrev main_call1_cst_1 : Ref sig .tc := ⟨.hbm, 125, rfl⟩
abbrev main_call1_v8 : Ref sig .tc := ⟨.hbm, 126, rfl⟩
abbrev main_call1_cst_2 : Ref sig .tc := ⟨.hbm, 127, rfl⟩
abbrev main_call1_v9 : Ref sig .tc := ⟨.hbm, 128, rfl⟩
abbrev main_call1_v10 : Ref sig .tc := ⟨.hbm, 129, rfl⟩
abbrev main_call1_v11 : Ref sig .tc := ⟨.hbm, 130, rfl⟩
abbrev main_call1_v12 : Ref sig .tc := ⟨.hbm, 131, rfl⟩
abbrev main_call1_cst_3 : Ref sig .tc := ⟨.hbm, 132, rfl⟩
abbrev main_call1_v13 : Ref sig .tc := ⟨.hbm, 133, rfl⟩
abbrev main_call1_cst_4 : Ref sig .tc := ⟨.hbm, 134, rfl⟩
abbrev main_call1_call0_v0 : Ref sig .tc := ⟨.hbm, 135, rfl⟩
abbrev main_call1_call0_v1 : Ref sig .tc := ⟨.hbm, 136, rfl⟩
abbrev main_v70 : Ref sig .tc := ⟨.hbm, 137, rfl⟩
abbrev main_v71 : Ref sig .tc := ⟨.hbm, 138, rfl⟩
abbrev main_v72 : Ref sig .tc := ⟨.hbm, 139, rfl⟩
abbrev main_cst_12 : Ref sig .tc := ⟨.hbm, 140, rfl⟩
abbrev main_v73 : Ref sig .tc := ⟨.hbm, 141, rfl⟩
abbrev main_v74 : Ref sig .tc := ⟨.hbm, 142, rfl⟩
abbrev main_v75 : Ref sig .tc := ⟨.hbm, 143, rfl⟩
abbrev main_v76 : Ref sig .tc := ⟨.hbm, 144, rfl⟩
abbrev main_v77 : Ref sig .tc := ⟨.hbm, 145, rfl⟩
abbrev main_v78 : Ref sig .tc := ⟨.hbm, 146, rfl⟩
abbrev main_cst_13 : Ref sig .tc := ⟨.hbm, 147, rfl⟩
abbrev main_v79 : Ref sig .tc := ⟨.hbm, 148, rfl⟩
abbrev main_v80 : Ref sig .tc := ⟨.hbm, 149, rfl⟩
abbrev main_v81 : Ref sig .tc := ⟨.hbm, 150, rfl⟩
abbrev main_v82 : Ref sig .tc := ⟨.hbm, 151, rfl⟩
abbrev main_v83 : Ref sig .tc := ⟨.hbm, 152, rfl⟩
abbrev main_v84 : Ref sig .tc := ⟨.hbm, 153, rfl⟩
abbrev main_v85 : Ref sig .tc := ⟨.hbm, 154, rfl⟩
abbrev main_v86 : Ref sig .tc := ⟨.hbm, 155, rfl⟩
abbrev main_v87 : Ref sig .tc := ⟨.hbm, 156, rfl⟩
abbrev main_v88 : Ref sig .tc := ⟨.hbm, 157, rfl⟩
abbrev main_cst_14 : Ref sig .tc := ⟨.hbm, 158, rfl⟩
abbrev main_v89 : Ref sig .tc := ⟨.hbm, 159, rfl⟩
abbrev main_v90 : Ref sig .tc := ⟨.hbm, 160, rfl⟩
abbrev main_v91 : Ref sig .tc := ⟨.hbm, 161, rfl⟩
abbrev main_v92 : Ref sig .tc := ⟨.hbm, 162, rfl⟩
abbrev main_v93 : Ref sig .tc := ⟨.hbm, 163, rfl⟩
abbrev main_v94 : Ref sig .tc := ⟨.hbm, 164, rfl⟩
abbrev main_v95 : Ref sig .tc := ⟨.hbm, 165, rfl⟩
abbrev main_v96 : Ref sig .tc := ⟨.hbm, 166, rfl⟩

abbrev nD : Nat := 1
abbrev τ : Topo := Topo.v7x

variable {F : FTy → Type} [FloatOps F]
-- ==== Proof.Sched.lean ====
/-
The protocol of the kernel: who waits on which semaphore for what, and what changes hands.
-/
module

public import proofs.«01_k».proof.Proof.Gen.KernelIdeal.Launch
public import proofs.«01_k».proof.Proof.Gen.KernelIdeal.Skeleton
public import Idealize.ShloMosaic.Lib.Pipeline.Launch
public import Idealize.ShloMosaic.Lib.Pipeline.Kit
public import Idealize.ShloMosaic.Lib.Tactic
public import Idealize.ShloMosaic.Lib.ValueLayout
public import Idealize.ShloMosaic.Lib.Pointwise.Index
public import Idealize.ShloMosaic.Lib.Transfers
public import Idealize.ShloMosaic.Lib.Pipeline.BigSepL
public import Idealize.ShloMosaic.Lib.Pipeline.TalkSched

@[expose] public section

set_option maxRecDepth 8000

noncomputable section

namespace Cert.KernelIdeal.Run

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

abbrev UB : Type := URounds (GSem nD τ sig) (Fin 32)
abbrev UU : Type := UR sig nD τ × UB

local notation "𝕄" => MT nD τ sig ℕ (Elt F) ℕ UU ℕ

abbrev EP : Emb (UR sig nD τ) (MT nD τ sig ℕ (Elt F) ℕ UU ℕ) := embL
abbrev ER : Emb UB (MT nD τ sig ℕ (Elt F) ℕ UU ℕ) := embR

/-! ## The devices at a distance -/

/-- The device `k` places after `c`. -/
def peer (c : Dev nD) (k : Fin 32) : Dev nD := ⟨(c.val + k.val) % 32, Nat.mod_lt _ (by decide)⟩
/-- The device `k` places before `c`. -/
def back (c : Dev nD) (k : Fin 32) : Dev nD := ⟨(c.val + (32 - k.val)) % 32, Nat.mod_lt _ (by decide)⟩
/-- The distance the other way round. -/
def opp (k : Fin 32) : Fin 32 := ⟨(32 - k.val) % 32, Nat.mod_lt _ (by decide)⟩

/-- Going forward by `k` and back by `k` comes home, -/
theorem back_peer (c : Dev nD) (k : Fin 32) : back (peer c k) k = c := by revert c k; decide +kernel
/-- and so does back and forward. -/
theorem peer_back (c : Dev nD) (k : Fin 32) : peer (back c k) k = c := by revert c k; decide +kernel
/-- Forward by the opposite distance is back by the distance, -/
theorem peer_opp (c : Dev nD) (k : Fin 32) : peer c (opp k) = back c k := by revert c k; decide +kernel
/-- and back by the opposite distance is forward by it. -/
theorem back_opp (c : Dev nD) (k : Fin 32) : back c (opp k) = peer c k := by revert c k; decide +kernel
/-- The opposite of the opposite distance is the distance, -/
theorem opp_opp (k : Fin 32) : opp (opp k) = k := by revert k; decide +kernel
/-- and no distance but zero has zero for its opposite. -/
theorem opp_ne (k : Fin 32) (h : k ≠ 0) : opp k ≠ 0 := by revert k; decide +kernel

/-- Going `k` places on, as a permutation of the devices. -/
def turn (k : Fin 32) : Dev nD ≃ Dev nD := ⟨fun c => peer c k, fun c => back c k, fun c => back_peer c k, fun c => peer_back c k⟩

/-! ## The buffers and their pieces -/

abbrev pM : Memref sig .tc .vmem S512x512 .bf16 := Memref.whole cc0_scratch0
abbrev xM : Memref sig .tc .vmem S512x512 .bf16 := Memref.whole cc0_scratch1
abbrev oM : Memref sig .tc .vmem S512x512 .bf16 := Memref.whole cc0_scratch2
abbrev rM : Memref sig .tc .vmem S16x512 .bf16 := Memref.whole cc0_scratch3
abbrev bM : Memref sig .tc .vmem S32x16x512 .bf16 := Memref.whole cc0_scratch4

/-- A device's rows lie in a 512-row buffer, -/
theorem row_inb (d : Dev nD) : ∀ a, (![16 * d.val, 0] : Fin 2 → Nat) a + S16x512.size a ≤ S512x512.size a := by
  revert d; decide +kernel
/-- and a slot in the receive buffer. -/
theorem slot_inb (k : Fin 32) : ∀ a, (![k.val, 0, 0] : Fin 3 → Nat) a + S1x16x512.size a ≤ S32x16x512.size a := by
  revert k; decide +kernel

/-- The sixteen rows of a 512×512 buffer that belong to device `d`. -/
abbrev rowRect (d : Dev nD) : Rect S512x512 := Rect.unit (s := S512x512) ![16 * d.val, 0] S16x512.size (row_inb d)
/-- Slot `k` of the receive buffer. -/
abbrev slotRect (k : Fin 32) : Rect S32x16x512 := Rect.unit (s := S32x16x512) ![k.val, 0, 0] S1x16x512.size (slot_inb k)

abbrev pRow (d : Dev nD) : Memref sig .tc .vmem S16x512 .bf16 := pM.slice (rowRect d) (fun _ => rfl)
abbrev xRow (d : Dev nD) : Memref sig .tc .vmem S16x512 .bf16 := xM.slice (rowRect d) (fun _ => rfl)
abbrev oRow (d : Dev nD) : Memref sig .tc .vmem S16x512 .bf16 := oM.slice (rowRect d) (fun _ => rfl)
abbrev bSlot (k : Fin 32) : Memref sig .tc .vmem S16x512 .bf16 :=
  (bM.slice (slotRect k) (fun _ => rfl) : Memref sig .tc .vmem S1x16x512 .bf16).squeeze S16x512 squeezes_S1x16x512_S16x512

/-! ## The cells -/

/-- The barrier semaphore all the devices meet on. -/
abbrev barS : Sem sig := (SemArray.scalar (sig.barrier 0 rfl) : Sems sig S_).sem

/-- Transfer semaphore `k` of kind `j`: 0 scatter sent, 1 scatter received, 2 gather sent, 3 gather received. -/
def dsem (j : Fin 4) (k : Fin 32) : DmaSem sig := ⟨10 + 32 * j.val + k.val, by have := j.isLt; have := k.isLt; show _ < 138; omega⟩

def decJ (s : DmaSem sig) : Fin 4 := ⟨((s.val - 10) / 32) % 4, Nat.mod_lt _ (by decide)⟩
def decK (s : DmaSem sig) : Fin 32 := ⟨(s.val - 10) % 32, Nat.mod_lt _ (by decide)⟩
/-- A transfer semaphore's kind is read off its number, -/
theorem decJ_dsem (j : Fin 4) (k : Fin 32) : decJ (dsem j k) = j := by revert j k; decide +kernel
/-- and so is its distance. -/
theorem decK_dsem (j : Fin 4) (k : Fin 32) : decK (dsem j k) = k := by revert j k; decide +kernel

abbrev barCell (c : Dev nD) : GSem nD τ sig := ((c : Thread nD τ), .reg barS)
abbrev dCell (j : Fin 4) (c : Dev nD) (k : Fin 32) : GSem nD τ sig := ((c : Thread nD τ), .dma (dsem j k))

/-- What one transfer of sixteen rows raises its semaphores by. -/
def N : ℕ := (rM : Memref sig .tc .vmem S16x512 .bf16).view.dmaCredit
/-- A transfer's credit is not zero. -/
theorem N_pos : 0 < N := View.dmaCredit_pos _ (by decide)
/-- Every block that a copy moves counts the same: rows of the partial sums, -/
theorem N_pRow (d : Dev nD) : (pRow d).view.dmaCredit = N := rfl
/-- of the first result, -/
theorem N_xRow (d : Dev nD) : (xRow d).view.dmaCredit = N := rfl
/-- of the second result, -/
theorem N_oRow (d : Dev nD) : (oRow d).view.dmaCredit = N := rfl
/-- and a receive slot. -/
theorem N_bSlot (k : Fin 32) : (bSlot k).view.dmaCredit = N := rfl
attribute [irreducible] N

/-! ## What the transfers leave -/

/-- The contents of one of the 512×512 buffers, of the sixteen own rows, of the receive buffer. -/
abbrev Big (F : FTy → Type) [FloatOps F] : Type := S512x512.Idx → Elt F .bf16
abbrev Rows (F : FTy → Type) [FloatOps F] : Type := S16x512.Idx → Elt F .bf16
abbrev Recv (F : FTy → Type) [FloatOps F] : Type := S32x16x512.Idx → Elt F .bf16

/-- A device's row is one of the 512. -/
theorem row_lt (d : Dev nD) (i : Fin 16) : 16 * d.val + i.val < 512 := by revert d i; decide +kernel

/-- The receive buffer of device `c` after a scatter of the partial sums `P`: slot `k` has `c`'s rows of the device `k` places before. -/
def scat (P : Dev nD → Big F) (c : Dev nD) : Recv F :=
  fun y => P (back c (y 0)) (ix2 (⟨16 * c.val + (y 1).val, row_lt c (y 1)⟩ : Fin 512) (y 2))

/-- A 512×512 buffer gathered from the devices' rows. -/
def gath (R : Dev nD → Rows F) : Big F :=
  fun y => R (⟨(y 0).val / 16, by have h : (y 0).val < 512 := (y 0).isLt; show _ < 32; omega⟩ : Dev nD)
    (ix2 (⟨(y 0).val % 16, Nat.mod_lt _ (by decide)⟩ : Fin 16) (y 1))

/-- The rows of `d` in a 512×512 buffer. -/
def rowsOf (P : Big F) (d : Dev nD) : Rows F :=
  fun x => P (ix2 (⟨16 * d.val + (x 0).val, row_lt d (x 0)⟩ : Fin 512) (x 1))

/-- Where a place of a device's rows lies in the buffer. -/
theorem rowRect_emb (d : Dev nD) (x : S16x512.Idx) :
    (rowRect d).emb x = (ix2 (⟨16 * d.val + (x 0).val, row_lt d (x 0)⟩ : Fin 512) (x 1) : S512x512.Idx) := by
  funext a; apply Fin.ext
  fin_cases a
  · show 16 * d.val + 1 * (x 0).val = 16 * d.val + (x 0).val; omega
  · show 0 + 1 * (x 1).val = (x 1).val; omega

/-- Reading a device's rows of the partial sums gives those rows. -/
theorem pRow_read (d : Dev nD) (P : Big F) : (pRow d).view.read (Elt F) P = rowsOf P d := by
  funext x; show P ((rowRect d).emb x) = _; rw [rowRect_emb]; rfl

/-- A device's rows of a gathered buffer are what it gave. -/
theorem gath_rows (R : Dev nD → Rows F) (d : Dev nD) : rowsOf (gath R) d = R d := by
  funext x
  have h0 : (x 0).val < 16 := (x 0).isLt
  have hd : d.val < 32 := d.isLt
  have e1 : (⟨(16 * d.val + (x 0).val) / 16, by show _ < 32; omega⟩ : Dev nD) = d := Fin.ext (by show (16 * d.val + (x 0).val) / 16 = d.val; omega)
  have e2 : (ix2 (⟨(16 * d.val + (x 0).val) % 16, Nat.mod_lt _ (by decide)⟩ : Fin 16) (x 1) : S16x512.Idx) = x := by
    funext a; apply Fin.ext
    fin_cases a
    · show (16 * d.val + (x 0).val) % 16 = (x 0).val; omega
    · rfl
  show R ⟨(16 * d.val + (x 0).val) / 16, _⟩ (ix2 (⟨(16 * d.val + (x 0).val) % 16, _⟩ : Fin 16) (x 1)) = R d x
  rw [e1, e2]

/-- Reading a device's rows of the first result gives those rows, -/
theorem xRow_read (d : Dev nD) (P : Big F) : (xRow d).view.read (Elt F) P = rowsOf P d := pRow_read d P
/-- and so it is for the second. -/
theorem oRow_read (d : Dev nD) (P : Big F) : (oRow d).view.read (Elt F) P = rowsOf P d := pRow_read d P

/-- Where a place of a slot lies in the receive buffer. -/
theorem slotRect_emb (k : Fin 32) (x : S16x512.Idx) :
    (slotRect k).emb (ix3 (0 : Fin 1) (x 0) (x 1) : S1x16x512.Idx) = (ix3 k (x 0) (x 1) : S32x16x512.Idx) := by
  funext a; apply Fin.ext
  fin_cases a
  · show k.val + 1 * 0 = k.val; omega
  · show 0 + 1 * (x 0).val = (x 0).val; omega
  · show 0 + 1 * (x 1).val = (x 1).val; omega

/-- A place is the pair of its coordinates. -/
theorem ix2_self (x : S16x512.Idx) : (ix2 (x 0) (x 1) : S16x512.Idx) = x := by
  funext a; fin_cases a <;> rfl

/-- Reading a slot gives the slot's plane of the receive buffer; -/
theorem bSlot_read (k : Fin 32) (R : Recv F) : (bSlot k).view.read (Elt F) R = fun x => R (ix3 k (x 0) (x 1)) := by
  funext x
  show R ((slotRect k).emb (Shape.reshapeEquiv _ x)) = _
  rw [← slotRect_emb]
  congr 2
  conv_lhs => rw [← ix2_self x]
  exact ValueIdx.reshapeEquiv_ix2_1ab _ (x 0) (x 1)

/-- after a scatter it has the rows of the device so many places before. -/
theorem bSlot_scat (k : Fin 32) (P : Dev nD → Big F) (c : Dev nD) :
    (bSlot k).view.read (Elt F) (scat P c) = rowsOf (P (back c k)) c := by
  rw [bSlot_read]; rfl

/-! ## Sets -/

/-- A device's rows take up their rectangle of the buffer. -/
theorem pRow_set (d : Dev nD) : (pRow d).view.set = (rowRect d).set := View.set_slice_whole _ _
/-- A slot takes up its own rectangle. -/
theorem bSlot_set (k : Fin 32) : (bSlot k).view.set = (slotRect k).set := by
  show ((((View.whole cc0_scratch4).slice (slotRect k))).reshape S16x512 _).set = _
  rw [View.set_reshape]; exact View.set_slice_whole _ _

/-- A place belongs to the device whose sixteen rows it is in, -/
theorem mem_row (d : Dev nD) (y : S512x512.Idx) : y ∈ (rowRect d).set ↔ (y 0).val / 16 = d.val := by
  rw [Rect.mem_set_unit]
  have h0 : (y 0).val < 512 := (y 0).isLt
  have h1 : (y 1).val < 512 := (y 1).isLt
  constructor
  · intro h
    have := h 0
    have e : 16 * d.val ≤ (y 0).val ∧ (y 0).val < 16 * d.val + 16 := this
    omega
  · intro h a
    fin_cases a
    · show 16 * d.val ≤ (y 0).val ∧ (y 0).val < 16 * d.val + 16; omega
    · show 0 ≤ (y 1).val ∧ (y 1).val < 0 + 512; omega

/-- and to the slot that its first coordinate names. -/
theorem mem_slot (k : Fin 32) (y : S32x16x512.Idx) : y ∈ (slotRect k).set ↔ (y 0).val = k.val := by
  rw [Rect.mem_set_unit]
  have h0 : (y 0).val < 32 := (y 0).isLt
  have h1 : (y 1).val < 16 := (y 1).isLt
  have h2 : (y 2).val < 512 := (y 2).isLt
  constructor
  · intro h
    have e : k.val ≤ (y 0).val ∧ (y 0).val < k.val + 1 := h 0
    omega
  · intro h a
    fin_cases a
    · show k.val ≤ (y 0).val ∧ (y 0).val < k.val + 1; omega
    · show 0 ≤ (y 1).val ∧ (y 1).val < 0 + 16; omega
    · show 0 ≤ (y 2).val ∧ (y 2).val < 0 + 512; omega

/-- Every row is some device's, -/
theorem rows_cover : (Finset.univ : Finset (Dev nD)).biUnion (fun d => (rowRect d).set) = Finset.univ := by
  ext y; simp only [Finset.mem_biUnion, Finset.mem_univ, true_and, iff_true]
  have h0 : (y 0).val < 512 := (y 0).isLt
  exact ⟨⟨(y 0).val / 16, by show _ < 32; omega⟩, (mem_row _ _).mpr rfl⟩
/-- and no row two devices'. -/
theorem rows_disj (d d' : Dev nD) (h : d ≠ d') : Disjoint (rowRect d).set (rowRect d').set :=
  Finset.disjoint_left.mpr fun y hy hy' => h (Fin.ext (((mem_row d y).mp hy).symm.trans ((mem_row d' y).mp hy')))
/-- Every place of the receive buffer is in some slot, -/
theorem slots_cover : (Finset.univ : Finset (Fin 32)).biUnion (fun k => (slotRect k).set) = Finset.univ := by
  ext y; simp only [Finset.mem_biUnion, Finset.mem_univ, true_and, iff_true]
  exact ⟨⟨(y 0).val, (y 0).isLt⟩, (mem_slot _ _).mpr rfl⟩
/-- and none in two. -/
theorem slots_disj (d d' : Fin 32) (h : d ≠ d') : Disjoint (slotRect d).set (slotRect d').set :=
  Finset.disjoint_left.mpr fun y hy hy' => h (Fin.ext (((mem_slot d y).mp hy).symm.trans ((mem_slot d' y).mp hy')))

/-! ## What is held -/

/-- The distances between different devices. -/
def far : Finset (Fin 32) := Finset.univ.erase 0
/-- There are other devices. -/
theorem far_ne : far.Nonempty := ⟨1, by decide⟩

def pPts (c : Dev nD) (d : Dev nD) (f : Big F) : sProp 𝕄 :=
  (pRow d).view.loc (c : Thread nD τ) ↦[(pRow d).view.set]{fullShare} f
def xPts (c : Dev nD) (d : Dev nD) (f : Big F) : sProp 𝕄 :=
  (xRow d).view.loc (c : Thread nD τ) ↦[(xRow d).view.set]{fullShare} f
def oPts (c : Dev nD) (d : Dev nD) (f : Big F) : sProp 𝕄 :=
  (oRow d).view.loc (c : Thread nD τ) ↦[(oRow d).view.set]{fullShare} f
def bPts (c : Dev nD) (k : Fin 32) (f : Recv F) : sProp 𝕄 :=
  (bSlot k).view.loc (c : Thread nD τ) ↦[(bSlot k).view.set]{fullShare} f
/-- The share of the own rows that the transfer to distance `k` holds. -/
def rPts (c : Dev nD) (k : Fin 32) (f : Rows F) : sProp 𝕄 :=
  (rM : Memref sig .tc .vmem S16x512 .bf16).view.loc (c : Thread nD τ) ↦[(rM : Memref sig .tc .vmem S16x512 .bf16).view.set]{Transfers.dealOf fullShare far k} f

instance pPts_st (c d : Dev nD) (f) : BI.Storable (upEmb : UEmb _ 𝕄) (pPts (F := F) c d f) := by unfold pPts; infer_instance
instance xPts_st (c d : Dev nD) (f) : BI.Storable (upEmb : UEmb _ 𝕄) (xPts (F := F) c d f) := by unfold xPts; infer_instance
instance oPts_st (c d : Dev nD) (f) : BI.Storable (upEmb : UEmb _ 𝕄) (oPts (F := F) c d f) := by unfold oPts; infer_instance
instance bPts_st (c : Dev nD) (k) (f) : BI.Storable (upEmb : UEmb _ 𝕄) (bPts (F := F) c k f) := by unfold bPts; infer_instance
instance rPts_st (c : Dev nD) (k) (f) : BI.Storable (upEmb : UEmb _ 𝕄) (rPts (F := F) c k f) := by unfold rPts; infer_instance

/-! ## The schedule -/

variable (Pv : ℕ → Dev nD → Big F) (Fv : ℕ → Dev nD → Rows F)

/-- What the signal of the device `k` places before `c` hands `c`: the three landing places there for `c`'s transfers. -/
def barPay (c : Dev nD) (k : Fin 32) : sProp 𝕄 :=
  iprop((∃ f, bPts (F := F) (back c k) (opp k) f) ∗ (∃ f, xPts (F := F) (back c k) c f) ∗ (∃ f, oPts (F := F) (back c k) c f))

/-- What rides on the scatter to `c` from distance `k` beside the rows: that the sender has come to gather round `r`. -/
def scatX (r : ℕ) (c : Dev nD) (k : Fin 32) : sProp 𝕄 :=
  reached ER (dCell 3 (back c k) (opp k)) r
/-- What rides on the gather to `c` from distance `k` beside the rows: in round 0, the sender's slot for `c`'s next
    scatter, and that the sender has come to round 1 of it. -/
def gathX (r : ℕ) (c : Dev nD) (k : Fin 32) : sProp 𝕄 :=
  if r = 0 then iprop((∃ f, bPts (F := F) (back c k) (opp k) f) ∗ reached ER (dCell 1 (back c k) (opp k)) 1) else iprop(emp)

/-- The rows gathered in round `r`. -/
def dPts (r : ℕ) (c : Dev nD) (d : Dev nD) (f : Big F) : sProp 𝕄 := if r = 0 then xPts c d f else oPts c d f

instance dPts_st (r) (c d : Dev nD) (f) : BI.Storable (upEmb : UEmb _ 𝕄) (dPts (F := F) r c d f) := by
  unfold dPts; split <;> infer_instance

/-- What a transfer semaphore gives its waiter. -/
def dPay (j : Fin 4) (r : ℕ) (c : Dev nD) (k : Fin 32) : sProp 𝕄 :=
  match j with
  | 0 => pPts c (peer c k) (Pv r c)
  | 1 => iprop(bPts c k (scat (Pv r) c) ∗ scatX (F := F) r c k)
  | 2 => rPts c k (Fv r c)
  | 3 => iprop(dPts r c (back c k) (gath (Fv r)) ∗ gathX (F := F) r c k)

instance barPay_st (c : Dev nD) (k) : BI.Storable (upEmb : UEmb _ 𝕄) (barPay (F := F) c k) := by unfold barPay; infer_instance
instance scatX_st (r) (c : Dev nD) (k) : BI.Storable (upEmb : UEmb _ 𝕄) (scatX (F := F) r c k) := by unfold scatX; infer_instance
instance gathX_st (r) (c : Dev nD) (k) : BI.Storable (upEmb : UEmb _ 𝕄) (gathX (F := F) r c k) := by
  unfold gathX; split <;> infer_instance
instance dPay_st (j r) (c : Dev nD) (k) : BI.Storable (upEmb : UEmb _ 𝕄) (dPay (F := F) Pv Fv j r c k) := by
  unfold dPay; split <;> infer_instance

/-- The rounds of every semaphore. -/
def Rd : Rounds.Schedule (GSem nD τ sig) (Fin 32) 𝕄 where
  duties g r := match g.2 with
    | .reg s => if g.1.2 = .tc ∧ s = barS ∧ r = 0 then far else ∅
    | .dma s => if g.1.2 = .tc ∧ 10 ≤ s.val ∧ decK s ≠ 0 ∧ r < 2 then {0} else ∅
  unitless _ := False
  amount g _ _ := match g.2 with | .reg _ => 1 | .dma _ => N
  payload g r d := match g.2 with
    | .reg _ => barPay g.1.1 d
    | .dma s => dPay Pv Fv (decJ s) r g.1.1 (decK s)
  amount_pos g _ _ _ := by
    rcases g with ⟨t, s | s⟩
    · exact Nat.one_pos
    · exact N_pos

instance Rd_st (g : GSem nD τ sig) (r : ℕ) (d : Fin 32) : BI.Storable (upEmb : UEmb _ 𝕄) ((Rd (F := F) Pv Fv).payload g r d) := by
  rcases g with ⟨t, s | s⟩
  · exact barPay_st t.1 d
  · exact dPay_st Pv Fv (decJ s) r t.1 (decK s)

/-- The barrier expects a signal from every other device, once, -/
theorem duties_bar (c : Dev nD) : (Rd Pv Fv).duties (barCell c) 0 = far := by
  unfold Rd; dsimp only; rw [if_pos ⟨rfl, rfl, rfl⟩]
/-- and none afterwards. -/
theorem duties_bar_later (c : Dev nD) (r : ℕ) (h : 1 ≤ r) : (Rd Pv Fv).duties (barCell c) r = ∅ := if_neg fun h' => by omega
/-- The transfer semaphores' numbers start at ten. -/
theorem dsem_ge (j : Fin 4) (k : Fin 32) : 10 ≤ (dsem j k).val := by revert j k; decide +kernel
/-- A transfer semaphore expects one landing in each of two rounds, -/
theorem duties_d (j : Fin 4) (c : Dev nD) (k : Fin 32) (hk : k ≠ 0) (r : ℕ) (hr : r < 2) : (Rd Pv Fv).duties (dCell j c k) r = {0} :=
  if_pos ⟨rfl, dsem_ge j k, by rw [decK_dsem]; exact hk, hr⟩
/-- none afterwards, -/
theorem duties_d_later (j : Fin 4) (c : Dev nD) (k : Fin 32) (r : ℕ) (hr : 2 ≤ r) : (Rd Pv Fv).duties (dCell j c k) r = ∅ :=
  if_neg fun h' => by omega
/-- and none at all at distance zero. -/
theorem duties_d_zero (j : Fin 4) (c : Dev nD) (r : ℕ) : (Rd Pv Fv).duties (dCell j c 0) r = ∅ :=
  if_neg fun h' => h'.2.2.1 (by rw [decK_dsem])
/-- A barrier signal counts one, -/
theorem amount_bar (c : Dev nD) (r) (d) : (Rd Pv Fv).amount (barCell c) r d = 1 := rfl
/-- a landing the block's credit. -/
theorem amount_d (j) (c : Dev nD) (k) (r) (d) : (Rd Pv Fv).amount (dCell j c k) r d = N := rfl
/-- What a barrier signal hands over, -/
theorem payload_bar (c : Dev nD) (r) (d) : (Rd Pv Fv).payload (barCell c) r d = barPay c d := rfl
/-- and what a landing does. -/
theorem payload_d (j) (c : Dev nD) (k) (r) (d) : (Rd Pv Fv).payload (dCell j c k) r d = dPay Pv Fv j r c k := by
  show dPay Pv Fv (decJ (dsem j k)) r c (decK (dsem j k)) = _
  rw [decJ_dsem, decK_dsem]

/-- The barrier expects thirty-one in all, -/
theorem expect_bar (c : Dev nD) : (Rd Pv Fv).expect (barCell c) 0 = 31 := by
  unfold Schedule.expect Schedule.amountOf
  rw [duties_bar, Finset.sum_congr rfl fun d _ => amount_bar Pv Fv c 0 d, Finset.sum_const]
  decide
/-- and a transfer semaphore one block's credit a round. -/
theorem expect_d (j : Fin 4) (c : Dev nD) (k : Fin 32) (hk : k ≠ 0) (r : ℕ) (hr : r < 2) : (Rd Pv Fv).expect (dCell j c k) r = N := by
  unfold Schedule.expect Schedule.amountOf
  rw [duties_d Pv Fv j c k hk r hr, Finset.sum_singleton, amount_d]

end Cert.KernelIdeal.Run
-- ==== Proof.Steps.lean ====
/-
The protocol's steps: one rule per signal, wait and transfer, over the list of distances still to go.
-/
module

public import proofs.«01_k».proof.Proof.Sched

@[expose] public section

set_option maxRecDepth 8000

noncomputable section

namespace Cert.KernelIdeal.Run

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig ℕ (Elt F) ℕ UU ℕ

variable (Pv : ℕ → Dev nD → Big F) (Fv : ℕ → Dev nD → Rows F)

abbrev 𝒱₀ : Variants := Variants.none

/-! ## Levels and dues -/

/-- The indices in use: 0 staging and sends, 1 the barrier, 2 to 5 the four rounds of arrivals. -/
def L (g : GSem nD τ sig) : Finset ℕ := if g.1.2 = .tc then Finset.range 6 else ∅
def lv (_ : GSem nD τ sig) (i : ℕ) : ℕ := i

/-- All of `O` lies on the cores' semaphores at indices above `i`. -/
def Above (i : ℕ) (O : CellTallies nD τ sig ℕ) : Prop := ∀ (g : GSem nD τ sig) (k : ℕ), 0 < O g k → g.1.2 = .tc ∧ i < k ∧ k < 6

/-- Owing nothing is owing nothing at or below a level. -/
theorem Above.zero (i : ℕ) : Above i 0 := fun g k h => absurd h (Nat.lt_irrefl 0)
/-- Two debts above a level are above it together. -/
theorem Above.add {i : ℕ} {O O' : CellTallies nD τ sig ℕ} (h : Above i O) (h' : Above i O') : Above i (O + O') := fun g k hk => by
  rw [Pi.add_apply, Finsupp.add_apply] at hk
  rcases Nat.add_pos_iff_pos_or_pos.mp hk with hk | hk
  · exact h g k hk
  · exact h' g k hk
/-- A debt at a higher level is above a lower one. -/
theorem Above.at {i j n : ℕ} (c : Dev nD) (s : SemLoc sig) (h : i < j) (h' : j < 6) : Above i (tallyAt ((c : Thread nD τ), s) j n) := fun g k hk => by
  rw [tallyAt_apply] at hk
  by_cases e : g = ((c : Thread nD τ), s) ∧ k = j
  · rw [e.1, e.2]; exact ⟨rfl, h, h'⟩
  · rw [if_neg e] at hk; exact absurd hk (Nat.lt_irrefl 0)

/-- The six levels are on every semaphore. -/
theorem mem_L (c : Dev nD) (s : SemLoc sig) {i : ℕ} (hi : i < 6) : i ∈ L ((c : Thread nD τ), s) := by
  unfold L; rw [if_pos rfl]; exact Finset.mem_range.mpr hi

/-- The levels of all the indices, for good. -/
def Lev : sProp 𝕄 := levAts L lv
instance Lev_pers : BI.Persistent (Lev (F := F)) := by unfold Lev; infer_instance

/-- A wait at index `i` may be made owing only above `i`. -/
theorem mayWait_of {i : ℕ} (hi : i < 6) (c : Dev nD) (s : SemLoc sig) {O : CellTallies nD τ sig ℕ} (hO : Above i O) :
    Lev (F := F) ⊢ MayWait (c : Thread nD τ) s i O := by
  unfold Lev
  exact MayOwe.of_cut (L := L) (lev := lv) i (fun p hp => by rw [Finset.mem_singleton.mp hp]; exact mem_L c s hi)
    (fun g k h => by
      obtain ⟨h1, _, h2⟩ := hO g k h
      unfold L; rw [if_pos h1]; exact Finset.mem_range.mpr h2)
    (fun p hp => by rw [Finset.mem_singleton.mp hp]; exact le_refl _) (fun g k h => (hO g k h).2.1)

/-- The dues of a list of distances. -/
def oweL (f : Fin 32 → CellTallies nD τ sig ℕ) : List (Fin 32) → CellTallies nD τ sig ℕ
  | [] => 0
  | k :: l => oweL f l + f k

/-- A list of debts above a level is above it. -/
theorem Above.list {i : ℕ} {f : Fin 32 → CellTallies nD τ sig ℕ} (h : ∀ k, Above i (f k)) : ∀ l, Above i (oweL f l)
  | [] => Above.zero i
  | k :: l => (Above.list h l).add (h k)

/-- The signal of `c` to the device at distance `k`. -/
def sigT (c : Dev nD) (k : Fin 32) : CellTallies nD τ sig ℕ := tallyAt (barCell (peer c k)) 1 1
/-- The arrival of kind `j` at index `i` that `c` owes the device at distance `k`. -/
def arrT (j : Fin 4) (i : ℕ) (c : Dev nD) (k : Fin 32) : CellTallies nD τ sig ℕ := tallyAt (dCell j (peer c k) k) i N

/-- The barrier's signals are owed at level one. -/
theorem above_sigT {i : ℕ} (h : i < 1) (c k) : Above i (sigT c k) := Above.at _ _ h (by decide)
/-- The landings are owed at their phase's level. -/
theorem above_arrT {i j} (t : Fin 4) (h : i < j) (h' : j < 6) (c k) : Above i (arrT t j c k) := Above.at _ _ h h'

/-- What `c` owes, whatever it has waited for. -/
def owesE (c : Dev nD) (O : CellTallies nD τ sig ℕ) : sProp 𝕄 := iprop(∃ W, owes (c : Thread nD τ) O W)

/-! ## The records all share -/

abbrev CellIx : Type := Option (Fin 4 × Fin 32)
def kcell (ck : Dev nD × CellIx) : GSem nD τ sig := match ck.2 with | none => barCell ck.1 | some jk => dCell jk.1 ck.1 jk.2

variable (K : Dev nD × CellIx → ℕ)

def recs : sProp 𝕄 :=
  iprop((bigSep Finset.univ fun ck : Dev nD × CellIx => cellInv ER (Rd Pv Fv) (K ck) (kcell ck))
    ∗ bigSep Finset.univ fun ck : Dev nD × CellIx => reached ER (kcell ck) 0)
def Pers : sProp 𝕄 := iprop(recs Pv Fv K ∗ Lev (F := F))
instance recs_pers : BI.Persistent (recs Pv Fv K) := by unfold recs; infer_instance
instance Pers_pers : BI.Persistent (Pers Pv Fv K) := by unfold Pers; infer_instance

/-- The standing facts have the barrier's invariant. -/
theorem pers_bar (c : Dev nD) : Pers Pv Fv K ⊢ cellInv ER (Rd Pv Fv) (K (c, none)) (barCell c) := by
  unfold Pers recs; iintro ⟨⟨H, -⟩, -⟩
  have h : (bigSep Finset.univ fun ck : Dev nD × CellIx => (cellInv ER (Rd Pv Fv) (K ck) (kcell ck) : sProp 𝕄)) ⊢ cellInv ER (Rd Pv Fv) (K (c, none)) (barCell c) :=
    bigSep_elim (Finset.mem_univ ((c, none) : Dev nD × CellIx))
  iapply h; iexact H
/-- The standing facts have every transfer semaphore's invariant. -/
theorem pers_d (j : Fin 4) (c : Dev nD) (k : Fin 32) : Pers Pv Fv K ⊢ cellInv ER (Rd Pv Fv) (K (c, some (j, k))) (dCell j c k) := by
  unfold Pers recs; iintro ⟨⟨H, -⟩, -⟩
  have h : (bigSep Finset.univ fun ck : Dev nD × CellIx => (cellInv ER (Rd Pv Fv) (K ck) (kcell ck) : sProp 𝕄)) ⊢ cellInv ER (Rd Pv Fv) (K (c, some (j, k))) (dCell j c k) :=
    bigSep_elim (Finset.mem_univ ((c, some (j, k)) : Dev nD × CellIx))
  iapply h; iexact H
/-- The standing facts have the barrier in its first round. -/
theorem pers_rbar (c : Dev nD) : Pers Pv Fv K ⊢ reached ER (barCell c) 0 := by
  unfold Pers recs; iintro ⟨⟨-, H⟩, -⟩
  have h : (bigSep Finset.univ fun ck : Dev nD × CellIx => (reached ER (kcell ck) 0 : sProp 𝕄)) ⊢ reached ER (barCell c) 0 :=
    bigSep_elim (Finset.mem_univ ((c, none) : Dev nD × CellIx))
  iapply h; iexact H
/-- The standing facts have every transfer semaphore in its first round. -/
theorem pers_rd (j : Fin 4) (c : Dev nD) (k : Fin 32) : Pers Pv Fv K ⊢ reached ER (dCell j c k) 0 := by
  unfold Pers recs; iintro ⟨⟨-, H⟩, -⟩
  have h : (bigSep Finset.univ fun ck : Dev nD × CellIx => (reached ER (kcell ck) 0 : sProp 𝕄)) ⊢ reached ER (dCell j c k) 0 :=
    bigSep_elim (Finset.mem_univ ((c, some (j, k)) : Dev nD × CellIx))
  iapply h; iexact H
/-- The standing facts have the levels. -/
theorem pers_lev : Pers Pv Fv K ⊢ Lev (F := F) := by
  unfold Pers; iintro ⟨-, H⟩; iexact H

/-- By the standing facts a device may wait below what it owes. -/
theorem pers_mw {i : ℕ} (hi : i < 6) (c : Dev nD) (s : SemLoc sig) {O : CellTallies nD τ sig ℕ} (hO : Above i O) :
    Pers Pv Fv K ⊢ MayWait (c : Thread nD τ) s i O := by
  have h1 := @pers_lev F _ Pv Fv K
  have h2 := mayWait_of (F := F) hi c s hO
  exact h1.trans h2

/-- A run of `c`'s body. -/
abbrev WP (c : Dev nD) {α : Type} (p : Prog (TpuEff nD τ sig (Elt F) Λ₀ .tc) α) (Q : α → sProp 𝕄) : sProp 𝕄 :=
  wp frame (wpE (defs₀ (F := F)) 𝒱₀ (c : Thread nD τ) none) Set.univ p Q

/-! ## The barrier -/

/-- One signal's token and what it hands over. -/
def sigRes (c : Dev nD) (k : Fin 32) : sProp 𝕄 := iprop(dutyTok ER (barCell (peer c k)) 0 k ∗ barPay (F := F) (peer c k) k)
def SigSt (c : Dev nD) (l : List (Fin 32)) (X : CellTallies nD τ sig ℕ) : sProp 𝕄 :=
  iprop(bigSepL l (sigRes (F := F) c) ∗ owesE c (oweL (sigT c) l + X))

/-- A distance other than zero leads to another device. -/
theorem mem_far {k : Fin 32} (hk : k ≠ 0) : k ∈ far := Finset.mem_erase.mpr ⟨hk, Finset.mem_univ _⟩

/-- One barrier signal: what the next peer needs of this device is given to it. -/
theorem step_signal {α : Type} (c : Dev nD) {Q : α → sProp 𝕄} {FR : sProp 𝕄} {X} {kk : PUnit → Prog (TpuEff nD τ sig (Elt F) Λ₀ .tc) α}
    (n : Dev nD) (k : Fin 32) (l : List (Fin 32)) (hn : n = peer c k) (hk : k ≠ 0)
    (h : iprop(Pers Pv Fv K ∗ SigSt c l X ∗ FR) ⊢ WP c (kk ⟨⟩) Q) :
    iprop(Pers Pv Fv K ∗ SigSt c (k :: l) X ∗ FR) ⊢ WP c (.op (.semSignal (n : Thread nD τ) barS 1) kk) Q := by
  subst hn
  unfold SigSt
  rw [bigSepL_cons']
  unfold sigRes owesE
  iintro ⟨#HP, ⟨⟨⟨Ht, Hp⟩, Hl⟩, %W, Ho⟩, HR⟩
  iapply (Rounds.wp_signal 𝒱₀ ER (Rd Pv Fv) (c : Thread nD τ) none (dst := (peer c k : Thread nD τ)) (κ := K (peer c k, none))
      (d := k) (r := 0) (by rw [duties_bar]; exact mem_far hk) (amount_bar Pv Fv _ _ _) 1 (oweL (sigT c) l + X)
      (by show oweL (sigT c) l + sigT c k + X = _; rw [add_right_comm]; rfl))
    $$ [Ho Ht Hp]
  · isplitr; · iapply (pers_bar Pv Fv K (peer c k)); iexact HP
    isplitl [Ho]; · iexact Ho
    isplitl [Ht]; · iexact Ht
    isplitl [Hp]; · rw [payload_bar]; iexact Hp
    iapply (pers_rbar Pv Fv K (peer c k)); iexact HP
  iintro Ho
  iapply h
  unfold SigSt owesE
  isplitr; · iexact HP
  isplitr [HR]
  · isplitl [Hl]; · iexact Hl
    iexists W; iexact Ho
  iexact HR

def BarSt (c : Dev nD) (X : CellTallies nD τ sig ℕ) : sProp 𝕄 :=
  iprop((cred (tallyAt (barCell c) 1 31) ∗ atPos ER (barCell c) 0 ∅ 0) ∗ owesE c X)
def BarDone (c : Dev nD) (X : CellTallies nD τ sig ℕ) : sProp 𝕄 :=
  iprop(atPos ER (barCell c) 1 ∅ 0 ∗ bigSep far (barPay (F := F) c) ∗ owesE c X)

/-- The wait on the barrier: every other device's part arrives. -/
theorem step_barrier {α : Type} (c : Dev nD) {Q : α → sProp 𝕄} {FR : sProp 𝕄} {X} {kk : PUnit → Prog (TpuEff nD τ sig (Elt F) Λ₀ .tc) α}
    (hX : Above 1 X) (h : iprop(Pers Pv Fv K ∗ BarDone c X ∗ FR) ⊢ WP c (kk ⟨⟩) Q) :
    iprop(Pers Pv Fv K ∗ BarSt c X ∗ FR) ⊢ WP c (.op (.semWait barS 31) kk) Q := by
  unfold BarSt owesE
  iintro ⟨#HP, ⟨⟨Hc, Ha⟩, %W, Ho⟩, HR⟩
  iapply (Rounds.wp_wait_rest_token 𝒱₀ ER (Rd Pv Fv) (c : Thread nD τ) none (κ := K (c, none))
      (wpE_semWait_eq 𝒱₀ (c : Thread nD τ) none Set.univ) (Set.mem_univ _) 1 (O := X) (W := W) (R := 0) (m := 0) (T := ∅)
      ((Nat.zero_add _).trans (expect_bar Pv Fv c).symm)) $$ [Hc Ho Ha]
  · isplitr; · iapply (pers_bar Pv Fv K c); iexact HP
    isplitl [Hc]; · iexact Hc
    isplitl [Ho]; · iexact Ho
    isplitr
    · iapply (pers_mw Pv Fv K (i := 1) (by decide) c (.reg barS) hX); iexact HP
    iexact Ha
  iintro ⟨Ho, Ha, -, Hp⟩
  iapply h
  unfold BarDone owesE
  isplitr; · iexact HP
  isplitr [HR]
  · isplitl [Ha]; · iexact Ha
    isplitl [Hp]
    · iapply (Entails.of_eq (by rw [Finset.sdiff_empty, duties_bar]; rfl)) $$ Hp
    iexists _; iexact Ho
  iexact HR

/-! ## The transfers' waits -/

/-- What a wait for round `r` at index `i` needs, and what it leaves. -/
def waitRes (j : Fin 4) (i r : ℕ) (c : Dev nD) (k : Fin 32) : sProp 𝕄 :=
  iprop(cred (tallyAt (dCell j c k) i N) ∗ atPos ER (dCell j c k) r ∅ 0)
def doneRes (j : Fin 4) (r : ℕ) (c : Dev nD) (k : Fin 32) : sProp 𝕄 :=
  iprop(dPay Pv Fv j r c k ∗ atPos ER (dCell j c k) (r + 1) ∅ 0 ∗ reached ER (dCell j c k) (r + 1))
def WaitSt (j : Fin 4) (i r : ℕ) (c : Dev nD) (l d : List (Fin 32)) (X : CellTallies nD τ sig ℕ) : sProp 𝕄 :=
  iprop(bigSepL l (waitRes (F := F) j i r c) ∗ bigSepL d (doneRes Pv Fv j r c) ∗ owesE c X)

/-- One wait on a transfer semaphore: what the landing hands over arrives. -/
theorem step_wait {α : Type} (j : Fin 4) (i r : ℕ) (c : Dev nD) {Q : α → sProp 𝕄} {FR : sProp 𝕄} {X} {kk : PUnit → Prog (TpuEff nD τ sig (Elt F) Λ₀ .tc) α}
    {sp sp' : Space} {s s' : Shape} {e e' : EltTy} {src : Memref sig .tc sp s e} {dst : Memref sig .tc sp' s' e'} {sm : DmaSem sig}
    {hsrc : src.view.WordExact} {hdst : dst.view.WordExact}
    (k : Fin 32) (l d : List (Fin 32)) (hr : r < 2) (hi : i < 6) (hX : Above i X) (hk : k ≠ 0) (hs : sm = dsem j k) (hN : dst.view.dmaCredit = N)
    (h : iprop(Pers Pv Fv K ∗ WaitSt Pv Fv j i r c l (k :: d) X ∗ FR) ⊢ WP c (kk ⟨⟩) Q) :
    iprop(Pers Pv Fv K ∗ WaitSt Pv Fv j i r c (k :: l) d X ∗ FR) ⊢ WP c (.op (.waitDma2 sm src dst hsrc hdst) kk) Q := by
  subst hs
  unfold WaitSt
  rw [bigSepL_cons' k l]
  unfold waitRes owesE
  iintro ⟨#HP, ⟨⟨⟨Hc, Ha⟩, Hl⟩, Hd, %W, Ho⟩, HR⟩
  iapply (Rounds.wp_wait_rest_token 𝒱₀ ER (Rd Pv Fv) (c : Thread nD τ) none (κ := K (c, some (j, k)))
      (wpE_waitDma2_eq 𝒱₀ (c : Thread nD τ) none Set.univ) (Set.mem_univ _) i (O := X) (W := W) (R := r) (m := 0) (T := ∅)
      ((Nat.zero_add _).trans (hN.trans (expect_d Pv Fv j c k hk r hr).symm))) $$ [Hc Ho Ha]
  · isplitr; · iapply (pers_d Pv Fv K j c k); iexact HP
    isplitl [Hc]; · rw [hN]; iexact Hc
    isplitl [Ho]; · iexact Ho
    isplitr
    · iapply (pers_mw Pv Fv K hi c (.dma (dsem j k)) hX); iexact HP
    iexact Ha
  iintro ⟨Ho, Ha, Hr, Hp⟩
  iapply h
  unfold WaitSt
  rw [bigSepL_cons' k d]
  unfold doneRes owesE waitRes
  isplitr; · iexact HP
  isplitr [HR]
  · isplitl [Hl]; · iexact Hl
    isplitr [Ho]
    · isplitr [Hd]
      · isplitl [Hp]
        · iapply (Entails.of_eq (by rw [Finset.sdiff_empty, duties_d Pv Fv j c k hk r hr, bigSep_singleton, payload_d])) $$ Hp
        isplitl [Ha]; · iexact Ha
        iexact Hr
      iexact Hd
    iexists _; iexact Ho
  iexact HR

/-! ## The transfers -/

/-- The tokens of one transfer of kind `j` (arriving as kind `j'`) in round `r` and the sender's place at its own semaphore. -/
def sendToks (j j' : Fin 4) (r : ℕ) (c : Dev nD) (k : Fin 32) : sProp 𝕄 :=
  iprop((dutyTok ER (dCell j c k) r 0 ∗ reached ER (dCell j c k) r) ∗ (dutyTok ER (dCell j' (peer c k) k) r 0 ∗ reached ER (dCell j' (peer c k) k) r)
    ∗ atPos ER (dCell j c k) r ∅ 0)
def scatRes (r : ℕ) (c : Dev nD) (k : Fin 32) : sProp 𝕄 :=
  iprop(sendToks (F := F) 0 1 r c k ∗ pPts c (peer c k) (Pv r c) ∗ (∃ f, bPts (peer c k) k f) ∗ scatX (F := F) r (peer c k) k)
def gathRes (r : ℕ) (c : Dev nD) (k : Fin 32) : sProp 𝕄 :=
  iprop(sendToks (F := F) 2 3 r c k ∗ rPts c k (Fv r c) ∗ (∃ f, dPts r (peer c k) c f) ∗ gathX (F := F) r (peer c k) k)
def ScatSt (i r : ℕ) (c : Dev nD) (l d : List (Fin 32)) (X : CellTallies nD τ sig ℕ) : sProp 𝕄 :=
  iprop(bigSepL l (scatRes Pv r c) ∗ bigSepL d (waitRes (F := F) 0 0 r c) ∗ owesE c (oweL (arrT 1 i c) l + X))
def GathSt (i r : ℕ) (c : Dev nD) (l d : List (Fin 32)) (X : CellTallies nD τ sig ℕ) : sProp 𝕄 :=
  iprop(bigSepL l (gathRes Fv r c) ∗ bigSepL d (waitRes (F := F) 2 0 r c) ∗ owesE c (oweL (arrT 3 i c) l + X))

/-- A transfer's landing: where the source reads what the target's contents `G` read, the target holds `G`. -/
theorem landed {t : Thread nD τ} {sp : Space} {s : Shape} {e : EltTy} (v : Memref sig t.2.kind sp s e) (fd G : Buf (Elt F) (v.view.loc t))
    (w : s.Idx → Elt F e) (h : v.view.read (Elt F) G = w) :
    (v.view.loc t ↦[v.view.set]{fullShare} (v.view.write (Elt F) fd w Finset.univ) : sProp 𝕄) = (v.view.loc t ↦[v.view.set]{fullShare} G) := by
  subst h
  refine pointsTo_congr fun i hi => ?_
  rw [View.write_read_eq_piecewise]
  exact Finset.piecewise_eq_of_mem _ _ _ hi

/-- One copy of partial rows into a peer's slot. -/
theorem step_scatter {α : Type} (i r : ℕ) (c : Dev nD) {Q : α → sProp 𝕄} {FR : sProp 𝕄} {X} {kk : PUnit → Prog (TpuEff nD τ sig (Elt F) Λ₀ .tc) α}
    (n : Dev nD) {src dst : Memref sig .tc .vmem S16x512 .bf16} {sS sem : DmaSem sig}
    {hsc : dst.view.ref.isScScratch = false} {hsrc : src.view.WordExact} {hdst : dst.view.WordExact}
    {hsem : DmaTarget.Typed .vmem (.dma sem) (.remote (Dev.tc n : Thread nD τ) dst (.dma sS) hsc)}
    (k : Fin 32) (l d : List (Fin 32)) (hr : r < 2) (hk : k ≠ 0) (hn : n = peer c k) (hs : src = pRow (peer c k)) (hd : dst = bSlot k)
    (h1 : sS = dsem 0 k) (h2 : sem = dsem 1 k)
    (h : iprop(Pers Pv Fv K ∗ ScatSt Pv i r c l (k :: d) X ∗ FR) ⊢ WP c (kk ⟨⟩) Q) :
    iprop(Pers Pv Fv K ∗ ScatSt Pv i r c (k :: l) d X ∗ FR)
      ⊢ WP c (.op (.enqueueDma src (.remote (Dev.tc n : Thread nD τ) dst (.dma sS) hsc) (.dma sem) hsrc hdst hsem) kk) Q := by
  subst hn hs hd h1 h2
  unfold ScatSt
  rw [bigSepL_cons' k l]
  unfold scatRes sendToks owesE pPts
  iintro ⟨#HP, ⟨⟨⟨⟨⟨Ht1, Hr1⟩, ⟨Ht2, Hr2⟩, Ha⟩, Hs, ⟨%fd, Hd⟩, Hx⟩, Hl⟩, Hw, %W, Ho⟩, HR⟩
  unfold bPts
  iapply (Rounds.wp_send_pointsTo_with 𝒱₀ ER (Rd Pv Fv) (c : Thread nD τ) none (c' := (peer c k : Thread nD τ)) (src := pRow (peer c k)) (dst := bSlot k) (sem := .dma (dsem 1 k)) (sS := .dma (dsem 0 k)) (κ₁ := K (c, some (0, k))) (κ₂ := K (peer c k, some (1, k)))
    (r₁ := r) (r₂ := r) (d₁ := 0) (d₂ := 0) (fd := fd) (F := scatX (F := F) r (peer c k) k) (fs := Pv r c)
    (by rw [duties_d Pv Fv 0 c k hk r hr]; exact Finset.mem_singleton_self _)
    (by rw [duties_d Pv Fv 1 (peer c k) k hk r hr]; exact Finset.mem_singleton_self _)
    i 0 N (show (bSlot k).view.amount (.dma (dsem 1 k)) = N from N_bSlot k) (amount_d Pv Fv 0 c k r 0) (amount_d Pv Fv 1 (peer c k) k r 0) (oweL (arrT 1 i c) l + X)
    (by show oweL (arrT 1 i c) l + arrT 1 i c k + X = _; rw [add_right_comm]; rfl) (W := W)
    (by rw [payload_d]; exact BI.Entails.refl _)
    (by
      rw [payload_d]
      show _ ⊢ iprop(bPts (peer c k) k (scat (Pv r) (peer c k)) ∗ scatX (F := F) r (peer c k) k)
      unfold bPts
      rw [landed (t := (peer c k : Thread nD τ)) (bSlot k) fd (scat (Pv r) (peer c k)) _ (by rw [bSlot_scat, back_peer, pRow_read])]))
    $$ [Ht1 Hr1 Ht2 Hr2 Hs Hd Hx Ho]
  · isplitr; · iapply (pers_d Pv Fv K 0 c k); iexact HP
    isplitr; · iapply (pers_d Pv Fv K 1 (peer c k) k); iexact HP
    isplitl [Hs]; · iexact Hs
    isplitl [Hd Hx]
    · isplitl [Hd]; · iexact Hd
      iexact Hx
    isplitl [Ho]; · iexact Ho
    isplitl [Ht1]; · iexact Ht1
    isplitl [Hr1]; · iexact Hr1
    isplitl [Ht2]; · iexact Ht2
    iexact Hr2
  iintro ⟨Hc, Ho⟩
  iapply h
  unfold ScatSt
  rw [bigSepL_cons' k d]
  unfold waitRes scatRes sendToks owesE pPts bPts
  isplitr; · iexact HP
  isplitr [HR]
  · isplitl [Hl]; · iexact Hl
    isplitr [Ho]
    · isplitr [Hw]
      · isplitl [Hc]; · iexact Hc
        iexact Ha
      iexact Hw
    iexists W; iexact Ho
  iexact HR

/-- One copy of reduced rows into a peer, whichever of the two buffers it is. -/
theorem gather_core {α : Type} (i r : ℕ) (c : Dev nD) {Q : α → sProp 𝕄} {FR : sProp 𝕄} {X} {kk : PUnit → Prog (TpuEff nD τ sig (Elt F) Λ₀ .tc) α}
    (k : Fin 32) {dst : Memref sig .tc .vmem S16x512 .bf16}
    {hsc : dst.view.ref.isScScratch = false} {hsrc : rM.view.WordExact} {hdst : dst.view.WordExact}
    {hsem : DmaTarget.Typed .vmem (.dma (dsem 3 k)) (.remote (Dev.tc (peer c k) : Thread nD τ) dst (.dma (dsem 2 k)) hsc)}
    (l d : List (Fin 32)) (hr : r < 2) (hk : k ≠ 0) (hN : dst.view.amount (.dma (dsem 3 k)) = N)
    (G : Buf (Elt F) (dst.view.loc (peer c k : Thread nD τ))) (hG : dst.view.read (Elt F) G = Fv r c)
    (hin : (iprop(∃ f, dPts r (peer c k) c f) : sProp 𝕄) ⊢ iprop(∃ f, dst.view.loc (peer c k : Thread nD τ) ↦[dst.view.set]{fullShare} f))
    (hout : (dst.view.loc (peer c k : Thread nD τ) ↦[dst.view.set]{fullShare} G : sProp 𝕄) ⊢ dPts r (peer c k) c (gath (Fv r)))
    (h : iprop(Pers Pv Fv K ∗ GathSt Fv i r c l (k :: d) X ∗ FR) ⊢ WP c (kk ⟨⟩) Q) :
    iprop(Pers Pv Fv K ∗ GathSt Fv i r c (k :: l) d X ∗ FR)
      ⊢ WP c (.op (.enqueueDma rM (.remote (Dev.tc (peer c k) : Thread nD τ) dst (.dma (dsem 2 k)) hsc) (.dma (dsem 3 k)) hsrc hdst hsem) kk) Q := by
  unfold GathSt
  rw [bigSepL_cons' k l]
  unfold gathRes sendToks owesE rPts
  iintro ⟨#HP, ⟨⟨⟨⟨⟨Ht1, Hr1⟩, ⟨Ht2, Hr2⟩, Ha⟩, Hs, Hd, Hx⟩, Hl⟩, Hw, %W, Ho⟩, HR⟩
  ihave Hd' := hin $$ Hd
  icases Hd' with ⟨%fd, Hd⟩
  iapply (Rounds.wp_send_pointsTo_with 𝒱₀ ER (Rd Pv Fv) (c : Thread nD τ) none (c' := (peer c k : Thread nD τ)) (src := rM) (dst := dst)
    (sem := .dma (dsem 3 k)) (sS := .dma (dsem 2 k)) (κ₁ := K (c, some (2, k))) (κ₂ := K (peer c k, some (3, k)))
    (r₁ := r) (r₂ := r) (d₁ := 0) (d₂ := 0) (fd := fd) (F := gathX (F := F) r (peer c k) k) (fs := Fv r c)
    (by rw [duties_d Pv Fv 2 c k hk r hr]; exact Finset.mem_singleton_self _)
    (by rw [duties_d Pv Fv 3 (peer c k) k hk r hr]; exact Finset.mem_singleton_self _)
    i 0 N hN (amount_d Pv Fv 2 c k r 0) (amount_d Pv Fv 3 (peer c k) k r 0) (oweL (arrT 3 i c) l + X)
    (by show oweL (arrT 3 i c) l + arrT 3 i c k + X = _; rw [add_right_comm]; rfl) (W := W)
    (by rw [payload_d]; exact BI.Entails.refl _)
    (by
      rw [payload_d]
      show _ ⊢ iprop(dPts r (peer c k) (back (peer c k) k) (gath (Fv r)) ∗ gathX (F := F) r (peer c k) k)
      rw [back_peer, landed (t := (peer c k : Thread nD τ)) dst fd G _ (by rw [hG]; rfl)]
      exact sep_mono_left hout))
    $$ [Ht1 Hr1 Ht2 Hr2 Hs Hd Hx Ho]
  · isplitr; · iapply (pers_d Pv Fv K 2 c k); iexact HP
    isplitr; · iapply (pers_d Pv Fv K 3 (peer c k) k); iexact HP
    isplitl [Hs]; · iexact Hs
    isplitl [Hd Hx]
    · isplitl [Hd]; · iexact Hd
      iexact Hx
    isplitl [Ho]; · iexact Ho
    isplitl [Ht1]; · iexact Ht1
    isplitl [Hr1]; · iexact Hr1
    isplitl [Ht2]; · iexact Ht2
    iexact Hr2
  iintro ⟨Hc, Ho⟩
  iapply h
  unfold GathSt
  rw [bigSepL_cons' k d]
  unfold waitRes gathRes sendToks owesE rPts
  isplitr; · iexact HP
  isplitr [HR]
  · isplitl [Hl]; · iexact Hl
    isplitr [Ho]
    · isplitr [Hw]
      · isplitl [Hc]; · iexact Hc
        iexact Ha
      iexact Hw
    iexists W; iexact Ho
  iexact HR

/-- One copy of the first result's rows, with the next scatter's slot handed back. -/
theorem step_gather0 {α : Type} (i : ℕ) (c : Dev nD) {Q : α → sProp 𝕄} {FR : sProp 𝕄} {X} {kk : PUnit → Prog (TpuEff nD τ sig (Elt F) Λ₀ .tc) α}
    (n : Dev nD) {src dst : Memref sig .tc .vmem S16x512 .bf16} {sS sem : DmaSem sig}
    {hsc : dst.view.ref.isScScratch = false} {hsrc : src.view.WordExact} {hdst : dst.view.WordExact}
    {hsem : DmaTarget.Typed .vmem (.dma sem) (.remote (Dev.tc n : Thread nD τ) dst (.dma sS) hsc)}
    (k : Fin 32) (l d : List (Fin 32)) (hk : k ≠ 0) (hn : n = peer c k) (hs : src = rM) (hd : dst = xRow c)
    (h1 : sS = dsem 2 k) (h2 : sem = dsem 3 k)
    (h : iprop(Pers Pv Fv K ∗ GathSt Fv i 0 c l (k :: d) X ∗ FR) ⊢ WP c (kk ⟨⟩) Q) :
    iprop(Pers Pv Fv K ∗ GathSt Fv i 0 c (k :: l) d X ∗ FR)
      ⊢ WP c (.op (.enqueueDma src (.remote (Dev.tc n : Thread nD τ) dst (.dma sS) hsc) (.dma sem) hsrc hdst hsem) kk) Q := by
  subst hn hs hd h1 h2
  exact gather_core Pv Fv K i 0 c k l d (by decide) hk (N_xRow c) (gath (Fv 0)) (by rw [xRow_read, gath_rows])
    (BI.Entails.refl _) (BI.Entails.refl _) h

/-- One copy of the second result's rows, with nothing beside them. -/
theorem step_gather1 {α : Type} (i : ℕ) (c : Dev nD) {Q : α → sProp 𝕄} {FR : sProp 𝕄} {X} {kk : PUnit → Prog (TpuEff nD τ sig (Elt F) Λ₀ .tc) α}
    (n : Dev nD) {src dst : Memref sig .tc .vmem S16x512 .bf16} {sS sem : DmaSem sig}
    {hsc : dst.view.ref.isScScratch = false} {hsrc : src.view.WordExact} {hdst : dst.view.WordExact}
    {hsem : DmaTarget.Typed .vmem (.dma sem) (.remote (Dev.tc n : Thread nD τ) dst (.dma sS) hsc)}
    (k : Fin 32) (l d : List (Fin 32)) (hk : k ≠ 0) (hn : n = peer c k) (hs : src = rM) (hd : dst = oRow c)
    (h1 : sS = dsem 2 k) (h2 : sem = dsem 3 k)
    (h : iprop(Pers Pv Fv K ∗ GathSt Fv i 1 c l (k :: d) X ∗ FR) ⊢ WP c (kk ⟨⟩) Q) :
    iprop(Pers Pv Fv K ∗ GathSt Fv i 1 c (k :: l) d X ∗ FR)
      ⊢ WP c (.op (.enqueueDma src (.remote (Dev.tc n : Thread nD τ) dst (.dma sS) hsc) (.dma sem) hsrc hdst hsem) kk) Q := by
  subst hn hs hd h1 h2
  exact gather_core Pv Fv K i 1 c k l d (by decide) hk (N_oRow c) (gath (Fv 1)) (by rw [oRow_read, gath_rows])
    (BI.Entails.refl _) (BI.Entails.refl _) h

/-- The rows that lie in slot `k`, read by the reduction. -/
theorem step_slot {α : Type} (r : ℕ) (c : Dev nD) {Q : α → sProp 𝕄} {FR A B : sProp 𝕄}
    {kk : (S1x16x512.Idx → Elt F .bf16) → Prog (TpuEff nD τ sig (Elt F) Λ₀ .tc) α}
    (k : Fin 32) (d : List (Fin 32)) {inb} {hl}
    (h : iprop(Pers Pv Fv K ∗ (A ∗ bigSepL (k :: d) (doneRes Pv Fv 1 r c) ∗ B) ∗ FR)
      ⊢ WP c (kk (fun x => scat (Pv r) c (ix3 k (x 1) (x 2)))) Q) :
    iprop(Pers Pv Fv K ∗ (A ∗ bigSepL (k :: d) (doneRes Pv Fv 1 r c) ∗ B) ∗ FR)
      ⊢ WP c (.op (.load bM (Rect.unit (s := S32x16x512) ![k.val, 0, 0] S1x16x512.size inb).toLoadRect hl) kk) Q := by
  rw [bigSepL_cons' k d] at h ⊢
  unfold doneRes dPay bPts at h ⊢
  iintro ⟨#HP, ⟨HA, ⟨⟨⟨Hb, Hx⟩, Ha⟩, Hd⟩, HB⟩, HR⟩
  iapply (wp_load 𝒱₀ (c : Thread nD τ) none Set.univ (m := bM) (S := (bSlot k).view.set) (by rw [bSlot_set]; exact le_of_eq (Finset.map_refl))) $$ Hb
  iintro Hb
  rw [show bM.view.readAt (Elt F) (slotRect k).toLoadRect (scat (Pv r) c) = fun x => scat (Pv r) c (ix3 k (x 1) (x 2)) from by
    funext x
    show scat (Pv r) c ((slotRect k).emb x) = _
    congr 1
    funext a; apply Fin.ext
    fin_cases a
    · have : (x 0).val < 1 := (x 0).isLt
      show k.val + 1 * (x 0).val = k.val; omega
    · show 0 + 1 * (x 1).val = (x 1).val; omega
    · show 0 + 1 * (x 2).val = (x 2).val; omega]
  iapply h
  isplitr; · iexact HP
  isplitr [HR]
  · isplitl [HA]; · iexact HA
    isplitr [HB]
    · isplitr [Hd]
      · isplitl [Hb Hx]
        · isplitl [Hb]; · iexact Hb
          iexact Hx
        iexact Ha
      iexact Hd
    iexact HB
  iexact HR

attribute [irreducible] SigSt BarSt BarDone WaitSt ScatSt GathSt

end Cert.KernelIdeal.Run
-- ==== Proof.Vals.lean ====
/-
The values the run leaves: the partial sums, the reduced rows and the output, in terms of the inputs.
-/
module

public import proofs.«01_k».proof.Proof.Steps

@[expose] public section

set_option maxRecDepth 8000

noncomputable section

namespace Cert.KernelIdeal.Run

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig ℕ (Elt F) ℕ UU ℕ

/-! ## The inputs of one device -/

/-- The contents of the nine input buffers of one device. -/
structure Inp (F : FTy → Type) [FloatOps F] where
  x : S2x256x512.Idx → Elt F .f32
  wq : S512x256.Idx → Elt F .f32
  wk : S512x256.Idx → Elt F .f32
  wv : S512x256.Idx → Elt F .f32
  wo : S256x512.Idx → Elt F .f32
  te : S2x128.Idx → Elt F .f32
  wm : S128x3072.Idx → Elt F .f32
  f1 : S512x64.Idx → Elt F .f32
  f2 : S64x512.Idx → Elt F .f32

abbrev xInM : Memref sig .tc .vmem S2x256x512 .f32 := Memref.whole cc0_stg0_0
abbrev wqM : Memref sig .tc .vmem S512x256 .f32 := Memref.whole cc0_stg1_0
abbrev wkM : Memref sig .tc .vmem S512x256 .f32 := Memref.whole cc0_stg2_0
abbrev wvM : Memref sig .tc .vmem S512x256 .f32 := Memref.whole cc0_stg3_0
abbrev woM : Memref sig .tc .vmem S256x512 .f32 := Memref.whole cc0_stg4_0
abbrev teM : Memref sig .tc .vmem S2x128 .f32 := Memref.whole cc0_stg5_0
abbrev wmM : Memref sig .tc .vmem S128x3072 .f32 := Memref.whole cc0_stg6_0
abbrev f1M : Memref sig .tc .vmem S512x64 .f32 := Memref.whole cc0_stg7_0
abbrev f2M : Memref sig .tc .vmem S64x512 .f32 := Memref.whole cc0_stg8_0
abbrev outM : Memref sig .tc .vmem S2x256x512 .f32 := Memref.whole cc0_stg9_0

namespace Inp
variable (I : Inp F)
def x0 : Vec F S1x256x512 .f32 := xInM.view.readAt (Elt F) (Rect.unit (s := S2x256x512) ![0, 0, 0] S1x256x512.size inb_S2x256x512_S1x256x512_0_0_0).toLoadRect I.x
def x1 : Vec F S1x256x512 .f32 := xInM.view.readAt (Elt F) (Rect.unit (s := S2x256x512) ![1, 0, 0] S1x256x512.size inb_S2x256x512_S1x256x512_1_0_0).toLoadRect I.x
def lq : Vec F S512x256 .f32 := wqM.view.readAt (Elt F) (Rect.unit (s := S512x256) ![0, 0] S512x256.size inb_S512x256_S512x256_0_0).toLoadRect I.wq
def lk : Vec F S512x256 .f32 := wkM.view.readAt (Elt F) (Rect.unit (s := S512x256) ![0, 0] S512x256.size inb_S512x256_S512x256_0_0).toLoadRect I.wk
def lv : Vec F S512x256 .f32 := wvM.view.readAt (Elt F) (Rect.unit (s := S512x256) ![0, 0] S512x256.size inb_S512x256_S512x256_0_0).toLoadRect I.wv
def lo : Vec F S256x512 .f32 := woM.view.readAt (Elt F) (Rect.unit (s := S256x512) ![0, 0] S256x512.size inb_S256x512_S256x512_0_0).toLoadRect I.wo
def lt : Vec F S2x128 .f32 := teM.view.readAt (Elt F) (Rect.unit (s := S2x128) ![0, 0] S2x128.size inb_S2x128_S2x128_0_0).toLoadRect I.te
def lm : Vec F S128x3072 .f32 := wmM.view.readAt (Elt F) (Rect.unit (s := S128x3072) ![0, 0] S128x3072.size inb_S128x3072_S128x3072_0_0).toLoadRect I.wm
def l1 : Vec F S512x64 .f32 := f1M.view.readAt (Elt F) (Rect.unit (s := S512x64) ![0, 0] S512x64.size inb_S512x64_S512x64_0_0).toLoadRect I.f1
def l2 : Vec F S64x512 .f32 := f2M.view.readAt (Elt F) (Rect.unit (s := S64x512) ![0, 0] S64x512.size inb_S64x512_S64x512_0_0).toLoadRect I.f2
/-- The residual rows a device picks, from the first and from the second batch. -/
def xc0 (c : Dev nD) : Vec F S1x16x512 .f32 := xInM.view.readAt (Elt F) (Rect.unit (s := S2x256x512) (k0_off3 c) S1x16x512.size (k0_off3_inb c)).toLoadRect I.x
def xc1 (c : Dev nD) : Vec F S1x16x512 .f32 := xInM.view.readAt (Elt F) (Rect.unit (s := S2x256x512) (k0_off4 c) S1x16x512.size (k0_off4_inb c)).toLoadRect I.x

/-- The modulation vectors. -/
def sa : FVec F S2x512 .f32 := k0_pay4 I.lt I.lm
def sha : FVec F S2x512 .f32 := k0_pay5 I.lt I.lm
def ga : FVec F S2x512 .f32 := k0_pay6 I.lt I.lm
def sm : FVec F S2x512 .f32 := k0_pay7 I.lt I.lm
def shm : FVec F S2x512 .f32 := k0_pay8 I.lt I.lm
def gm : FVec F S2x512 .f32 := k0_pay9 I.lt I.lm

/-- Queries, keys and values of the first batch. -/
def q0 : FVec F S256x256 .f32 := k0_pay15 (k0_pay10 I.x0) (k0_pay11 I.lt I.lm) (k0_pay12 I.lt I.lm) (k0_pay13 I.x0) I.lq
def kk0 : FVec F S256x256 .f32 := k0_pay16 (k0_pay10 I.x0) (k0_pay11 I.lt I.lm) (k0_pay12 I.lt I.lm) (k0_pay13 I.x0) I.lk
def vv0 : FVec F S256x256 .f32 := k0_pay17 (k0_pay10 I.x0) (k0_pay11 I.lt I.lm) (k0_pay12 I.lt I.lm) (k0_pay13 I.x0) I.lv
/-- The first batch's share of the attention output. -/
def att0 : FVec F S256x512 .bf16 :=
  k0_pay26 (k0_pay20 (k0_pay18 (k0_pay10 I.x0) (k0_pay11 I.lt I.lm) (k0_pay12 I.lt I.lm) (k0_pay13 I.x0) I.lv) (k0_pay19 (k0_pay10 I.x0) (k0_pay11 I.lt I.lm) (k0_pay12 I.lt I.lm) (k0_pay13 I.x0) I.lq I.lk))
    (k0_pay21 I.q0 I.kk0 I.vv0) (k0_pay22 I.q0 I.kk0 I.vv0) (k0_pay23 I.vv0) (k0_pay24 I.q0 I.kk0) (k0_pay25 I.q0 I.kk0) I.lo
/-- The second batch's share of the attention output. -/
def att1 : FVec F S256x512 .bf16 :=
  k0_pay38 (k0_pay31 (k0_pay27 I.sha) (k0_pay28 I.x1) (k0_pay29 I.sa) I.lq) (k0_pay32 (k0_pay27 I.sha) (k0_pay28 I.x1) (k0_pay29 I.sa) I.lk)
    (k0_pay33 (k0_pay27 I.sha) (k0_pay28 I.x1) (k0_pay29 I.sa) I.lv) (k0_pay34 (k0_pay27 I.sha) (k0_pay28 I.x1) (k0_pay29 I.sa) I.lq I.lk I.lv)
    (k0_pay35 (k0_pay27 I.sha) (k0_pay28 I.x1) (k0_pay29 I.sa) I.lv) (k0_pay36 (k0_pay27 I.sha) (k0_pay28 I.x1) (k0_pay29 I.sa) I.lq I.lk)
    (k0_pay37 (k0_pay27 I.sha) (k0_pay28 I.x1) (k0_pay29 I.sa) I.lq I.lk) I.lo
end Inp

/-- Two halves of a 512×512 buffer. -/
def stack (A B : S256x512.Idx → Elt F .bf16) : Big F := fun y =>
  if h : (y 0).val < 256 then A (ix2 (⟨(y 0).val, h⟩ : Fin 256) (y 1))
  else B (ix2 (⟨(y 0).val - 256, by have h : (y 0).val < 512 := (y 0).isLt; show _ < 256; omega⟩ : Fin 256) (y 1))

/-- Slot `k` of the receive buffer, as it is loaded. -/
def slot (P : Dev nD → Big F) (c : Dev nD) (k : Fin 32) : Vec F S1x16x512 .bf16 := fun x => scat P c (ix3 k (x 1) (x 2))

/-- The batch device `c`'s rows lie in, as the program works it out. -/
def v2w (c : Dev nD) : BitVec 32 := Scalar.remsi (Scalar.divsi (Dev.word c) 1#32) 32#32
def bIdx (c : Dev nD) : BitVec 32 :=
  Scalar.select
    (Scalar.andi
      (Scalar.cmpi .ne (Scalar.subi (Scalar.extui (Scalar.cmpi .sgt (v2w c) 0#32)) (Scalar.extui (Scalar.cmpi .slt (v2w c) 0#32)))
        (Scalar.subi (Scalar.extui (Scalar.cmpi .sgt 16#32 0#32)) (Scalar.extui (Scalar.cmpi .slt 16#32 0#32))))
      (Scalar.cmpi .ne (Scalar.remsi (v2w c) 16#32) 0#32))
    (Scalar.subi (Scalar.divsi (v2w c) 16#32) 1#32) (Scalar.divsi (v2w c) 16#32)

/-- The first round's sum of the own rows and the slots 1 to 30. -/
def red0 (own : Vec F S16x512 .bf16) (s : Fin 32 → Vec F S1x16x512 .bf16) : FVec F S16x512 .f32 :=
  k0_pay52 (k0_pay51 (k0_pay49 (k0_pay48 (k0_pay47 (k0_pay46 (k0_pay45 (k0_pay43 (k0_pay42 (k0_pay41 (k0_pay40 (k0_pay39 own (s 1))
    (s 2) (s 3) (s 4)) (s 5) (s 6)) (s 7) (s 8) (s 9)) (s 10) (s 11)) (k0_pay44 (s 12)) (s 13) (s 14)) (s 15) (s 16) (s 17)) (s 18) (s 19))
    (s 20) (s 21) (s 22)) (s 23) (s 24)) (k0_pay50 (s 25)) (s 26) (s 27)) (s 28) (s 29) (s 30)
/-- The second round's sum of the own rows and the slots 1 to 30. -/
def red1 (own : Vec F S16x512 .bf16) (s : Fin 32 → Vec F S1x16x512 .bf16) : FVec F S16x512 .f32 :=
  k0_pay81 (k0_pay80 (k0_pay79 (k0_pay78 (k0_pay77 (k0_pay76 (k0_pay75 (k0_pay74 (k0_pay73 (k0_pay72 (k0_pay71 (k0_pay70 own (s 1))
    (s 2) (s 3) (s 4)) (s 5) (s 6)) (s 7) (s 8) (s 9)) (s 10) (s 11) (s 12)) (s 13) (s 14)) (s 15) (s 16) (s 17)) (s 18) (s 19))
    (s 20) (s 21) (s 22)) (s 23) (s 24) (s 25)) (s 26) (s 27)) (s 28) (s 29) (s 30)

variable (I : Dev nD → Inp F)

/-- The first round's partial sums. -/
def pv0 (c : Dev nD) : Big F := stack (I c).att0 (I c).att1
/-- The rows of the first result that device `c` makes. -/
def fv0 (c : Dev nD) : Rows F :=
  k0_pay54 (I c).ga (bIdx c) (red0 (rowsOf (pv0 I c) c) (slot (pv0 I) c)) (slot (pv0 I) c 31) ((I c).xc0 c) ((I c).xc1 c)
/-- The first result, as every device holds it. -/
def mid : Big F := gath (fv0 I)

def mid0 : Vec F S256x512 .bf16 := xM.view.readAt (Elt F) (Rect.unit (s := S512x512) ![0, 0] S256x512.size inb_S512x512_S256x512_0_0).toLoadRect (mid I)
def mid1 : Vec F S256x512 .bf16 := xM.view.readAt (Elt F) (Rect.unit (s := S512x512) ![256, 0] S256x512.size inb_S512x512_S256x512_256_0).toLoadRect (mid I)
def midc (c : Dev nD) : Vec F S16x512 .bf16 := xM.view.readAt (Elt F) (Rect.unit (s := S512x512) (k0_off2 c) S16x512.size (k0_off2_inb c)).toLoadRect (mid I)

/-- The second round's partial sums. -/
def ff0 (c : Dev nD) : FVec F S256x512 .bf16 :=
  k0_pay62 (k0_pay57 (I c).sm) (k0_pay58 (I c).shm) (k0_pay60 (mid0 I)) (k0_pay61 (mid0 I)) (I c).l1 (I c).l2
def ff1 (c : Dev nD) : FVec F S256x512 .bf16 :=
  k0_pay69 (k0_pay64 (I c).sm) (k0_pay65 (I c).shm) (k0_pay67 (mid1 I)) (k0_pay68 (mid1 I)) (I c).l1 (I c).l2
def pv1 (c : Dev nD) : Big F := stack (ff0 I c) (ff1 I c)
/-- The rows of the second result that device `c` makes. -/
def fv1 (c : Dev nD) : Rows F :=
  k0_pay83 (I c).gm (bIdx c) (red1 (rowsOf (pv1 I c) c) (slot (pv1 I) c)) (slot (pv1 I) c 31) (midc I c)
/-- The second result, as every device holds it. -/
def fin : Big F := gath (fv1 I)
def fin0 : Vec F S256x512 .bf16 := oM.view.readAt (Elt F) (Rect.unit (s := S512x512) ![0, 0] S256x512.size inb_S512x512_S256x512_0_0).toLoadRect (fin I)
def fin1 : Vec F S256x512 .bf16 := oM.view.readAt (Elt F) (Rect.unit (s := S512x512) ![256, 0] S256x512.size inb_S512x512_S256x512_256_0).toLoadRect (fin I)

/-- Two planes of the output buffer. -/
def stack3 (A B : S1x256x512.Idx → Elt F .f32) : S2x256x512.Idx → Elt F .f32 := fun y =>
  if (y 0).val = 0 then A (ix3 (0 : Fin 1) (y 1) (y 2)) else B (ix3 (0 : Fin 1) (y 1) (y 2))

/-- What the kernel leaves in its output buffer. -/
def outv : S2x256x512.Idx → Elt F .f32 := stack3 (k0_pay1 (k0_pay85 (fin0 I))) (k0_pay2 (fin1 I))

/-- The partial sums and the rows of the two rounds. -/
def Pv (r : ℕ) (c : Dev nD) : Big F := if r = 0 then pv0 I c else pv1 I c
def Fv (r : ℕ) (c : Dev nD) : Rows F := if r = 0 then fv0 I c else fv1 I c

/-- The rows are stored twice with one value, in the first round -/
theorem pay55_eq (a : FVec F S2x512 .f32) (b : BitVec 32) (d : FVec F S16x512 .f32) (e : Vec F S1x16x512 .bf16) (g h : Vec F S1x16x512 .f32) :
    k0_pay55 a b d e g h = k0_pay54 a b d e g h := rfl
/-- and in the second. -/
theorem pay84_eq (a : FVec F S2x512 .f32) (b : BitVec 32) (d : FVec F S16x512 .f32) (e : Vec F S1x16x512 .bf16) (g : Vec F S16x512 .bf16) :
    k0_pay84 a b d e g = k0_pay83 a b d e g := rfl

/-! ## Writing halves -/

end Cert.KernelIdeal.Run
-- ==== Proof.Local.lean ====
/-
Loads and stores of one device's own buffers, and the entry into the parts of the body.
-/
module

public import proofs.«01_k».proof.Proof.Vals

@[expose] public section

set_option maxRecDepth 8000

noncomputable section

namespace Cert.KernelIdeal.Run

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig ℕ (Elt F) ℕ UU ℕ

/-! ## Contents after the stores -/

abbrev half0 : Rect S512x512 := Rect.unit (s := S512x512) ![0, 0] S256x512.size inb_S512x512_S256x512_0_0
abbrev half1 : Rect S512x512 := Rect.unit (s := S512x512) ![256, 0] S256x512.size inb_S512x512_S256x512_256_0
abbrev plane0 : Rect S2x256x512 := Rect.unit (s := S2x256x512) ![0, 0, 0] S1x256x512.size inb_S2x256x512_S1x256x512_0_0_0
abbrev plane1 : Rect S2x256x512 := Rect.unit (s := S2x256x512) ![1, 0, 0] S1x256x512.size inb_S2x256x512_S1x256x512_1_0_0
abbrev full16 : Rect S16x512 := Rect.unit (s := S16x512) ![0, 0] S16x512.size inb_S16x512_S16x512_0_0
abbrev own (c : Dev nD) : Rect S512x512 := Rect.unit (s := S512x512) (k0_off2 c) S16x512.size (k0_off2_inb c)

/-- A device's own rows start at sixteen times its number, -/
theorem off2_eq (c : Dev nD) : k0_off2 c = ![16 * c.val, 0] := by revert c; decide +kernel
/-- The device's own rows are stored from sixteen times its number on. -/
theorem off5_eq (c : Dev nD) : k0_off5 c = ![16 * c.val, 0] := by revert c; decide +kernel
/-- The two halves written into the buffer of partial sums leave the stack of the two. -/
theorem stack_write (f : Big F) (A B : S256x512.Idx → Elt F .bf16) :
    (pM.access half1 : View sig .tc _ _ _).write (Elt F) ((pM.access half0 : View sig .tc _ _ _).write (Elt F) f A Finset.univ) B Finset.univ = stack A B := by
  funext y
  have h0 : (y 0).val < 512 := (y 0).isLt
  have h1 : (y 1).val < 512 := (y 1).isLt
  unfold stack
  by_cases h : (y 0).val < 256
  · rw [dif_pos h, View.write_of_not_mem]
    · have e : (pM.access half0 : View sig .tc _ _ _).emb (ix2 (⟨(y 0).val, h⟩ : Fin 256) (y 1)) = y := by
        funext a; apply Fin.ext
        fin_cases a
        · show 0 + 1 * (y 0).val = (y 0).val; omega
        · show 0 + 1 * (y 1).val = (y 1).val; omega
      conv_lhs => rw [← e]
      rw [View.write_emb_of_mem _ _ (Finset.mem_univ _)]
      rfl
    · intro hm
      obtain ⟨x, -, hx⟩ := Finset.mem_map.mp hm
      have : (y 0).val = 256 + 1 * (x 0).val := by rw [← hx]; rfl
      omega
  · rw [dif_neg h]
    have e : (pM.access half1 : View sig .tc _ _ _).emb (ix2 (⟨(y 0).val - 256, by show _ < 256; omega⟩ : Fin 256) (y 1)) = y := by
      funext a; apply Fin.ext
      fin_cases a
      · show 256 + 1 * ((y 0).val - 256) = (y 0).val; omega
      · show 0 + 1 * (y 1).val = (y 1).val; omega
    conv_lhs => rw [← e]
    rw [View.write_emb_of_mem _ _ (Finset.mem_univ _)]
    rfl

/-- The two planes written into the output buffer leave both. -/
theorem stack3_write (f : S2x256x512.Idx → Elt F .f32) (A B : S1x256x512.Idx → Elt F .f32) :
    (outM.access plane1 : View sig .tc _ _ _).write (Elt F) ((outM.access plane0 : View sig .tc _ _ _).write (Elt F) f A Finset.univ) B Finset.univ = stack3 A B := by
  funext y
  have h0 : (y 0).val < 2 := (y 0).isLt
  unfold stack3
  by_cases h : (y 0).val = 0
  · rw [if_pos h, View.write_of_not_mem]
    · have e : (outM.access plane0 : View sig .tc _ _ _).emb (ix3 (0 : Fin 1) (y 1) (y 2)) = y := by
        funext a; apply Fin.ext
        fin_cases a
        · show 0 + 1 * 0 = (y 0).val; omega
        · show 0 + 1 * (y 1).val = (y 1).val; omega
        · show 0 + 1 * (y 2).val = (y 2).val; omega
      conv_lhs => rw [← e]
      rw [View.write_emb_of_mem _ _ (Finset.mem_univ _)]
      rfl
    · intro hm
      obtain ⟨x, -, hx⟩ := Finset.mem_map.mp hm
      have : (y 0).val = 1 + 1 * (x 0).val := by rw [← hx]; rfl
      omega
  · rw [if_neg h]
    have e : (outM.access plane1 : View sig .tc _ _ _).emb (ix3 (0 : Fin 1) (y 1) (y 2)) = y := by
      funext a; apply Fin.ext
      fin_cases a
      · show 1 + 1 * 0 = (y 0).val; omega
      · show 0 + 1 * (y 1).val = (y 1).val; omega
      · show 0 + 1 * (y 2).val = (y 2).val; omega
    conv_lhs => rw [← e]
    rw [View.write_emb_of_mem _ _ (Finset.mem_univ _)]
    rfl

/-- A store into the rows' own buffer leaves what it stores. -/
theorem full_write (f w : Rows F) : (rM.access full16 : View sig .tc _ _ _).write (Elt F) f w Finset.univ = w :=
  Memref.write_access_unit_zero_univ (Elt F) cc0_scratch3 (funext fun a => by fin_cases a <;> rfl) _ f w

/-- A store into the own rows of the first result leaves the gathered contents there. -/
theorem xrow_write (R : Dev nD → Rows F) (c : Dev nD) (f : Big F) {off : Fin 2 → ℕ} (h : off = ![16 * c.val, 0]) (inb) :
    ∀ y ∈ (xRow c).view.set, (xM.access (Rect.unit (s := S512x512) off S16x512.size inb) : View sig .tc _ _ _).write (Elt F) f (R c) Finset.univ y = gath R y := by
  subst h
  intro y hy
  obtain ⟨x, -, hx⟩ := Finset.mem_map.mp hy
  have e : (xM.access (rowRect c) : View sig .tc _ _ _).emb x = y := hx
  rw [← e, View.write_emb_of_mem _ _ (Finset.mem_univ _)]
  exact (congrFun (gath_rows R c) x).symm.trans (congrArg (gath R) (rowRect_emb c x).symm)
/-- Storing a device's rows of the second result leaves them as gathered. -/
theorem orow_write (R : Dev nD → Rows F) (c : Dev nD) (f : Big F) {off : Fin 2 → ℕ} (h : off = ![16 * c.val, 0]) (inb) :
    ∀ y ∈ (oRow c).view.set, (oM.access (Rect.unit (s := S512x512) off S16x512.size inb) : View sig .tc _ _ _).write (Elt F) f (R c) Finset.univ y = gath R y := by
  subst h
  intro y hy
  obtain ⟨x, -, hx⟩ := Finset.mem_map.mp hy
  have e : (oM.access (rowRect c) : View sig .tc _ _ _).emb x = y := hx
  rw [← e, View.write_emb_of_mem _ _ (Finset.mem_univ _)]
  exact (congrFun (gath_rows R c) x).symm.trans (congrArg (gath R) (rowRect_emb c x).symm)

/-! ## Reaching one piece of what is held -/

/-- A resource can be taken out and put back. -/
theorem acc_here {A : sProp 𝕄} : A ⊢ iprop(A ∗ (A -∗ A)) := by
  iintro H; isplitl [H]; · iexact H
  iintro H; iexact H
/-- What can be taken out of the left of a pair can be taken out of the pair. -/
theorem acc_l {A A' B P P' : sProp 𝕄} (h : A ⊢ iprop(P ∗ (P' -∗ A'))) : iprop(A ∗ B) ⊢ iprop(P ∗ (P' -∗ iprop(A' ∗ B))) := by
  iintro ⟨HA, HB⟩
  ihave HA := h $$ HA
  icases HA with ⟨HP, HW⟩
  isplitl [HP]; · iexact HP
  iintro HP
  isplitr [HB]; · iapply HW; iexact HP
  iexact HB
/-- What can be taken out of the right of a pair can be taken out of the pair. -/
theorem acc_r {A B B' P P' : sProp 𝕄} (h : B ⊢ iprop(P ∗ (P' -∗ B'))) : iprop(A ∗ B) ⊢ iprop(P ∗ (P' -∗ iprop(A ∗ B'))) := by
  iintro ⟨HA, HB⟩
  ihave HB := h $$ HB
  icases HB with ⟨HP, HW⟩
  isplitl [HP]; · iexact HP
  iintro HP
  isplitl [HA]; · iexact HA
  iapply HW; iexact HP
/-- A resource can be taken out and put back changed. -/
theorem acc_new {A A' : sProp 𝕄} : A ⊢ iprop(A ∗ (A' -∗ A')) := by
  iintro H; isplitl [H]; · iexact H
  iintro H; iexact H

/-! ## One load, one store -/

/-- One load, from what the state holds. -/
theorem step_load {α : Type} (c : Dev nD) {A : sProp 𝕄} {Q : α → sProp 𝕄} {cs : CoreSpace} {s : Shape} {e : EltTy} {m : Memref sig .tc cs s e} {r : LoadRect s}
    {hl : m.view.LoadsAt r} {kk : (r.shape.Idx → Elt F e) → Prog (TpuEff nD τ sig (Elt F) Λ₀ .tc) α}
    {S : Finset (Idx (m.view.loc (c : Thread nD τ)))} {q : PosShare TreeShare} {f : Buf (Elt F) (m.view.loc (c : Thread nD τ))}
    (hacc : A ⊢ iprop((m.view.loc (c : Thread nD τ) ↦[S]{q} f) ∗ ((m.view.loc (c : Thread nD τ) ↦[S]{q} f) -∗ A)))
    (hS : m.view.setOn r.set ⊆ S)
    (h : A ⊢ WP c (kk (m.view.readAt (Elt F) r f)) Q) :
    A ⊢ WP c (.op (.load m r hl) kk) Q := by
  iintro HA
  ihave HA := hacc $$ HA
  icases HA with ⟨Hx, HW⟩
  iapply (wp_load 𝒱₀ (c : Thread nD τ) none Set.univ (m := m) hS) $$ Hx
  iintro Hx
  iapply h
  iapply HW; iexact Hx

/-- One store, into what the state holds. -/
theorem step_store {α : Type} (c : Dev nD) {A A' : sProp 𝕄} {Q : α → sProp 𝕄} {cs : CoreSpace} {s : Shape} {e : EltTy} {m : Memref sig .tc cs s e} {r : Rect s}
    {w : r.shape.Idx → Elt F e} {hx : (m.access r).Stores Finset.univ} {hm : (Finset.univ : Finset r.shape.Idx) = Finset.univ ∨ ∀ a, r.stride a = 1}
    {kk : PUnit → Prog (TpuEff nD τ sig (Elt F) Λ₀ .tc) α}
    {S : Finset (Idx ((m.access r).loc (c : Thread nD τ)))} {f : Buf (Elt F) ((m.access r).loc (c : Thread nD τ))}
    (hacc : A ⊢ iprop(((m.access r).loc (c : Thread nD τ) ↦[S]{fullShare} f) ∗ (((m.access r).loc (c : Thread nD τ) ↦[S]{fullShare} ((m.access r).write (Elt F) f w Finset.univ)) -∗ A')))
    (hS : (m.access r).setOn Finset.univ ⊆ S)
    (h : A' ⊢ WP c (kk ⟨⟩) Q) :
    A ⊢ WP c (.op (.store m r w Finset.univ hx hm) kk) Q := by
  iintro HA
  ihave HA := hacc $$ HA
  icases HA with ⟨Hx, HW⟩
  iapply (wp_store 𝒱₀ (c : Thread nD τ) none Set.univ (m := m) (r := r) (Mk := Finset.univ) hS) $$ Hx
  iintro Hx
  iapply h
  iapply HW; iexact Hx

/-! ## Into and out of the parts -/

/-- Reading the device's number. -/
theorem step_device {α : Type} (c : Dev nD) {A : sProp 𝕄} {Q : α → sProp 𝕄} {kk : Dev nD → Prog (TpuEff nD τ sig (Elt F) Λ₀ .tc) α}
    (h : A ⊢ WP c (kk c) Q) : A ⊢ WP c (.op .deviceId kk) Q := by
  unfold WP; rw [wp_deviceId]; exact h
/-- Going into a part of the program. -/
theorem step_into {α β : Type} (c : Dev nD) {A : sProp 𝕄} {Q : β → sProp 𝕄} {p p' : Prog (TpuEff nD τ sig (Elt F) Λ₀ .tc) α}
    {kk : α → Prog (TpuEff nD τ sig (Elt F) Λ₀ .tc) β} (e : p = p')
    (h : A ⊢ WP c p' (fun a => WP c (kk a) Q)) : A ⊢ WP c (p >>= kk) Q := by
  unfold WP at h ⊢; rw [wp_bind, e]; exact h
/-- Going into the program's last part. -/
theorem step_last {α : Type} (c : Dev nD) {A : sProp 𝕄} {Q : α → sProp 𝕄} {p p' : Prog (TpuEff nD τ sig (Elt F) Λ₀ .tc) α} (e : p = p')
    (h : A ⊢ WP c p' Q) : A ⊢ WP c p Q := by rw [e]; exact h
/-- Coming out with a value. -/
theorem step_out {α : Type} (c : Dev nD) {A : sProp 𝕄} {Q : α → sProp 𝕄} {a : α}
    (h : A ⊢ Q a) : A ⊢ WP c (Prog.ret a) Q := by
  unfold WP; rw [wp_ret]
  refine h.trans ?_
  iintro H; imodintro; iexact H

/-! ## Running on -/

/-- A run of `c`'s body, closed to unfolding. -/
@[irreducible] def Run (c : Dev nD) {α : Type} (p : Prog (TpuEff nD τ sig (Elt F) Λ₀ .tc) α) (Q : α → sProp 𝕄) : sProp 𝕄 := WP c p Q

variable {Pv : ℕ → Dev nD → Big F} {Fv : ℕ → Dev nD → Rows F} {K : Dev nD × CellIx → ℕ}

/-- From the shared records, the protocol state `S` and the rest `R`, device `c` runs `p`. -/
@[irreducible] def Go (Pv : ℕ → Dev nD → Big F) (Fv : ℕ → Dev nD → Rows F) (K : Dev nD × CellIx → ℕ) (c : Dev nD) (S R : sProp 𝕄)
    {α : Type} (p : Prog (TpuEff nD τ sig (Elt F) Λ₀ .tc) α) (Q : α → sProp 𝕄) : Prop :=
  iprop(Pers Pv Fv K ∗ S ∗ R) ⊢ Run c p Q

/-- A step of the run, opened. -/
theorem go_start {c : Dev nD} {α : Type} {S R : sProp 𝕄} {Q : α → sProp 𝕄} {p : Prog (TpuEff nD τ sig (Elt F) Λ₀ .tc) α} (h : Go Pv Fv K c S R p Q) : iprop(Pers Pv Fv K ∗ S ∗ R) ⊢ WP c p Q := by
  unfold Go Run at h; exact h
/-- The state of the run, written another way. -/
theorem go_conv {c : Dev nD} {α : Type} {S S' R R' : sProp 𝕄} {Q : α → sProp 𝕄} {p : Prog (TpuEff nD τ sig (Elt F) Λ₀ .tc) α} (e : iprop(Pers Pv Fv K ∗ S ∗ R) ⊢ iprop(S' ∗ R')) (h : Go Pv Fv K c S' R' p Q) : Go Pv Fv K c S R p Q := by
  unfold Go at h ⊢
  have e' : iprop(Pers Pv Fv K ∗ S ∗ R) ⊢ iprop(Pers Pv Fv K ∗ S' ∗ R') := by
    iintro ⟨#HP, H⟩
    isplitr; · iexact HP
    iapply e
    isplitr; · iexact HP
    iexact H
  exact e'.trans h
/-- The run goes into a part of the program. -/
theorem go_into {c : Dev nD} {α β : Type} {S R : sProp 𝕄} {Q : β → sProp 𝕄} {p p' : Prog (TpuEff nD τ sig (Elt F) Λ₀ .tc) α} {kk : α → Prog (TpuEff nD τ sig (Elt F) Λ₀ .tc) β} (e : p = p')
    (h : Go Pv Fv K c S R p' (fun a => Run c (kk a) Q)) : Go Pv Fv K c S R (p >>= kk) Q := by
  unfold Go Run at h ⊢; exact step_into c e h
/-- The run comes out of a part of the program. -/
theorem go_out {c : Dev nD} {α β : Type} {S R : sProp 𝕄} {Q : β → sProp 𝕄} {a : α} {kk : α → Prog (TpuEff nD τ sig (Elt F) Λ₀ .tc) β}
    (h : Go Pv Fv K c S R (kk a) Q) : Go Pv Fv K c S R (Prog.ret a) (fun a => Run c (kk a) Q) := by
  unfold Go Run at h ⊢; exact step_out c h
/-- The run ends. -/
theorem go_end {c : Dev nD} {α : Type} {S R : sProp 𝕄} {Q : α → sProp 𝕄} {a : α} (h : iprop(Pers Pv Fv K ∗ S ∗ R) ⊢ Q a) : Go Pv Fv K c S R (Prog.ret a) Q := by
  unfold Go Run; exact step_out c h
/-- The run reads the device's number. -/
theorem go_device {c : Dev nD} {α : Type} {S R : sProp 𝕄} {Q : α → sProp 𝕄} {kk : Dev nD → Prog (TpuEff nD τ sig (Elt F) Λ₀ .tc) α} (h : Go Pv Fv K c S R (kk c) Q) : Go Pv Fv K c S R (.op .deviceId kk) Q := by
  unfold Go Run at h ⊢; exact step_device c h

/-- The run makes a barrier signal. -/
theorem go_signal {c : Dev nD} {α : Type} {R : sProp 𝕄} {Q : α → sProp 𝕄} {X : CellTallies nD τ sig ℕ} {kk : PUnit → Prog (TpuEff nD τ sig (Elt F) Λ₀ .tc) α} (n : Dev nD) (k : Fin 32) (l : List (Fin 32)) (hn : n = peer c k) (hk : k ≠ 0)
    (h : Go Pv Fv K c (SigSt c l X) R (kk ⟨⟩) Q) : Go Pv Fv K c (SigSt c (k :: l) X) R (.op (.semSignal (n : Thread nD τ) barS 1) kk) Q := by
  unfold Go Run at h ⊢; exact step_signal Pv Fv K c n k l hn hk h
/-- The run waits on the barrier. -/
theorem go_barrier {c : Dev nD} {α : Type} {R : sProp 𝕄} {Q : α → sProp 𝕄} {X : CellTallies nD τ sig ℕ} {kk : PUnit → Prog (TpuEff nD τ sig (Elt F) Λ₀ .tc) α} (hX : Above 1 X)
    (h : Go Pv Fv K c (BarDone c X) R (kk ⟨⟩) Q) : Go Pv Fv K c (BarSt c X) R (.op (.semWait barS 31) kk) Q := by
  unfold Go Run at h ⊢; exact step_barrier Pv Fv K c hX h
/-- The run waits for a landing. -/
theorem go_wait {c : Dev nD} {α : Type} {R : sProp 𝕄} {Q : α → sProp 𝕄} {X : CellTallies nD τ sig ℕ} {j : Fin 4} {i r : ℕ} {kk : PUnit → Prog (TpuEff nD τ sig (Elt F) Λ₀ .tc) α}
    {sp sp' : Space} {s s' : Shape} {e e' : EltTy} {src : Memref sig .tc sp s e} {dst : Memref sig .tc sp' s' e'} {sm : DmaSem sig}
    {hsrc : src.view.WordExact} {hdst : dst.view.WordExact}
    (k : Fin 32) (l d : List (Fin 32)) (hr : r < 2) (hi : i < 6) (hX : Above i X) (hk : k ≠ 0) (hs : sm = dsem j k) (hN : dst.view.dmaCredit = N)
    (h : Go Pv Fv K c (WaitSt Pv Fv j i r c l (k :: d) X) R (kk ⟨⟩) Q) :
    Go Pv Fv K c (WaitSt Pv Fv j i r c (k :: l) d X) R (.op (.waitDma2 sm src dst hsrc hdst) kk) Q := by
  unfold Go Run at h ⊢; exact step_wait Pv Fv K j i r c k l d hr hi hX hk hs hN h
/-- The run copies partial rows to a peer. -/
theorem go_scatter {c : Dev nD} {α : Type} {R : sProp 𝕄} {Q : α → sProp 𝕄} {X : CellTallies nD τ sig ℕ} {i r : ℕ} {kk : PUnit → Prog (TpuEff nD τ sig (Elt F) Λ₀ .tc) α}
    (n : Dev nD) {src dst : Memref sig .tc .vmem S16x512 .bf16} {sS sem : DmaSem sig}
    {hsc : dst.view.ref.isScScratch = false} {hsrc : src.view.WordExact} {hdst : dst.view.WordExact}
    {hsem : DmaTarget.Typed .vmem (.dma sem) (.remote (Dev.tc n : Thread nD τ) dst (.dma sS) hsc)}
    (k : Fin 32) (l d : List (Fin 32)) (hr : r < 2) (hk : k ≠ 0) (hn : n = peer c k) (hs : src = pRow (peer c k)) (hd : dst = bSlot k)
    (h1 : sS = dsem 0 k) (h2 : sem = dsem 1 k)
    (h : Go Pv Fv K c (ScatSt Pv i r c l (k :: d) X) R (kk ⟨⟩) Q) :
    Go Pv Fv K c (ScatSt Pv i r c (k :: l) d X) R
      (.op (.enqueueDma src (.remote (Dev.tc n : Thread nD τ) dst (.dma sS) hsc) (.dma sem) hsrc hdst hsem) kk) Q := by
  unfold Go Run at h ⊢; exact step_scatter Pv Fv K i r c n k l d hr hk hn hs hd h1 h2 h
/-- The run copies the first result's rows to a peer. -/
theorem go_gather0 {c : Dev nD} {α : Type} {R : sProp 𝕄} {Q : α → sProp 𝕄} {X : CellTallies nD τ sig ℕ} {i : ℕ} {kk : PUnit → Prog (TpuEff nD τ sig (Elt F) Λ₀ .tc) α}
    (n : Dev nD) {src dst : Memref sig .tc .vmem S16x512 .bf16} {sS sem : DmaSem sig}
    {hsc : dst.view.ref.isScScratch = false} {hsrc : src.view.WordExact} {hdst : dst.view.WordExact}
    {hsem : DmaTarget.Typed .vmem (.dma sem) (.remote (Dev.tc n : Thread nD τ) dst (.dma sS) hsc)}
    (k : Fin 32) (l d : List (Fin 32)) (hk : k ≠ 0) (hn : n = peer c k) (hs : src = rM) (hd : dst = xRow c)
    (h1 : sS = dsem 2 k) (h2 : sem = dsem 3 k)
    (h : Go Pv Fv K c (GathSt Fv i 0 c l (k :: d) X) R (kk ⟨⟩) Q) :
    Go Pv Fv K c (GathSt Fv i 0 c (k :: l) d X) R
      (.op (.enqueueDma src (.remote (Dev.tc n : Thread nD τ) dst (.dma sS) hsc) (.dma sem) hsrc hdst hsem) kk) Q := by
  unfold Go Run at h ⊢; exact step_gather0 Pv Fv K i c n k l d hk hn hs hd h1 h2 h
/-- The run copies the second result's rows to a peer. -/
theorem go_gather1 {c : Dev nD} {α : Type} {R : sProp 𝕄} {Q : α → sProp 𝕄} {X : CellTallies nD τ sig ℕ} {i : ℕ} {kk : PUnit → Prog (TpuEff nD τ sig (Elt F) Λ₀ .tc) α}
    (n : Dev nD) {src dst : Memref sig .tc .vmem S16x512 .bf16} {sS sem : DmaSem sig}
    {hsc : dst.view.ref.isScScratch = false} {hsrc : src.view.WordExact} {hdst : dst.view.WordExact}
    {hsem : DmaTarget.Typed .vmem (.dma sem) (.remote (Dev.tc n : Thread nD τ) dst (.dma sS) hsc)}
    (k : Fin 32) (l d : List (Fin 32)) (hk : k ≠ 0) (hn : n = peer c k) (hs : src = rM) (hd : dst = oRow c)
    (h1 : sS = dsem 2 k) (h2 : sem = dsem 3 k)
    (h : Go Pv Fv K c (GathSt Fv i 1 c l (k :: d) X) R (kk ⟨⟩) Q) :
    Go Pv Fv K c (GathSt Fv i 1 c (k :: l) d X) R
      (.op (.enqueueDma src (.remote (Dev.tc n : Thread nD τ) dst (.dma sS) hsc) (.dma sem) hsrc hdst hsem) kk) Q := by
  unfold Go Run at h ⊢; exact step_gather1 Pv Fv K i c n k l d hk hn hs hd h1 h2 h
/-- The run loads a receive slot after its landing. -/
theorem go_slot {c : Dev nD} {α : Type} {R : sProp 𝕄} {Q : α → sProp 𝕄} {X : CellTallies nD τ sig ℕ} {i r : ℕ} {kk : (S1x16x512.Idx → Elt F .bf16) → Prog (TpuEff nD τ sig (Elt F) Λ₀ .tc) α}
    (k : Fin 32) (l d : List (Fin 32)) {off : Fin 3 → ℕ} {inb} {hl} (ho : off = ![k.val, 0, 0])
    (h : Go Pv Fv K c (WaitSt Pv Fv 1 i r c l (k :: d) X) R (kk (slot (Pv r) c k)) Q) :
    Go Pv Fv K c (WaitSt Pv Fv 1 i r c l (k :: d) X) R
      (.op (.load bM (Rect.unit (s := S32x16x512) off S1x16x512.size inb).toLoadRect hl) kk) Q := by
  subst ho
  unfold Go Run WaitSt at h ⊢; exact step_slot Pv Fv K r c k d h

/-- The run loads from what the state holds. -/
theorem go_load {c : Dev nD} {α : Type} {S R : sProp 𝕄} {Q : α → sProp 𝕄} {cs : CoreSpace} {s : Shape} {e : EltTy} {m : Memref sig .tc cs s e} {r : LoadRect s}
    {hl : m.view.LoadsAt r} {kk : (r.shape.Idx → Elt F e) → Prog (TpuEff nD τ sig (Elt F) Λ₀ .tc) α}
    {T : Finset (Idx (m.view.loc (c : Thread nD τ)))} {q : PosShare TreeShare} {f : Buf (Elt F) (m.view.loc (c : Thread nD τ))}
    (hacc : R ⊢ iprop((m.view.loc (c : Thread nD τ) ↦[T]{q} f) ∗ ((m.view.loc (c : Thread nD τ) ↦[T]{q} f) -∗ R)))
    (hT : m.view.setOn r.set ⊆ T)
    (h : Go Pv Fv K c S R (kk (m.view.readAt (Elt F) r f)) Q) :
    Go Pv Fv K c S R (.op (.load m r hl) kk) Q := by
  unfold Go Run at h ⊢; exact step_load c (acc_r (acc_r hacc)) hT h
/-- The run stores into what the state holds. -/
theorem go_store {c : Dev nD} {α : Type} {S R R' : sProp 𝕄} {Q : α → sProp 𝕄} {cs : CoreSpace} {s : Shape} {e : EltTy} {m : Memref sig .tc cs s e} {r : Rect s}
    {w : r.shape.Idx → Elt F e} {hx : (m.access r).Stores Finset.univ} {hm : (Finset.univ : Finset r.shape.Idx) = Finset.univ ∨ ∀ a, r.stride a = 1}
    {kk : PUnit → Prog (TpuEff nD τ sig (Elt F) Λ₀ .tc) α}
    {T : Finset (Idx ((m.access r).loc (c : Thread nD τ)))} {f : Buf (Elt F) ((m.access r).loc (c : Thread nD τ))}
    (hacc : R ⊢ iprop(((m.access r).loc (c : Thread nD τ) ↦[T]{fullShare} f) ∗ (((m.access r).loc (c : Thread nD τ) ↦[T]{fullShare} ((m.access r).write (Elt F) f w Finset.univ)) -∗ R')))
    (hT : (m.access r).setOn Finset.univ ⊆ T)
    (h : Go Pv Fv K c S R' (kk ⟨⟩) Q) :
    Go Pv Fv K c S R (.op (.store m r w Finset.univ hx hm) kk) Q := by
  unfold Go Run at h ⊢; exact step_store c (acc_r (acc_r hacc)) hT h

end Cert.KernelIdeal.Run
-- ==== Proof.Phases.lean ====
/-
Between the phases of the protocol: what one phase leaves is what the next one starts from.
-/
module

public import proofs.«01_k».proof.Proof.Local

@[expose] public section

set_option maxRecDepth 8000

noncomputable section

namespace Cert.KernelIdeal.Run

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig ℕ (Elt F) ℕ UU ℕ

/-! ## Over all the distances -/

/-- The distances in the order they are served, and the other way round. -/
abbrev dists : List (Fin 32) := [1, 2, 3, 4, 5, 6, 7, 8, 9, 10, 11, 12, 13, 14, 15, 16, 17, 18, 19, 20, 21, 22, 23, 24, 25, 26, 27, 28, 29, 30, 31]
abbrev stsid : List (Fin 32) := [31, 30, 29, 28, 27, 26, 25, 24, 23, 22, 21, 20, 19, 18, 17, 16, 15, 14, 13, 12, 11, 10, 9, 8, 7, 6, 5, 4, 3, 2, 1]

/-- Over the other devices, in the order of the distances, -/
theorem far_dists (Φ : Fin 32 → sProp 𝕄) : bigSep far Φ = bigSepL dists Φ :=
  bigSep_eq_bigSepL_of_eq dists (by decide +kernel) (by decide +kernel) Φ
/-- and in the opposite order. -/
theorem far_stsid (Φ : Fin 32 → sProp 𝕄) : bigSep far Φ = bigSepL stsid Φ :=
  bigSep_eq_bigSepL_of_eq stsid (by decide +kernel) (by decide +kernel) Φ
/-- Turning every distance round. -/
theorem far_opp (Φ : Fin 32 → sProp 𝕄) : bigSep far Φ = bigSep far fun k => Φ (opp k) := by
  rw [far_stsid, far_dists]; rfl

/-- A standing fact serves every other device. -/
theorem pers_far {P : sProp 𝕄} [BI.Persistent P] {A B : Fin 32 → sProp 𝕄} (h : ∀ k ∈ far, iprop(P ∗ A k) ⊢ B k) : iprop(P ∗ bigSep far A) ⊢ bigSep far B :=
  (sep_mono_left (BI.bigSep_of_persistent far P)).trans (by rw [← bigSep_sep']; exact bigSep_mono h)
/-- Two sides changed at once. -/
theorem both {A A' B B' : sProp 𝕄} (h : A ⊢ A') (h' : B ⊢ B') : iprop(A ∗ B) ⊢ iprop(A' ∗ B') := BI.sep_mono h h'
/-- Two sums over the other devices are one of pairs, -/
theorem far_two {A B : Fin 32 → sProp 𝕄} : iprop(bigSep far A ∗ bigSep far B) ⊢ bigSep far fun k => iprop(A k ∗ B k) :=
  Entails.of_eq (bigSep_sep' _ _ _).symm
/-- three are one of triples, -/
theorem far_three {A B C : Fin 32 → sProp 𝕄} : iprop(bigSep far A ∗ bigSep far B ∗ bigSep far C) ⊢ bigSep far fun k => iprop(A k ∗ B k ∗ C k) := by
  rw [bigSep_sep', bigSep_sep']
/-- and four one of quadruples. -/
theorem far_four {A B C D : Fin 32 → sProp 𝕄} : iprop(bigSep far A ∗ bigSep far B ∗ bigSep far C ∗ bigSep far D) ⊢ bigSep far fun k => iprop(A k ∗ B k ∗ C k ∗ D k) := by
  rw [bigSep_sep', bigSep_sep', bigSep_sep']

/-- The devices, as the one itself and those at a distance. -/
def around (c : Dev nD) : Fin 32 ≃ Dev nD where
  toFun k := peer c k
  invFun d := ⟨(d.val + (32 - c.val)) % 32, Nat.mod_lt _ (by decide)⟩
  left_inv := by revert c; decide +kernel
  right_inv := by revert c; decide +kernel
/-- At distance zero a device is its own peer. -/
theorem peer_zero (c : Dev nD) : peer c 0 = c := by revert c; decide +kernel
/-- Over all devices: this one and the others. -/
theorem devs_split (c : Dev nD) (Φ : Dev nD → sProp 𝕄) : bigSep Finset.univ Φ = iprop(Φ c ∗ bigSep far fun k => Φ (peer c k)) := by
  rw [bigSep_univ_equiv (around c), BI.bigSep_erase (Finset.mem_univ (0 : Fin 32))]
  show iprop(Φ (peer c 0) ∗ bigSep far fun k => Φ (peer c k)) = _
  rw [peer_zero]

/-! ## The buffers whole -/

def pW (c : Dev nD) (f : Big F) : sProp 𝕄 := pM.view.loc (c : Thread nD τ) ↦[Finset.univ]{fullShare} f
def xW (c : Dev nD) (f : Big F) : sProp 𝕄 := xM.view.loc (c : Thread nD τ) ↦[Finset.univ]{fullShare} f
def oW (c : Dev nD) (f : Big F) : sProp 𝕄 := oM.view.loc (c : Thread nD τ) ↦[Finset.univ]{fullShare} f
def rW (c : Dev nD) (f : Rows F) : sProp 𝕄 := rM.view.loc (c : Thread nD τ) ↦[Finset.univ]{fullShare} f
def bW (c : Dev nD) (f : Recv F) : sProp 𝕄 := bM.view.loc (c : Thread nD τ) ↦[Finset.univ]{fullShare} f
def outW (c : Dev nD) (f : S2x256x512.Idx → Elt F .f32) : sProp 𝕄 := outM.view.loc (c : Thread nD τ) ↦[Finset.univ]{fullShare} f

/-- The partial sums' buffer, as every device's rows of it, -/
theorem pW_split (c : Dev nD) (f : Big F) : pW c f = iprop(pPts c c f ∗ bigSep far fun k => pPts c (peer c k) f) := by
  rw [← devs_split c (fun d => pPts c d f)]
  unfold pW pPts
  rw [← rows_cover, pointsTo_biUnion _ _ (fun d _ d' _ h => rows_disj d d' h)]
  exact bigSep_congr fun d _ => by rw [pRow_set]
/-- the first result's, -/
theorem xW_split (c : Dev nD) (f : Big F) : xW c f = iprop(xPts c c f ∗ bigSep far fun k => xPts c (peer c k) f) := by
  rw [← devs_split c (fun d => xPts c d f)]
  unfold xW xPts
  rw [← rows_cover, pointsTo_biUnion _ _ (fun d _ d' _ h => rows_disj d d' h)]
  exact bigSep_congr fun d _ => by rw [show (xRow d).view.set = (rowRect d).set from View.set_slice_whole _ _]
/-- the second result's, -/
theorem oW_split (c : Dev nD) (f : Big F) : oW c f = iprop(oPts c c f ∗ bigSep far fun k => oPts c (peer c k) f) := by
  rw [← devs_split c (fun d => oPts c d f)]
  unfold oW oPts
  rw [← rows_cover, pointsTo_biUnion _ _ (fun d _ d' _ h => rows_disj d d' h)]
  exact bigSep_congr fun d _ => by rw [show (oRow d).view.set = (rowRect d).set from View.set_slice_whole _ _]
/-- the receive buffer, as its slots, -/
theorem bW_split (c : Dev nD) (f : Recv F) : bW c f = iprop(bPts c 0 f ∗ bigSep far fun k => bPts c k f) := by
  refine Eq.trans ?_ (BI.bigSep_erase (Finset.mem_univ (0 : Fin 32)) (Φ := fun k => bPts c k f))
  unfold bW bPts
  rw [← slots_cover, pointsTo_biUnion _ _ (fun d _ d' _ h => slots_disj d d' h)]
  exact bigSep_congr fun d _ => by rw [bSlot_set]
/-- and the reduced rows, a share for every copy. -/
theorem rW_split (c : Dev nD) (f : Rows F) : rW c f = bigSep far fun k => rPts c k f := by
  unfold rW rPts
  rw [← Transfers.pointsTo_deal far far_ne fullShare]
  rw [show rM.view.set = Finset.univ from View.set_whole _]

/-! ## The inputs and all that is held -/

variable (I : Dev nD → Inp F)

def Mem (I : Inp F) (c : Dev nD) : sProp 𝕄 :=
  iprop((xInM.view.loc (c : Thread nD τ) ↦[Finset.univ]{fullShare} I.x) ∗ (wqM.view.loc (c : Thread nD τ) ↦[Finset.univ]{fullShare} I.wq)
    ∗ (wkM.view.loc (c : Thread nD τ) ↦[Finset.univ]{fullShare} I.wk) ∗ (wvM.view.loc (c : Thread nD τ) ↦[Finset.univ]{fullShare} I.wv)
    ∗ (woM.view.loc (c : Thread nD τ) ↦[Finset.univ]{fullShare} I.wo) ∗ (teM.view.loc (c : Thread nD τ) ↦[Finset.univ]{fullShare} I.te)
    ∗ (wmM.view.loc (c : Thread nD τ) ↦[Finset.univ]{fullShare} I.wm) ∗ (f1M.view.loc (c : Thread nD τ) ↦[Finset.univ]{fullShare} I.f1)
    ∗ (f2M.view.loc (c : Thread nD τ) ↦[Finset.univ]{fullShare} I.f2))

/-- The inputs, the five buffers in use, the output and the protocol's tokens in reserve. -/
def Hold (c : Dev nD) (P X O R Z G : sProp 𝕄) : sProp 𝕄 := iprop(Mem (I c) c ∗ P ∗ X ∗ O ∗ R ∗ Z ∗ G)

section Access
variable {I} {c : Dev nD}
/-- Inside the state: the input can be taken out and put back. -/
theorem at_x {P X O R Z G : sProp 𝕄} : Hold I c P X O R Z G ⊢ iprop((xInM.view.loc (c : Thread nD τ) ↦[Finset.univ]{fullShare} (I c).x) ∗ ((xInM.view.loc (c : Thread nD τ) ↦[Finset.univ]{fullShare} (I c).x) -∗ Hold I c P X O R Z G)) :=
  acc_l (acc_l acc_here)
/-- Inside the state: the query weights can be taken out and put back. -/
theorem at_wq {P X O R Z G : sProp 𝕄} : Hold I c P X O R Z G ⊢ iprop((wqM.view.loc (c : Thread nD τ) ↦[Finset.univ]{fullShare} (I c).wq) ∗ ((wqM.view.loc (c : Thread nD τ) ↦[Finset.univ]{fullShare} (I c).wq) -∗ Hold I c P X O R Z G)) :=
  acc_l (acc_r (acc_l acc_here))
/-- Inside the state: the key weights can be taken out and put back. -/
theorem at_wk {P X O R Z G : sProp 𝕄} : Hold I c P X O R Z G ⊢ iprop((wkM.view.loc (c : Thread nD τ) ↦[Finset.univ]{fullShare} (I c).wk) ∗ ((wkM.view.loc (c : Thread nD τ) ↦[Finset.univ]{fullShare} (I c).wk) -∗ Hold I c P X O R Z G)) :=
  acc_l (acc_r (acc_r (acc_l acc_here)))
/-- Inside the state: the value weights can be taken out and put back. -/
theorem at_wv {P X O R Z G : sProp 𝕄} : Hold I c P X O R Z G ⊢ iprop((wvM.view.loc (c : Thread nD τ) ↦[Finset.univ]{fullShare} (I c).wv) ∗ ((wvM.view.loc (c : Thread nD τ) ↦[Finset.univ]{fullShare} (I c).wv) -∗ Hold I c P X O R Z G)) :=
  acc_l (acc_r (acc_r (acc_r (acc_l acc_here))))
/-- Inside the state: the output weights can be taken out and put back. -/
theorem at_wo {P X O R Z G : sProp 𝕄} : Hold I c P X O R Z G ⊢ iprop((woM.view.loc (c : Thread nD τ) ↦[Finset.univ]{fullShare} (I c).wo) ∗ ((woM.view.loc (c : Thread nD τ) ↦[Finset.univ]{fullShare} (I c).wo) -∗ Hold I c P X O R Z G)) :=
  acc_l (acc_r (acc_r (acc_r (acc_r (acc_l acc_here)))))
/-- Inside the state: the time embedding can be taken out and put back. -/
theorem at_te {P X O R Z G : sProp 𝕄} : Hold I c P X O R Z G ⊢ iprop((teM.view.loc (c : Thread nD τ) ↦[Finset.univ]{fullShare} (I c).te) ∗ ((teM.view.loc (c : Thread nD τ) ↦[Finset.univ]{fullShare} (I c).te) -∗ Hold I c P X O R Z G)) :=
  acc_l (acc_r (acc_r (acc_r (acc_r (acc_r (acc_l acc_here))))))
/-- Inside the state: the modulation weights can be taken out and put back. -/
theorem at_wm {P X O R Z G : sProp 𝕄} : Hold I c P X O R Z G ⊢ iprop((wmM.view.loc (c : Thread nD τ) ↦[Finset.univ]{fullShare} (I c).wm) ∗ ((wmM.view.loc (c : Thread nD τ) ↦[Finset.univ]{fullShare} (I c).wm) -∗ Hold I c P X O R Z G)) :=
  acc_l (acc_r (acc_r (acc_r (acc_r (acc_r (acc_r (acc_l acc_here)))))))
/-- Inside the state: the first feed-forward weights can be taken out and put back. -/
theorem at_f1 {P X O R Z G : sProp 𝕄} : Hold I c P X O R Z G ⊢ iprop((f1M.view.loc (c : Thread nD τ) ↦[Finset.univ]{fullShare} (I c).f1) ∗ ((f1M.view.loc (c : Thread nD τ) ↦[Finset.univ]{fullShare} (I c).f1) -∗ Hold I c P X O R Z G)) :=
  acc_l (acc_r (acc_r (acc_r (acc_r (acc_r (acc_r (acc_r (acc_l acc_here))))))))
/-- Inside the state: the second feed-forward weights can be taken out and put back. -/
theorem at_f2 {P X O R Z G : sProp 𝕄} : Hold I c P X O R Z G ⊢ iprop((f2M.view.loc (c : Thread nD τ) ↦[Finset.univ]{fullShare} (I c).f2) ∗ ((f2M.view.loc (c : Thread nD τ) ↦[Finset.univ]{fullShare} (I c).f2) -∗ Hold I c P X O R Z G)) :=
  acc_l (acc_r (acc_r (acc_r (acc_r (acc_r (acc_r (acc_r (acc_r acc_here))))))))
/-- Inside the state: the partial sums, or some part, can be taken out and put back changed. -/
theorem at_p {P P' X O R Z G Y Y' : sProp 𝕄} (h : P ⊢ iprop(Y ∗ (Y' -∗ P'))) : Hold I c P X O R Z G ⊢ iprop(Y ∗ (Y' -∗ Hold I c P' X O R Z G)) :=
  acc_r (acc_l h)
/-- Inside the state: the first result, or some part, can be taken out and put back changed. -/
theorem at_xb {P X X' O R Z G Y Y' : sProp 𝕄} (h : X ⊢ iprop(Y ∗ (Y' -∗ X'))) : Hold I c P X O R Z G ⊢ iprop(Y ∗ (Y' -∗ Hold I c P X' O R Z G)) :=
  acc_r (acc_r (acc_l h))
/-- Inside the state: the second result, or some part, can be taken out and put back changed. -/
theorem at_o {P X O O' R Z G Y Y' : sProp 𝕄} (h : O ⊢ iprop(Y ∗ (Y' -∗ O'))) : Hold I c P X O R Z G ⊢ iprop(Y ∗ (Y' -∗ Hold I c P X O' R Z G)) :=
  acc_r (acc_r (acc_r (acc_l h)))
/-- Inside the state: the reduced rows, or some part, can be taken out and put back changed. -/
theorem at_r {P X O R R' Z G Y Y' : sProp 𝕄} (h : R ⊢ iprop(Y ∗ (Y' -∗ R'))) : Hold I c P X O R Z G ⊢ iprop(Y ∗ (Y' -∗ Hold I c P X O R' Z G)) :=
  acc_r (acc_r (acc_r (acc_r (acc_l h))))
/-- Inside the state: the output, or some part, can be taken out and put back changed. -/
theorem at_z {P X O R Z Z' G Y Y' : sProp 𝕄} (h : Z ⊢ iprop(Y ∗ (Y' -∗ Z'))) : Hold I c P X O R Z G ⊢ iprop(Y ∗ (Y' -∗ Hold I c P X O R Z' G)) :=
  acc_r (acc_r (acc_r (acc_r (acc_r (acc_l h)))))
end Access

/-! ## The tokens -/

/-- The two tokens of the transfer to distance `k` in round `r`: that it is sent, that it has arrived. -/
def tk (j j' : Fin 4) (r : ℕ) (c : Dev nD) : sProp 𝕄 :=
  bigSep far fun k => iprop(dutyTok ER (dCell j c k) r 0 ∗ dutyTok ER (dCell j' (peer c k) k) r 0)
def ps (j : Fin 4) (r : ℕ) (c : Dev nD) : sProp 𝕄 := bigSep far fun k => atPos ER (dCell j c k) r ∅ 0
def rc (j : Fin 4) (r : ℕ) (c : Dev nD) : sProp 𝕄 := bigSep far fun k => reached ER (dCell j c k) r
def rp (j : Fin 4) (r : ℕ) (c : Dev nD) : sProp 𝕄 := bigSep far fun k => reached ER (dCell j (peer c k) k) r
def cr (j : Fin 4) (i : ℕ) (c : Dev nD) : sProp 𝕄 := bigSep far fun k => cred (tallyAt (dCell j c k) i N)
def xr (c : Dev nD) : sProp 𝕄 := bigSep far fun k => iprop(∃ f, xPts (F := F) (peer c k) c f)
def or_ (c : Dev nD) : sProp 𝕄 := bigSep far fun k => iprop(∃ f, oPts (F := F) (peer c k) c f)
def br (c : Dev nD) : sProp 𝕄 := bigSep far fun k => iprop(∃ f, bPts (F := F) (peer c k) k f)
def bs (c : Dev nD) : sProp 𝕄 := bigSep far fun k => iprop(∃ f, bPts (F := F) c k f)
/-- What device `c` has for its waits for kind `j` in round `r`. -/
def wr (j : Fin 4) (r : ℕ) (c : Dev nD) : sProp 𝕄 := bigSep far fun k => waitRes (F := F) j 0 r c k
/-- What no transfer touches: the own slot and the semaphores at distance 0. -/
def idle (c : Dev nD) : sProp 𝕄 := iprop((∃ f, bPts (F := F) c 0 f) ∗ bigSep Finset.univ fun j : Fin 4 => atPos ER (dCell j c 0) 0 ∅ 0)
/-- The second round's tokens. -/
def later (c : Dev nD) : sProp 𝕄 := iprop(tk (F := F) 0 1 1 c ∗ cr (F := F) 1 4 c ∗ tk (F := F) 2 3 1 c ∗ cr (F := F) 3 5 c)
def barCr (c : Dev nD) : sProp 𝕄 := iprop(cred (tallyAt (barCell c) 1 31) ∗ atPos ER (barCell c) 0 ∅ 0)
def barEnd (c : Dev nD) : sProp 𝕄 := atPos ER (barCell c) 1 ∅ 0

def G1 (c : Dev nD) : sProp 𝕄 :=
  iprop(tk (F := F) 0 1 0 c ∗ ps (F := F) 0 0 c ∗ cr (F := F) 1 2 c ∗ ps (F := F) 1 0 c ∗ tk (F := F) 2 3 0 c ∗ ps (F := F) 2 0 c ∗ cr (F := F) 3 3 c ∗ ps (F := F) 3 0 c
    ∗ later (F := F) c ∗ idle (F := F) c)
def G2 (c : Dev nD) : sProp 𝕄 :=
  iprop(tk (F := F) 2 3 0 c ∗ ps (F := F) 2 0 c ∗ xr (F := F) c ∗ cr (F := F) 3 3 c ∗ ps (F := F) 3 0 c ∗ or_ (F := F) c ∗ later (F := F) c ∗ idle (F := F) c ∗ barEnd (F := F) c)
def G5 (c : Dev nD) : sProp 𝕄 :=
  iprop(ps (F := F) 0 1 c ∗ ps (F := F) 1 1 c ∗ rc (F := F) 0 1 c ∗ or_ (F := F) c ∗ later (F := F) c ∗ idle (F := F) c ∗ barEnd (F := F) c)
def G8 (c : Dev nD) : sProp 𝕄 :=
  iprop(ps (F := F) 2 1 c ∗ rc (F := F) 2 1 c ∗ ps (F := F) 3 1 c ∗ rc (F := F) 3 1 c ∗ br (F := F) c ∗ rp (F := F) 1 1 c ∗ G5 (F := F) c)
def G9 (c : Dev nD) : sProp 𝕄 :=
  iprop(tk (F := F) 2 3 1 c ∗ ps (F := F) 2 1 c ∗ rc (F := F) 2 1 c ∗ or_ (F := F) c ∗ cr (F := F) 3 5 c ∗ ps (F := F) 3 1 c ∗ idle (F := F) c ∗ barEnd (F := F) c)
def G12 (c : Dev nD) : sProp 𝕄 := iprop(ps (F := F) 0 2 c ∗ bs (F := F) c ∗ ps (F := F) 1 2 c ∗ idle (F := F) c ∗ barEnd (F := F) c)
def G15 (c : Dev nD) : sProp 𝕄 := iprop(ps (F := F) 2 2 c ∗ ps (F := F) 3 2 c ∗ G12 (F := F) c)

/-- A device between the phases: its dues only. -/
@[irreducible] def Rest (c : Dev nD) (X : CellTallies nD τ sig ℕ) : sProp 𝕄 := owesE c X

/-- The dues of the four rounds of transfers. -/
def X3 (c : Dev nD) : CellTallies nD τ sig ℕ := oweL (arrT 3 5 c) dists + 0
def X2 (c : Dev nD) : CellTallies nD τ sig ℕ := oweL (arrT 1 4 c) dists + X3 c
def X1 (c : Dev nD) : CellTallies nD τ sig ℕ := oweL (arrT 3 3 c) dists + X2 c
def X0 (c : Dev nD) : CellTallies nD τ sig ℕ := oweL (arrT 1 2 c) dists + X1 c
/-- What is owed from the last gather on, -/
theorem above_X3 {i : ℕ} (h : i < 5) (c : Dev nD) : Above i (X3 c) := (Above.list (fun k => above_arrT 3 h (by decide) c k) _).add (Above.zero _)
/-- from the second scatter on, -/
theorem above_X2 {i : ℕ} (h : i < 4) (c : Dev nD) : Above i (X2 c) := (Above.list (fun k => above_arrT 1 h (by decide) c k) _).add (above_X3 (by omega) c)
/-- from the first gather on, -/
theorem above_X1 {i : ℕ} (h : i < 3) (c : Dev nD) : Above i (X1 c) := (Above.list (fun k => above_arrT 3 h (by decide) c k) _).add (above_X2 (by omega) c)
/-- and from the first scatter on lies above its level. -/
theorem above_X0 {i : ℕ} (h : i < 2) (c : Dev nD) : Above i (X0 c) := (Above.list (fun k => above_arrT 1 h (by decide) c k) _).add (above_X1 (by omega) c)

/-! ## From phase to phase -/

variable (Pv : ℕ → Dev nD → Big F) (Fv : ℕ → Dev nD → Rows F) (K : Dev nD × CellIx → ℕ)

section Steps
variable {I} {Pv} {Fv} {K} {c : Dev nD}

/-! The states at their start and at their end. -/

/-- A phase of waits begins. -/
theorem wait_new {j : Fin 4} {i r : ℕ} {X} : iprop(bigSep far (waitRes j i r c) ∗ owesE c X) ⊢ WaitSt Pv Fv j i r c dists [] X := by
  unfold WaitSt
  rw [far_dists]
  iintro ⟨H, HO⟩
  iframe
  rw [bigSepL_nil]
  iempintro
/-- A phase of waits ends. -/
theorem wait_end {j : Fin 4} {i r : ℕ} {X} : WaitSt Pv Fv j i r c [] stsid X ⊢ iprop(bigSep far (doneRes Pv Fv j r c) ∗ owesE c X) := by
  unfold WaitSt
  rw [far_stsid]
  iintro ⟨-, H, HO⟩
  iframe
/-- A scatter begins. -/
theorem scat_new {i r : ℕ} {X Y} (h : Y = oweL (arrT 1 i c) dists + X) : iprop(bigSep far (scatRes Pv r c) ∗ owesE c Y) ⊢ ScatSt Pv i r c dists [] X := by
  subst h
  unfold ScatSt
  rw [far_dists]
  iintro ⟨H, HO⟩
  iframe
  rw [bigSepL_nil]
  iempintro
/-- A scatter ends. -/
theorem scat_end {i r : ℕ} {X} : ScatSt Pv i r c [] stsid X ⊢ iprop(wr 0 r c ∗ owesE c X) := by
  unfold ScatSt wr
  rw [far_stsid, show oweL (arrT 1 i c) [] + X = X from zero_add _]
  iintro ⟨-, H, HO⟩
  iframe
/-- A gather begins. -/
theorem gath_new {i r : ℕ} {X Y} (h : Y = oweL (arrT 3 i c) dists + X) : iprop(bigSep far (gathRes Fv r c) ∗ owesE c Y) ⊢ GathSt Fv i r c dists [] X := by
  subst h
  unfold GathSt
  rw [far_dists]
  iintro ⟨H, HO⟩
  iframe
  rw [bigSepL_nil]
  iempintro
/-- A gather ends. -/
theorem gath_end {i r : ℕ} {X} : GathSt Fv i r c [] stsid X ⊢ iprop(wr 2 r c ∗ owesE c X) := by
  unfold GathSt wr
  rw [far_stsid, show oweL (arrT 3 i c) [] + X = X from zero_add _]
  iintro ⟨-, H, HO⟩
  iframe

/-- From the signals to the barrier. -/
theorem to_barrier {P X O R Z : sProp 𝕄} :
    iprop(Pers Pv Fv K ∗ SigSt c [] (X0 c) ∗ Hold I c P X O R Z iprop(barCr c ∗ G1 c)) ⊢ iprop(BarSt c (X0 c) ∗ Hold I c P X O R Z (G1 c)) := by
  unfold SigSt BarSt Hold barCr
  rw [show oweL (sigT c) [] + X0 c = X0 c from zero_add _]
  iintro ⟨-, ⟨-, HO⟩, HM, HP, HX, HV, HR, HZ, HB, HG⟩
  iframe

/-- What the barrier brings: every peer's slot and rows to copy into. -/
theorem bar_far : (bigSep far (barPay (F := F) c) : sProp 𝕄) ⊢ iprop(br (F := F) c ∗ xr (F := F) c ∗ or_ (F := F) c) := by
  rw [far_opp]
  unfold br xr or_
  rw [← bigSep_sep', ← bigSep_sep']
  refine bigSep_mono fun k _ => ?_
  unfold barPay
  rw [back_opp, opp_opp]
  exact Entails.refl _

/-- What the transfers of a round leave once they are waited for. -/
def dr (Pv : ℕ → Dev nD → Big F) (Fv : ℕ → Dev nD → Rows F) (j : Fin 4) (r : ℕ) (c : Dev nD) : sProp 𝕄 := bigSep far (doneRes Pv Fv j r c)

/-- What a phase of waits brought, apart from the places. -/
theorem got {j : Fin 4} {r : ℕ} : dr Pv Fv j r c ⊢ iprop((bigSep far fun k => dPay Pv Fv j r c k) ∗ ps j (r + 1) c ∗ rc j (r + 1) c) := by
  unfold dr ps rc doneRes
  rw [← bigSep_sep', ← bigSep_sep']

/-- Credits and places make waits. -/
theorem recv_of {j : Fin 4} {i r : ℕ} : iprop(cr j i c ∗ ps j r c) ⊢ bigSep far (waitRes (F := F) j i r c) := by
  unfold cr ps waitRes
  exact far_two

/-- After the sends, the arrivals are waited for. -/
theorem to_recv1 {i r : ℕ} {X} {P Xb O R Z G : sProp 𝕄} :
    iprop(Pers Pv Fv K ∗ ScatSt Pv i r c [] stsid X ∗ Hold I c P Xb O R Z iprop(cr 1 i c ∗ ps 1 r c ∗ G))
      ⊢ iprop(WaitSt Pv Fv 1 i r c dists [] X ∗ Hold I c P Xb O R Z iprop(wr 0 r c ∗ G)) := by
  have h1 := @scat_end F _ Pv c i r X
  have h2 := @wait_new F _ Pv Fv c 1 i r X
  have h3 := @recv_of F _ c 1 i r
  unfold Hold
  iintro ⟨-, HS, HM, HP, HX, HV, HR, HZ, Hc, Hp, HG⟩
  ihave H1 := h1 $$ HS
  icases H1 with ⟨Hw, HO⟩
  ihave H3 := h3 $$ [Hc Hp]
  · iframe
  iframe
  iapply h2
  iframe
/-- From a gather to the waits for its landings. -/
theorem to_recv3 {i r : ℕ} {X} {P Xb O R Z G : sProp 𝕄} :
    iprop(Pers Pv Fv K ∗ GathSt Fv i r c [] stsid X ∗ Hold I c P Xb O R Z iprop(cr 3 i c ∗ ps 3 r c ∗ G))
      ⊢ iprop(WaitSt Pv Fv 3 i r c dists [] X ∗ Hold I c P Xb O R Z iprop(wr 2 r c ∗ G)) := by
  have h1 := @gath_end F _ Fv c i r X
  have h2 := @wait_new F _ Pv Fv c 3 i r X
  have h3 := @recv_of F _ c 3 i r
  unfold Hold
  iintro ⟨-, HS, HM, HP, HX, HV, HR, HZ, Hc, Hp, HG⟩
  ihave H1 := h1 $$ HS
  icases H1 with ⟨Hw, HO⟩
  ihave H3 := h3 $$ [Hc Hp]
  · iframe
  iframe
  iapply h2
  iframe
/-- After the arrivals, the own sends are waited for. -/
theorem to_sent {j j' : Fin 4} {i r : ℕ} {X} {P Xb O R Z G : sProp 𝕄} :
    iprop(Pers Pv Fv K ∗ WaitSt Pv Fv j i r c [] stsid X ∗ Hold I c P Xb O R Z iprop(wr j' r c ∗ G))
      ⊢ iprop(WaitSt Pv Fv j' 0 r c dists [] X ∗ Hold I c P Xb O R Z iprop(dr Pv Fv j r c ∗ G)) := by
  have h1 := @wait_end F _ Pv Fv c j i r X
  have h2 := @wait_new F _ Pv Fv c j' 0 r X
  unfold Hold dr wr
  iintro ⟨-, HS, HM, HP, HX, HV, HR, HZ, Hw, HG⟩
  ihave H1 := h1 $$ HS
  icases H1 with ⟨Hd, HO⟩
  iframe
  iapply h2
  iframe

/-- From the barrier to the first scatter, -/
theorem to_scatter0 {X O R Z : sProp 𝕄} :
    iprop(Pers Pv Fv K ∗ BarDone c (X0 c) ∗ Hold I c (pW c (Pv 0 c)) X O R Z (G1 c))
      ⊢ iprop(ScatSt Pv 2 0 c dists [] (X1 c) ∗ Hold I c (pPts c c (Pv 0 c)) X O R Z iprop(cr 1 2 c ∗ ps 1 0 c ∗ G2 c)) := by
  have hb : (bigSep far (barPay (F := F) c) : sProp 𝕄) ⊢ iprop(br c ∗ xr c ∗ or_ c) := bar_far
  have hs : iprop(Pers Pv Fv K ∗ (tk 0 1 0 c ∗ ps 0 0 c ∗ (bigSep far fun k => pPts c (peer c k) (Pv 0 c)) ∗ br c)) ⊢ bigSep far (scatRes Pv 0 c) := by
    unfold tk ps br
    refine (sep_mono_right far_four).trans (pers_far fun k _ => ?_)
    unfold scatRes sendToks scatX
    have h1 := @pers_rd F _ Pv Fv K 0 c k
    have h2 := @pers_rd F _ Pv Fv K 1 (peer c k) k
    have h3 := @pers_rd F _ Pv Fv K 3 (back (peer c k) k) (opp k)
    iintro ⟨#HP, ⟨HT, HT'⟩, Hp, HB, HS⟩
    iframe
    ihave H1 := h1 $$ HP
    ihave H2 := h2 $$ HP
    ihave H3 := h3 $$ HP
    isplitr
    · isplitr
      · iexact H1
      · iexact H2
    · iexact H3
  have hn := @scat_new F _ Pv c 2 0 (X1 c) (X0 c) rfl
  unfold BarDone Hold G1 G2 barEnd
  rw [pW_split]
  iintro ⟨HP, ⟨Hbe, Hbar, HO⟩, HM, ⟨Hown, Hrows⟩, HX, HV, HR, HZ, Htk, Hps, Hcr, Hps1, Htk2, Hps2, Hcr3, Hps3, Hl, Hi⟩
  ihave Hb3 := hb $$ Hbar
  icases Hb3 with ⟨Hbr, Hxr, Hor⟩
  ihave Hs := hs $$ [HP Htk Hps Hrows Hbr]
  · iframe
  iframe
  iapply hn
  iframe

/-- from the first scatter's end to the first gather, -/
theorem to_gather0 {X O Z : sProp 𝕄} :
    iprop(Pers Pv Fv K ∗ WaitSt Pv Fv 0 0 0 c [] stsid (X1 c) ∗ Hold I c (pPts c c (Pv 0 c)) X O (rW c (Fv 0 c)) Z iprop(dr Pv Fv 1 0 c ∗ G2 c))
      ⊢ iprop(GathSt Fv 3 0 c dists [] (X2 c) ∗ Hold I c (pW c (Pv 0 c)) X O iprop(emp) Z iprop(cr 3 3 c ∗ ps 3 0 c ∗ G5 c)) := by
  have hw : WaitSt Pv Fv 0 0 0 c [] stsid (X1 c) ⊢ iprop(dr Pv Fv 0 0 c ∗ owesE c (X1 c)) := wait_end
  have h0 := @got F _ Pv Fv c 0 0
  have h1 := @got F _ Pv Fv c 1 0
  have hs : iprop(Pers Pv Fv K ∗ (iprop(tk 2 3 0 c ∗ ps 2 0 c) ∗ (bigSep far fun k => rPts c k (Fv 0 c)) ∗ xr c
      ∗ iprop((bigSep far fun k => dPay Pv Fv 1 0 c k) ∗ rc 1 1 c))) ⊢ bigSep far (gathRes Fv 0 c) := by
    unfold tk ps xr rc
    refine (sep_mono_right ((both far_two (sep_mono_right (sep_mono_right (far_two.trans (Entails.of_eq (far_opp _)))))).trans far_four)).trans (pers_far fun k _ => ?_)
    unfold gathRes sendToks gathX dPts dPay
    rw [if_pos rfl]
    have h1 := @pers_rd F _ Pv Fv K 2 c k
    have h2 := @pers_rd F _ Pv Fv K 3 (peer c k) k
    rw [back_peer]
    iintro ⟨#HP, ⟨⟨HT, HT'⟩, Hp⟩, Hr, HX, ⟨Hb, -⟩, Hc⟩
    ihave H1 := h1 $$ HP
    ihave H2 := h2 $$ HP
    iframe
    isplitr
    · isplitr
      · iexact H1
      · iexact H2
    · isplitl [HX]
      · iexact HX
      · iexists _; iexact Hb
  have hn := @gath_new F _ Fv c 3 0 (X2 c) (X1 c) rfl
  unfold Hold G2 G5
  rw [pW_split, rW_split]
  iintro ⟨HP, HS, HM, Hown, HX, HV, HR, HZ, Hd, Htk, Hps2, Hxr, Hcr3, Hps3, Hor, Hl, Hi, Hbe⟩
  ihave HS := hw $$ HS
  icases HS with ⟨Hd0, HO⟩
  ihave Hd0 := h0 $$ Hd0
  icases Hd0 with ⟨Hrows, Hps0, Hrc0⟩
  ihave Hd1 := h1 $$ Hd
  icases Hd1 with ⟨Hsl, Hps1, Hrc1⟩
  ihave Hs := hs $$ [HP Htk Hps2 HR Hxr Hsl Hrc1]
  · iframe
  iframe
  isplitr [Hrows]
  · iapply hn; iframe
  · iexact Hrows

/-- from there to the feed-forward layer, -/
theorem to_rest0 {P O Z : sProp 𝕄} :
    iprop(Pers Pv Fv K ∗ WaitSt Pv Fv 2 0 0 c [] stsid (X2 c) ∗ Hold I c P (xPts c c (gath (Fv 0))) O iprop(emp) Z iprop(dr Pv Fv 3 0 c ∗ G5 c))
      ⊢ iprop(Rest c (X2 c) ∗ Hold I c P (xW c (gath (Fv 0))) O (rW c (Fv 0 c)) Z (G8 c)) := by
  have hw : WaitSt Pv Fv 2 0 0 c [] stsid (X2 c) ⊢ iprop(dr Pv Fv 2 0 c ∗ owesE c (X2 c)) := wait_end
  have h0 := @got F _ Pv Fv c 2 0
  have h1 := @got F _ Pv Fv c 3 0
  have h2 : (bigSep far fun k => dPay Pv Fv 3 0 c k) ⊢ iprop((bigSep far fun k => xPts c (peer c k) (gath (Fv 0))) ∗ br c ∗ rp 1 1 c) := by
    rw [far_opp]
    unfold br rp
    rw [← bigSep_sep', ← bigSep_sep']
    refine bigSep_mono fun k _ => ?_
    unfold dPay gathX dPts
    rw [if_pos rfl, if_pos rfl, back_opp, opp_opp]
    exact Entails.refl _
  unfold Hold G8 Rest
  rw [xW_split, rW_split]
  iintro ⟨-, HS, HM, HP, HX, HV, -, HZ, Hd, HG⟩
  ihave HS := hw $$ HS
  icases HS with ⟨Hd0, HO⟩
  ihave Hd0 := h0 $$ Hd0
  icases Hd0 with ⟨Hrows, Hps2, Hrc2⟩
  ihave Hd1 := h1 $$ Hd
  icases Hd1 with ⟨Hsl, Hps3, Hrc3⟩
  ihave Hsl := h2 $$ Hsl
  icases Hsl with ⟨Hx, Hbr, Hrp⟩
  iframe
  iexact Hrows

/-- to the second scatter, -/
theorem to_scatter1 {X O R Z : sProp 𝕄} :
    iprop(Pers Pv Fv K ∗ Rest c (X2 c) ∗ Hold I c (pW c (Pv 1 c)) X O R Z (G8 c))
      ⊢ iprop(ScatSt Pv 4 1 c dists [] (X3 c) ∗ Hold I c (pPts c c (Pv 1 c)) X O R Z iprop(cr 1 4 c ∗ ps 1 1 c ∗ G9 c)) := by
  have hs : iprop(Pers Pv Fv K ∗ (iprop(tk 0 1 1 c ∗ ps 0 1 c) ∗ iprop(rc 0 1 c ∗ rp 1 1 c) ∗ (bigSep far fun k => pPts c (peer c k) (Pv 1 c)) ∗ iprop(br c ∗ rc 3 1 c))) ⊢ bigSep far (scatRes Pv 1 c) := by
    have ho : rc (F := F) 3 1 c = bigSep far fun k => reached ER (dCell 3 c (opp k)) 1 := far_opp _
    rw [ho]
    unfold tk ps rc rp br
    refine (sep_mono_right ((both far_two (both far_two (sep_mono_right far_two))).trans far_four)).trans (pers_far fun k _ => ?_)
    unfold scatRes sendToks scatX
    rw [back_peer]
    iintro ⟨-, ⟨⟨HT, HT'⟩, Hp⟩, ⟨#H1, #H2⟩, HB, HS, #H3⟩
    iframe
    isplitr
    · isplitr
      · iexact H1
      · iexact H2
    · iexact H3
  have hn := @scat_new F _ Pv c 4 1 (X3 c) (X2 c) rfl
  unfold Rest Hold G8 G5 G9 later
  rw [pW_split]
  iintro ⟨HP, HO, HM, ⟨Hown, Hrows⟩, HX, HV, HR, HZ, Hps2, Hrc2, Hps3, Hrc3, Hbr, Hrp, Hps0, Hps1, Hrc0, Hor, ⟨Htk, Hcr1, Htk2, Hcr3⟩, Hi, Hbe⟩
  ihave Hs := hs $$ [HP Htk Hps0 Hrc0 Hrp Hrows Hbr Hrc3]
  · iframe
  iframe
  iapply hn
  iframe

/-- the second gather, -/
theorem to_gather1 {X Z : sProp 𝕄} :
    iprop(Pers Pv Fv K ∗ WaitSt Pv Fv 0 0 1 c [] stsid (X3 c) ∗ Hold I c (pPts c c (Pv 1 c)) X (oPts c c (gath (Fv 1))) (rW c (Fv 1 c)) Z iprop(dr Pv Fv 1 1 c ∗ G9 c))
      ⊢ iprop(GathSt Fv 5 1 c dists [] 0 ∗ Hold I c (pW c (Pv 1 c)) X (oPts c c (gath (Fv 1))) iprop(emp) Z iprop(cr 3 5 c ∗ ps 3 1 c ∗ G12 c)) := by
  have hw : WaitSt Pv Fv 0 0 1 c [] stsid (X3 c) ⊢ iprop(dr Pv Fv 0 1 c ∗ owesE c (X3 c)) := wait_end
  have h0 := @got F _ Pv Fv c 0 1
  have h1 := @got F _ Pv Fv c 1 1
  have h2 : (bigSep far fun k => dPay Pv Fv 1 1 c k) ⊢ iprop(bs c ∗ rp 3 1 c) := by
    have ho : rp (F := F) 3 1 c = bigSep far fun k => reached ER (dCell 3 (back c k) (opp k)) 1 := by
      unfold rp; rw [far_opp]; exact bigSep_congr fun k _ => by rw [peer_opp]
    rw [ho]
    unfold bs
    rw [← bigSep_sep']
    refine bigSep_mono fun k _ => ?_
    show iprop(bPts c k (scat (Pv 1) c) ∗ reached ER (dCell 3 (back c k) (opp k)) 1) ⊢ iprop((∃ f, bPts c k f) ∗ reached ER (dCell 3 (back c k) (opp k)) 1)
    iintro ⟨H, Hr⟩
    iframe
    iexists _; iexact H
  have hs : iprop(Pers Pv Fv K ∗ (iprop(tk 2 3 1 c ∗ ps 2 1 c) ∗ iprop(rc 2 1 c ∗ rp 3 1 c) ∗ (bigSep far fun k => rPts c k (Fv 1 c)) ∗ or_ c)) ⊢ bigSep far (gathRes Fv 1 c) := by
    unfold tk ps or_ rc rp
    refine (sep_mono_right ((both far_two (both far_two (Entails.refl _))).trans far_four)).trans (pers_far fun k _ => ?_)
    unfold gathRes sendToks gathX dPts
    simp only [show ¬ (1 : ℕ) = 0 by decide, if_false]
    iintro ⟨-, ⟨⟨HT, HT'⟩, Hp⟩, ⟨#H1, #H2⟩, Hr, HX⟩
    iframe
    isplitr
    · iexact H1
    · iexact H2
  have hn := @gath_new F _ Fv c 5 1 0 (X3 c) rfl
  unfold Hold G9 G12
  rw [pW_split, rW_split]
  iintro ⟨HP, HS, HM, Hown, HX, HV, HR, HZ, Hd, Htk, Hps2, Hrc2, Hor, Hcr3, Hps3, Hi, Hbe⟩
  ihave HS := hw $$ HS
  icases HS with ⟨Hd0, HO⟩
  ihave Hd0 := h0 $$ Hd0
  icases Hd0 with ⟨Hrows, Hps0, Hrc0⟩
  ihave Hd1 := h1 $$ Hd
  icases Hd1 with ⟨Hsl, Hps1, Hrc1⟩
  ihave Hsl := h2 $$ Hsl
  icases Hsl with ⟨Hbs, Hrp⟩
  ihave Hs := hs $$ [HP Htk Hps2 Hrc2 Hrp HR Hor]
  · iframe
  iframe
  isplitr [Hrows]
  · iapply hn; iframe
  · iexact Hrows

/-- and the end. -/
theorem to_rest1 {P X Z : sProp 𝕄} :
    iprop(Pers Pv Fv K ∗ WaitSt Pv Fv 2 0 1 c [] stsid 0 ∗ Hold I c P X (oPts c c (gath (Fv 1))) iprop(emp) Z iprop(dr Pv Fv 3 1 c ∗ G12 c))
      ⊢ iprop(Rest c 0 ∗ Hold I c P X (oW c (gath (Fv 1))) (rW c (Fv 1 c)) Z (G15 c)) := by
  have hw : WaitSt Pv Fv 2 0 1 c [] stsid 0 ⊢ iprop(dr Pv Fv 2 1 c ∗ owesE c 0) := wait_end
  have h0 := @got F _ Pv Fv c 2 1
  have h1 := @got F _ Pv Fv c 3 1
  have h2 : (bigSep far fun k => dPay Pv Fv 3 1 c k) ⊢ (bigSep far fun k => oPts c (peer c k) (gath (Fv 1))) := by
    rw [far_opp]
    refine bigSep_mono fun k _ => ?_
    rw [show dPay Pv Fv 3 1 c (opp k) = iprop(oPts c (back c (opp k)) (gath (Fv 1)) ∗ emp) from rfl, back_opp]
    show iprop(oPts c (peer c k) (gath (Fv 1)) ∗ emp) ⊢ oPts c (peer c k) (gath (Fv 1))
    iintro ⟨H, -⟩; iexact H
  unfold Hold G15 Rest
  rw [oW_split, rW_split]
  iintro ⟨-, HS, HM, HP, HX, HV, -, HZ, Hd, HG⟩
  ihave HS := hw $$ HS
  icases HS with ⟨Hd0, HO⟩
  ihave Hd0 := h0 $$ Hd0
  icases Hd0 with ⟨Hrows, Hps2, Hrc2⟩
  ihave Hd1 := h1 $$ Hd
  icases Hd1 with ⟨Hsl, Hps3, Hrc3⟩
  ihave Hsl := h2 $$ Hsl
  iframe
  iexact Hrows

end Steps
end Cert.KernelIdeal.Run
-- ==== Proof.Rules.lean ====
/-
The body's run, from the barrier to the output, on one device.
-/
module

public import proofs.«01_k».proof.Proof.Phases

@[expose] public section

set_option maxRecDepth 8000

noncomputable section

namespace Cert.KernelIdeal.Run

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig ℕ (Elt F) ℕ UU ℕ

variable (I : Dev nD → Inp F) (K : Dev nD × CellIx → ℕ)

/-! ## The rows and slots the program names -/

/-- The program's slice of the partial sums is a device's rows of them. -/
theorem p_row {off : Fin 2 → ℕ} {inb} (d : Dev nD) (h : off = ![16 * d.val, 0]) :
    (pM.slice (Rect.unit (s := S512x512) off S16x512.size inb) (fun _ => rfl) : Memref sig .tc .vmem S16x512 .bf16) = pRow d := by
  subst h; rfl
/-- The program's slice of the first result is a device's rows of it. -/
theorem x_row {off : Fin 2 → ℕ} {inb} (d : Dev nD) (h : off = ![16 * d.val, 0]) :
    (xM.slice (Rect.unit (s := S512x512) off S16x512.size inb) (fun _ => rfl) : Memref sig .tc .vmem S16x512 .bf16) = xRow d := by
  subst h; rfl
/-- The program's slice of the second result is a device's rows of it. -/
theorem o_row {off : Fin 2 → ℕ} {inb} (d : Dev nD) (h : off = ![16 * d.val, 0]) :
    (oM.slice (Rect.unit (s := S512x512) off S16x512.size inb) (fun _ => rfl) : Memref sig .tc .vmem S16x512 .bf16) = oRow d := by
  subst h; rfl
/-- A slice of the partial sums counts one block's credit. -/
theorem p_credit {off : Fin 2 → ℕ} {inb} :
    (pM.slice (Rect.unit (s := S512x512) off S16x512.size inb) (fun _ => rfl) : Memref sig .tc .vmem S16x512 .bf16).view.dmaCredit = N :=
  (rfl : _ = (pRow 0).view.dmaCredit).trans (N_pRow 0)
/-- A slice of the first result counts one block's credit. -/
theorem x_credit {off : Fin 2 → ℕ} {inb} :
    (xM.slice (Rect.unit (s := S512x512) off S16x512.size inb) (fun _ => rfl) : Memref sig .tc .vmem S16x512 .bf16).view.dmaCredit = N :=
  (rfl : _ = (xRow 0).view.dmaCredit).trans (N_xRow 0)
/-- A slice of the second result counts one block's credit. -/
theorem o_credit {off : Fin 2 → ℕ} {inb} :
    (oM.slice (Rect.unit (s := S512x512) off S16x512.size inb) (fun _ => rfl) : Memref sig .tc .vmem S16x512 .bf16).view.dmaCredit = N :=
  (rfl : _ = (oRow 0).view.dmaCredit).trans (N_oRow 0)
/-- A slot counts one block's credit. -/
theorem b_credit {off : Fin 3 → ℕ} {inb} {h} {hs} :
    ((bM.slice (Rect.unit (s := S32x16x512) off S1x16x512.size inb) h : Memref sig .tc .vmem S1x16x512 .bf16).squeeze S16x512 hs).view.dmaCredit = N :=
  (rfl : _ = (bSlot 0).view.dmaCredit).trans (N_bSlot 0)
/-- The reduced rows count one block's credit. -/
theorem r_credit : (rM : Memref sig .tc .vmem S16x512 .bf16).view.dmaCredit = N :=
  (rfl : _ = (xRow 0).view.dmaCredit).trans (N_xRow 0)

/-- The first round's partial sums are the attention layer's. -/
theorem Pv_zero : Pv I 0 = pv0 I := rfl
/-- The second round's partial sums are the feed-forward layer's. -/
theorem Pv_one : Pv I 1 = pv1 I := rfl
/-- The first round's rows are those of the first result. -/
theorem Fv_zero : Fv I 0 = fv0 I := rfl
/-- The second round's rows are those of the second result. -/
theorem Fv_one : Fv I 1 = fv1 I := rfl

section Reach
variable {I} {c : Dev nD}
/-- The whole buffer of the partial sums can be taken out and put back changed. -/
theorem at_pw {f f' : Big F} : pW c f ⊢ iprop((pM.view.loc (c : Thread nD τ) ↦[Finset.univ]{fullShare} f) ∗ ((pM.view.loc (c : Thread nD τ) ↦[Finset.univ]{fullShare} f') -∗ pW c f')) := acc_new
/-- The whole buffer of the first result can be taken out and put back changed. -/
theorem at_xw {f f' : Big F} : xW c f ⊢ iprop((xM.view.loc (c : Thread nD τ) ↦[Finset.univ]{fullShare} f) ∗ ((xM.view.loc (c : Thread nD τ) ↦[Finset.univ]{fullShare} f') -∗ xW c f')) := acc_new
/-- The whole buffer of the second result can be taken out and put back changed. -/
theorem at_ow {f f' : Big F} : oW c f ⊢ iprop((oM.view.loc (c : Thread nD τ) ↦[Finset.univ]{fullShare} f) ∗ ((oM.view.loc (c : Thread nD τ) ↦[Finset.univ]{fullShare} f') -∗ oW c f')) := acc_new
/-- The whole buffer of the reduced rows can be taken out and put back changed. -/
theorem at_rw {f f' : Rows F} : rW c f ⊢ iprop((rM.view.loc (c : Thread nD τ) ↦[Finset.univ]{fullShare} f) ∗ ((rM.view.loc (c : Thread nD τ) ↦[Finset.univ]{fullShare} f') -∗ rW c f')) := acc_new
/-- The whole buffer of the output can be taken out and put back changed. -/
theorem at_outw {f f' : S2x256x512.Idx → Elt F .f32} : outW c f ⊢ iprop((outM.view.loc (c : Thread nD τ) ↦[Finset.univ]{fullShare} f) ∗ ((outM.view.loc (c : Thread nD τ) ↦[Finset.univ]{fullShare} f') -∗ outW c f')) := acc_new
end Reach

variable {I} {K} {c : Dev nD}

/-- The places of the own rows of the partial sums are the device's. -/
theorem own_sub {inb} : pM.view.setOn (Rect.unit (s := S512x512) ![16 * c.val, 0] S16x512.size inb).set ⊆ (pRow c).view.set := fun y hy => by
  obtain ⟨z, hz, e⟩ := Finset.mem_map.mp hy
  rw [pRow_set, ← e]; exact hz
/-- The places of the own rows of the first result are the device's. -/
theorem xown_sub {inb} : xM.view.setOn (Rect.unit (s := S512x512) ![16 * c.val, 0] S16x512.size inb).set ⊆ (xRow c).view.set := fun y hy => by
  obtain ⟨z, hz, e⟩ := Finset.mem_map.mp hy
  rw [show (xRow c).view.set = (rowRect c).set from View.set_slice_whole _ _, ← e]; exact hz
/-- The places of the own rows of the second result are the device's. -/
theorem oown_sub {inb} : oM.view.setOn (Rect.unit (s := S512x512) ![16 * c.val, 0] S16x512.size inb).set ⊆ (oRow c).view.set := fun y hy => by
  obtain ⟨z, hz, e⟩ := Finset.mem_map.mp hy
  rw [show (oRow c).view.set = (rowRect c).set from View.set_slice_whole _ _, ← e]; exact hz
/-- Loading the own rows of the partial sums. -/
theorem go_own {α : Type} {S : sProp 𝕄} {Q : α → sProp 𝕄} {f : Big F} {X O R Z G : sProp 𝕄} {off : Fin 2 → ℕ} {inb} {hl}
    {kk : (S16x512.Idx → Elt F .bf16) → Prog (TpuEff nD τ sig (Elt F) Λ₀ .tc) α} (ho : off = ![16 * c.val, 0])
    (h : Go (Pv I) (Fv I) K c S (Hold I c (pPts c c f) X O R Z G) (kk (rowsOf f c)) Q) :
    Go (Pv I) (Fv I) K c S (Hold I c (pPts c c f) X O R Z G) (.op (.load pM (Rect.unit (s := S512x512) off S16x512.size inb).toLoadRect hl) kk) Q := by
  subst ho
  refine go_load (T := (pRow c).view.set) (q := fullShare) (f := f) (at_p acc_here) own_sub ?_
  have e : pM.view.readAt (Elt F) (Rect.unit (s := S512x512) ![16 * c.val, 0] S16x512.size inb).toLoadRect f = rowsOf f c := by
    funext x; show f ((rowRect c).emb x) = _; rw [rowRect_emb]; rfl
  rw [e]; exact h
/-- Looking at the own rows of a result, whose contents are not used. -/
theorem go_xpeek {α : Type} {S : sProp 𝕄} {Q : α → sProp 𝕄} {f : Big F} {P O R Z G : sProp 𝕄} {off : Fin 2 → ℕ} {inb} {hl}
    {kk : (S16x512.Idx → Elt F .bf16) → Prog (TpuEff nD τ sig (Elt F) Λ₀ .tc) α} (ho : off = ![16 * c.val, 0])
    (h : ∀ v, Go (Pv I) (Fv I) K c S (Hold I c P (xPts c c f) O R Z G) (kk v) Q) :
    Go (Pv I) (Fv I) K c S (Hold I c P (xPts c c f) O R Z G) (.op (.load xM (Rect.unit (s := S512x512) off S16x512.size inb).toLoadRect hl) kk) Q := by
  subst ho
  exact go_load (T := (xRow c).view.set) (q := fullShare) (f := f) (at_xb acc_here) xown_sub (h _)
/-- Looking at the own rows of the second result, whose contents are not used. -/
theorem go_opeek {α : Type} {S : sProp 𝕄} {Q : α → sProp 𝕄} {f : Big F} {P X R Z G : sProp 𝕄} {off : Fin 2 → ℕ} {inb} {hl}
    {kk : (S16x512.Idx → Elt F .bf16) → Prog (TpuEff nD τ sig (Elt F) Λ₀ .tc) α} (ho : off = ![16 * c.val, 0])
    (h : ∀ v, Go (Pv I) (Fv I) K c S (Hold I c P X (oPts c c f) R Z G) (kk v) Q) :
    Go (Pv I) (Fv I) K c S (Hold I c P X (oPts c c f) R Z G) (.op (.load oM (Rect.unit (s := S512x512) off S16x512.size inb).toLoadRect hl) kk) Q := by
  subst ho
  exact go_load (T := (oRow c).view.set) (q := fullShare) (f := f) (at_o acc_here) oown_sub (h _)
/-- Storing the own rows of a result. -/
theorem go_xrow {α : Type} {S : sProp 𝕄} {Q : α → sProp 𝕄} {f : Big F} {P O R Z G : sProp 𝕄} {off : Fin 2 → ℕ} {inb} {w : S16x512.Idx → Elt F .bf16} {hx} {hm}
    {kk : PUnit → Prog (TpuEff nD τ sig (Elt F) Λ₀ .tc) α} (ho : off = ![16 * c.val, 0]) (V : Dev nD → Rows F) (hw : w = V c)
    (h : Go (Pv I) (Fv I) K c S (Hold I c P (xPts c c (gath V)) O R Z G) (kk ⟨⟩) Q) :
    Go (Pv I) (Fv I) K c S (Hold I c P (xPts c c f) O R Z G) (.op (.store xM (Rect.unit (s := S512x512) off S16x512.size inb) w Finset.univ hx hm) kk) Q := by
  subst hw
  refine go_store (T := (xRow c).view.set) (f := f) (at_xb acc_new) (fun y hy => ?_) (go_conv ?_ h)
  · subst ho; exact hy
  · have e : iprop((xM.access (Rect.unit (s := S512x512) off S16x512.size inb) : View sig .tc _ _ _).loc (c : Thread nD τ) ↦[(xRow c).view.set]{fullShare}
        ((xM.access (Rect.unit (s := S512x512) off S16x512.size inb) : View sig .tc _ _ _).write (Elt F) f (V c) Finset.univ)) ⊢ xPts c c (gath V) :=
      Entails.of_eq (pointsTo_congr (xrow_write V c f ho inb))
    unfold Hold
    iintro ⟨-, HS, HM, HP, HX, H⟩
    ihave HX := e $$ HX
    iframe
/-- Storing the own rows of the second result. -/
theorem go_orow {α : Type} {S : sProp 𝕄} {Q : α → sProp 𝕄} {f : Big F} {P X R Z G : sProp 𝕄} {off : Fin 2 → ℕ} {inb} {w : S16x512.Idx → Elt F .bf16} {hx} {hm}
    {kk : PUnit → Prog (TpuEff nD τ sig (Elt F) Λ₀ .tc) α} (ho : off = ![16 * c.val, 0]) (V : Dev nD → Rows F) (hw : w = V c)
    (h : Go (Pv I) (Fv I) K c S (Hold I c P X (oPts c c (gath V)) R Z G) (kk ⟨⟩) Q) :
    Go (Pv I) (Fv I) K c S (Hold I c P X (oPts c c f) R Z G) (.op (.store oM (Rect.unit (s := S512x512) off S16x512.size inb) w Finset.univ hx hm) kk) Q := by
  subst hw
  refine go_store (T := (oRow c).view.set) (f := f) (at_o acc_new) (fun y hy => ?_) (go_conv ?_ h)
  · subst ho; exact hy
  · have e : iprop((oM.access (Rect.unit (s := S512x512) off S16x512.size inb) : View sig .tc _ _ _).loc (c : Thread nD τ) ↦[(oRow c).view.set]{fullShare}
        ((oM.access (Rect.unit (s := S512x512) off S16x512.size inb) : View sig .tc _ _ _).write (Elt F) f (V c) Finset.univ)) ⊢ oPts c c (gath V) :=
      Entails.of_eq (pointsTo_congr (orow_write V c f ho inb))
    unfold Hold
    iintro ⟨-, HS, HM, HP, HX, HO, H⟩
    ihave HO := e $$ HO
    iframe
/-- Storing the sixteen own rows. -/
theorem go_rows {α : Type} {S : sProp 𝕄} {Q : α → sProp 𝕄} {f : Rows F} {P X O Z G : sProp 𝕄} {w : S16x512.Idx → Elt F .bf16} {hx} {hm}
    {kk : PUnit → Prog (TpuEff nD τ sig (Elt F) Λ₀ .tc) α} (V : Dev nD → Rows F) (hw : w = V c)
    (h : Go (Pv I) (Fv I) K c S (Hold I c P X O (rW c (V c)) Z G) (kk ⟨⟩) Q) :
    Go (Pv I) (Fv I) K c S (Hold I c P X O (rW c f) Z G) (.op (.store rM full16 w Finset.univ hx hm) kk) Q := by
  subst hw
  refine go_store (T := Finset.univ) (f := f) (at_r at_rw) (Finset.subset_univ _) ?_
  have e := full_write f (V c)
  rw [e]; exact h
/-- The second half of the partial sums stored: both are there. -/
theorem go_halves {α : Type} {S : sProp 𝕄} {Q : α → sProp 𝕄} {f : Big F} {X O R Z G : sProp 𝕄} {A B : S256x512.Idx → Elt F .bf16} {hx} {hm}
    {kk : PUnit → Prog (TpuEff nD τ sig (Elt F) Λ₀ .tc) α} (V : Big F) (hw : stack A B = V)
    (h : Go (Pv I) (Fv I) K c S (Hold I c (pW c V) X O R Z G) (kk ⟨⟩) Q) :
    Go (Pv I) (Fv I) K c S (Hold I c (pW c ((pM.access half0 : View sig .tc _ _ _).write (Elt F) f A Finset.univ)) X O R Z G) (.op (.store pM half1 B Finset.univ hx hm) kk) Q := by
  subst hw
  refine go_store (T := Finset.univ) (at_p at_pw) (Finset.subset_univ _) ?_
  have e := stack_write f A B
  rw [e]; exact h
/-- The second plane of the output stored: both are there. -/
theorem go_planes {α : Type} {S : sProp 𝕄} {Q : α → sProp 𝕄} {f : S2x256x512.Idx → Elt F .f32} {P X O R G : sProp 𝕄} {A B : S1x256x512.Idx → Elt F .f32} {hx} {hm}
    {kk : PUnit → Prog (TpuEff nD τ sig (Elt F) Λ₀ .tc) α} (V : S2x256x512.Idx → Elt F .f32) (hw : stack3 A B = V)
    (h : Go (Pv I) (Fv I) K c S (Hold I c P X O R (outW c V) G) (kk ⟨⟩) Q) :
    Go (Pv I) (Fv I) K c S (Hold I c P X O R (outW c ((outM.access plane0 : View sig .tc _ _ _).write (Elt F) f A Finset.univ)) G) (.op (.store outM plane1 B Finset.univ hx hm) kk) Q := by
  subst hw
  refine go_store (T := Finset.univ) (at_z at_outw) (Finset.subset_univ _) ?_
  have e := stack3_write f A B
  rw [e]; exact h

/-! ## The other loads and stores, by the buffer they touch -/

section Touch
/-- A load of the input goes on with its contents. -/
theorem go_x {α : Type} {S P X O R Z G : sProp 𝕄} {Q : α → sProp 𝕄} {r : LoadRect S2x256x512} {hl : xInM.view.LoadsAt r} {kk : (r.shape.Idx → Elt F .f32) → Prog (TpuEff nD τ sig (Elt F) Λ₀ .tc) α}
    (h : Go (Pv I) (Fv I) K c S (Hold I c P X O R Z G) (kk (xInM.view.readAt (Elt F) r (I c).x)) Q) :
    Go (Pv I) (Fv I) K c S (Hold I c P X O R Z G) (.op (.load xInM r hl) kk) Q :=
  go_load (F := F) (at_x (F := F) (I := I)) (Finset.subset_univ _) h
/-- A load of the query weights goes on with their contents. -/
theorem go_wq {α : Type} {S P X O R Z G : sProp 𝕄} {Q : α → sProp 𝕄} {r : LoadRect S512x256} {hl : wqM.view.LoadsAt r} {kk : (r.shape.Idx → Elt F .f32) → Prog (TpuEff nD τ sig (Elt F) Λ₀ .tc) α}
    (h : Go (Pv I) (Fv I) K c S (Hold I c P X O R Z G) (kk (wqM.view.readAt (Elt F) r (I c).wq)) Q) :
    Go (Pv I) (Fv I) K c S (Hold I c P X O R Z G) (.op (.load wqM r hl) kk) Q :=
  go_load (F := F) (at_wq (F := F) (I := I)) (Finset.subset_univ _) h
/-- A load of the key weights goes on with their contents. -/
theorem go_wk {α : Type} {S P X O R Z G : sProp 𝕄} {Q : α → sProp 𝕄} {r : LoadRect S512x256} {hl : wkM.view.LoadsAt r} {kk : (r.shape.Idx → Elt F .f32) → Prog (TpuEff nD τ sig (Elt F) Λ₀ .tc) α}
    (h : Go (Pv I) (Fv I) K c S (Hold I c P X O R Z G) (kk (wkM.view.readAt (Elt F) r (I c).wk)) Q) :
    Go (Pv I) (Fv I) K c S (Hold I c P X O R Z G) (.op (.load wkM r hl) kk) Q :=
  go_load (F := F) (at_wk (F := F) (I := I)) (Finset.subset_univ _) h
/-- A load of the value weights goes on with their contents. -/
theorem go_wv {α : Type} {S P X O R Z G : sProp 𝕄} {Q : α → sProp 𝕄} {r : LoadRect S512x256} {hl : wvM.view.LoadsAt r} {kk : (r.shape.Idx → Elt F .f32) → Prog (TpuEff nD τ sig (Elt F) Λ₀ .tc) α}
    (h : Go (Pv I) (Fv I) K c S (Hold I c P X O R Z G) (kk (wvM.view.readAt (Elt F) r (I c).wv)) Q) :
    Go (Pv I) (Fv I) K c S (Hold I c P X O R Z G) (.op (.load wvM r hl) kk) Q :=
  go_load (F := F) (at_wv (F := F) (I := I)) (Finset.subset_univ _) h
/-- A load of the output weights goes on with their contents. -/
theorem go_wo {α : Type} {S P X O R Z G : sProp 𝕄} {Q : α → sProp 𝕄} {r : LoadRect S256x512} {hl : woM.view.LoadsAt r} {kk : (r.shape.Idx → Elt F .f32) → Prog (TpuEff nD τ sig (Elt F) Λ₀ .tc) α}
    (h : Go (Pv I) (Fv I) K c S (Hold I c P X O R Z G) (kk (woM.view.readAt (Elt F) r (I c).wo)) Q) :
    Go (Pv I) (Fv I) K c S (Hold I c P X O R Z G) (.op (.load woM r hl) kk) Q :=
  go_load (F := F) (at_wo (F := F) (I := I)) (Finset.subset_univ _) h
/-- A load of the time embedding goes on with its contents. -/
theorem go_te {α : Type} {S P X O R Z G : sProp 𝕄} {Q : α → sProp 𝕄} {r : LoadRect S2x128} {hl : teM.view.LoadsAt r} {kk : (r.shape.Idx → Elt F .f32) → Prog (TpuEff nD τ sig (Elt F) Λ₀ .tc) α}
    (h : Go (Pv I) (Fv I) K c S (Hold I c P X O R Z G) (kk (teM.view.readAt (Elt F) r (I c).te)) Q) :
    Go (Pv I) (Fv I) K c S (Hold I c P X O R Z G) (.op (.load teM r hl) kk) Q :=
  go_load (F := F) (at_te (F := F) (I := I)) (Finset.subset_univ _) h
/-- A load of the modulation weights goes on with their contents. -/
theorem go_wm {α : Type} {S P X O R Z G : sProp 𝕄} {Q : α → sProp 𝕄} {r : LoadRect S128x3072} {hl : wmM.view.LoadsAt r} {kk : (r.shape.Idx → Elt F .f32) → Prog (TpuEff nD τ sig (Elt F) Λ₀ .tc) α}
    (h : Go (Pv I) (Fv I) K c S (Hold I c P X O R Z G) (kk (wmM.view.readAt (Elt F) r (I c).wm)) Q) :
    Go (Pv I) (Fv I) K c S (Hold I c P X O R Z G) (.op (.load wmM r hl) kk) Q :=
  go_load (F := F) (at_wm (F := F) (I := I)) (Finset.subset_univ _) h
/-- A load of the first feed-forward weights goes on with their contents. -/
theorem go_f1 {α : Type} {S P X O R Z G : sProp 𝕄} {Q : α → sProp 𝕄} {r : LoadRect S512x64} {hl : f1M.view.LoadsAt r} {kk : (r.shape.Idx → Elt F .f32) → Prog (TpuEff nD τ sig (Elt F) Λ₀ .tc) α}
    (h : Go (Pv I) (Fv I) K c S (Hold I c P X O R Z G) (kk (f1M.view.readAt (Elt F) r (I c).f1)) Q) :
    Go (Pv I) (Fv I) K c S (Hold I c P X O R Z G) (.op (.load f1M r hl) kk) Q :=
  go_load (F := F) (at_f1 (F := F) (I := I)) (Finset.subset_univ _) h
/-- A load of the second feed-forward weights goes on with their contents. -/
theorem go_f2 {α : Type} {S P X O R Z G : sProp 𝕄} {Q : α → sProp 𝕄} {r : LoadRect S64x512} {hl : f2M.view.LoadsAt r} {kk : (r.shape.Idx → Elt F .f32) → Prog (TpuEff nD τ sig (Elt F) Λ₀ .tc) α}
    (h : Go (Pv I) (Fv I) K c S (Hold I c P X O R Z G) (kk (f2M.view.readAt (Elt F) r (I c).f2)) Q) :
    Go (Pv I) (Fv I) K c S (Hold I c P X O R Z G) (.op (.load f2M r hl) kk) Q :=
  go_load (F := F) (at_f2 (F := F) (I := I)) (Finset.subset_univ _) h
/-- A load of the partial sums goes on with what the buffer holds. -/
theorem go_pload {α : Type} {S X O R Z G : sProp 𝕄} {Q : α → sProp 𝕄} {f : S512x512.Idx → Elt F .bf16} {r : LoadRect S512x512} {hl : (pM : Memref sig .tc .vmem S512x512 .bf16).view.LoadsAt r} {kk : (r.shape.Idx → Elt F .bf16) → Prog (TpuEff nD τ sig (Elt F) Λ₀ .tc) α}
    (h : Go (Pv I) (Fv I) K c S (Hold I c (pW c f) X O R Z G) (kk ((pM : Memref sig .tc .vmem S512x512 .bf16).view.readAt (Elt F) r f)) Q) :
    Go (Pv I) (Fv I) K c S (Hold I c (pW c f) X O R Z G) (.op (.load pM r hl) kk) Q :=
  go_load (F := F) (at_p (F := F) (I := I) at_pw) (Finset.subset_univ _) h
/-- A load of the first result goes on with what the buffer holds. -/
theorem go_xload {α : Type} {S P O R Z G : sProp 𝕄} {Q : α → sProp 𝕄} {f : S512x512.Idx → Elt F .bf16} {r : LoadRect S512x512} {hl : (xM : Memref sig .tc .vmem S512x512 .bf16).view.LoadsAt r} {kk : (r.shape.Idx → Elt F .bf16) → Prog (TpuEff nD τ sig (Elt F) Λ₀ .tc) α}
    (h : Go (Pv I) (Fv I) K c S (Hold I c P (xW c f) O R Z G) (kk ((xM : Memref sig .tc .vmem S512x512 .bf16).view.readAt (Elt F) r f)) Q) :
    Go (Pv I) (Fv I) K c S (Hold I c P (xW c f) O R Z G) (.op (.load xM r hl) kk) Q :=
  go_load (F := F) (at_xb (F := F) (I := I) at_xw) (Finset.subset_univ _) h
/-- A load of the second result goes on with what the buffer holds. -/
theorem go_oload {α : Type} {S P X R Z G : sProp 𝕄} {Q : α → sProp 𝕄} {f : S512x512.Idx → Elt F .bf16} {r : LoadRect S512x512} {hl : (oM : Memref sig .tc .vmem S512x512 .bf16).view.LoadsAt r} {kk : (r.shape.Idx → Elt F .bf16) → Prog (TpuEff nD τ sig (Elt F) Λ₀ .tc) α}
    (h : Go (Pv I) (Fv I) K c S (Hold I c P X (oW c f) R Z G) (kk ((oM : Memref sig .tc .vmem S512x512 .bf16).view.readAt (Elt F) r f)) Q) :
    Go (Pv I) (Fv I) K c S (Hold I c P X (oW c f) R Z G) (.op (.load oM r hl) kk) Q :=
  go_load (F := F) (at_o (F := F) (I := I) at_ow) (Finset.subset_univ _) h
/-- A load of the reduced rows goes on with what the buffer holds. -/
theorem go_rload {α : Type} {S P X O Z G : sProp 𝕄} {Q : α → sProp 𝕄} {f : S16x512.Idx → Elt F .bf16} {r : LoadRect S16x512} {hl : (rM : Memref sig .tc .vmem S16x512 .bf16).view.LoadsAt r} {kk : (r.shape.Idx → Elt F .bf16) → Prog (TpuEff nD τ sig (Elt F) Λ₀ .tc) α}
    (h : Go (Pv I) (Fv I) K c S (Hold I c P X O (rW c f) Z G) (kk ((rM : Memref sig .tc .vmem S16x512 .bf16).view.readAt (Elt F) r f)) Q) :
    Go (Pv I) (Fv I) K c S (Hold I c P X O (rW c f) Z G) (.op (.load rM r hl) kk) Q :=
  go_load (F := F) (at_r (F := F) (I := I) at_rw) (Finset.subset_univ _) h
/-- A load of the output goes on with what the buffer holds. -/
theorem go_outload {α : Type} {S P X O R G : sProp 𝕄} {Q : α → sProp 𝕄} {f : S2x256x512.Idx → Elt F .f32} {r : LoadRect S2x256x512} {hl : (outM : Memref sig .tc .vmem S2x256x512 .f32).view.LoadsAt r} {kk : (r.shape.Idx → Elt F .f32) → Prog (TpuEff nD τ sig (Elt F) Λ₀ .tc) α}
    (h : Go (Pv I) (Fv I) K c S (Hold I c P X O R (outW c f) G) (kk ((outM : Memref sig .tc .vmem S2x256x512 .f32).view.readAt (Elt F) r f)) Q) :
    Go (Pv I) (Fv I) K c S (Hold I c P X O R (outW c f) G) (.op (.load outM r hl) kk) Q :=
  go_load (F := F) (at_z (F := F) (I := I) at_outw) (Finset.subset_univ _) h
/-- A store of the first half of the partial sums. -/
theorem go_half {α : Type} {S X O R Z G : sProp 𝕄} {Q : α → sProp 𝕄} {f : S512x512.Idx → Elt F .bf16} {w : S256x512.Idx → Elt F .bf16} {hx} {hm} {kk : PUnit → Prog (TpuEff nD τ sig (Elt F) Λ₀ .tc) α}
    (h : Go (Pv I) (Fv I) K c S (Hold I c (pW c ((pM.access half0 : View sig .tc _ _ _).write (Elt F) f w Finset.univ)) X O R Z G) (kk ⟨⟩) Q) :
    Go (Pv I) (Fv I) K c S (Hold I c (pW c f) X O R Z G) (.op (.store pM half0 w Finset.univ hx hm) kk) Q :=
  go_store (F := F) (at_p (F := F) (I := I) at_pw) (Finset.subset_univ _) h
/-- A store of the first plane of the output. -/
theorem go_plane {α : Type} {S P X O R G : sProp 𝕄} {Q : α → sProp 𝕄} {f : S2x256x512.Idx → Elt F .f32} {w : S1x256x512.Idx → Elt F .f32} {hx} {hm} {kk : PUnit → Prog (TpuEff nD τ sig (Elt F) Λ₀ .tc) α}
    (h : Go (Pv I) (Fv I) K c S (Hold I c P X O R (outW c ((outM.access plane0 : View sig .tc _ _ _).write (Elt F) f w Finset.univ)) G) (kk ⟨⟩) Q) :
    Go (Pv I) (Fv I) K c S (Hold I c P X O R (outW c f) G) (.op (.store outM plane0 w Finset.univ hx hm) kk) Q :=
  go_store (F := F) (at_z (F := F) (I := I) at_outw) (Finset.subset_univ _) h
end Touch

end Cert.KernelIdeal.Run
-- ==== Proof.Body1.lean ====
/-
The first part of the body's run, on one device.
-/
module

public import proofs.«01_k».proof.Proof.Rules

@[expose] public section

set_option maxRecDepth 8000

noncomputable section

namespace Cert.KernelIdeal.Run

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig ℕ (Elt F) ℕ UU ℕ

variable (I : Dev nD → Inp F) (K : Dev nD × CellIx → ℕ)

set_option maxHeartbeats 4000000 in
/-- From the barrier through the attention and its reduction into the first four transfers of the gathering. -/
theorem go_part153 (c : Dev nD) {h0 h1 h2 h3 h4 h5 h6 h7 h8 h9 h10 h11 h12 h13 h14} {p x o : Big F} {r : Rows F} {z : S2x256x512.Idx → Elt F .f32} {Q}
    (hQ : ∀ a, a.1 = c → a.2.1 = v2w c → a.2.2.1 = (I c).sm → a.2.2.2.1 = (I c).shm → a.2.2.2.2.1 = (I c).gm → a.2.2.2.2.2.1 = bIdx c →
      Go (Pv I) (Fv I) K c (GathSt (Fv I) 3 0 c [5, 6, 7, 8, 9, 10, 11, 12, 13, 14, 15, 16, 17, 18, 19, 20, 21, 22, 23, 24, 25, 26, 27, 28, 29, 30, 31] [4, 3, 2, 1] (X2 c)) (Hold I c (pW c (Pv I 0 c)) (xPts c c (gath (Fv I 0))) (oPts c c o) iprop(emp) (outW c z) iprop(cr 3 3 c ∗ ps 3 0 c ∗ G5 c)) (Prog.ret a) Q) :
    Go (Pv I) (Fv I) K c (SigSt c dists (X0 c)) (Hold I c (pW c p) (xPts c c x) (oPts c c o) (rW c r) (outW c z) iprop(barCr c ∗ G1 c))
      (k0_part153 (F := F) xInM h0 wqM h1 wkM h2 wvM h3 woM h4 teM h5 wmM h6 f1M h7 f2M h8 outM h9 pM h10 xM h11 oM h12 rM h13 bM h14
      cc0_scratch5 cc0_scratch6 cc0_scratch7 cc0_scratch8) Q := by
  rw [k0_part153_eq_skeleton]
  unfold k0_part153_skel
  rw [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton]
  repeat (first
    | refine go_out ?_
    | refine go_into rfl ?_
    | refine go_signal _ _ _ (Fin.ext (by clear * -; revert c; decide +kernel)) (by decide) ?_
    | refine go_device ?_)
  refine go_conv to_barrier ?_
  refine go_barrier (above_X0 (by decide) c) ?_
  repeat (first
    | refine go_out ?_
    | refine go_into rfl ?_
    | refine go_te ?_
    | refine go_wm ?_
    | refine go_x ?_
    | refine go_wq ?_
    | refine go_wk ?_
    | refine go_wv ?_
    | refine go_wo ?_
    | refine go_pload ?_)
  refine go_half ?_
  repeat (first
    | refine go_out ?_
    | refine go_into rfl ?_
    | refine go_x ?_
    | refine go_wq ?_
    | refine go_wk ?_
    | refine go_wv ?_
    | refine go_wo ?_
    | refine go_pload ?_)
  refine go_halves (Pv I 0 c) ?_ ?_
  · rfl
  refine go_conv to_scatter0 ?_
  repeat (first
    | refine go_out ?_
    | refine go_into rfl ?_
    | refine go_scatter _ _ _ _ (by decide) (by decide) (Fin.ext (by clear * -; revert c; decide +kernel)) (p_row _ (by clear * -; revert c; decide +kernel)) rfl rfl rfl ?_)
  refine go_conv to_recv1 ?_
  refine go_own (off2_eq c) ?_
  repeat (first
    | refine go_out ?_
    | refine go_into rfl ?_
    | refine go_wait _ _ _ (by decide) (by decide) (above_X1 (by decide) c) (by decide) (by rfl) b_credit ?_
    | refine go_slot _ _ _ (by rfl) ?_)
  refine go_x ?_
  refine go_out ?_
  refine go_into rfl ?_
  refine go_x ?_
  refine go_out ?_
  refine go_into rfl ?_
  refine go_rload ?_
  refine go_out ?_
  refine go_into rfl ?_
  refine go_rows (Fv I 0) ?_ ?_
  · rfl
  refine go_out ?_
  refine go_into rfl ?_
  refine go_xpeek (off2_eq c) (fun v => ?_)
  refine go_out ?_
  refine go_into rfl ?_
  refine go_xrow (off2_eq c) (Fv I 0) ?_ ?_
  · rfl
  refine go_conv to_sent ?_
  repeat (first
    | refine go_out ?_
    | refine go_into rfl ?_
    | refine go_wait _ _ _ (by decide) (by decide) (above_X1 (by decide) c) (by decide) (by rfl) p_credit ?_)
  refine go_conv to_gather0 ?_
  repeat (first
    | refine go_out ?_
    | refine go_into rfl ?_
    | refine go_gather0 _ _ _ _ (by decide) (Fin.ext (by clear * -; revert c; decide +kernel)) rfl (x_row _ (off5_eq c)) rfl rfl ?_)
  exact hQ _ rfl rfl rfl rfl rfl rfl

end Cert.KernelIdeal.Run
-- ==== Proof.Body2.lean ====
/-
The second part of the body's run, on one device.
-/
module

public import proofs.«01_k».proof.Proof.Rules

@[expose] public section

set_option maxRecDepth 8000

noncomputable section

namespace Cert.KernelIdeal.Run

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig ℕ (Elt F) ℕ UU ℕ

variable (I : Dev nD → Inp F) (K : Dev nD × CellIx → ℕ)

set_option maxHeartbeats 4000000 in
/-- From the gathering of the attention's result through the feed-forward layer and its reduction. -/
theorem go_part154 (c : Dev nD) {h0 h1 h2 h3 h4 h5 h6 h7 h8 h9 h10 h11 h12 h13 h14} {o : Big F} {z : S2x256x512.Idx → Elt F .f32} {Q} {w1 w2 w3 w4 w5 w6 w7}
    (hQ : Go (Pv I) (Fv I) K c (WaitSt (Pv I) (Fv I) 0 0 1 c [6, 7, 8, 9, 10, 11, 12, 13, 14, 15, 16, 17, 18, 19, 20, 21, 22, 23, 24, 25, 26, 27, 28, 29, 30, 31] [5, 4, 3, 2, 1] (X3 c)) (Hold I c (pPts c c (Pv I 1 c)) (xW c (gath (Fv I 0))) (oPts c c (gath (Fv I 1))) (rW c (Fv I 1 c)) (outW c z) iprop(dr (Pv I) (Fv I) 1 1 c ∗ G9 c)) (Prog.ret ⟨⟩) Q) :
    Go (Pv I) (Fv I) K c (GathSt (Fv I) 3 0 c [5, 6, 7, 8, 9, 10, 11, 12, 13, 14, 15, 16, 17, 18, 19, 20, 21, 22, 23, 24, 25, 26, 27, 28, 29, 30, 31] [4, 3, 2, 1] (X2 c)) (Hold I c (pW c (Pv I 0 c)) (xPts c c (gath (Fv I 0))) (oPts c c o) iprop(emp) (outW c z) iprop(cr 3 3 c ∗ ps 3 0 c ∗ G5 c))
      (k0_part154 (F := F) xInM h0 wqM h1 wkM h2 wvM h3 woM h4 teM h5 wmM h6 f1M h7 f2M h8 outM h9 pM h10 xM h11 oM h12 rM h13 bM h14
      cc0_scratch5 cc0_scratch6 cc0_scratch7 cc0_scratch8 c (v2w c) (I c).sm (I c).shm (I c).gm (bIdx c) w1 w2 w3 w4 w5 w6 w7) Q := by
  rw [k0_part154_eq_skeleton]
  unfold k0_part154_skel
  rw [k0_part61_eq_skeleton, k0_part62_eq_skeleton, k0_part63_eq_skeleton, k0_part64_eq_skeleton, k0_part65_eq_skeleton, k0_part66_eq_skeleton, k0_part67_eq_skeleton, k0_part68_eq_skeleton, k0_part69_eq_skeleton, k0_part70_eq_skeleton, k0_part71_eq_skeleton, k0_part72_eq_skeleton, k0_part73_eq_skeleton, k0_part74_eq_skeleton, k0_part75_eq_skeleton, k0_part76_eq_skeleton, k0_part77_eq_skeleton, k0_part78_eq_skeleton, k0_part79_eq_skeleton, k0_part80_eq_skeleton, k0_part81_eq_skeleton, k0_part82_eq_skeleton, k0_part83_eq_skeleton, k0_part84_eq_skeleton, k0_part85_eq_skeleton, k0_part86_eq_skeleton, k0_part87_eq_skeleton, k0_part88_eq_skeleton, k0_part89_eq_skeleton, k0_part90_eq_skeleton, k0_part91_eq_skeleton, k0_part92_eq_skeleton, k0_part93_eq_skeleton, k0_part94_eq_skeleton, k0_part95_eq_skeleton, k0_part96_eq_skeleton, k0_part97_eq_skeleton, k0_part98_eq_skeleton, k0_part99_eq_skeleton, k0_part100_eq_skeleton, k0_part101_eq_skeleton, k0_part102_eq_skeleton, k0_part103_eq_skeleton, k0_part104_eq_skeleton, k0_part105_eq_skeleton, k0_part106_eq_skeleton, k0_part107_eq_skeleton, k0_part108_eq_skeleton, k0_part109_eq_skeleton, k0_part110_eq_skeleton, k0_part111_eq_skeleton, k0_part112_eq_skeleton, k0_part113_eq_skeleton, k0_part114_eq_skeleton, k0_part115_eq_skeleton, k0_part116_eq_skeleton, k0_part117_eq_skeleton, k0_part118_eq_skeleton, k0_part119_eq_skeleton, k0_part120_eq_skeleton]
  repeat (first
    | refine go_out ?_
    | refine go_into rfl ?_
    | refine go_gather0 _ _ _ _ (by decide) (Fin.ext (by clear * -; revert c; decide +kernel)) rfl (x_row _ (off5_eq c)) rfl rfl ?_)
  refine go_conv to_recv3 ?_
  repeat (first
    | refine go_out ?_
    | refine go_into rfl ?_
    | refine go_wait _ _ _ (by decide) (by decide) (above_X2 (by decide) c) (by decide) (by rfl) x_credit ?_)
  refine go_conv to_sent ?_
  repeat (first
    | refine go_out ?_
    | refine go_into rfl ?_
    | refine go_wait _ _ _ (by decide) (by decide) (above_X2 (by decide) c) (by decide) (by rfl) r_credit ?_)
  refine go_conv to_rest0 ?_
  repeat (first
    | refine go_out ?_
    | refine go_into rfl ?_
    | refine go_xload ?_
    | refine go_f1 ?_
    | refine go_f2 ?_
    | refine go_pload ?_)
  refine go_half ?_
  repeat (first
    | refine go_out ?_
    | refine go_into rfl ?_
    | refine go_xload ?_
    | refine go_f1 ?_
    | refine go_f2 ?_
    | refine go_pload ?_)
  refine go_halves (Pv I 1 c) ?_ ?_
  · rfl
  refine go_conv to_scatter1 ?_
  repeat (first
    | refine go_out ?_
    | refine go_into rfl ?_
    | refine go_scatter _ _ _ _ (by decide) (by decide) (Fin.ext (by clear * -; revert c; decide +kernel)) (p_row _ (by clear * -; revert c; decide +kernel)) rfl rfl rfl ?_)
  refine go_conv to_recv1 ?_
  refine go_own (off2_eq c) ?_
  repeat (first
    | refine go_out ?_
    | refine go_into rfl ?_
    | refine go_wait _ _ _ (by decide) (by decide) (above_X3 (by decide) c) (by decide) (by rfl) b_credit ?_
    | refine go_slot _ _ _ (by rfl) ?_)
  refine go_xload ?_
  refine go_out ?_
  refine go_into rfl ?_
  refine go_rload ?_
  refine go_out ?_
  refine go_into rfl ?_
  refine go_rows (Fv I 1) ?_ ?_
  · rfl
  refine go_out ?_
  refine go_into rfl ?_
  refine go_opeek (off2_eq c) (fun v => ?_)
  refine go_out ?_
  refine go_into rfl ?_
  refine go_orow (off2_eq c) (Fv I 1) ?_ ?_
  · rfl
  refine go_conv to_sent ?_
  repeat (first
    | refine go_out ?_
    | refine go_into rfl ?_
    | refine go_wait _ _ _ (by decide) (by decide) (above_X3 (by decide) c) (by decide) (by rfl) p_credit ?_)
  exact hQ

end Cert.KernelIdeal.Run
-- ==== Proof.Body3.lean ====
/-
The third part of the body's run, on one device.
-/
module

public import proofs.«01_k».proof.Proof.Rules

@[expose] public section

set_option maxRecDepth 8000

noncomputable section

namespace Cert.KernelIdeal.Run

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig ℕ (Elt F) ℕ UU ℕ

variable (I : Dev nD → Inp F) (K : Dev nD × CellIx → ℕ)

set_option maxHeartbeats 4000000 in
/-- The gathering of the second result. -/
theorem go_part155 (c : Dev nD) {h0 h1 h2 h3 h4 h5 h6 h7 h8 h9 h10 h11 h12 h13 h14} {z : S2x256x512.Idx → Elt F .f32} {Q}
    (hQ : Go (Pv I) (Fv I) K c (Rest c 0) (Hold I c (pW c (Pv I 1 c)) (xW c (gath (Fv I 0))) (oW c (gath (Fv I 1))) (rW c (Fv I 1 c)) (outW c z) (G15 c)) (Prog.ret (k0_pay85 (fin0 I))) Q) :
    Go (Pv I) (Fv I) K c (WaitSt (Pv I) (Fv I) 0 0 1 c [6, 7, 8, 9, 10, 11, 12, 13, 14, 15, 16, 17, 18, 19, 20, 21, 22, 23, 24, 25, 26, 27, 28, 29, 30, 31] [5, 4, 3, 2, 1] (X3 c)) (Hold I c (pPts c c (Pv I 1 c)) (xW c (gath (Fv I 0))) (oPts c c (gath (Fv I 1))) (rW c (Fv I 1 c)) (outW c z) iprop(dr (Pv I) (Fv I) 1 1 c ∗ G9 c))
      (k0_part155 (F := F) xInM h0 wqM h1 wkM h2 wvM h3 woM h4 teM h5 wmM h6 f1M h7 f2M h8 outM h9 pM h10 xM h11 oM h12 rM h13 bM h14
      cc0_scratch5 cc0_scratch6 cc0_scratch7 cc0_scratch8 c (v2w c)) Q := by
  rw [k0_part155_eq_skeleton]
  unfold k0_part155_skel
  rw [k0_part121_eq_skeleton, k0_part122_eq_skeleton, k0_part123_eq_skeleton, k0_part124_eq_skeleton, k0_part125_eq_skeleton, k0_part126_eq_skeleton, k0_part127_eq_skeleton, k0_part128_eq_skeleton, k0_part129_eq_skeleton, k0_part130_eq_skeleton, k0_part131_eq_skeleton, k0_part132_eq_skeleton, k0_part133_eq_skeleton, k0_part134_eq_skeleton, k0_part135_eq_skeleton, k0_part136_eq_skeleton, k0_part137_eq_skeleton, k0_part138_eq_skeleton, k0_part139_eq_skeleton, k0_part140_eq_skeleton, k0_part141_eq_skeleton, k0_part142_eq_skeleton, k0_part143_eq_skeleton, k0_part144_eq_skeleton, k0_part145_eq_skeleton, k0_part146_eq_skeleton, k0_part147_eq_skeleton, k0_part148_eq_skeleton, k0_part149_eq_skeleton, k0_part150_eq_skeleton, k0_part151_eq_skeleton, k0_part152_eq_skeleton]
  repeat (first
    | refine go_out ?_
    | refine go_into rfl ?_
    | refine go_wait _ _ _ (by decide) (by decide) (above_X3 (by decide) c) (by decide) (by rfl) p_credit ?_)
  refine go_conv to_gather1 ?_
  repeat (first
    | refine go_out ?_
    | refine go_into rfl ?_
    | refine go_gather1 _ _ _ _ (by decide) (Fin.ext (by clear * -; revert c; decide +kernel)) rfl (o_row _ (off5_eq c)) rfl rfl ?_)
  refine go_conv to_recv3 ?_
  repeat (first
    | refine go_out ?_
    | refine go_into rfl ?_
    | refine go_wait _ _ _ (by decide) (by decide) (Above.zero _) (by decide) (by rfl) o_credit ?_)
  refine go_conv to_sent ?_
  repeat (first
    | refine go_out ?_
    | refine go_into rfl ?_
    | refine go_wait _ _ _ (by decide) (by decide) (Above.zero _) (by decide) (by rfl) r_credit ?_)
  refine go_conv to_rest1 ?_
  repeat (first
    | refine go_out ?_
    | refine go_into rfl ?_
    | refine go_oload ?_)
  exact hQ

end Cert.KernelIdeal.Run
-- ==== Proof.Body.lean ====
/-
The body's run on one device.
-/
module

public import proofs.«01_k».proof.Proof.Body1
public import proofs.«01_k».proof.Proof.Body2
public import proofs.«01_k».proof.Proof.Body3

@[expose] public section

set_option maxRecDepth 8000

noncomputable section

namespace Cert.KernelIdeal.Run

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig ℕ (Elt F) ℕ UU ℕ

variable (I : Dev nD → Inp F) (K : Dev nD × CellIx → ℕ)

set_option maxHeartbeats 1000000 in
/-- The whole body on one device: from the launch's state to all dues paid and the output written. -/
theorem go_body (c : Dev nD) {h0 h1 h2 h3 h4 h5 h6 h7 h8 h9 h10 h11 h12 h13 h14} {p x o : Big F} {r : Rows F} {z : S2x256x512.Idx → Elt F .f32} {Q}
    (hQ : Go (Pv I) (Fv I) K c (Rest c 0) (Hold I c (pW c (Pv I 1 c)) (xW c (gath (Fv I 0))) (oW c (gath (Fv I 1))) (rW c (Fv I 1 c)) (outW c (outv I)) (G15 c)) (Prog.ret ⟨⟩) Q) :
    Go (Pv I) (Fv I) K c (SigSt c dists (X0 c)) (Hold I c (pW c p) (xPts c c x) (oPts c c o) (rW c r) (outW c z) iprop(barCr c ∗ G1 c))
      (cc0_body (F := F) xInM h0 wqM h1 wkM h2 wvM h3 woM h4 teM h5 wmM h6 f1M h7 f2M h8 outM h9 pM h10 xM h11 oM h12 rM h13 bM h14
      cc0_scratch5 cc0_scratch6 cc0_scratch7 cc0_scratch8) Q := by
  rw [cc0_body_eq_skeleton]
  unfold cc0_body_skel
  refine go_into rfl ?_
  refine go_part153 I K c ?_
  rintro ⟨d, v, s1, s2, s3, b, _, _, _, _, _, _, _⟩ h1 h2 h3 h4 h5 h6
  dsimp only at h1 h2 h3 h4 h5 h6
  subst h1 h2 h3 h4 h5 h6
  refine go_out ?_
  refine go_into rfl ?_
  refine go_part154 I K d ?_
  refine go_out ?_
  refine go_into rfl ?_
  refine go_part155 I K d ?_
  refine go_out ?_
  refine go_into rfl ?_
  refine go_outload ?_
  refine go_out ?_
  refine go_into rfl ?_
  refine go_plane ?_
  refine go_out ?_
  refine go_into rfl ?_
  refine go_oload ?_
  refine go_out ?_
  refine go_into rfl ?_
  refine go_outload ?_
  refine go_out ?_
  refine go_into rfl ?_
  refine go_planes (outv I) ?_ ?_
  · rfl
  refine go_out ?_
  exact hQ

end Cert.KernelIdeal.Run
-- ==== Proof.Start.lean ====
/-
Starting the protocol: the semaphores' records, the tokens dealt to those who pay, the credit dealt to those who wait.
-/
module

public import proofs.«01_k».proof.Proof.Phases

@[expose] public section

set_option maxRecDepth 8000

noncomputable section

namespace Cert.KernelIdeal.Run

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig ℕ (Elt F) ℕ UU ℕ

variable (Pv : ℕ → Dev nD → Big F) (Fv : ℕ → Dev nD → Rows F)

/-! ## The cells -/

/-- A transfer semaphore's kind and distance are its own. -/
theorem dsem_inj {j j' : Fin 4} {k k' : Fin 32} (h : dsem j k = dsem j' k') : j = j' ∧ k = k' := by
  constructor
  · rw [← decJ_dsem j k, h, decJ_dsem]
  · rw [← decK_dsem j k, h, decK_dsem]
/-- the barriers of two devices differ, -/
theorem bar_inj {c d : Dev nD} (h : barCell c = barCell d) : c = d := congrArg (fun g : GSem nD τ sig => g.1.1) h
/-- so do their transfer semaphores, -/
theorem dCell_inj {j j' : Fin 4} {c c' : Dev nD} {k k' : Fin 32} (h : dCell j c k = dCell j' c' k') : c = c' ∧ j = j' ∧ k = k' := by
  have h1 : c = c' := congrArg (fun g : GSem nD τ sig => g.1.1) h
  have h2 : (SemLoc.dma (dsem j k) : SemLoc sig) = .dma (dsem j' k') := congrArg (fun g : GSem nD τ sig => g.2) h
  exact ⟨h1, dsem_inj (SemLoc.dma.inj h2)⟩

/-- and so do all the cells. -/
theorem kcell_inj : Function.Injective kcell := by
  rintro ⟨c, k⟩ ⟨c', k'⟩ h
  rcases k with _ | ⟨j, k⟩ <;> rcases k' with _ | ⟨j', k'⟩
  · have h1 : c = c' := bar_inj h
    rw [h1]
  · exact absurd (congrArg (fun g : GSem nD τ sig => g.2) h) (fun e => by cases e)
  · exact absurd (congrArg (fun g : GSem nD τ sig => g.2) h) (fun e => by cases e)
  · have h0 : c = c' ∧ j = j' ∧ k = k' := dCell_inj h
    rw [h0.1, h0.2.1, h0.2.2]
def allCells : Finset (GSem nD τ sig) := Finset.univ.map ⟨kcell, kcell_inj⟩

/-- The names of the duties: a signal from each distance; a transfer of each kind, distance and round. -/
abbrev DutyIx : Type := Fin 32 ⊕ (Fin 4 × Fin 32) × Fin 2
/-- The name of a duty: its semaphore, its round and its number there. -/
def dutyOf (x : Dev nD × DutyIx) : GSem nD τ sig × ℕ × Fin 32 := match x.2 with
  | .inl k => (barCell x.1, 0, k)
  | .inr jkr => (dCell jkr.1.1 x.1 jkr.1.2, jkr.2.val, 0)
/-- Different duties have different names. -/
theorem dutyOf_inj : Function.Injective dutyOf := by
  rintro ⟨c, k⟩ ⟨c', k'⟩ h
  rcases k with k | ⟨⟨j, k⟩, r⟩ <;> rcases k' with k' | ⟨⟨j', k'⟩, r'⟩
  · have h1 := congrArg (fun x : GSem nD τ sig × ℕ × Fin 32 => x.1) h
    have h2 : k = k' := congrArg (fun x : GSem nD τ sig × ℕ × Fin 32 => x.2.2) h
    have h3 : c = c' := bar_inj h1
    rw [h2, h3]
  · exact absurd (congrArg (fun x : GSem nD τ sig × ℕ × Fin 32 => x.1.2) h) (fun e => by cases e)
  · exact absurd (congrArg (fun x : GSem nD τ sig × ℕ × Fin 32 => x.1.2) h) (fun e => by cases e)
  · have h0 : c = c' ∧ j = j' ∧ k = k' := dCell_inj (congrArg (fun x : GSem nD τ sig × ℕ × Fin 32 => x.1) h)
    have h4 : r = r' := Fin.ext (congrArg (fun x : GSem nD τ sig × ℕ × Fin 32 => x.2.1) h)
    rw [h0.1, h0.2.1, h0.2.2, h4]
def allDuties : Finset (GSem nD τ sig × ℕ × Fin 32) := Finset.univ.map ⟨dutyOf, dutyOf_inj⟩

def u₀ : UU :=
  (initOf (Pipeline.cells cfgs cellOf_inj) (Pipeline.launchToks cfgs cellOf_inj), initOf allCells allDuties)

/-- Over a device's cells: the barrier and the transfer semaphores. -/
theorem opt_split (Φ : CellIx → sProp 𝕄) : bigSep Finset.univ Φ = iprop(Φ none ∗ bigSep Finset.univ fun jk => Φ (some jk)) := by
  rw [BI.bigSep_erase (Finset.mem_univ (none : CellIx))]
  rw [show (Finset.univ : Finset CellIx).erase none = Finset.univ.map Function.Embedding.some from by
    ext x; rcases x with _ | x <;> simp, bigSep_map]
  rfl

/-! ## The tokens -/

/-- The tokens of a device's own semaphores. -/
def ownToks (c : Dev nD) : sProp 𝕄 :=
  iprop((bigSep Finset.univ fun k : Fin 32 => dutyTok ER (barCell c) 0 k)
    ∗ bigSep Finset.univ fun j : Fin 4 => bigSep Finset.univ fun k : Fin 32 => bigSep Finset.univ fun r : Fin 2 => dutyTok ER (dCell j c k) r.val 0)
/-- The tokens of a device's places. -/
def places (c : Dev nD) : sProp 𝕄 := bigSep Finset.univ fun k : CellIx => atPos ER (kcell (c, k)) 0 ∅ 0

def G (c : Dev nD) : sProp 𝕄 :=
  iprop((bigSep Finset.univ fun k : CellIx => roundState ER (Rd Pv Fv) (kcell (c, k)) 0)
    ∗ (bigSep Finset.univ fun k : CellIx => iprop(atPos ER (kcell (c, k)) 0 ∅ 0 ∗ reached ER (kcell (c, k)) 0)) ∗ ownToks c)

/-- The start funds every device's duties, places and first rounds. -/
theorem fund_all : BI.own (ER (initOf allCells allDuties)) ⊢ (|==> bigSep Finset.univ (G Pv Fv) : sProp 𝕄) := by
  have hX (Φ : GSem nD τ sig → sProp 𝕄) : bigSep allCells Φ = bigSep Finset.univ fun c : Dev nD => bigSep Finset.univ fun k : CellIx => Φ (kcell (c, k)) := by
    unfold allCells; rw [bigSep_map, bigSep_univ_prod]; rfl
  have hT : bigSep allDuties (fun x => (dutyTok ER x.1 x.2.1 x.2.2 : sProp 𝕄)) = bigSep Finset.univ fun c : Dev nD => ownToks c := by
    unfold allDuties; rw [bigSep_map, bigSep_univ_prod]
    refine bigSep_congr fun c _ => ?_
    unfold ownToks
    rw [BI.bigSep_univ_sum, bigSep_univ_prod (α := Fin 4 × Fin 32), bigSep_univ_prod (α := Fin 4)]
    rfl
  iintro HX
  imod (Rounds.fund ER (Rd Pv Fv) allCells allDuties) $$ HX with ⟨Hst, Hr, Hat, Htok⟩
  imodintro
  ihave Hst' := (Entails.of_eq (hX fun g => roundState ER (Rd Pv Fv) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

/-- The kernel's own semaphores, as the launch names them. -/
abbrev osem (jk : Fin 4 × Fin 32) : SemLoc sig := .dma (dsem jk.1 jk.2)
/-- The one semaphore that outlives the call is the barrier. -/
theorem unscopedSems0_eq (c : Dev nD) : (unscopedSems0 c : sProp 𝕄) = semVal (barCell c) 0 := by
  unfold unscopedSems0; rw [bigSep_eq_bigSepL_of_eq [SemLoc.reg barS] (by decide +kernel) (by decide +kernel)]; rfl
/-- A device's cells are the barrier and the call's own semaphores. -/
theorem sems0_eq (c : Dev nD) :
    (bigSep Finset.univ fun k : CellIx => semVal (kcell (c, k)) 0 : sProp 𝕄)
      = iprop(unscopedSems0 c ∗ Pipeline.ownSems0 (Ix := ℕ) (Name := ℕ) (U := UU) (Lvl := ℕ) (Val := Elt F) (τ := τ) osem c) := by
  rw [unscopedSems0_eq, opt_split]; rfl

/-- A device's semaphores at zero, with its funds, become its invariants. -/
theorem core_alloc (c : Dev nD) :
    iprop(Pipeline.ownSems0 (Ix := ℕ) (Name := ℕ) (U := UU) (Lvl := ℕ) (Val := Elt F) (τ := τ) osem c ∗ unscopedSems0 c ∗ G Pv Fv c)
      ⊢ |={Set.univ}=> iprop((bigSep Finset.univ fun k => iprop(∃ κ : ℕ, cellInv ER (Rd Pv Fv) κ (kcell (c, k))))
          ∗ (bigSep Finset.univ fun k => iprop(atPos ER (kcell (c, k)) 0 ∅ 0 ∗ reached ER (kcell (c, k)) 0)) ∗ ownToks c) := by
  unfold G
  iintro ⟨Hos, Hus, Hst, Hat, Htok⟩
  ihave Hv := (Entails.of_eq (sems0_eq (F := F) c).symm) $$ [Hos Hus]
  · isplitl [Hus] <;> iassumption
  imod (show iprop((bigSep Finset.univ fun k : CellIx => semVal (kcell (c, k)) 0) ∗ bigSep Finset.univ fun k : CellIx => roundState ER (Rd Pv Fv) (kcell (c, k)) 0)
      ⊢ (|={Set.univ}=> bigSep Finset.univ fun k => iprop(∃ κ : ℕ, cellInv ER (Rd Pv Fv) κ (kcell (c, k))) : sProp 𝕄) from by
        rw [← bigSep_sep']
        exact (bigSep_mono fun k _ => (Rounds.body_intro ER (Rd Pv Fv) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

/-! ## Dealing the tokens -/

/-- Moving on by `k`. -/
def shift (k : Fin 32) : Dev nD ≃ Dev nD := ⟨fun c => peer c k, fun c => back c k, fun c => back_peer c k, fun c => peer_back c k⟩

/-- A sum over devices goes inside a sum over a list. -/
theorem list_out (Φ : Dev nD → Fin 32 → sProp 𝕄) :
    ∀ l, (bigSep Finset.univ fun c : Dev nD => bigSepL l fun k => Φ c k) = bigSepL l fun k => bigSep Finset.univ fun c : Dev nD => Φ c k
  | [] => by simp only [bigSepL_nil]; exact bigSep_emp_const _
  | k :: l => by simp only [bigSepL_cons']; rw [bigSep_sep', list_out Φ l]

/-- What each device has for each distance goes to the device at that distance before it. -/
theorem deal (Φ : Dev nD → Fin 32 → sProp 𝕄) :
    (bigSep Finset.univ fun c : Dev nD => bigSep far fun k => Φ c k) = bigSep Finset.univ fun c : Dev nD => bigSep far fun k => Φ (peer c k) k := by
  simp only [far_dists]
  rw [list_out, list_out]
  simp only [← far_dists]
  exact bigSep_congr fun k _ => bigSep_univ_equiv (shift k) fun c => Φ c k

/-- What holds at all distances holds at those but zero. -/
theorem far_of (Φ : Fin 32 → sProp 𝕄) : bigSep Finset.univ Φ ⊢ bigSep far Φ := by
  have e : iprop(Φ 0 ∗ bigSep far Φ) ⊢ bigSep far Φ := by iintro ⟨-, H⟩; iexact H
  exact (Entails.of_eq (BI.bigSep_erase (Finset.mem_univ (0 : Fin 32)))).trans e

/-- The tokens of a device's own semaphores of kind `j` in round `r`. -/
def ownTk (j : Fin 4) (r : ℕ) (c : Dev nD) : sProp 𝕄 := bigSep far fun k => dutyTok ER (dCell j c k) r 0
/-- A device's own tokens at the distances other than zero. -/
theorem ownToks_far (c : Dev nD) : ownToks c ⊢ iprop((bigSep far fun k : Fin 32 => (dutyTok ER (barCell c) 0 k : sProp 𝕄))
    ∗ (ownTk 0 0 c ∗ ownTk 0 1 c) ∗ (ownTk 1 0 c ∗ ownTk 1 1 c) ∗ (ownTk 2 0 c ∗ ownTk 2 1 c) ∗ (ownTk 3 0 c ∗ ownTk 3 1 c)) := by
  have hr (Φ : Fin 2 → sProp 𝕄) : bigSep Finset.univ Φ = iprop(Φ 0 ∗ Φ 1) := BI.bigSep_fin_two Φ
  have hj (Φ : Fin 4 → sProp 𝕄) : bigSep Finset.univ Φ = iprop(Φ 0 ∗ Φ 1 ∗ Φ 2 ∗ Φ 3) := bigSep_univ_eq_bigSepL [0, 1, 2, 3] (by decide) (by decide) Φ
  have h1 (j : Fin 4) : (bigSep Finset.univ fun k : Fin 32 => bigSep Finset.univ fun r : Fin 2 => (dutyTok ER (dCell j c k) r.val 0 : sProp 𝕄)) ⊢ iprop(ownTk j 0 c ∗ ownTk j 1 c) := by
    unfold ownTk
    rw [← bigSep_sep']
    refine (far_of _).trans (bigSep_mono fun k _ => ?_)
    rw [hr]
    exact Entails.refl _
  unfold ownToks
  rw [hj]
  have h2 := far_of (F := F) fun k : Fin 32 => (dutyTok ER (barCell c) 0 k : sProp 𝕄)
  exact both h2 (both (h1 0) (both (h1 1) (both (h1 2) (h1 3))))

/-- The tokens a device pays with. -/
def payToks (c : Dev nD) : sProp 𝕄 :=
  iprop((bigSep far fun k : Fin 32 => dutyTok ER (barCell (peer c k)) 0 k) ∗ tk (F := F) 0 1 0 c ∗ tk (F := F) 0 1 1 c ∗ tk (F := F) 2 3 0 c ∗ tk (F := F) 2 3 1 c)

/-- Pairs regrouped by their second members. -/
theorem crosswise {A0 A1 A2 B1 B2 C1 C2 D1 D2 : sProp 𝕄} :
    iprop(A0 ∗ (A1 ∗ A2) ∗ (B1 ∗ B2) ∗ (C1 ∗ C2) ∗ (D1 ∗ D2)) ⊢ iprop(A0 ∗ (A1 ∗ B1) ∗ (A2 ∗ B2) ∗ (C1 ∗ D1) ∗ (C2 ∗ D2)) := by
  iintro ⟨H1, ⟨H2, H3⟩, ⟨H4, H5⟩, ⟨H6, H7⟩, ⟨H8, H9⟩⟩
  iframe
/-- Each device's tokens dealt out to the devices that pay. -/
theorem toks_deal : (bigSep Finset.univ fun c : Dev nD => (ownToks c : sProp 𝕄)) ⊢ bigSep Finset.univ fun c : Dev nD => payToks c := by
  refine (bigSep_mono fun c _ => ownToks_far c).trans ?_
  unfold payToks tk ownTk
  simp only [bigSep_sep']
  rw [deal fun c k => (dutyTok ER (barCell c) 0 k : sProp 𝕄), deal fun c k => (dutyTok ER (dCell 1 c k) 0 0 : sProp 𝕄), deal fun c k => (dutyTok ER (dCell 1 c k) 1 0 : sProp 𝕄),
    deal fun c k => (dutyTok ER (dCell 3 c k) 0 0 : sProp 𝕄), deal fun c k => (dutyTok ER (dCell 3 c k) 1 0 : sProp 𝕄)]
  exact crosswise

/-- What the global step gives each device: the records, its places, its tokens. -/
def G' (c : Dev nD) : sProp 𝕄 := iprop(∃ K, recs Pv Fv K ∗ places c ∗ payToks c)

/-- A standing fact serves every device. -/
theorem with_persistent {R : sProp 𝕄} [BI.Persistent R] {Φ Ψ : Dev nD → sProp 𝕄}
    (h : ∀ i, iprop(R ∗ Φ i) ⊢ Ψ i) : iprop(R ∗ bigSep Finset.univ Φ) ⊢ bigSep Finset.univ Ψ :=
  (sep_mono_left (BI.bigSep_of_persistent Finset.univ R)).trans (by rw [← bigSep_sep']; exact bigSep_mono fun i _ => h i)

/-- The invariants of all devices made one standing fact, and each device's part beside it. -/
theorem regroup :
    (bigSep Finset.univ fun c : Dev nD => iprop((bigSep Finset.univ fun k => iprop(∃ κ : ℕ, cellInv ER (Rd Pv Fv) κ (kcell (c, k))))
          ∗ (bigSep Finset.univ fun k => iprop(atPos ER (kcell (c, k)) 0 ∅ 0 ∗ reached ER (kcell (c, k)) 0)) ∗ ownToks c) : sProp 𝕄)
      ⊢ bigSep Finset.univ (G' Pv Fv) := by
  rw [bigSep_sep', bigSep_sep', ← bigSep_univ_prod (fun ck : Dev nD × CellIx => iprop(∃ κ : ℕ, cellInv ER (Rd Pv Fv) κ (kcell ck))),
    bigSep_congr (s := Finset.univ) (fun (c : Dev nD) _ => bigSep_sep' Finset.univ (fun k : CellIx => (atPos ER (kcell (c, k)) 0 ∅ 0 : sProp 𝕄)) (fun k => reached ER (kcell (c, k)) 0)),
    bigSep_sep', ← bigSep_univ_prod (fun ck : Dev nD × CellIx => (reached ER (kcell ck) 0 : sProp 𝕄))]
  iintro ⟨HI, ⟨Hat, #HR⟩, Htok⟩
  ihave HK := (BI.bigSep_exists_pi Finset.univ (fun (ck : Dev nD × CellIx) (κ : ℕ) => (cellInv ER (Rd Pv Fv) κ (kcell ck) : sProp 𝕄))) $$ HI
  icases HK with ⟨%K, #HI⟩
  ihave Htk := (toks_deal (F := F)) $$ Htok
  have hg (c : Dev nD) : iprop(recs Pv Fv K ∗ (places c ∗ payToks c)) ⊢ G' Pv Fv c := by
    unfold G'
    iintro ⟨H1, H2, H3⟩
    iexists K; iframe
  iapply (with_persistent hg)
  isplitr
  · unfold recs; isplitl; · iexact HI
    iexact HR
  · rw [bigSep_sep']
    unfold places
    isplitl [Hat]; · iexact Hat
    iexact Htk

/-- The launch's hand-out: from every device's semaphores and funds to every device's starting state. -/
theorem glob : (bigSep Finset.univ fun c => iprop(Pipeline.ownSems0 (Ix := ℕ) (Name := ℕ) (U := UU) (Lvl := ℕ) (Val := Elt F) (τ := τ) osem c ∗ unscopedSems0 c ∗ G Pv Fv c) : sProp 𝕄)
    ⊢ |={Set.univ}=> bigSep Finset.univ (G' Pv Fv) :=
  ((bigSep_mono fun c _ => core_alloc Pv Fv c).trans (bigSep_fupd _ _)).trans (BI.fupd_mono (regroup Pv Fv))

/-! ## The credit -/

/-- What all devices owe the semaphores at distance `k` gives each device credit at its own. -/
theorem cred_one (s : SemLoc sig) (k : Fin 32) (i n : ℕ) (c : Dev nD) :
    (Pipeline.launchCred (fun d => tallyAt ((peer d k : Thread nD τ), s) i n) c : sProp 𝕄) ⊢ cred (tallyAt ((c : Thread nD τ), s) i n) := by
  refine (Pipeline.launchCred_elim _ c s).trans (Entails.of_eq ?_)
  unfold tallyAt
  refine congrArg cred (congrArg _ (Finsupp.ext fun u => ?_))
  rw [Pipeline.launchCredit_owing]
  have hd : ∀ d : Dev nD, (tallyAt ((peer d k : Thread nD τ), s) i n : CellTallies nD τ sig ℕ) ((c : Thread nD τ), s) u = if d = back c k then (Finsupp.single i n : ℕ →₀ ℕ) u else 0 := by
    intro d
    rw [tallyAt_apply]
    by_cases e : d = back c k
    · subst e
      rw [if_pos rfl, peer_back, Finsupp.single_apply]
      by_cases eu : u = i
      · rw [if_pos ⟨rfl, eu⟩, if_pos eu.symm]
      · rw [if_neg fun h => eu h.2, if_neg fun h => eu h.symm]
    · rw [if_neg e, if_neg]
      rintro ⟨h, -⟩
      have h' : c = peer d k := congrArg (fun g : GSem nD τ sig => g.1.1) h
      exact e (by rw [h', back_peer])
  exact (Finset.sum_congr rfl fun d _ => hd d).trans (by rw [Finset.sum_ite_eq' Finset.univ (back c k), if_pos (Finset.mem_univ _)])

/-- The launch credits of a list of debts. -/
theorem cred_list (f : Dev nD → Fin 32 → CellTallies nD τ sig ℕ) (Ψ : Fin 32 → sProp 𝕄) (c : Dev nD)
    (h : ∀ k, (Pipeline.launchCred (fun d => f d k) c : sProp 𝕄) ⊢ Ψ k) :
    ∀ l, (Pipeline.launchCred (fun d => oweL (f d) l) c : sProp 𝕄) ⊢ bigSepL l Ψ
  | [] => by rw [bigSepL_nil]; iintro -; iempintro
  | k :: l => by
    rw [bigSepL_cons']
    have e : (Pipeline.launchCred (fun d => oweL (f d) (k :: l)) c : sProp 𝕄) = iprop(Pipeline.launchCred (fun d => oweL (f d) l) c ∗ Pipeline.launchCred (fun d => f d k) c) :=
      Pipeline.launchCred_add _ _ c
    rw [e]
    have h1 := h k
    have h2 := cred_list f Ψ c h l
    iintro ⟨H2, H1⟩
    isplitl [H1]
    · iapply h1; iexact H1
    iapply h2; iexact H2

/-- Credits at one cell together. -/
theorem cred_join (g : GSem nD τ sig) (i : ℕ) : ∀ l : List (Fin 32), (bigSepL l fun _ => (cred (tallyAt g i 1) : sProp 𝕄)) ⊢ iprop(⌜l = []⌝ ∨ cred (tallyAt g i l.length))
  | [] => by iintro -; ileft; ipureintro; rfl
  | k :: l => by
    rw [bigSepL_cons']
    have h := cred_join g i l
    iintro ⟨H1, H2⟩
    iright
    ihave H := h $$ H2
    icases H with (%e | H)
    · subst e; iexact H1
    · have e : iprop(cred (tallyAt g i l.length) ∗ cred (tallyAt g i 1)) ⊢ (cred (tallyAt g i (k :: l).length) : sProp 𝕄) := by
        rw [List.length_cons, ← tallyAt_add]; exact (cred_add _ _).2
      iapply e; iframe

/-- All a device owes at the start. -/
def O₀ (c : Dev nD) : CellTallies nD τ sig ℕ := oweL (sigT c) dists + X0 c
/-- All that a device owes at the start lies above level zero. -/
theorem above_O₀ (c : Dev nD) : Above 0 (O₀ c) := (Above.list (fun k => above_sigT (by decide) c k) _).add (above_X0 (by decide) c)

/-- A device's credits at the start: the barrier's and the four phases of landings. -/
theorem creds (c : Dev nD) : (Pipeline.launchCred O₀ c : sProp 𝕄)
    ⊢ iprop(cred (tallyAt (barCell c) 1 31) ∗ cr (F := F) 1 2 c ∗ cr (F := F) 3 3 c ∗ cr (F := F) 1 4 c ∗ cr (F := F) 3 5 c) := by
  have hb := (cred_list sigT (fun _ => (cred (tallyAt (barCell c) 1 1) : sProp 𝕄)) c (fun k => cred_one (.reg barS) k 1 1 c) dists).trans (cred_join (barCell c) 1 dists)
  have ha (j : Fin 4) (i : ℕ) : (Pipeline.launchCred (fun d => oweL (arrT j i d) dists) c : sProp 𝕄) ⊢ cr (F := F) j i c := by
    unfold cr
    rw [far_dists]
    exact cred_list (arrT j i) (fun k => (cred (tallyAt (dCell j c k) i N) : sProp 𝕄)) c (fun k => cred_one (.dma (dsem j k)) k i N c) dists
  have e : (Pipeline.launchCred O₀ c : sProp 𝕄) = iprop(Pipeline.launchCred (fun d => oweL (sigT d) dists) c ∗ Pipeline.launchCred (fun d => oweL (arrT 1 2 d) dists) c
      ∗ Pipeline.launchCred (fun d => oweL (arrT 3 3 d) dists) c ∗ Pipeline.launchCred (fun d => oweL (arrT 1 4 d) dists) c
      ∗ Pipeline.launchCred (fun d => oweL (arrT 3 5 d) dists) c ∗ Pipeline.launchCred (fun _ => 0) c) := by
    rw [← Pipeline.launchCred_add, ← Pipeline.launchCred_add, ← Pipeline.launchCred_add, ← Pipeline.launchCred_add, ← Pipeline.launchCred_add]
    rfl
  rw [e]
  have h1 := ha 1 2
  have h2 := ha 3 3
  have h3 := ha 1 4
  have h4 := ha 3 5
  iintro ⟨Hb, H1, H2, H3, H4, -⟩
  isplitl [Hb]
  · ihave H := hb $$ Hb
    icases H with (%e | H)
    · exact absurd e (by decide)
    · iexact H
  isplitl [H1]; · iapply h1; iexact H1
  isplitl [H2]; · iapply h2; iexact H2
  isplitl [H3]; · iapply h3; iexact H3
  iapply h4; iexact H4

end Cert.KernelIdeal.Run
-- ==== Proof.Close.lean ====
/-
The launch: the body's obligation on every device and the run of the whole mesh.
-/
module

public import proofs.«01_k».proof.Proof.Body
public import proofs.«01_k».proof.Proof.Start
public import proofs.«01_k».proof.Proof.Gen.KernelIdeal.Points

@[expose] public section

set_option maxRecDepth 8000

noncomputable section

namespace Cert.KernelIdeal.Run

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig ℕ (Elt F) ℕ UU ℕ

/-! ## Regrouping -/

/-- A sum over the four kinds, written out. -/
theorem four (Φ : Fin 4 → sProp 𝕄) : bigSep Finset.univ Φ = iprop(Φ 0 ∗ Φ 1 ∗ Φ 2 ∗ Φ 3) :=
  bigSep_univ_eq_bigSepL [(0 : Fin 4), 1, 2, 3] (by decide) (by decide) Φ

/-- Something for every semaphore of a device: for the barrier, for those at distance 0, and for the four kinds at a distance. -/
theorem at_split (Φ : CellIx → sProp 𝕄) :
    bigSep Finset.univ Φ = iprop(Φ none ∗ (bigSep Finset.univ fun j => Φ (some (j, 0))) ∗ (bigSep far fun k => Φ (some (0, k)))
      ∗ (bigSep far fun k => Φ (some (1, k))) ∗ (bigSep far fun k => Φ (some (2, k))) ∗ bigSep far fun k => Φ (some (3, k))) := by
  have e : (bigSep Finset.univ fun j : Fin 4 => bigSep Finset.univ fun k => Φ (some (j, k)))
      = bigSep Finset.univ fun j : Fin 4 => iprop(Φ (some (j, 0)) ∗ bigSep far fun k => Φ (some (j, k))) :=
    bigSep_congr fun j _ => BI.bigSep_erase (Finset.mem_univ (0 : Fin 32)) (Φ := fun k => Φ (some (j, k)))
  rw [opt_split, bigSep_univ_prod, e, bigSep_sep', four (fun j => bigSep far fun k => Φ (some (j, k)))]

variable (Pv : ℕ → Dev nD → Big F) (Fv : ℕ → Dev nD → Rows F) (K : Dev nD × CellIx → ℕ)

/-- A device's places, kind by kind. -/
theorem places_split (c : Dev nD) : (places c : sProp 𝕄) = iprop(atPos ER (barCell c) 0 ∅ 0 ∗ (bigSep Finset.univ fun j : Fin 4 => atPos ER (dCell j c 0) 0 ∅ 0)
    ∗ ps (F := F) 0 0 c ∗ ps (F := F) 1 0 c ∗ ps (F := F) 2 0 c ∗ ps (F := F) 3 0 c) := by
  unfold places
  rw [at_split]
  rfl

/-- What the signals to the other devices hand over. -/
theorem sig_far (c : Dev nD) (x o : Big F) (b : Recv F) :
    iprop((bigSep far fun k : Fin 32 => (dutyTok ER (barCell (peer c k)) 0 k : sProp 𝕄)) ∗ (bigSep far fun k => bPts c k b) ∗ (bigSep far fun k => xPts c (peer c k) x)
      ∗ bigSep far fun k => oPts c (peer c k) o) ⊢ bigSepL dists (sigRes (F := F) c) := by
  rw [← far_dists, far_opp fun k => bPts c k b]
  refine far_four.trans (bigSep_mono fun k _ => ?_)
  have e : iprop(dutyTok ER (barCell (peer c k)) 0 k ∗ bPts c (opp k) b ∗ xPts c (peer c k) x ∗ oPts c (peer c k) o) ⊢ sigRes (F := F) c k := by
    unfold sigRes barPay
    rw [back_peer]
    iintro ⟨H1, H2, H3, H4⟩
    iframe
    isplitl [H2]; · iexists b; iexact H2
    isplitl [H3]; · iexists x; iexact H3
    iexists o; iexact H4
  exact e

/-- From the launch's tokens and buffers to the state the body starts in. -/
theorem body_start (c : Dev nD) (x o : Big F) (b : Recv F) :
    iprop(places c ∗ payToks c ∗ cred (tallyAt (barCell c) 1 31) ∗ cr (F := F) 1 2 c ∗ cr (F := F) 3 3 c ∗ cr (F := F) 1 4 c ∗ cr (F := F) 3 5 c
        ∗ xW c x ∗ oW c o ∗ bW c b ∗ owesE c (O₀ c))
      ⊢ iprop(SigSt c dists (X0 c) ∗ xPts c c x ∗ oPts c c o ∗ barCr (F := F) c ∗ G1 (F := F) c) := by
  have h := sig_far c x o b
  rw [places_split, xW_split, oW_split, bW_split]
  unfold payToks SigSt barCr G1 later idle O₀
  iintro ⟨⟨Hb, Hz, H0, H1, H2, H3⟩, ⟨Hd, Ht0, Ht1, Ht2, Ht3⟩, Hc, Hc1, Hc2, Hc3, Hc4, ⟨Hx, Hxs⟩, ⟨Ho, Hos⟩, ⟨Hbb, Hbs⟩, HO⟩
  iframe
  isplitr [Hbb]
  · iapply h; iframe
  · iexists b; iexact Hbb

/-! ## Closing -/

/-- The round a semaphore has come to at the end. -/
def endRound : CellIx → ℕ
  | none => 1
  | some jk => if jk.2 = 0 then 0 else 2

/-- A semaphore after its last round is at zero; -/
theorem close_cell (c : Dev nD) (k : CellIx) :
    iprop(Pers Pv Fv K ∗ atPos ER (kcell (c, k)) (endRound k) ∅ 0) ⊢ |={Set.univ}=> (semVal (kcell (c, k)) 0 : sProp 𝕄) := by
  have hI : Pers Pv Fv K ⊢ cellInv ER (Rd Pv Fv) (K (c, k)) (kcell (c, k)) := by
    rcases k with _ | ⟨j, k⟩
    · exact pers_bar Pv Fv K c
    · exact pers_d Pv Fv K j c k
  have hd : ∀ r, endRound k ≤ r → (Rd Pv Fv).duties (kcell (c, k)) r = ∅ := by
    rcases k with _ | ⟨j, k⟩
    · exact duties_bar_later Pv Fv c
    · intro r hr
      by_cases h : k = 0
      · subst h; exact duties_d_zero Pv Fv j c r
      · exact duties_d_later Pv Fv j c k r (by simpa only [endRound, if_neg h] using hr)
  refine BI.Entails.trans (both hI (Entails.refl _)) ?_
  exact Rounds.cell_close ER (Rd Pv Fv) (Set.mem_univ (K (c, k))) (fun h => h) (R := endRound k) hd

/-- a standing fact serves every cell; -/
theorem with_all {R : sProp 𝕄} [BI.Persistent R] {Φ Ψ : CellIx → sProp 𝕄}
    (h : ∀ i, iprop(R ∗ Φ i) ⊢ Ψ i) : iprop(R ∗ bigSep Finset.univ Φ) ⊢ bigSep Finset.univ Ψ :=
  (sep_mono_left (BI.bigSep_of_persistent Finset.univ R)).trans (by rw [← bigSep_sep']; exact bigSep_mono fun i _ => h i)

/-- the places at the last round, kind by kind; -/
theorem ps_end (j : Fin 4) (c : Dev nD) : (bigSep far fun k => (atPos ER (kcell (c, some (j, k))) (endRound (some (j, k))) ∅ 0 : sProp 𝕄)) = ps (F := F) j 2 c :=
  bigSep_congr fun k hk => by
    have hk' : k ≠ 0 := Finset.ne_of_mem_erase hk
    show atPos ER (dCell j c k) (if k = 0 then 0 else 2) ∅ 0 = _
    rw [if_neg hk']

/-- so all of a device's semaphores are at zero, -/
theorem close_all (c : Dev nD) :
    iprop(Pers Pv Fv K ∗ (atPos ER (barCell c) 1 ∅ 0 ∗ (bigSep Finset.univ fun j : Fin 4 => atPos ER (dCell j c 0) 0 ∅ 0)
        ∗ ps (F := F) 0 2 c ∗ ps (F := F) 1 2 c ∗ ps (F := F) 2 2 c ∗ ps (F := F) 3 2 c))
      ⊢ |={Set.univ}=> (bigSep Finset.univ fun k : CellIx => (semVal (kcell (c, k)) 0 : sProp 𝕄)) := by
  have e : (bigSep Finset.univ fun k : CellIx => (atPos ER (kcell (c, k)) (endRound k) ∅ 0 : sProp 𝕄))
      = iprop(atPos ER (barCell c) 1 ∅ 0 ∗ (bigSep Finset.univ fun j : Fin 4 => atPos ER (dCell j c 0) 0 ∅ 0)
        ∗ ps (F := F) 0 2 c ∗ ps (F := F) 1 2 c ∗ ps (F := F) 2 2 c ∗ ps (F := F) 3 2 c) := by
    rw [at_split, ps_end, ps_end, ps_end, ps_end]
    rfl
  rw [← e]
  exact (with_all (close_cell Pv Fv K c)).trans (bigSep_fupd _ _)

/-- The slots of the receive buffer, whatever each holds, make the whole of it. -/
theorem slots_join (c : Dev nD) : iprop((∃ f, bPts (F := F) c 0 f) ∗ bs (F := F) c) ⊢ iprop(∃ f, bW (F := F) c f) := by
  have h : iprop((∃ f, bPts (F := F) c 0 f) ∗ bs (F := F) c) = bigSep Finset.univ fun k : Fin 32 => iprop(∃ f, bPts (F := F) c k f) :=
    (BI.bigSep_erase (Finset.mem_univ (0 : Fin 32)) (Φ := fun k : Fin 32 => iprop(∃ f, bPts (F := F) c k f))).symm
  have h2 (g : Fin 32 → Recv F) : (bigSep Finset.univ fun k => bPts c k (g k)) ⊢ bW c (fun y => g (y 0) y) := by
    rw [bW_split]
    rw [BI.bigSep_erase (Finset.mem_univ (0 : Fin 32))]
    have e (k : Fin 32) : bPts c k (g k) = bPts c k (fun y => g (y 0) y) := by
      unfold bPts
      refine pointsTo_congr fun i hi => ?_
      rw [bSlot_set] at hi
      have hk : (i 0 : Fin 32) = k := Fin.ext ((mem_slot k i).mp hi)
      show g k i = g (i 0) i
      rw [hk]
    rw [e 0]
    refine both (Entails.refl _) (bigSep_mono fun k _ => ?_)
    exact Entails.of_eq (e k)
  have h3 : iprop((∃ f, bPts (F := F) c 0 f) ∗ bs (F := F) c) ⊢ iprop(⌜Nonempty (Recv F)⌝) := by
    iintro ⟨⟨%f, H⟩, -⟩
    ipureintro
    exact ⟨f⟩
  refine BI.Entails.trans (BI.and_intro h3 (Entails.refl _)) (BI.pure_elim fun hne => ?_)
  rw [h]
  have e : iprop(bigSep Finset.univ fun k : Fin 32 => iprop(∃ f, bPts (F := F) c k f)) ⊢ iprop(∃ f, bW (F := F) c f) := ?_
  · exact e
  iintro H
  ihave HK := (BI.bigSep_exists_pi Finset.univ (fun (k : Fin 32) (f : Recv F) => (bPts c k f : sProp 𝕄))) $$ H
  icases HK with ⟨%g, H⟩
  iexists (fun y => g (y 0) y)
  iapply (h2 g)
  iexact H

/-- which may be used where the run ends. -/
theorem go_close {Pv : ℕ → Dev nD → Big F} {Fv : ℕ → Dev nD → Rows F} {K : Dev nD × CellIx → ℕ} {c : Dev nD} {α : Type} {S R : sProp 𝕄} {Q : α → sProp 𝕄} {a : α}
    (h : iprop(Pers Pv Fv K ∗ S ∗ R) ⊢ |={Set.univ}=> Q a) : Go Pv Fv K c S R (Prog.ret a) Q := by
  unfold Go Run WP
  rw [wp_ret]
  exact h

end Cert.KernelIdeal.Run
-- ==== Proof.Launch.lean ====
/-
The launch: the body's obligation on every device and the run of the whole mesh.
-/
module

public import proofs.«01_k».proof.Proof.Close
public import Idealize.ShloMosaic.Lib.Pipeline.CollectiveSegs

@[expose] public section

set_option maxRecDepth 8000

noncomputable section

namespace Cert.KernelIdeal.Run

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig ℕ (Elt F) ℕ UU ℕ

variable (m : (ℓ : Loc nD τ sig) → Buf (Elt F) ℓ) (ρ : Dev nD → PrngReg)

/-- What device `c` has in its input buffers. -/
def inp (c : Dev nD) : Inp F where
  x := (win0_0.blk t0_0).view.read (Elt F) (m ((c : Thread nD τ).loc main_arg0))
  wq := (win0_1.blk t0_0).view.read (Elt F) (m ((c : Thread nD τ).loc main_arg1))
  wk := (win0_2.blk t0_0).view.read (Elt F) (m ((c : Thread nD τ).loc main_arg2))
  wv := (win0_3.blk t0_0).view.read (Elt F) (m ((c : Thread nD τ).loc main_arg3))
  wo := (win0_4.blk t0_0).view.read (Elt F) (m ((c : Thread nD τ).loc main_arg4))
  te := (win0_5.blk t0_0).view.read (Elt F) (m ((c : Thread nD τ).loc main_arg5))
  wm := (win0_6.blk t0_0).view.read (Elt F) (m ((c : Thread nD τ).loc main_arg6))
  f1 := (win0_7.blk t0_0).view.read (Elt F) (m ((c : Thread nD τ).loc main_arg7))
  f2 := (win0_8.blk t0_0).view.read (Elt F) (m ((c : Thread nD τ).loc main_arg8))

/-- What device `c`'s body starts from, beside its buffers. -/
def start (c : Dev nD) : sProp 𝕄 :=
  iprop(G' (Pv (inp m)) (Fv (inp m)) c ∗ Lev (F := F) ∗ cred (tallyAt (barCell c) 1 31) ∗ cr (F := F) 1 2 c ∗ cr (F := F) 3 3 c ∗ cr (F := F) 1 4 c ∗ cr (F := F) 3 5 c)
/-- The five working buffers, whatever they hold. -/
def work (c : Dev nD) : sProp 𝕄 :=
  iprop((∃ f, pW (F := F) c f) ∗ (∃ f, xW (F := F) c f) ∗ (∃ f, oW (F := F) c f) ∗ (∃ f, rW (F := F) c f) ∗ (∃ f, bW (F := F) c f))
def Φ₀ (c : Dev nD) : sProp 𝕄 := iprop(start m c ∗ work (F := F) c)
def Φ₁ (c : Dev nD) : sProp 𝕄 := iprop((bigSep Finset.univ fun k : CellIx => (semVal (kcell (c, k)) 0 : sProp 𝕄)) ∗ work (F := F) c)

def dats (_ : Fin 1) (c : Dev nD) : Dat τ (Elt F) ℕ ℕ UU ℕ cfg0 c where
  A w := m ((cfg0.win w).arr.view.loc (c : Thread nD τ))
  after w _ := match w with
    | ⟨0, _⟩ => (inp m c).x
    | ⟨1, _⟩ => (inp m c).wq
    | ⟨2, _⟩ => (inp m c).wk
    | ⟨3, _⟩ => (inp m c).wv
    | ⟨4, _⟩ => (inp m c).wo
    | ⟨5, _⟩ => (inp m c).te
    | ⟨6, _⟩ => (inp m c).wm
    | ⟨7, _⟩ => (inp m c).f1
    | ⟨8, _⟩ => (inp m c).f2
    | ⟨9, _⟩ => outv (inp m)
  Φ t := match t with
    | ⟨0, _⟩ => Φ₀ m c
    | ⟨_ + 1, _⟩ => Φ₁ c
  q _ := fullShare
  owed t := match t with
    | ⟨0, _⟩ => O₀ c
    | ⟨_ + 1, _⟩ => 0

omit [FloatOps F] in
/-- Owning a whole buffer is holding all of its places. -/
theorem owns_whole_eq (c : Dev nD) (b : Ref sig .tc) (X : b.ty.Contents (Elt F)) :
    (owns (Ix := ℕ) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

def bodyPre (c : Dev nD) : sProp 𝕄 :=
  iprop(Φ₀ m c ∗ (dats m 0 c).owesAt 0 t0_0.castSucc ∗ (∃ d, stg c cc0_stg0_0 ((dats m 0 c).before (0 : Fin 10) t0_0 d)) ∗ (∃ d, stg c cc0_stg1_0 ((dats m 0 c).before (1 : Fin 10) t0_0 d)) ∗ (∃ d, stg c cc0_stg2_0 ((dats m 0 c).before (2 : Fin 10) t0_0 d)) ∗ (∃ d, stg c cc0_stg3_0 ((dats m 0 c).before (3 : Fin 10) t0_0 d)) ∗ (∃ d, stg c cc0_stg4_0 ((dats m 0 c).before (4 : Fin 10) t0_0 d)) ∗ (∃ d, stg c cc0_stg5_0 ((dats m 0 c).before (5 : Fin 10) t0_0 d)) ∗ (∃ d, stg c cc0_stg6_0 ((dats m 0 c).before (6 : Fin 10) t0_0 d)) ∗ (∃ d, stg c cc0_stg7_0 ((dats m 0 c).before (7 : Fin 10) t0_0 d)) ∗ (∃ d, stg c cc0_stg8_0 ((dats m 0 c).before (8 : Fin 10) t0_0 d)) ∗ (∃ d, stg c cc0_stg9_0 ((dats m 0 c).before (9 : Fin 10) t0_0 d)))

def bodyPost (c : Dev nD) : sProp 𝕄 :=
  iprop(Φ₁ c ∗ (dats m 0 c).owesAt 0 t0_0.succ ∗ stg c cc0_stg0_0 (inp m c).x ∗ stg c cc0_stg1_0 (inp m c).wq ∗ stg c cc0_stg2_0 (inp m c).wk ∗ stg c cc0_stg3_0 (inp m c).wv ∗ stg c cc0_stg4_0 (inp m c).wo ∗ stg c cc0_stg5_0 (inp m c).te ∗ stg c cc0_stg6_0 (inp m c).wm ∗ stg c cc0_stg7_0 (inp m c).f1 ∗ stg c cc0_stg8_0 (inp m c).f2 ∗ stg c cc0_stg9_0 (outv (inp m)))

/-- What a run of the body ends in gives what the pipeline asks for, every semaphore closed. -/
theorem body_end (K : Dev nD × CellIx → ℕ) (c : Dev nD) (P X O : Big F) (R : Rows F) :
    iprop(Pers (Pv (inp m)) (Fv (inp m)) K ∗ Rest c 0 ∗ Hold (inp m) c (pW c P) (xW c X) (oW c O) (rW c R) (outW c (outv (inp m))) (G15 (F := F) c))
      ⊢ |={Set.univ}=> bodyPost m c := by
  have hc := close_all (Pv (inp m)) (Fv (inp m)) K c
  have hb := slots_join (F := F) c
  unfold Rest Hold G15 G12 idle barEnd bodyPost Φ₁ work Mem outW owesE
  iintro ⟨HP, ⟨%W, HO⟩, ⟨H0, H1, H2, H3, H4, H5, H6, H7, H8⟩, Hp, Hx, Ho, Hr, H9, Hps2, Hps3, Hps0, Hbs, Hps1, ⟨Hb0, Hz⟩, Hbe⟩
  imod hc $$ [HP Hbe Hz Hps0 Hps1 Hps2 Hps3] with Hsem
  · iframe
  ihave Hb := hb $$ [Hb0 Hbs]
  · iframe
  imodintro
  unfold Dat.owesAt Pipeline.owesWithin
  rw [show (dats m 0 c).owed t0_0.succ = 0 from rfl]
  isplitl [Hsem Hp Hx Ho Hr Hb]
  · isplitl [Hsem]; · iexact Hsem
    isplitl [Hp]; · iexists P; iexact Hp
    isplitl [Hx]; · iexists X; iexact Hx
    isplitl [Ho]; · iexists O; iexact Ho
    isplitl [Hr]; · iexists R; iexact Hr
    iexact Hb
  isplitl [HO]
  · iexists W
    isplitr; · ipureintro; exact fun _ _ => Or.inl trivial
    iexact HO
  isplitl [H0]
  · iexists _; isplitr; · (ipureintro; rfl)
    iexact H0
  isplitl [H1]
  · iexists _; isplitr; · (ipureintro; rfl)
    iexact H1
  isplitl [H2]
  · iexists _; isplitr; · (ipureintro; rfl)
    iexact H2
  isplitl [H3]
  · iexists _; isplitr; · (ipureintro; rfl)
    iexact H3
  isplitl [H4]
  · iexists _; isplitr; · (ipureintro; rfl)
    iexact H4
  isplitl [H5]
  · iexists _; isplitr; · (ipureintro; rfl)
    iexact H5
  isplitl [H6]
  · iexists _; isplitr; · (ipureintro; rfl)
    iexact H6
  isplitl [H7]
  · iexists _; isplitr; · (ipureintro; rfl)
    iexact H7
  isplitl [H8]
  · iexists _; isplitr; · (ipureintro; rfl)
    iexact H8
  iexists _; isplitr; · (ipureintro; rfl)
  iexact H9

set_option maxRecDepth 100000 in
/-- The body, from what the pipeline hands it. -/
theorem sound_body (c : Dev nD) :
    bodyPre m c ⊢ wp frame (wpE (defs₀ (F := F)) 𝒱₀ c none) Set.univ (bodyAt0 (F := F) t0_0) (fun _ => bodyPost m c) := by
  unfold bodyPre Φ₀ start work G'
  iintro ⟨⟨⟨⟨%K, Hrecs, Hpl, Hpay⟩, Hlev, Hc, Hc1, Hc2, Hc3, Hc4⟩, ⟨%p, Hp⟩, ⟨%x, Hx⟩, ⟨%o, Ho⟩, ⟨%r, Hr⟩, ⟨%b, Hb⟩⟩, HO, ⟨%d0, %g0, %e0, H0⟩, ⟨%d1, %g1, %e1, H1⟩, ⟨%d2, %g2, %e2, H2⟩, ⟨%d3, %g3, %e3, H3⟩, ⟨%d4, %g4, %e4, H4⟩, ⟨%d5, %g5, %e5, H5⟩, ⟨%d6, %g6, %e6, H6⟩, ⟨%d7, %g7, %e7, H7⟩, ⟨%d8, %g8, %e8, H8⟩, ⟨%d9, %g9, %e9, H9⟩⟩
  have e0' : g0 = (inp m c).x := by rw [e0]; unfold Dat.before; rw [if_pos (fetch0_0 t0_0)]; rfl
  subst e0'
  have e1' : g1 = (inp m c).wq := by rw [e1]; unfold Dat.before; rw [if_pos (fetch0_1 t0_0)]; rfl
  subst e1'
  have e2' : g2 = (inp m c).wk := by rw [e2]; unfold Dat.before; rw [if_pos (fetch0_2 t0_0)]; rfl
  subst e2'
  have e3' : g3 = (inp m c).wv := by rw [e3]; unfold Dat.before; rw [if_pos (fetch0_3 t0_0)]; rfl
  subst e3'
  have e4' : g4 = (inp m c).wo := by rw [e4]; unfold Dat.before; rw [if_pos (fetch0_4 t0_0)]; rfl
  subst e4'
  have e5' : g5 = (inp m c).te := by rw [e5]; unfold Dat.before; rw [if_pos (fetch0_5 t0_0)]; rfl
  subst e5'
  have e6' : g6 = (inp m c).wm := by rw [e6]; unfold Dat.before; rw [if_pos (fetch0_6 t0_0)]; rfl
  subst e6'
  have e7' : g7 = (inp m c).f1 := by rw [e7]; unfold Dat.before; rw [if_pos (fetch0_7 t0_0)]; rfl
  subst e7'
  have e8' : g8 = (inp m c).f2 := by rw [e8]; unfold Dat.before; rw [if_pos (fetch0_8 t0_0)]; rfl
  subst e8'
  unfold Dat.owesAt Pipeline.owesWithin
  icases HO with ⟨%W, %hW, HO⟩
  rw [show (dats m 0 c).owed t0_0.castSucc = O₀ c from rfl]
  have hs := body_start c x o b
  have hgo := go_start (go_body (inp m) K c (h0 := hstage0_0 0) (h1 := hstage0_1 0) (h2 := hstage0_2 0) (h3 := hstage0_3 0) (h4 := hstage0_4 0) (h5 := hstage0_5 0)
    (h6 := hstage0_6 0) (h7 := hstage0_7 0) (h8 := hstage0_8 0) (h9 := hstage0_9 0) (h10 := Memref.isWhole_whole _) (h11 := Memref.isWhole_whole _)
    (h12 := Memref.isWhole_whole _) (h13 := Memref.isWhole_whole _) (h14 := Memref.isWhole_whole _) (p := p) (x := x) (o := o) (r := r) (z := g9)
    (Q := fun _ => bodyPost m c) (go_close (body_end m K c _ _ _ _)))
  ihave Hst := hs $$ [Hpl Hpay Hc Hc1 Hc2 Hc3 Hc4 Hx Ho Hb HO]
  · iframe
    unfold owesE; iexists W; iexact HO
  icases Hst with ⟨HS, Hxp, Hop, Hbar, HG⟩
  unfold WP at hgo
  iapply hgo
  unfold Pers Hold Mem outW
  isplitl [Hrecs Hlev]; · iframe
  isplitl [HS]; · iexact HS
  isplitl [H0 H1 H2 H3 H4 H5 H6 H7 H8]
  · isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    iexact H8
  isplitl [Hp]; · iexact Hp
  isplitl [Hxp]; · iexact Hxp
  isplitl [Hop]; · iexact Hop
  isplitl [Hr]; · iexact Hr
  isplitl [H9]; · iexact H9
  iframe

set_option maxRecDepth 100000 in
/-- The pipeline's body obligation on device `c`. -/
theorem body_obligation (c : Dev nD) : BodyObligation (dats (F := F) m 0 c) (defs₀ (F := F)) 𝒱₀ 0 Set.univ := fun t => by
  rw [fin_N0 t]
  rw [bigSep_W0, bigSep_W0]
  simp only [owns_whole_eq]
  exact sound_body m c

/-! ## The launch's side conditions -/

/-- The call's own semaphores are what the launch takes them for. -/
theorem ownSemFacts : Pipeline.OwnSemFacts cfg0.spec osem := by decide +kernel

/-- Every window is held whole. -/
theorem share_eq (c : Dev nD) (w : Fin cfg0.W) : (dats m 0 c).share w = fullShare := by unfold Dat.share; split <;> rfl

/-- What a device is launched with gives its starting state; -/
theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' (Pv (inp m)) (Fv (inp m)) c)
      ⊢ |={Set.univ}=> iprop(start m c ∗ emp) := by
  have h := creds (F := F) c
  unfold start Lev
  iintro ⟨-, Hlev, Hcr, -, HG⟩
  ihave Hc := h $$ Hcr
  icases Hc with ⟨H1, H2, H3, H4, H5⟩
  imodintro
  isplitl
  · iframe
  · iempintro

/-- with its working buffers that is the body's entry, -/
theorem phi0_intro (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl, scopedRest0_eq]
  unfold Φ₀ work pW xW oW rW bW
  iintro ⟨Hs, -, Hr⟩
  isplitl [Hs]; · iexact Hs
  iexact Hr

/-- and the body's exit gives back the semaphores at zero and the buffers. -/
theorem phi1_exit (c : Dev nD) :
    (dats m 0 c).Φ (Fin.last cfg0.N) ⊢ iprop(unscopedSems0 c ∗ Pipeline.ownSems0 osem c ∗ Pipeline.scopedRest cfg0.spec c) := by
  rw [show (dats m 0 c).Φ (Fin.last cfg0.N) = Φ₁ c from rfl, scopedRest0_eq]
  unfold Φ₁ work pW xW oW rW bW
  rw [sems0_eq]
  iintro ⟨⟨H1, H2⟩, Hr⟩
  isplitl [H1]; · iexact H1
  isplitl [H2]; · iexact H2
  iexact Hr

/-- The pipeline's own waits are below all that is owed. -/
theorem waits (c : Dev nD) : (levAts L lv : sProp 𝕄) ⊢ Pipeline.cellsWaits cfgs (dats m) 0 0 c :=
  Pipeline.cellsWaits_intro cfgs (dats m) 0 0 c fun w s t => by
    have h : Above 0 ((dats m 0 c).owed t) := by
      rcases t with ⟨_ | _, ht⟩
      · exact above_O₀ c
      · exact Above.zero _
    exact mayWait_of (by decide) c _ h

/-! ## The run -/

/-- Every device's arrays as the pipeline leaves them. -/
def QC : PUnit × MemSt nD τ sig (Elt F) → Prop := fun r =>
  ∀ c : Dev nD, ∀ w : Fin cfg0.W, r.2.mem ((cfg0.win w).arr.view.loc (c : Thread nD τ)) = (dats m 0 c).arrAt w cfg0.N

set_option maxRecDepth 100000 in
/-- From any memory, for any float values: the thirty-two devices' runs end, each array as the pipeline leaves it and every
    semaphore at zero. -/
theorem run_main : θ_run defs (onTc (τ := τ) (main (F := F))) ⟨m, fun _ => 0, ρ⟩ (fun r => QC m r ∧ r.2.sem = fun _ => 0) :=
  Pipeline.θ_run_region_owing_glob_pf (fun p => (cfgs p).toPCfg) (fun p => (cfgs p).toPCfg_adm) (dats m) 0 cellOf_inj (0 : Fin 1)
    winFacts0.to₀ ownSemFacts (Pipeline.PreFacts.none _) EP defs₀ 𝒱₀ m ρ main
    (hmain := fun _ => rfl)
    (hbody := body_obligation m) (hne := block_pos0) (harr := arr_whole0) (hstage := stage_whole0) (hshare := share_eq m)
    (hdistinct := winFacts0.arr_inj)
    (O₀ := O₀) (howed₀ := fun _ => rfl) (howedN := fun _ => rfl)
    (L := L) (lv := lv) (hL := fun g h => if_neg h) (hwaits := waits m)
    (G := G (Pv (inp m)) (Fv (inp m))) (G' := G' (Pv (inp m)) (Fv (inp m))) (u₀ := u₀)
    (hu₀ := by
      unfold u₀
      iintro Hu
      ihave H := (ownU_pair _ _) $$ Hu
      icases H with ⟨HP, HX⟩
      imod (fund_all (Pv (inp m)) (Fv (inp m))) $$ HX with HG
      imodintro
      isplitl [HP] <;> iassumption)
    (hglob := glob (Pv (inp m)) (Fv (inp m)))
    (hA := fun _ _ => rfl) (hpf := fun _ k => k.elim0)
    (X := start m) (Y := fun c => unscopedSems0 c) (Z := fun _ => iprop(emp))
    (hX := start_intro m ρ) (hin := phi0_intro m) (hout := phi1_exit m)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

end Cert.KernelIdeal.Run
-- ==== Proof.Frames.lean ====
/- The frames: each program ends in every memory, its arguments unchanged and its counters at zero. -/
module

public import proofs.«01_k».proof.Defs
public import proofs.«01_k».proof.Proof.Gen.Kernel
public import proofs.«01_k».proof.Proof.Gen.Kernel.Skeleton
public import proofs.«01_k».proof.Proof.Gen.KernelIdeal
public import proofs.«01_k».proof.Proof.Gen.ReferenceIdeal
public import proofs.«01_k».proof.Proof.Gen.ReferenceIdeal.Run
public import proofs.«01_k».proof.Proof.Launch

@[expose] public section

noncomputable section

namespace Cert.KernelIdeal.Run

open Idealize.ShloMosaic Idealize.ShloMosaic.TcCoe Idealize.SL Idealize.SL.Sem
open Cert.KernelIdeal Cert.KernelIdeal.Gen

variable {F : FTy → Type} [FloatOps F]

/-- What a run leaves in the nine argument arrays is what it found there. -/
theorem args_kept (m : (ℓ : Loc nD τ sig) → ℓ.ty.Contents (Elt F)) {r : PUnit × MemSt nD τ sig (Elt F)} (h : QC m r) (c : Dev nD) :
    r.2.mem ((c : Thread nD τ).loc main_arg0) = m ((c : Thread nD τ).loc main_arg0) ∧ r.2.mem ((c : Thread nD τ).loc main_arg1) = m ((c : Thread nD τ).loc main_arg1) ∧ r.2.mem ((c : Thread nD τ).loc main_arg2) = m ((c : Thread nD τ).loc main_arg2) ∧ r.2.mem ((c : Thread nD τ).loc main_arg3) = m ((c : Thread nD τ).loc main_arg3) ∧ r.2.mem ((c : Thread nD τ).loc main_arg4) = m ((c : Thread nD τ).loc main_arg4) ∧ r.2.mem ((c : Thread nD τ).loc main_arg5) = m ((c : Thread nD τ).loc main_arg5) ∧ r.2.mem ((c : Thread nD τ).loc main_arg6) = m ((c : Thread nD τ).loc main_arg6) ∧ r.2.mem ((c : Thread nD τ).loc main_arg7) = m ((c : Thread nD τ).loc main_arg7) ∧ r.2.mem ((c : Thread nD τ).loc main_arg8) = m ((c : Thread nD τ).loc main_arg8) :=
  ⟨(h c 0).trans ((dats m 0 c).arrAt_in 0 rfl _), (h c 1).trans ((dats m 0 c).arrAt_in 1 rfl _), (h c 2).trans ((dats m 0 c).arrAt_in 2 rfl _), (h c 3).trans ((dats m 0 c).arrAt_in 3 rfl _), (h c 4).trans ((dats m 0 c).arrAt_in 4 rfl _), (h c 5).trans ((dats m 0 c).arrAt_in 5 rfl _), (h c 6).trans ((dats m 0 c).arrAt_in 6 rfl _), (h c 7).trans ((dats m 0 c).arrAt_in 7 rfl _), (h c 8).trans ((dats m 0 c).arrAt_in 8 rfl _)⟩

/-- The kernel ends over any float values, its arguments unchanged and its counters at zero. -/
theorem frame_any (m : (ℓ : Loc nD τ sig) → ℓ.ty.Contents (Elt F)) (ρ : Dev nD → PrngReg) :
    θ_run Cert.KernelIdeal.defs (onTc (τ := τ) (main (F := F))) ⟨m, fun _ => 0, ρ⟩ (fun r => (∀ c : Dev nD,
      r.2.mem ((c : Thread nD τ).loc main_arg0) = m ((c : Thread nD τ).loc main_arg0) ∧ r.2.mem ((c : Thread nD τ).loc main_arg1) = m ((c : Thread nD τ).loc main_arg1) ∧ r.2.mem ((c : Thread nD τ).loc main_arg2) = m ((c : Thread nD τ).loc main_arg2) ∧ r.2.mem ((c : Thread nD τ).loc main_arg3) = m ((c : Thread nD τ).loc main_arg3) ∧ r.2.mem ((c : Thread nD τ).loc main_arg4) = m ((c : Thread nD τ).loc main_arg4) ∧ r.2.mem ((c : Thread nD τ).loc main_arg5) = m ((c : Thread nD τ).loc main_arg5) ∧ r.2.mem ((c : Thread nD τ).loc main_arg6) = m ((c : Thread nD τ).loc main_arg6) ∧ r.2.mem ((c : Thread nD τ).loc main_arg7) = m ((c : Thread nD τ).loc main_arg7) ∧ r.2.mem ((c : Thread nD τ).loc main_arg8) = m ((c : Thread nD τ).loc main_arg8)) ∧ r.2.sem = fun _ => 0) :=
  (θ_run Cert.KernelIdeal.defs _ _).mono (fun _ h => ⟨fun c => args_kept m h.1 c, h.2⟩) (run_main m ρ)

/-- The idealized kernel's frame. -/
theorem frame_i : Cert.quiescent_KernelIdeal := fun m ρ _ => frame_any (F := Ideal) m ρ

set_option maxRecDepth 100000 in
/-- The two prints of the kernel have the same body, -/
theorem defs₀_same : (Cert.Kernel.defs₀ (F := Bits)) = Cert.KernelIdeal.defs₀ :=
  congrArg Defs.onTc (funext fun l => funext fun a => match l, a with
    | 0, _ => rfl)

set_option maxRecDepth 100000 in
/-- and the same body table. -/
theorem defs_same : (Cert.Kernel.defs (F := Bits)) = Cert.KernelIdeal.defs :=
  congrArg (Pipeline.defs (Cert.KernelIdeal.pcfgs (F := Bits))) defs₀_same

/-- The kernel's own frame: the same run, over machine floats. -/
theorem frame_p : Cert.quiescent_Kernel := fun m ρ _ => by
  rw [defs_same]
  exact frame_any (F := Bits) m ρ

/-- The reference ends, its arguments unchanged. -/
theorem frame_r : Cert.quiescent_ReferenceIdeal := fun m ρ _ => (θ_run Cert.ReferenceIdeal.defs _ _).mono
  (fun r h => ⟨fun c => (h c).2, Idealize.ShloMosaic.sem_eq_zero_of_no_sems (by decide) r.2⟩)
  (Cert.ReferenceIdeal.Value.run (F := Ideal) m ρ)

end Cert.KernelIdeal.Run

end
-- ==== Proof.Spec.lean ====
/-
What the block computes, element by element over the extended reals: the mathematics the kernel's and the reference's
values are both brought to.
-/
module

public import Idealize.ShloMosaic.Lib.Pointwise
public import Idealize.ShloMosaic.Lib.IdealHost

@[expose] public section

noncomputable section

namespace Cert.Spec

open Idealize.ShloMosaic

/-- The row length 512, the variance's shift and the score's scale, as the programs write them. -/
abbrev c512 : EReal := Ideal.ofBits FTy.f32 0x44000000#32
abbrev ceps : EReal := Ideal.ofBits FTy.f32 0x3727C5AC#32
abbrev c8 : EReal := Ideal.ofBits FTy.f32 0x3E000000#32
/-- The value the running maximum starts from. -/
abbrev cbot : EReal := Ideal.ofBits FTy.f32 0xFF800000#32

/-- A row's mean, -/
def mean (h : Fin 512 → EReal) : EReal := Ideal.div (∑ k, h k) c512
/-- its variance, -/
def vari (h : Fin 512 → EReal) : EReal := Ideal.div (∑ k, (h k - mean h) * (h k - mean h)) c512
/-- and the row normalised, scaled by `1 + s` and shifted by `t`. -/
def lnv (h s t : Fin 512 → EReal) (n : Fin 512) : EReal :=
  (h n - mean h) * Ideal.rsqrt (vari h + ceps) * (1 + s n) + t n

/-- One head's scores, -/
def score (q k : Fin 256 → Fin 64 → EReal) (i j : Fin 256) : EReal := (∑ d, q i d * k j d) * c8
/-- their exponentials under the row's maximum, -/
def wgt (q k : Fin 256 → Fin 64 → EReal) (i j : Fin 256) : EReal :=
  Ideal.exp (score q k i j - Finset.fold max cbot (fun j => score q k i j) Finset.univ)
/-- and the head's output. -/
def hd (q k v : Fin 256 → Fin 64 → EReal) (i : Fin 256) (d : Fin 64) : EReal :=
  Ideal.div (∑ j, wgt q k i j * v j d) (∑ j, wgt q k i j)

/-- The gate of the feed-forward layer. -/
def silu (h : EReal) : EReal := Ideal.div h (1 + Ideal.exp (-h))

/-- The nine arrays. -/
structure Glob where
  x : (⟨3, ![2, 256, 512]⟩ : Shape).Idx → EReal
  wq : (⟨2, ![512, 8192]⟩ : Shape).Idx → EReal
  wk : (⟨2, ![512, 8192]⟩ : Shape).Idx → EReal
  wv : (⟨2, ![512, 8192]⟩ : Shape).Idx → EReal
  wo : (⟨2, ![8192, 512]⟩ : Shape).Idx → EReal
  te : (⟨2, ![2, 128]⟩ : Shape).Idx → EReal
  wm : (⟨2, ![128, 3072]⟩ : Shape).Idx → EReal
  f1 : (⟨2, ![512, 2048]⟩ : Shape).Idx → EReal
  f2 : (⟨2, ![2048, 512]⟩ : Shape).Idx → EReal

/-- A modulation vector: columns `o` onwards of the projected time embedding. -/
def mdv (te : (⟨2, ![2, 128]⟩ : Shape).Idx → EReal) (wm : (⟨2, ![128, 3072]⟩ : Shape).Idx → EReal) (o : ℕ) (ho : o ≤ 2560)
    (b : Fin 2) (n : Fin 512) : EReal :=
  ∑ x : Fin 128, te (ix2 b x) * wm (ix2 x (⟨o + n.val, by have := n.isLt; omega⟩ : Fin 3072))

namespace Glob
variable (G : Glob)

/-- A modulation vector of these arrays. -/
def md (o : ℕ) (ho : o ≤ 2560) (b : Fin 2) (n : Fin 512) : EReal := mdv G.te G.wm o ho b n
/-- The attention's input, -/
def xa (b : Fin 2) (i : Fin 256) (n : Fin 512) : EReal :=
  lnv (fun n => G.x (ix3 b i n)) (G.md 0 (by omega) b) (G.md 512 (by omega) b) n
/-- a projection of it, -/
def pr (W : (⟨2, ![512, 8192]⟩ : Shape).Idx → EReal) (b : Fin 2) (i : Fin 256) (k : Fin 8192) : EReal :=
  ∑ n, G.xa b i n * W (ix2 n k)
/-- one head's columns of a projection, -/
def prh (W : (⟨2, ![512, 8192]⟩ : Shape).Idx → EReal) (b : Fin 2) (H : Fin 128) (i : Fin 256) (d : Fin 64) : EReal :=
  G.pr W b i ⟨H.val * 64 + d.val, by have := H.isLt; have := d.isLt; omega⟩
/-- a head, -/
def att (b : Fin 2) (H : Fin 128) (i : Fin 256) (d : Fin 64) : EReal :=
  hd (G.prh G.wq b H) (G.prh G.wk b H) (G.prh G.wv b H) i d
/-- and the attention layer's result. -/
def x1 (b : Fin 2) (i : Fin 256) (n : Fin 512) : EReal :=
  G.x (ix3 b i n) + G.md 1024 (by omega) b n * ∑ K : Fin 8192,
    G.att b ⟨K.val / 64, by have := K.isLt; omega⟩ i ⟨K.val % 64, by omega⟩ * G.wo (ix2 K n)
/-- The feed-forward layer's input, -/
def xm (b : Fin 2) (i : Fin 256) (n : Fin 512) : EReal :=
  lnv (G.x1 b i) (G.md 1536 (by omega) b) (G.md 2048 (by omega) b) n
/-- its gated hidden values, -/
def act (b : Fin 2) (i : Fin 256) (k : Fin 2048) : EReal := silu (∑ n, G.xm b i n * G.f1 (ix2 n k))
/-- and its result. -/
def out (b : Fin 2) (i : Fin 256) (n : Fin 512) : EReal :=
  G.x1 b i n + G.md 2560 (by omega) b n * ∑ k : Fin 2048, G.act b i k * G.f2 (ix2 k n)
end Glob

/-! ## The two normalisations -/

/-- A product of a number with itself is not negative. -/
theorem sq_nonneg (a : EReal) : 0 ≤ a * a := by
  induction a using EReal.rec with
  | bot => simp
  | top => simp
  | coe r => exact_mod_cast mul_self_nonneg r

/-- The row length's pattern is 512, -/
theorem c512_eq : c512 = ((512 : ℝ) : EReal) := by
  simp [c512, Ideal.ofBits, Ideal.ieee, -EReal.coe_mul]; norm_num

/-- and the variance's shift is a positive number. -/
theorem ceps_pos : ∃ r : ℝ, 0 < r ∧ ceps = (r : EReal) := by
  refine ⟨_, ?_, by simp only [ceps, Ideal.ofBits, Ideal.ieee]; rfl⟩
  rw [if_neg (by decide)]
  positivity

/-- The running maximum starts from below everything. -/
theorem cbot_eq : cbot = ⊥ := by
  simp [cbot, Ideal.ofBits, Ideal.ieee]

/-- A quotient by 512 of what is not negative is not negative. -/
theorem div_nonneg' (a : EReal) (ha : 0 ≤ a) : 0 ≤ Ideal.div a c512 := by
  rw [c512_eq]
  unfold Ideal.div
  rw [if_neg (by norm_num)]
  exact mul_nonneg ha (EReal.inv_nonneg_of_nonneg (by norm_num))

/-- A variance is not negative. -/
theorem vari_nonneg (h : Fin 512 → EReal) : 0 ≤ vari h :=
  div_nonneg' _ (Finset.sum_nonneg fun _ _ => sq_nonneg _)

/-- Above zero, multiplying by the reciprocal root is dividing by the root. -/
theorem mul_rsqrt (a v : EReal) (hv : 0 < v) : a * Ideal.rsqrt v = Ideal.div a (Ideal.sqrt v) := by
  induction v using EReal.rec with
  | bot => simp at hv
  | top => rw [Ideal.rsqrt_top, Ideal.sqrt_top]; simp [Ideal.div]
  | coe r =>
    have hr : 0 < r := by exact_mod_cast hv
    have hs : 0 < Real.sqrt r := Real.sqrt_pos.2 hr
    rw [Ideal.rsqrt_coe, Ideal.sqrt_coe, if_neg (not_lt.2 hr.le), if_neg (not_lt.2 hr.le), if_neg hr.ne']
    unfold Ideal.div
    rw [if_neg (by exact_mod_cast hs.ne'), EReal.coe_inv]

/-- So the row normalised by a division is the row normalised by a product. -/
theorem lnv_div (h s t : Fin 512 → EReal) (n : Fin 512) :
    Ideal.div (h n - mean h) (Ideal.sqrt (vari h + ceps)) * (1 + s n) + t n = lnv h s t n := by
  obtain ⟨r, hr, he⟩ := ceps_pos
  unfold lnv
  rw [mul_rsqrt _ _ (by
    rw [he]
    exact lt_of_lt_of_le (by exact_mod_cast hr) (le_add_of_nonneg_left (vari_nonneg h)))]

end Cert.Spec

end
-- ==== Proof.Value.lean ====
/-
The kernel's values on one device, element by element: its share of the attention and of the feed-forward layer.
-/
module

public import proofs.«01_k».proof.Proof.Vals
public import proofs.«01_k».proof.Proof.Spec

@[expose] public section

set_option maxRecDepth 16384

noncomputable section

namespace Cert.KernelIdeal.Run

open Cert.KernelIdeal Cert.KernelIdeal.Gen Cert.Spec
open Idealize.ShloMosaic Idealize.ShloMosaic.TcCoe Idealize.SL Idealize.SL.Sem

namespace Inp
variable (I : Inp Ideal)

/-! ## The loads -/

/-- The first batch of the input is loaded as it is. -/
theorem x0_at (i : Fin 256) (n : Fin 512) : I.x0 (ix3 0 i n) = I.x (ix3 0 i n) := by
  unfold x0; rw [View.readAt_eq_ld]; pointwise; rfl
/-- The second batch of the input is loaded as it is. -/
theorem x1_at (i : Fin 256) (n : Fin 512) : I.x1 (ix3 0 i n) = I.x (ix3 1 i n) := by
  unfold x1; rw [View.readAt_eq_ld]; pointwise; rfl
/-- The query weights are loaded as they are. -/
theorem lq_at (a : Fin 512) (b : Fin 256) : I.lq (ix2 a b) = I.wq (ix2 a b) := by
  unfold lq; rw [View.readAt_eq_ld]; pointwise; rfl
/-- The key weights are loaded as they are. -/
theorem lk_at (a : Fin 512) (b : Fin 256) : I.lk (ix2 a b) = I.wk (ix2 a b) := by
  unfold lk; rw [View.readAt_eq_ld]; pointwise; rfl
/-- The value weights are loaded as they are. -/
theorem lv_at (a : Fin 512) (b : Fin 256) : I.lv (ix2 a b) = I.wv (ix2 a b) := by
  unfold lv; rw [View.readAt_eq_ld]; pointwise; rfl
/-- The output weights are loaded as they are. -/
theorem lo_at (a : Fin 256) (b : Fin 512) : I.lo (ix2 a b) = I.wo (ix2 a b) := by
  unfold lo; rw [View.readAt_eq_ld]; pointwise; rfl
/-- The time embedding is loaded as it is. -/
theorem lt_at (a : Fin 2) (b : Fin 128) : I.lt (ix2 a b) = I.te (ix2 a b) := by
  unfold lt; rw [View.readAt_eq_ld]; pointwise; rfl
/-- The modulation weights are loaded as they are. -/
theorem lm_at (a : Fin 128) (b : Fin 3072) : I.lm (ix2 a b) = I.wm (ix2 a b) := by
  unfold lm; rw [View.readAt_eq_ld]; pointwise; rfl
/-- The first feed-forward weights are loaded as they are. -/
theorem l1_at (a : Fin 512) (b : Fin 64) : I.l1 (ix2 a b) = I.f1 (ix2 a b) := by
  unfold l1; rw [View.readAt_eq_ld]; pointwise; rfl
/-- The second feed-forward weights are loaded as they are. -/
theorem l2_at (a : Fin 64) (b : Fin 512) : I.l2 (ix2 a b) = I.f2 (ix2 a b) := by
  unfold l2; rw [View.readAt_eq_ld]; pointwise; rfl

/-! ## The projections -/

/-- The attention's input. -/
def dxa (b : Fin 2) (i : Fin 256) (n : Fin 512) : EReal :=
  lnv (fun n => I.x (ix3 b i n)) (mdv I.te I.wm 0 (by omega) b) (mdv I.te I.wm 512 (by omega) b) n
/-- One of the device's projections of it, -/
def dpr (W : S512x256.Idx → EReal) (b : Fin 2) (i : Fin 256) (k : Fin 256) : EReal := ∑ n, I.dxa b i n * W (ix2 n k)
/-- and one head's columns of that. -/
def dprh (W : S512x256.Idx → EReal) (b : Fin 2) (h : Fin 4) (i : Fin 256) (d : Fin 64) : EReal :=
  I.dpr W b i ⟨h.val * 64 + d.val, by have := h.isLt; have := d.isLt; omega⟩

/-- In the first batch the rows are normalised and modulated. -/
theorem xa0_at (i : Fin 256) (n : Fin 512) :
    k0_pay14 (k0_pay10 I.x0) (k0_pay11 I.lt I.lm) (k0_pay12 I.lt I.lm) (k0_pay13 I.x0) (ix2 i n) = I.dxa 0 i n := by
  pointwise [k0_pay14, k0_pay10, k0_pay11, k0_pay12, k0_pay4, k0_pay5, k0_pay3, k0_pay13, x0_at, lt_at, lm_at, dxa, lnv, mean, vari, mdv]

/-- In the first batch the queries are the rows' products with their weights. -/
theorem q0_at (i k : Fin 256) :
    k0_pay15 (k0_pay10 I.x0) (k0_pay11 I.lt I.lm) (k0_pay12 I.lt I.lm) (k0_pay13 I.x0) I.lq (ix2 i k) = I.dpr I.wq 0 i k := by
  pointwise [k0_pay15, xa0_at, lq_at, dpr]
/-- In the first batch the keys are the rows' products with their weights. -/
theorem kk0_at (i k : Fin 256) :
    k0_pay16 (k0_pay10 I.x0) (k0_pay11 I.lt I.lm) (k0_pay12 I.lt I.lm) (k0_pay13 I.x0) I.lk (ix2 i k) = I.dpr I.wk 0 i k := by
  pointwise [k0_pay16, xa0_at, lk_at, dpr]
/-- In the first batch the values are the rows' products with their weights. -/
theorem vv0_at (i k : Fin 256) :
    k0_pay17 (k0_pay10 I.x0) (k0_pay11 I.lt I.lm) (k0_pay12 I.lt I.lm) (k0_pay13 I.x0) I.lv (ix2 i k) = I.dpr I.wv 0 i k := by
  pointwise [k0_pay17, xa0_at, lv_at, dpr]

/-- In the first batch the device adds up its four heads' products with its rows of the output weights. -/
theorem att0_at (i : Fin 256) (n : Fin 512) :
    I.att0 (ix2 i n) = ∑ h : Fin 4, ∑ d : Fin 64, hd (I.dprh I.wq 0 h) (I.dprh I.wk 0 h) (I.dprh I.wv 0 h) i d
      * I.wo (ix2 (⟨h.val * 64 + d.val, by have := h.isLt; have := d.isLt; omega⟩ : Fin 256) n) := by
  rw [Fin.sum_univ_four]
  pointwise [att0, q0, kk0, vv0, k0_pay18, k0_pay19, k0_pay20, k0_pay21, k0_pay22, k0_pay23, k0_pay24, k0_pay25, k0_pay26, q0_at, kk0_at, vv0_at, lo_at, hd, wgt, score, dprh, sumSplitAll]
  simp only [← Nat.add_assoc, Nat.reduceAdd, ← add_assoc]

/-- In the second batch the rows are normalised and modulated. -/
theorem xa1_at (i : Fin 256) (n : Fin 512) :
    k0_pay30 (k0_pay27 I.sha) (k0_pay28 I.x1) (k0_pay29 I.sa) (ix2 i n) = I.dxa 1 i n := by
  pointwise [sha, sa, k0_pay27, k0_pay28, k0_pay29, k0_pay30, k0_pay4, k0_pay5, k0_pay3, x1_at, lt_at, lm_at, dxa, lnv, mean, vari, mdv]
/-- In the second batch the queries are the rows' products with their weights. -/
theorem q1_at (i k : Fin 256) : k0_pay31 (k0_pay27 I.sha) (k0_pay28 I.x1) (k0_pay29 I.sa) I.lq (ix2 i k) = I.dpr I.wq 1 i k := by
  pointwise [k0_pay31, xa1_at, lq_at, dpr]
/-- In the second batch the keys are the rows' products with their weights. -/
theorem kk1_at (i k : Fin 256) : k0_pay32 (k0_pay27 I.sha) (k0_pay28 I.x1) (k0_pay29 I.sa) I.lk (ix2 i k) = I.dpr I.wk 1 i k := by
  pointwise [k0_pay32, xa1_at, lk_at, dpr]
/-- In the second batch the values are the rows' products with their weights. -/
theorem vv1_at (i k : Fin 256) : k0_pay33 (k0_pay27 I.sha) (k0_pay28 I.x1) (k0_pay29 I.sa) I.lv (ix2 i k) = I.dpr I.wv 1 i k := by
  pointwise [k0_pay33, xa1_at, lv_at, dpr]
/-- In the second batch the device adds up its four heads' products with its rows of the output weights. -/
theorem att1_at (i : Fin 256) (n : Fin 512) :
    I.att1 (ix2 i n) = ∑ h : Fin 4, ∑ d : Fin 64, hd (I.dprh I.wq 1 h) (I.dprh I.wk 1 h) (I.dprh I.wv 1 h) i d
      * I.wo (ix2 (⟨h.val * 64 + d.val, by have := h.isLt; have := d.isLt; omega⟩ : Fin 256) n) := by
  rw [Fin.sum_univ_four]
  pointwise [att1, k0_pay34, k0_pay35, k0_pay36, k0_pay37, k0_pay38, q1_at, kk1_at, vv1_at, lo_at, hd, wgt, score, dprh, sumSplitAll]
  simp only [← Nat.add_assoc, Nat.reduceAdd, ← add_assoc]
end Inp

end Cert.KernelIdeal.Run

end
-- ==== Proof.Layers.lean ====
/-
The kernel's values on all devices, element by element: the exchanges and the two layers' results.
-/
module

public import proofs.«01_k».proof.Proof.Value

@[expose] public section

set_option maxRecDepth 16384

noncomputable section

namespace Cert.KernelIdeal.Run

open Cert.KernelIdeal Cert.KernelIdeal.Gen Cert.Spec
open Idealize.ShloMosaic Idealize.ShloMosaic.TcCoe Idealize.SL Idealize.SL.Sem

/-! ## Rows -/

/-- The batch a device's rows lie in, and their place in it. -/
def dB (c : Dev nD) : Fin 2 := ⟨c.val / 16, by have : c.val < 32 := c.isLt; omega⟩
def dR (c : Dev nD) (r : Fin 16) : Fin 256 := ⟨c.val % 16 * 16 + r.val, by have := r.isLt; omega⟩
/-- Row `i` of batch `b` in the 512-row buffers. -/
def row (b : Fin 2) (i : Fin 256) : Fin 512 := ⟨b.val * 256 + i.val, by have := b.isLt; have := i.isLt; omega⟩

/-- The program's batch number is zero on the first sixteen devices. -/
theorem bIdx_eq (c : Dev nD) : Scalar.cmpi .eq (bIdx c) 0#32 = if c.val < 16 then 1#1 else 0#1 := by
  revert c; decide +kernel

/-- Where a device's rows start in the first batch, -/
theorem off3_eq (c : Dev nD) : k0_off3 c = ![0, c.val % 16 * 16, 0] := by revert c; decide +kernel
/-- in the second -/
theorem off4_eq (c : Dev nD) : k0_off4 c = ![1, c.val % 16 * 16, 0] := by revert c; decide +kernel
/-- and in the 512-row buffers. -/
theorem off2_eq (c : Dev nD) : k0_off2 c = ![16 * c.val, 0] := by revert c; decide +kernel

/-- A left to right sum of thirty-two numbers. -/
theorem sum32 (g : Fin 32 → EReal) :
    ∑ k, g k = g 0 + g 1 + g 2 + g 3 + g 4 + g 5 + g 6 + g 7 + g 8 + g 9 + g 10 + g 11 + g 12 + g 13 + g 14 + g 15
      + g 16 + g 17 + g 18 + g 19 + g 20 + g 21 + g 22 + g 23 + g 24 + g 25 + g 26 + g 27 + g 28 + g 29 + g 30 + g 31 := by
  simp only [Fin.sum_univ_castSucc, Fin.sum_univ_zero, zero_add]
  rfl

/-- The own rows and the thirty-one slots, added up. -/
theorem red0_at (own : Vec Ideal S16x512 .bf16) (s : Fin 32 → Vec Ideal S1x16x512 .bf16) (r : Fin 16) (n : Fin 512)
    (h : own (ix2 r n) = s 0 (ix3 0 r n)) :
    red0 own s (ix2 r n) + s 31 (ix3 0 r n) = ∑ k, s k (ix3 0 r n) := by
  rw [sum32]
  pointwise [red0, k0_pay39, k0_pay40, k0_pay41, k0_pay42, k0_pay43, k0_pay44, k0_pay45, k0_pay46, k0_pay47, k0_pay48, k0_pay49,
    k0_pay50, k0_pay51, k0_pay52, h]
/-- The same of the second round. -/
theorem red1_at (own : Vec Ideal S16x512 .bf16) (s : Fin 32 → Vec Ideal S1x16x512 .bf16) (r : Fin 16) (n : Fin 512)
    (h : own (ix2 r n) = s 0 (ix3 0 r n)) :
    red1 own s (ix2 r n) + s 31 (ix3 0 r n) = ∑ k, s k (ix3 0 r n) := by
  rw [sum32]
  pointwise [red1, k0_pay70, k0_pay71, k0_pay72, k0_pay73, k0_pay74, k0_pay75, k0_pay76, k0_pay77, k0_pay78, k0_pay79, k0_pay80,
    k0_pay81, h]

/-- Going back by the distances reaches every device once. -/
theorem back_bij (c : Dev nD) : Function.Bijective (back c) := by
  refine Function.bijective_iff_has_inverse.2 ⟨fun d => back c d, fun k => ?_, fun d => ?_⟩ <;> (apply Fin.ext; simp only [back])
  · have hc : c.val < 32 := c.isLt
    have hk : k.val < 32 := k.isLt
    omega
  · have hc : c.val < 32 := c.isLt
    have hk : d.val < 32 := d.isLt
    omega

/-- The own rows and the slots of a scatter add up to all devices' partial sums. -/
theorem sum_slots (P : Dev nD → Big Ideal) (c : Dev nD) (r : Fin 16) (n : Fin 512) :
    ∑ k, slot P c k (ix3 0 r n) = ∑ d : Dev nD, P d (ix2 (⟨16 * c.val + r.val, row_lt c r⟩ : Fin 512) n) :=
  (back_bij c).sum_comp (fun d => P d (ix2 (⟨16 * c.val + r.val, row_lt c r⟩ : Fin 512) n))

/-- The own rows stand where a slot at distance zero would. -/
theorem rowsOf_slot (P : Dev nD → Big Ideal) (c : Dev nD) (r : Fin 16) (n : Fin 512) :
    rowsOf (P c) c (ix2 r n) = slot P c 0 (ix3 0 r n) := by
  have h : back c 0 = c := by revert c; decide +kernel
  show P c _ = P (back c 0) _
  rw [h]
  rfl

/-- A row of the first batch is in the first half, one of the second in the second. -/
theorem stack_at (A B : S256x512.Idx → EReal) (b : Fin 2) (i : Fin 256) (n : Fin 512) :
    (stack (F := Ideal) A B (ix2 (row b i) n) : EReal) = if b = 0 then A (ix2 i n) else B (ix2 i n) := by
  have := i.isLt
  fin_cases b
  · show (if h : _ then _ else _) = _
    rw [dif_pos (by show 0 * 256 + i.val < 256; omega)]
    exact congrArg (fun j => A (ix2 j n)) (Fin.ext (by show 0 * 256 + i.val = i.val; omega))
  · show (if h : _ then _ else _) = _
    rw [dif_neg (by show ¬ 1 * 256 + i.val < 256; omega)]
    exact congrArg (fun j => B (ix2 j n)) (Fin.ext (by show 1 * 256 + i.val - 256 = i.val; omega))

/-- A device's rows are rows of its batch. -/
theorem row_dR (c : Dev nD) (r : Fin 16) : (⟨16 * c.val + r.val, row_lt c r⟩ : Fin 512) = row (dB c) (dR c r) :=
  Fin.ext (by show 16 * c.val + r.val = c.val / 16 * 256 + (c.val % 16 * 16 + r.val); omega)

/-- The device with a row, -/
def ownD (b : Fin 2) (i : Fin 256) : Dev nD := ⟨b.val * 16 + i.val / 16, by have := b.isLt; have := i.isLt; show _ < 32; omega⟩
/-- and the row among its sixteen. -/
def ownR (i : Fin 256) : Fin 16 := ⟨i.val % 16, by omega⟩

/-- A row's device is in the row's batch, -/
theorem dB_ownD (b : Fin 2) (i : Fin 256) : dB (ownD b i) = b :=
  Fin.ext (by have := b.isLt; have := i.isLt; show (b.val * 16 + i.val / 16) / 16 = b.val; omega)
/-- and the row is one of its sixteen. -/
theorem dR_ownD (b : Fin 2) (i : Fin 256) : dR (ownD b i) (ownR i) = i :=
  Fin.ext (by have := b.isLt; have := i.isLt; show (b.val * 16 + i.val / 16) % 16 * 16 + i.val % 16 = i.val; omega)
/-- A gathered row is its device's. -/
theorem gath_at (R : Dev nD → Rows Ideal) (b : Fin 2) (i : Fin 256) (n : Fin 512) :
    gath R (ix2 (row b i) n) = R (ownD b i) (ix2 (ownR i) n) := by
  have h : ∀ (d d' : Dev nD) (r r' : Fin 16), d = d' → r = r' → R d (ix2 r n) = R d' (ix2 r' n) := by rintro _ _ _ _ rfl rfl; rfl
  exact h _ _ _ _ (Fin.ext (by show (b.val * 256 + i.val) / 16 = b.val * 16 + i.val / 16; omega))
    (Fin.ext (by show (b.val * 256 + i.val) % 16 = i.val % 16; omega))

/-! ## The first result -/
namespace Inp
variable (I : Inp Ideal)

/-- The residual rows are the device's, in the first batch -/
theorem xc0_at (c : Dev nD) (r : Fin 16) (n : Fin 512) : I.xc0 c (ix3 0 r n) = I.x (ix3 0 (dR c r) n) := by
  unfold xc0; rw [View.readAt_eq_ld]; pointwise [off3_eq]; rfl
/-- and in the second. -/
theorem xc1_at (c : Dev nD) (r : Fin 16) (n : Fin 512) : I.xc1 c (ix3 0 r n) = I.x (ix3 1 (dR c r) n) := by
  unfold xc1; rw [View.readAt_eq_ld]; pointwise [off4_eq]; rfl

/-- A device's share of the attention layer. -/
def dAtt (b : Fin 2) (i : Fin 256) (n : Fin 512) : EReal :=
  ∑ h : Fin 4, ∑ d : Fin 64, hd (I.dprh I.wq b h) (I.dprh I.wk b h) (I.dprh I.wv b h) i d
      * I.wo (ix2 (⟨h.val * 64 + d.val, by have := h.isLt; have := d.isLt; omega⟩ : Fin 256) n)
end Inp

variable (I : Dev nD → Inp Ideal)

/-- The partial sums are the device's share of the attention layer. -/
theorem pv0_at (c : Dev nD) (b : Fin 2) (i : Fin 256) (n : Fin 512) : (pv0 I c (ix2 (row b i) n) : EReal) = (I c).dAtt b i n := by
  unfold pv0
  rw [stack_at, Inp.att0_at, Inp.att1_at]
  fin_cases b <;> rfl

/-- The input's row and the gated sum. -/
theorem pay54_at (I : Inp Ideal) (c : Dev nD) (o : FVec Ideal S16x512 .f32) (e : Vec Ideal S1x16x512 .bf16) (r : Fin 16) (n : Fin 512) :
    k0_pay54 I.ga (bIdx c) o e (I.xc0 c) (I.xc1 c) (ix2 r n)
      = I.x (ix3 (dB c) (dR c r) n) + mdv I.te I.wm 1024 (by omega) (dB c) n * (o (ix2 r n) + e (ix3 0 r n)) := by
  have hc : c.val < 32 := c.isLt
  by_cases h : c.val < 16
  · have hb : dB c = 0 := Fin.ext (by show c.val / 16 = 0; omega)
    rw [hb]
    pointwise [k0_pay54, k0_pay53, bIdx_eq, h, Inp.xc0_at, Inp.ga, k0_pay6, k0_pay3, Inp.lt_at, Inp.lm_at, mdv]
  · have hb : dB c = 1 := Fin.ext (by show c.val / 16 = 1; omega)
    rw [hb]
    pointwise [k0_pay54, k0_pay53, bIdx_eq, h, Inp.xc1_at, Inp.ga, k0_pay6, k0_pay3, Inp.lt_at, Inp.lm_at, mdv]

/-- A device's rows of the first result. -/
theorem fv0_at (c : Dev nD) (r : Fin 16) (n : Fin 512) :
    fv0 I c (ix2 r n) = (I c).x (ix3 (dB c) (dR c r) n)
      + mdv (I c).te (I c).wm 1024 (by omega) (dB c) n * ∑ d : Dev nD, (I d).dAtt (dB c) (dR c r) n := by
  unfold fv0
  rw [pay54_at, red0_at _ _ _ _ (rowsOf_slot _ _ _ _), sum_slots, row_dR]
  simp only [pv0_at]

/-- The devices' inputs are the global arrays and their blocks. -/
structure Shares (G : Glob) : Prop where
  x : ∀ c, (I c).x = G.x
  te : ∀ c, (I c).te = G.te
  wm : ∀ c, (I c).wm = G.wm
  wq : ∀ c (a : Fin 512) (k : Fin 256), (I c).wq (ix2 a k) = G.wq (ix2 a (⟨c.val * 256 + k.val, by have : c.val < 32 := c.isLt; have := k.isLt; omega⟩ : Fin 8192))
  wk : ∀ c (a : Fin 512) (k : Fin 256), (I c).wk (ix2 a k) = G.wk (ix2 a (⟨c.val * 256 + k.val, by have : c.val < 32 := c.isLt; have := k.isLt; omega⟩ : Fin 8192))
  wv : ∀ c (a : Fin 512) (k : Fin 256), (I c).wv (ix2 a k) = G.wv (ix2 a (⟨c.val * 256 + k.val, by have : c.val < 32 := c.isLt; have := k.isLt; omega⟩ : Fin 8192))
  wo : ∀ c (k : Fin 256) (n : Fin 512), (I c).wo (ix2 k n) = G.wo (ix2 (⟨c.val * 256 + k.val, by have : c.val < 32 := c.isLt; have := k.isLt; omega⟩ : Fin 8192) n)
  f1 : ∀ c (a : Fin 512) (k : Fin 64), (I c).f1 (ix2 a k) = G.f1 (ix2 a (⟨c.val * 64 + k.val, by have : c.val < 32 := c.isLt; have := k.isLt; omega⟩ : Fin 2048))
  f2 : ∀ c (k : Fin 64) (n : Fin 512), (I c).f2 (ix2 k n) = G.f2 (ix2 (⟨c.val * 64 + k.val, by have : c.val < 32 := c.isLt; have := k.isLt; omega⟩ : Fin 2048) n)

/-- A sum over `m * n` positions, block by block. -/
theorem sum_blocks (m n N : ℕ) (hN : N = m * n) (f : Fin N → EReal) :
    ∑ K, f K = ∑ a : Fin m, ∑ b : Fin n, f ⟨a.val * n + b.val, by
      subst hN
      calc a.val * n + b.val < a.val * n + n := by have := b.isLt; omega
        _ = (a.val + 1) * n := by ring
        _ ≤ m * n := Nat.mul_le_mul_right _ a.isLt⟩ := by
  subst hN
  rw [← Fintype.sum_prod_type']
  refine (Fintype.sum_equiv finProdFinEquiv _ _ fun p => ?_).symm
  exact congrArg f (Fin.ext (by show p.1.val * n + p.2.val = p.2.val + n * p.1.val; ring))

variable {I} {G : Glob} (S : Shares I G)
include S

/-- The attention's input is the same on every device. -/
theorem Shares.dxa_eq (c : Dev nD) : (I c).dxa = G.xa := by
  funext b i n
  unfold Inp.dxa Glob.xa Glob.md
  rw [S.x, S.te, S.wm]

/-- A device's head is one of all heads. -/
theorem Shares.head_eq (c : Dev nD) (b : Fin 2) (h : Fin 4) (H : Fin 128) (hH : H.val = c.val * 4 + h.val) :
    hd ((I c).dprh (I c).wq b h) ((I c).dprh (I c).wk b h) ((I c).dprh (I c).wv b h) = G.att b H := by
  have hc : c.val < 32 := c.isLt
  have key : ∀ (W : S512x256.Idx → EReal) (W' : (⟨2, ![512, 8192]⟩ : Shape).Idx → EReal)
      (_ : ∀ (a : Fin 512) (k : Fin 256), W (ix2 a k) = W' (ix2 a (⟨c.val * 256 + k.val, by have := k.isLt; omega⟩ : Fin 8192))),
      (I c).dprh W b h = G.prh W' b H := by
    intro W W' hW
    funext i d
    unfold Inp.dprh Inp.dpr Glob.prh Glob.pr
    rw [S.dxa_eq]
    refine Finset.sum_congr rfl fun n _ => ?_
    rw [hW]
    exact congrArg (fun j => G.xa b i n * W' (ix2 n j)) (Fin.ext (by show c.val * 256 + (h.val * 64 + d.val) = H.val * 64 + d.val; omega))
  funext i d
  unfold Glob.att
  rw [key _ _ (S.wq c), key _ _ (S.wk c), key _ _ (S.wv c)]

/-- The devices' shares of the attention layer add up to it. -/
theorem Shares.sum_att (b : Fin 2) (i : Fin 256) (n : Fin 512) :
    ∑ d : Dev nD, (I d).dAtt b i n = ∑ K : Fin 8192,
      G.att b ⟨K.val / 64, by have := K.isLt; omega⟩ i ⟨K.val % 64, by omega⟩ * G.wo (ix2 K n) := by
  rw [sum_blocks 32 256 8192 (by norm_num)]
  refine Finset.sum_congr rfl fun c _ => ?_
  rw [sum_blocks 4 64 256 (by norm_num)]
  unfold Inp.dAtt
  refine Finset.sum_congr rfl fun h _ => Finset.sum_congr rfl fun d _ => ?_
  have hc : c.val < 32 := c.isLt
  have hh := h.isLt
  have hd := d.isLt
  rw [S.head_eq c b h ⟨(c.val * 256 + (h.val * 64 + d.val)) / 64, by omega⟩ (by show (c.val * 256 + (h.val * 64 + d.val)) / 64 = _; omega), S.wo]
  exact congrArg (fun j => G.att b _ i j * G.wo (ix2 _ n)) (Fin.ext (by show d.val = (c.val * 256 + (h.val * 64 + d.val)) % 64; omega))

/-- The first result is the attention layer's. -/
theorem Shares.mid_at (b : Fin 2) (i : Fin 256) (n : Fin 512) : (mid I (ix2 (row b i) n) : EReal) = G.x1 b i n := by
  unfold mid
  rw [gath_at, fv0_at, dB_ownD, dR_ownD, S.sum_att, S.x, S.te, S.wm]
  rfl

end Cert.KernelIdeal.Run

end
-- ==== Proof.Result.lean ====
/-
The kernel's output, element by element: the feed-forward layer and the second exchange.
-/
module

public import proofs.«01_k».proof.Proof.Layers

@[expose] public section

set_option maxRecDepth 16384

noncomputable section

namespace Cert.KernelIdeal.Run

open Cert.KernelIdeal Cert.KernelIdeal.Gen Cert.Spec
open Idealize.ShloMosaic Idealize.ShloMosaic.TcCoe Idealize.SL Idealize.SL.Sem

variable (I : Dev nD → Inp Ideal)

/-- The first batch's rows of the first result, -/
theorem mid0_at (i : Fin 256) (n : Fin 512) : mid0 I (ix2 i n) = mid I (ix2 (row 0 i) n) := by
  unfold mid0; rw [View.readAt_eq_ld]; generalize mid I = f; pointwise [row]; rfl
/-- the second batch's -/
theorem mid1_at (i : Fin 256) (n : Fin 512) : mid1 I (ix2 i n) = mid I (ix2 (row 1 i) n) := by
  unfold mid1; rw [View.readAt_eq_ld]; pointwise; rfl
/-- and the device's own, as they are loaded. -/
theorem midc_at (c : Dev nD) (r : Fin 16) (n : Fin 512) : midc I c (ix2 r n) = mid I (ix2 (row (dB c) (dR c r)) n) := by
  rw [← row_dR]
  unfold midc; rw [View.readAt_eq_ld]; pointwise [off2_eq]; rfl
/-- The first batch's rows of the second result -/
theorem fin0_at (i : Fin 256) (n : Fin 512) : fin0 I (ix2 i n) = fin I (ix2 (row 0 i) n) := by
  unfold fin0; rw [View.readAt_eq_ld]; generalize fin I = f; pointwise [row]; rfl
/-- and the second batch's. -/
theorem fin1_at (i : Fin 256) (n : Fin 512) : fin1 I (ix2 i n) = fin I (ix2 (row 1 i) n) := by
  unfold fin1; rw [View.readAt_eq_ld]; pointwise; rfl

/-- Nothing less a number is its negative. -/
theorem zero_less (a : EReal) : 0 - a = -a := by rw [sub_eq_add_neg, zero_add]

/-- A device's hidden values, -/
def dact (c : Dev nD) (b : Fin 2) (i : Fin 256) (k : Fin 64) : EReal :=
  silu (∑ n, lnv (fun n => mid I (ix2 (row b i) n)) (mdv (I c).te (I c).wm 1536 (by omega) b)
    (mdv (I c).te (I c).wm 2048 (by omega) b) n * (I c).f1 (ix2 n k))

/-- A device's share of the feed-forward layer, in the first batch -/
theorem ff0_at (c : Dev nD) (i : Fin 256) (n : Fin 512) :
    ff0 I c (ix2 i n) = ∑ k : Fin 64, dact I c 0 i k * (I c).f2 (ix2 k n) := by
  pointwise [ff0, k0_pay62, k0_pay57, k0_pay58, k0_pay60, k0_pay61, k0_pay59, k0_pay56, Inp.sm, Inp.shm, k0_pay7, k0_pay8, k0_pay3,
    Inp.lt_at, Inp.lm_at, Inp.l1_at, Inp.l2_at, mid0_at, dact, silu, lnv, mean, vari, mdv, zero_less]
/-- and in the second, -/
theorem ff1_at (c : Dev nD) (i : Fin 256) (n : Fin 512) :
    ff1 I c (ix2 i n) = ∑ k : Fin 64, dact I c 1 i k * (I c).f2 (ix2 k n) := by
  pointwise [ff1, k0_pay69, k0_pay64, k0_pay65, k0_pay67, k0_pay68, k0_pay66, k0_pay63, Inp.sm, Inp.shm, k0_pay7, k0_pay8, k0_pay3,
    Inp.lt_at, Inp.lm_at, Inp.l1_at, Inp.l2_at, mid1_at, dact, silu, lnv, mean, vari, mdv, zero_less]

/-- is what its partial sums hold. -/
theorem pv1_at (c : Dev nD) (b : Fin 2) (i : Fin 256) (n : Fin 512) :
    (pv1 I c (ix2 (row b i) n) : EReal) = ∑ k : Fin 64, dact I c b i k * (I c).f2 (ix2 k n) := by
  unfold pv1
  rw [stack_at, ff0_at, ff1_at]
  fin_cases b <;> rfl

/-- The first result's row and the gated sum. -/
theorem pay83_at (c : Dev nD) (o : FVec Ideal S16x512 .f32) (e : Vec Ideal S1x16x512 .bf16) (r : Fin 16) (n : Fin 512) :
    k0_pay83 (I c).gm (bIdx c) o e (midc I c) (ix2 r n)
      = mid I (ix2 (row (dB c) (dR c r)) n) + mdv (I c).te (I c).wm 2560 (by omega) (dB c) n * (o (ix2 r n) + e (ix3 0 r n)) := by
  have hc : c.val < 32 := c.isLt
  by_cases h : c.val < 16
  · have hb : dB c = 0 := Fin.ext (by show c.val / 16 = 0; omega)
    pointwise [k0_pay83, k0_pay82, bIdx_eq, h, midc_at, Inp.gm, k0_pay9, k0_pay3, Inp.lt_at, Inp.lm_at, mdv, hb]
  · have hb : dB c = 1 := Fin.ext (by show c.val / 16 = 1; omega)
    pointwise [k0_pay83, k0_pay82, bIdx_eq, h, midc_at, Inp.gm, k0_pay9, k0_pay3, Inp.lt_at, Inp.lm_at, mdv, hb]

/-- A device's rows of the second result. -/
theorem fv1_at (c : Dev nD) (r : Fin 16) (n : Fin 512) :
    fv1 I c (ix2 r n) = mid I (ix2 (row (dB c) (dR c r)) n)
      + mdv (I c).te (I c).wm 2560 (by omega) (dB c) n * ∑ d : Dev nD, ∑ k : Fin 64, dact I d (dB c) (dR c r) k * (I d).f2 (ix2 k n) := by
  unfold fv1
  rw [pay83_at, red1_at _ _ _ _ (rowsOf_slot _ _ _ _), sum_slots, row_dR]
  simp only [pv1_at]

/-- The output's rows are those of the second result. -/
theorem outv_at (b : Fin 2) (i : Fin 256) (n : Fin 512) : (outv I (ix3 b i n) : EReal) = fin I (ix2 (row b i) n) := by
  fin_cases b
  · show k0_pay1 (k0_pay85 (fin0 I)) (ix3 0 i n) = _
    pointwise [k0_pay1, k0_pay85, fin0_at]
  · show k0_pay2 (fin1 I) (ix3 0 i n) = _
    pointwise [k0_pay2, fin1_at]

variable {I} {G : Glob} (S : Shares I G)
include S

/-- A device's hidden values are its block of all of them. -/
theorem Shares.dact_eq (c : Dev nD) (b : Fin 2) (i : Fin 256) (k : Fin 64) :
    dact I c b i k = G.act b i ⟨c.val * 64 + k.val, by have : c.val < 32 := c.isLt; have := k.isLt; omega⟩ := by
  unfold dact Glob.act Glob.xm Glob.md
  rw [S.te, S.wm]
  simp only [S.mid_at, S.f1]

/-- The second result is the block's. -/
theorem Shares.fin_at (b : Fin 2) (i : Fin 256) (n : Fin 512) : (fin I (ix2 (row b i) n) : EReal) = G.out b i n := by
  unfold fin Glob.out
  rw [gath_at, fv1_at, dB_ownD, dR_ownD, S.mid_at, S.te, S.wm, sum_blocks 32 64 2048 (by norm_num)]
  simp only [S.dact_eq, S.f2]
  rfl

/-- What the kernel leaves in the output buffer is what the block computes. -/
theorem Shares.outv_eq (b : Fin 2) (i : Fin 256) (n : Fin 512) : (outv I (ix3 b i n) : EReal) = G.out b i n := by
  rw [outv_at, S.fin_at]

end Cert.KernelIdeal.Run

end
-- ==== Proof.Ref.lean ====
/-
The reference's value, element by element.
-/
module

public import proofs.«01_k».proof.Proof.Spec
public import proofs.«01_k».proof.Proof.Gen.ReferenceIdeal.Run

@[expose] public section

set_option maxRecDepth 16384

noncomputable section

namespace Cert.ReferenceIdeal.Value

open Idealize.ShloMosaic Idealize.ShloMosaic.TcCoe Idealize.SL.Sem
open Cert.ReferenceIdeal Cert.Spec

variable (V : Valuation τ sig (Elt Ideal))

/-- The reference's nine arrays. -/
def glob : Glob where
  x := V (Proc.devRef .tc main_arg0)
  wq := V (Proc.devRef .tc main_arg1)
  wk := V (Proc.devRef .tc main_arg2)
  wv := V (Proc.devRef .tc main_arg3)
  wo := V (Proc.devRef .tc main_arg4)
  te := V (Proc.devRef .tc main_arg5)
  wm := V (Proc.devRef .tc main_arg6)
  f1 := V (Proc.devRef .tc main_arg7)
  f2 := V (Proc.devRef .tc main_arg8)

/-- The modulation. -/
theorem v0_at (b : Fin 2) (k : Fin 3072) :
    (res_main_v0 V : S2x3072.Idx → EReal) (ix2 b k) = ∑ x : Fin 128, (glob V).te (ix2 b x) * (glob V).wm (ix2 x k) := by
  pointwise [res_main_v0, glob]

/-- The row less its mean. -/
theorem call0_v5_at (b : Fin 2) (i : Fin 256) (n : Fin 512) :
    (res_main_call0_v5 V : S2x256x512.Idx → EReal) (ix3 b i n) = (glob V).x (ix3 b i n) - mean fun n => (glob V).x (ix3 b i n) := by
  pointwise [res_main_call0_v5, glob, mean, c512]

/-- The variance's divisor is the row length less nothing. -/
theorem call0_v8_at : (res_main_call0_v8 V : S_.Idx → EReal) ix0 = c512 := by
  pointwise [res_main_call0_v8]
  show c512 - (((0#32 : BitVec 32).toInt : ℝ) : EReal) = c512
  simp

/-- The row length is above zero. -/
theorem c512_pos : (0 : EReal) < c512 := by
  rw [c512_eq]; exact_mod_cast (by norm_num : (0 : ℝ) < 512)

/-- The attention's input. -/
theorem v26_at (b : Fin 2) (i : Fin 256) (n : Fin 512) :
    (res_main_v26 V : S2x256x512.Idx → EReal) (ix3 b i n) = (glob V).xa b i n := by
  rw [Glob.xa, ← lnv_div]
  pointwise [res_main_v26, call0_v5_at, call0_v8_at, v0_at, Glob.md, mdv, mean, vari]
  rw [if_pos c512_pos]
  rfl

/-- The scores. -/
theorem v38_at (b : Fin 2) (H : Fin 128) (i j : Fin 256) :
    (res_main_v38 V : S2x128x256x256.Idx → EReal) (ix4 b H i j) = score ((glob V).prh (glob V).wq b H) ((glob V).prh (glob V).wk b H) i j := by
  pointwise [res_main_v38, score, Glob.prh, Glob.pr, v26_at]
  rfl

/-- A maximum along the last of four axes, at an index. -/
theorem redmax (x : S2x128x256x256.Idx → EReal) (c : S_.Idx → EReal) (h : S2x128x256x256.ReducesTo [3] S2x128x256) (hu : 0 < S_.numel)
    (b : Fin 2) (H : Fin 128) (i : Fin 256) :
    Host.reduce (FloatOps.maximumf (F := Ideal) (φ := .f32)) x c h hu (ix3 b H i) =
      Finset.fold max (c ix0) (fun j : Fin 256 => x (ix4 b H i j)) Finset.univ := by
  have e : c ix0 = c (Shape.Idx.first hu) := congrArg c (funext fun a => a.elim0)
  have e2 : (FloatOps.maximumf (F := Ideal) (φ := .f32)) = (max : EReal → EReal → EReal) := rfl
  rw [e, e2, Host.reduce_eq_fold]
  exact Shape.ReducesTo.fold_fiber_r4_a3 h _ _ _ _

/-- The running maximum after the one block is the block's own. -/
theorem runmax (x : FVec Ideal S2x128x256 .f32) (b : Fin 2) (H : Fin 128) (i : Fin 256) (hb : S2x128x256.BroadcastsInDim S2x128x256x1 ![0, 1, 2]) :
    (maximumf (res_main_v34 V) (broadcastInDim S2x128x256x1 ![0, 1, 2] hb x) : S2x128x256x1.Idx → EReal) (ix4 b H i 0) = x (ix3 b H i) := by
  pointwise [res_main_v34]
  rw [show Ideal.ofBits FTy.f32 4286578688#32 = (⊥ : EReal) from cbot_eq]
  exact bot_sup_eq _

/-- The rows' maxima. -/
theorem v41_at (b : Fin 2) (H : Fin 128) (i : Fin 256) :
    (res_main_v41 V : S2x128x256x1.Idx → EReal) (ix4 b H i 0) = Finset.fold max cbot
      (fun j => score ((glob V).prh (glob V).wq b H) ((glob V).prh (glob V).wk b H) i j) Finset.univ := by
  unfold res_main_v41
  refine (runmax V _ b H i _).trans ((redmax _ _ _ _ b H i).trans ?_)
  simp only [v38_at]
  rfl

/-- What is carried over from before the first block weighs nothing. -/
theorem v43_at (b : Fin 2) (H : Fin 128) (i : Fin 256) : (res_main_v43 V : S2x128x256x1.Idx → EReal) (ix4 b H i 0) = (0 : EReal) := by
  pointwise [res_main_v43, res_main_v34]
  rw [show Ideal.ofBits FTy.f32 4286578688#32 = (⊥ : EReal) from cbot_eq]
  simp

/-- The weights. -/
theorem v46_at (b : Fin 2) (H : Fin 128) (i j : Fin 256) :
    (res_main_v46 V : S2x128x256x256.Idx → EReal) (ix4 b H i j) = wgt ((glob V).prh (glob V).wq b H) ((glob V).prh (glob V).wk b H) i j := by
  pointwise [res_main_v46, v41_at, v38_at, wgt]

/-- The attention layer's result. -/
theorem v65_at (b : Fin 2) (i : Fin 256) (n : Fin 512) :
    (res_main_v65 V : S2x256x512.Idx → EReal) (ix3 b i n) = (glob V).x1 b i n := by
  have hk : ∀ x : Fin 8192, (⟨x.val / 64 * 64 + x.val % 64, by have := x.isLt; omega⟩ : Fin 8192) = x := fun x => Fin.ext (by simp; omega)
  pointwise [res_main_v65, v46_at, v43_at, v26_at, v0_at, Glob.x1, Glob.md, mdv, Glob.att, hd, Glob.prh, Glob.pr]
  simp only [zero_mul, zero_add, hk, mul_comm (∑ n, (glob V).xa _ _ n * _)]
  rfl

/-- The row less its mean, -/
theorem call1_v5_at (b : Fin 2) (i : Fin 256) (n : Fin 512) :
    (res_main_call1_v5 V : S2x256x512.Idx → EReal) (ix3 b i n) = (glob V).x1 b i n - mean ((glob V).x1 b i) := by
  pointwise [res_main_call1_v5, v65_at, mean, c512]

/-- and the divisor once more. -/
theorem call1_v8_at : (res_main_call1_v8 V : S_.Idx → EReal) ix0 = c512 := call0_v8_at V

/-- The feed-forward layer's hidden values. -/
theorem v86_at (b : Fin 2) (i : Fin 256) (k : Fin 2048) :
    (res_main_v86 V : S2x256x2048.Idx → EReal) (ix3 b i k) = ∑ n, (glob V).xm b i n * (glob V).f1 (ix2 n k) := by
  simp only [Glob.xm, ← lnv_div]
  pointwise [res_main_v86, call1_v5_at, call1_v8_at, v65_at, v0_at, Glob.md, mdv, mean, vari]
  rw [if_pos c512_pos]
  rfl

open Facts₀ Facts in
/-- What the run names as the reference's result. -/
def result : FVec Ideal S2x256x512 .f32 :=
  addf (res_main_v65 V) (mulf (broadcastInDim S2x256x512 ![0, 1, 2] bcast_S2x1x512_S2x256x512_0_1_2
      (broadcastInDim S2x1x512 ![0, 2] bcast_S2x512_S2x1x512_0_2 (extractStridedSlice S2x512 ![0, 2560] (res_main_v0 V) slices_S2x3072_S2x512_0_2560)))
    (Host.dotGeneral (φ₁ := .f32) (φ₂ := .f32) dot_S2x256x2048_S2048x512_S2x256x512_2_0_01_1_n_n none
      (Host.divf (res_main_v86 V) (addf (broadcastInDim S2x256x2048 ![] bcast_S_S2x256x2048 (constant S_ .f32 0x3F800000#32))
        (Host.exp (Host.negf (res_main_v86 V))))) (V (Proc.devRef .tc main_arg8))))

/-- The reference's result. -/
theorem result_at (b : Fin 2) (i : Fin 256) (n : Fin 512) : result V (ix3 b i n) = (glob V).out b i n := by
  pointwise [result, v65_at, v86_at, v0_at, Glob.out, Glob.act, silu, Glob.md, mdv]
  rfl

end Cert.ReferenceIdeal.Value

end
-- ==== Proof.Algebraic.lean ====
/-
The algebraic claim: over the extended reals every device of the kernel ends with the reference's result.
-/
module

public import proofs.«01_k».proof.Proof.Frames
public import proofs.«01_k».proof.Proof.Result
public import proofs.«01_k».proof.Proof.Ref
public import Idealize.ShloMosaic.Lib.Pipeline.ValueKit

@[expose] public section

set_option maxRecDepth 16384

noncomputable section

namespace Cert.KernelIdeal.Run

open Idealize.ShloMosaic Idealize.ShloMosaic.TcCoe Idealize.SL Idealize.SL.Sem
open Cert.KernelIdeal Cert.KernelIdeal.Gen

/-- A device's block of an array cut by columns has the array's columns from its own first one on, -/
theorem block_cols {p w W : ℕ} (v : (⟨2, ![p, W]⟩ : Shape).Idx → EReal) (h : Layout.Tiles ⟨2, ![p, w]⟩ ⟨2, ![p, W]⟩ 1 32)
    (c : Fin 32) (i : Fin p) (k : Fin w) (hk : c.val * w + k.val < W) :
    Layout.block ⟨2, ![p, w]⟩ ⟨2, ![p, W]⟩ 1 32 c v h (ix2 i k) = v (ix2 i (⟨c.val * w + k.val, hk⟩ : Fin W)) :=
  congrArg v (funext fun a => by fin_cases a <;> rfl)
/-- and of one cut by rows the rows. -/
theorem block_rows {p w W : ℕ} (v : (⟨2, ![W, p]⟩ : Shape).Idx → EReal) (h : Layout.Tiles ⟨2, ![w, p]⟩ ⟨2, ![W, p]⟩ 0 32)
    (c : Fin 32) (k : Fin w) (n : Fin p) (hk : c.val * w + k.val < W) :
    Layout.block ⟨2, ![w, p]⟩ ⟨2, ![W, p]⟩ 0 32 c v h (ix2 k n) = v (ix2 (⟨c.val * w + k.val, hk⟩ : Fin W) n) :=
  congrArg v (funext fun a => by fin_cases a <;> rfl)

section inputs
variable {F : FTy → Type} [FloatOps F] (m : (ℓ : Loc nD τ sig) → Buf (Elt F) ℓ) (c : Dev nD)

/-! ## A device's input buffers have its arrays' contents -/

/-- The run's input, read from the launch memory, is the array's contents there. -/
theorem inp_x : (inp m c).x = m ((c : Thread nD τ).loc main_arg0) := by funext j; dsimp only [inp]; blk_ext <;> exact Nat.zero_add _
/-- The run's query weights, read from the launch memory, are the array's contents there. -/
theorem inp_wq : (inp m c).wq = m ((c : Thread nD τ).loc main_arg1) := by funext j; dsimp only [inp]; blk_ext <;> exact Nat.zero_add _
/-- The run's key weights, read from the launch memory, are the array's contents there. -/
theorem inp_wk : (inp m c).wk = m ((c : Thread nD τ).loc main_arg2) := by funext j; dsimp only [inp]; blk_ext <;> exact Nat.zero_add _
/-- The run's value weights, read from the launch memory, are the array's contents there. -/
theorem inp_wv : (inp m c).wv = m ((c : Thread nD τ).loc main_arg3) := by funext j; dsimp only [inp]; blk_ext <;> exact Nat.zero_add _
/-- The run's output weights, read from the launch memory, are the array's contents there. -/
theorem inp_wo : (inp m c).wo = m ((c : Thread nD τ).loc main_arg4) := by funext j; dsimp only [inp]; blk_ext <;> exact Nat.zero_add _
/-- The run's time embedding, read from the launch memory, is the array's contents there. -/
theorem inp_te : (inp m c).te = m ((c : Thread nD τ).loc main_arg5) := by funext j; dsimp only [inp]; blk_ext <;> exact Nat.zero_add _
/-- The run's modulation weights, read from the launch memory, are the array's contents there. -/
theorem inp_wm : (inp m c).wm = m ((c : Thread nD τ).loc main_arg6) := by funext j; dsimp only [inp]; blk_ext <;> exact Nat.zero_add _
/-- The run's first feed-forward weights, read from the launch memory, are the array's contents there. -/
theorem inp_f1 : (inp m c).f1 = m ((c : Thread nD τ).loc main_arg7) := by funext j; dsimp only [inp]; blk_ext <;> exact Nat.zero_add _
/-- The run's second feed-forward weights, read from the launch memory, are the array's contents there. -/
theorem inp_f2 : (inp m c).f2 = m ((c : Thread nD τ).loc main_arg8) := by funext j; dsimp only [inp]; blk_ext <;> exact Nat.zero_add _

/-- The output array has what the kernel left in the output buffer. -/
theorem arr_out : (dats m 0 c).arrAt 9 cfg0.N = outv (inp m) := by
  refine (dats m 0 c).arrAt_eq_of_after_last 9 t0_0 (by decide +kernel) _ fun j => ?_
  blk_simp
  rfl
end inputs

open Cert.ReferenceIdeal.Value Idealize.ShloMosaic.StableHlo in
/-- The two programs' values agree. -/
theorem alg : Cert.algebraic_KernelIdeal_ReferenceIdeal := by
  intro m g m' g' _ hm
  have S : Shares (inp m) (Cert.ReferenceIdeal.Value.glob (launchContents m' 0)) := by
    refine ⟨fun c => ?_, fun c => ?_, fun c => ?_, fun c a k => ?_, fun c a k => ?_, fun c a k => ?_, fun c a k => ?_, fun c a k => ?_, fun c a k => ?_⟩
    · rw [inp_x]; exact (hm c).1
    · rw [inp_te]; exact (hm c).2.2.2.2.2.1
    · rw [inp_wm]; exact (hm c).2.2.2.2.2.2.1
    · rw [inp_wq]; exact (congrFun (hm c).2.1 _).trans (block_cols _ _ _ _ _ _)
    · rw [inp_wk]; exact (congrFun (hm c).2.2.1 _).trans (block_cols _ _ _ _ _ _)
    · rw [inp_wv]; exact (congrFun (hm c).2.2.2.1 _).trans (block_cols _ _ _ _ _ _)
    · rw [inp_wo]; exact (congrFun (hm c).2.2.2.2.1 _).trans (block_rows _ _ _ _ _ _)
    · rw [inp_f1]; exact (congrFun (hm c).2.2.2.2.2.2.2.1 _).trans (block_cols _ _ _ _ _ _)
    · rw [inp_f2]; exact (congrFun (hm c).2.2.2.2.2.2.2.2 _).trans (block_rows _ _ _ _ _ _)
  have hout : (outv (inp m) : S2x256x512.Idx → EReal) = result (launchContents m' 0) := by
    funext j
    obtain ⟨b, i, n, rfl⟩ : ∃ (b : Fin 2) (i : Fin 256) (n : Fin 512), j = ix3 b i n :=
      ⟨j 0, j 1, j 2, by funext a; fin_cases a <;> rfl⟩
    rw [S.outv_eq, result_at]
  refine ⟨result (launchContents m' 0), ?_, ?_⟩
  · exact (θ_run Cert.KernelIdeal.defs _ _).mono
      (fun r h c => ⟨((h.1 c 9).trans (arr_out m c)).trans hout, args_kept m h.1 c⟩) (run_main m g)
  · exact (θ_run Cert.ReferenceIdeal.defs _ _).mono (fun r h => h 0) (Cert.ReferenceIdeal.Value.run (F := Ideal) m' g')

end Cert.KernelIdeal.Run

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Launch
public import proofs.«01_k».proof.Proof.Frames
public import proofs.«01_k».proof.Proof.Algebraic
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts,
  Cert.KernelIdeal.Run.frame_p, Cert.KernelIdeal.Run.frame_i, Cert.KernelIdeal.Run.frame_r, trivial,
  Cert.KernelIdeal.Run.alg⟩

end Cert.Proof

end
